-- ==== Defs.lean ====
def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelBranch (m : (ℓ : Loc Cert.KernelBranch.nD Cert.KernelBranch.τ Cert.KernelBranch.sig) → Buf (Elt Bits) ℓ) : Prop :=
  True

def Pre_KernelBranchIdeal (m : (ℓ : Loc Cert.KernelBranchIdeal.nD Cert.KernelBranchIdeal.τ Cert.KernelBranchIdeal.sig) → Buf (Elt Ideal) ℓ) : Prop :=
  True

def Pre_ReferenceBranchIdeal (m : (ℓ : Loc Cert.ReferenceBranchIdeal.nD Cert.ReferenceBranchIdeal.τ Cert.ReferenceBranchIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelMixBwd (m : (ℓ : Loc Cert.KernelMixBwd.nD Cert.KernelMixBwd.τ Cert.KernelMixBwd.sig) → Buf (Elt Bits) ℓ) : Prop :=
  True

def Pre_KernelMixBwdIdeal (m : (ℓ : Loc Cert.KernelMixBwdIdeal.nD Cert.KernelMixBwdIdeal.τ Cert.KernelMixBwdIdeal.sig) → Buf (Elt Ideal) ℓ) : Prop :=
  True

def Pre_ReferenceMixBwdIdeal (m : (ℓ : Loc Cert.ReferenceMixBwdIdeal.nD Cert.ReferenceMixBwdIdeal.τ Cert.ReferenceMixBwdIdeal.sig) → Buf (Elt Ideal) ℓ) : Prop :=
  True

def Pre_KernelFfnBwd (m : (ℓ : Loc Cert.KernelFfnBwd.nD Cert.KernelFfnBwd.τ Cert.KernelFfnBwd.sig) → Buf (Elt Bits) ℓ) : Prop :=
  True

def Pre_KernelFfnBwdIdeal (m : (ℓ : Loc Cert.KernelFfnBwdIdeal.nD Cert.KernelFfnBwdIdeal.τ Cert.KernelFfnBwdIdeal.sig) → Buf (Elt Ideal) ℓ) : Prop :=
  True

def Pre_KernelFfnBwdIdeal_finite_ffn [hPre_finite_ffn : Cert.Pre_finite_ffn.Facts] (m : (ℓ : Loc Cert.KernelFfnBwdIdeal.nD Cert.KernelFfnBwdIdeal.τ Cert.KernelFfnBwdIdeal.sig) → Buf (Elt Ideal) ℓ) : Prop :=
  ∀ c : Dev Cert.KernelFfnBwdIdeal.nD,
    (Cert.Pre_finite_ffn.fn (F := Ideal) (m ((c.tc : Thread Cert.KernelFfnBwdIdeal.nD Cert.KernelFfnBwdIdeal.τ).loc Cert.KernelFfnBwdIdeal.main_arg0)) (m ((c.tc : Thread Cert.KernelFfnBwdIdeal.nD Cert.KernelFfnBwdIdeal.τ).loc Cert.KernelFfnBwdIdeal.main_arg1)) (m ((c.tc : Thread Cert.KernelFfnBwdIdeal.nD Cert.KernelFfnBwdIdeal.τ).loc Cert.KernelFfnBwdIdeal.main_arg2)) (m ((c.tc : Thread Cert.KernelFfnBwdIdeal.nD Cert.KernelFfnBwdIdeal.τ).loc Cert.KernelFfnBwdIdeal.main_arg3)) (m ((c.tc : Thread Cert.KernelFfnBwdIdeal.nD Cert.KernelFfnBwdIdeal.τ).loc Cert.KernelFfnBwdIdeal.main_arg4)) (m ((c.tc : Thread Cert.KernelFfnBwdIdeal.nD Cert.KernelFfnBwdIdeal.τ).loc Cert.KernelFfnBwdIdeal.main_arg5))) = (fun _ => 1#1)

def Pre_ReferenceFfnBwdIdeal (m : (ℓ : Loc Cert.ReferenceFfnBwdIdeal.nD Cert.ReferenceFfnBwdIdeal.τ Cert.ReferenceFfnBwdIdeal.sig) → Buf (Elt Ideal) ℓ) : Prop :=
  True

def Pre_ReferenceFfnBwdIdeal_finite_ffn [hPre_finite_ffn : Cert.Pre_finite_ffn.Facts] (m : (ℓ : Loc Cert.ReferenceFfnBwdIdeal.nD Cert.ReferenceFfnBwdIdeal.τ Cert.ReferenceFfnBwdIdeal.sig) → Buf (Elt Ideal) ℓ) : Prop :=
  ∀ c : Dev Cert.ReferenceFfnBwdIdeal.nD,
    (Cert.Pre_finite_ffn.fn (F := Ideal) (m ((c.tc : Thread Cert.ReferenceFfnBwdIdeal.nD Cert.ReferenceFfnBwdIdeal.τ).loc Cert.ReferenceFfnBwdIdeal.main_arg0)) (m ((c.tc : Thread Cert.ReferenceFfnBwdIdeal.nD Cert.ReferenceFfnBwdIdeal.τ).loc Cert.ReferenceFfnBwdIdeal.main_arg1)) (m ((c.tc : Thread Cert.ReferenceFfnBwdIdeal.nD Cert.ReferenceFfnBwdIdeal.τ).loc Cert.ReferenceFfnBwdIdeal.main_arg2)) (m ((c.tc : Thread Cert.ReferenceFfnBwdIdeal.nD Cert.ReferenceFfnBwdIdeal.τ).loc Cert.ReferenceFfnBwdIdeal.main_arg3)) (m ((c.tc : Thread Cert.ReferenceFfnBwdIdeal.nD Cert.ReferenceFfnBwdIdeal.τ).loc Cert.ReferenceFfnBwdIdeal.main_arg4)) (m ((c.tc : Thread Cert.ReferenceFfnBwdIdeal.nD Cert.ReferenceFfnBwdIdeal.τ).loc Cert.ReferenceFfnBwdIdeal.main_arg5))) = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelBranch [hKernelBranch : Cert.KernelBranch.Facts] : Prop :=
  ∀ (m : (ℓ : Loc Cert.KernelBranch.nD Cert.KernelBranch.τ Cert.KernelBranch.sig) → Buf (Elt Bits) ℓ) (g : Dev Cert.KernelBranch.nD → PrngReg), Pre_KernelBranch m →
    θ_run (Cert.KernelBranch.defs (F := Bits)) (onTc (τ := Cert.KernelBranch.τ) (Cert.KernelBranch.main (F := Bits))) ⟨m, fun _ => 0, g⟩ (fun r => (∀ c : Dev Cert.KernelBranch.nD,
      r.2.mem ((c.tc : Thread Cert.KernelBranch.nD Cert.KernelBranch.τ).loc Cert.KernelBranch.main_arg0) = m ((c.tc : Thread Cert.KernelBranch.nD Cert.KernelBranch.τ).loc Cert.KernelBranch.main_arg0)
      ∧ r.2.mem ((c.tc : Thread Cert.KernelBranch.nD Cert.KernelBranch.τ).loc Cert.KernelBranch.main_arg1) = m ((c.tc : Thread Cert.KernelBranch.nD Cert.KernelBranch.τ).loc Cert.KernelBranch.main_arg1))
      ∧ r.2.sem = fun _ => 0)

def quiescent_KernelBranchIdeal [hKernelBranchIdeal : Cert.KernelBranchIdeal.Facts] : Prop :=
  ∀ (m : (ℓ : Loc Cert.KernelBranchIdeal.nD Cert.KernelBranchIdeal.τ Cert.KernelBranchIdeal.sig) → Buf (Elt Ideal) ℓ) (g : Dev Cert.KernelBranchIdeal.nD → PrngReg), Pre_KernelBranchIdeal m →
    θ_run (Cert.KernelBranchIdeal.defs (F := Ideal)) (onTc (τ := Cert.KernelBranchIdeal.τ) (Cert.KernelBranchIdeal.main (F := Ideal))) ⟨m, fun _ => 0, g⟩ (fun r => (∀ c : Dev Cert.KernelBranchIdeal.nD,
      r.2.mem ((c.tc : Thread Cert.KernelBranchIdeal.nD Cert.KernelBranchIdeal.τ).loc Cert.KernelBranchIdeal.main_arg0) = m ((c.tc : Thread Cert.KernelBranchIdeal.nD Cert.KernelBranchIdeal.τ).loc Cert.KernelBranchIdeal.main_arg0)
      ∧ r.2.mem ((c.tc : Thread Cert.KernelBranchIdeal.nD Cert.KernelBranchIdeal.τ).loc Cert.KernelBranchIdeal.main_arg1) = m ((c.tc : Thread Cert.KernelBranchIdeal.nD Cert.KernelBranchIdeal.τ).loc Cert.KernelBranchIdeal.main_arg1))
      ∧ r.2.sem = fun _ => 0)

def quiescent_ReferenceBranchIdeal [hReferenceBranchIdeal : Cert.ReferenceBranchIdeal.Facts] : Prop :=
  ∀ (m : (ℓ : Loc Cert.ReferenceBranchIdeal.nD Cert.ReferenceBranchIdeal.τ Cert.ReferenceBranchIdeal.sig) → Buf (Elt Ideal) ℓ) (g : Dev Cert.ReferenceBranchIdeal.nD → PrngReg), Pre_ReferenceBranchIdeal m →
    θ_run (Cert.ReferenceBranchIdeal.defs (F := Ideal)) (onTc (τ := Cert.ReferenceBranchIdeal.τ) (Cert.ReferenceBranchIdeal.main (F := Ideal))) ⟨m, fun _ => 0, g⟩ (fun r => (∀ c : Dev Cert.ReferenceBranchIdeal.nD,
      r.2.mem ((c.tc : Thread Cert.ReferenceBranchIdeal.nD Cert.ReferenceBranchIdeal.τ).loc Cert.ReferenceBranchIdeal.main_arg0) = m ((c.tc : Thread Cert.ReferenceBranchIdeal.nD Cert.ReferenceBranchIdeal.τ).loc Cert.ReferenceBranchIdeal.main_arg0)
      ∧ r.2.mem ((c.tc : Thread Cert.ReferenceBranchIdeal.nD Cert.ReferenceBranchIdeal.τ).loc Cert.ReferenceBranchIdeal.main_arg1) = m ((c.tc : Thread Cert.ReferenceBranchIdeal.nD Cert.ReferenceBranchIdeal.τ).loc Cert.ReferenceBranchIdeal.main_arg1))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2))
      ∧ r.2.sem = fun _ => 0)

def quiescent_KernelMixBwd [hKernelMixBwd : Cert.KernelMixBwd.Facts] : Prop :=
  ∀ (m : (ℓ : Loc Cert.KernelMixBwd.nD Cert.KernelMixBwd.τ Cert.KernelMixBwd.sig) → Buf (Elt Bits) ℓ) (g : Dev Cert.KernelMixBwd.nD → PrngReg), Pre_KernelMixBwd m →
    θ_run (Cert.KernelMixBwd.defs (F := Bits)) (onTc (τ := Cert.KernelMixBwd.τ) (Cert.KernelMixBwd.main (F := Bits))) ⟨m, fun _ => 0, g⟩ (fun r => (∀ c : Dev Cert.KernelMixBwd.nD,
      r.2.mem ((c.tc : Thread Cert.KernelMixBwd.nD Cert.KernelMixBwd.τ).loc Cert.KernelMixBwd.main_arg0) = m ((c.tc : Thread Cert.KernelMixBwd.nD Cert.KernelMixBwd.τ).loc Cert.KernelMixBwd.main_arg0)
      ∧ r.2.mem ((c.tc : Thread Cert.KernelMixBwd.nD Cert.KernelMixBwd.τ).loc Cert.KernelMixBwd.main_arg1) = m ((c.tc : Thread Cert.KernelMixBwd.nD Cert.KernelMixBwd.τ).loc Cert.KernelMixBwd.main_arg1)
      ∧ r.2.mem ((c.tc : Thread Cert.KernelMixBwd.nD Cert.KernelMixBwd.τ).loc Cert.KernelMixBwd.main_arg2) = m ((c.tc : Thread Cert.KernelMixBwd.nD Cert.KernelMixBwd.τ).loc Cert.KernelMixBwd.main_arg2)
      ∧ r.2.mem ((c.tc : Thread Cert.KernelMixBwd.nD Cert.KernelMixBwd.τ).loc Cert.KernelMixBwd.main_arg3) = m ((c.tc : Thread Cert.KernelMixBwd.nD Cert.KernelMixBwd.τ).loc Cert.KernelMixBwd.main_arg3)
      ∧ r.2.mem ((c.tc : Thread Cert.KernelMixBwd.nD Cert.KernelMixBwd.τ).loc Cert.KernelMixBwd.main_arg4) = m ((c.tc : Thread Cert.KernelMixBwd.nD Cert.KernelMixBwd.τ).loc Cert.KernelMixBwd.main_arg4))
      ∧ r.2.sem = fun _ => 0)

def quiescent_KernelMixBwdIdeal [hKernelMixBwdIdeal : Cert.KernelMixBwdIdeal.Facts] : Prop :=
  ∀ (m : (ℓ : Loc Cert.KernelMixBwdIdeal.nD Cert.KernelMixBwdIdeal.τ Cert.KernelMixBwdIdeal.sig) → Buf (Elt Ideal) ℓ) (g : Dev Cert.KernelMixBwdIdeal.nD → PrngReg), Pre_KernelMixBwdIdeal m →
    θ_run (Cert.KernelMixBwdIdeal.defs (F := Ideal)) (onTc (τ := Cert.KernelMixBwdIdeal.τ) (Cert.KernelMixBwdIdeal.main (F := Ideal))) ⟨m, fun _ => 0, g⟩ (fun r => (∀ c : Dev Cert.KernelMixBwdIdeal.nD,
      r.2.mem ((c.tc : Thread Cert.KernelMixBwdIdeal.nD Cert.KernelMixBwdIdeal.τ).loc Cert.KernelMixBwdIdeal.main_arg0) = m ((c.tc : Thread Cert.KernelMixBwdIdeal.nD Cert.KernelMixBwdIdeal.τ).loc Cert.KernelMixBwdIdeal.main_arg0)
      ∧ r.2.mem ((c.tc : Thread Cert.KernelMixBwdIdeal.nD Cert.KernelMixBwdIdeal.τ).loc Cert.KernelMixBwdIdeal.main_arg1) = m ((c.tc : Thread Cert.KernelMixBwdIdeal.nD Cert.KernelMixBwdIdeal.τ).loc Cert.KernelMixBwdIdeal.main_arg1)
      ∧ r.2.mem ((c.tc : Thread Cert.KernelMixBwdIdeal.nD Cert.KernelMixBwdIdeal.τ).loc Cert.KernelMixBwdIdeal.main_arg2) = m ((c.tc : Thread Cert.KernelMixBwdIdeal.nD Cert.KernelMixBwdIdeal.τ).loc Cert.KernelMixBwdIdeal.main_arg2)
      ∧ r.2.mem ((c.tc : Thread Cert.KernelMixBwdIdeal.nD Cert.KernelMixBwdIdeal.τ).loc Cert.KernelMixBwdIdeal.main_arg3) = m ((c.tc : Thread Cert.KernelMixBwdIdeal.nD Cert.KernelMixBwdIdeal.τ).loc Cert.KernelMixBwdIdeal.main_arg3)
      ∧ r.2.mem ((c.tc : Thread Cert.KernelMixBwdIdeal.nD Cert.KernelMixBwdIdeal.τ).loc Cert.KernelMixBwdIdeal.main_arg4) = m ((c.tc : Thread Cert.KernelMixBwdIdeal.nD Cert.KernelMixBwdIdeal.τ).loc Cert.KernelMixBwdIdeal.main_arg4))
      ∧ r.2.sem = fun _ => 0)

def quiescent_ReferenceMixBwdIdeal [hReferenceMixBwdIdeal : Cert.ReferenceMixBwdIdeal.Facts] : Prop :=
  ∀ (m : (ℓ : Loc Cert.ReferenceMixBwdIdeal.nD Cert.ReferenceMixBwdIdeal.τ Cert.ReferenceMixBwdIdeal.sig) → Buf (Elt Ideal) ℓ) (g : Dev Cert.ReferenceMixBwdIdeal.nD → PrngReg), Pre_ReferenceMixBwdIdeal m →
    θ_run (Cert.ReferenceMixBwdIdeal.defs (F := Ideal)) (onTc (τ := Cert.ReferenceMixBwdIdeal.τ) (Cert.ReferenceMixBwdIdeal.main (F := Ideal))) ⟨m, fun _ => 0, g⟩ (fun r => (∀ c : Dev Cert.ReferenceMixBwdIdeal.nD,
      r.2.mem ((c.tc : Thread Cert.ReferenceMixBwdIdeal.nD Cert.ReferenceMixBwdIdeal.τ).loc Cert.ReferenceMixBwdIdeal.main_arg0) = m ((c.tc : Thread Cert.ReferenceMixBwdIdeal.nD Cert.ReferenceMixBwdIdeal.τ).loc Cert.ReferenceMixBwdIdeal.main_arg0)
      ∧ r.2.mem ((c.tc : Thread Cert.ReferenceMixBwdIdeal.nD Cert.ReferenceMixBwdIdeal.τ).loc Cert.ReferenceMixBwdIdeal.main_arg1) = m ((c.tc : Thread Cert.ReferenceMixBwdIdeal.nD Cert.ReferenceMixBwdIdeal.τ).loc Cert.ReferenceMixBwdIdeal.main_arg1)
      ∧ r.2.mem ((c.tc : Thread Cert.ReferenceMixBwdIdeal.nD Cert.ReferenceMixBwdIdeal.τ).loc Cert.ReferenceMixBwdIdeal.main_arg2) = m ((c.tc : Thread Cert.ReferenceMixBwdIdeal.nD Cert.ReferenceMixBwdIdeal.τ).loc Cert.ReferenceMixBwdIdeal.main_arg2)
      ∧ r.2.mem ((c.tc : Thread Cert.ReferenceMixBwdIdeal.nD Cert.ReferenceMixBwdIdeal.τ).loc Cert.ReferenceMixBwdIdeal.main_arg3) = m ((c.tc : Thread Cert.ReferenceMixBwdIdeal.nD Cert.ReferenceMixBwdIdeal.τ).loc Cert.ReferenceMixBwdIdeal.main_arg3)
      ∧ r.2.mem ((c.tc : Thread Cert.ReferenceMixBwdIdeal.nD Cert.ReferenceMixBwdIdeal.τ).loc Cert.ReferenceMixBwdIdeal.main_arg4) = m ((c.tc : Thread Cert.ReferenceMixBwdIdeal.nD Cert.ReferenceMixBwdIdeal.τ).loc Cert.ReferenceMixBwdIdeal.main_arg4))
      ∧ r.2.sem = fun _ => 0)

def quiescent_KernelFfnBwd [hKernelFfnBwd : Cert.KernelFfnBwd.Facts] : Prop :=
  ∀ (m : (ℓ : Loc Cert.KernelFfnBwd.nD Cert.KernelFfnBwd.τ Cert.KernelFfnBwd.sig) → Buf (Elt Bits) ℓ) (g : Dev Cert.KernelFfnBwd.nD → PrngReg), Pre_KernelFfnBwd m →
    θ_run (Cert.KernelFfnBwd.defs (F := Bits)) (onTc (τ := Cert.KernelFfnBwd.τ) (Cert.KernelFfnBwd.main (F := Bits))) ⟨m, fun _ => 0, g⟩ (fun r => (∀ c : Dev Cert.KernelFfnBwd.nD,
      r.2.mem ((c.tc : Thread Cert.KernelFfnBwd.nD Cert.KernelFfnBwd.τ).loc Cert.KernelFfnBwd.main_arg0) = m ((c.tc : Thread Cert.KernelFfnBwd.nD Cert.KernelFfnBwd.τ).loc Cert.KernelFfnBwd.main_arg0)
      ∧ r.2.mem ((c.tc : Thread Cert.KernelFfnBwd.nD Cert.KernelFfnBwd.τ).loc Cert.KernelFfnBwd.main_arg1) = m ((c.tc : Thread Cert.KernelFfnBwd.nD Cert.KernelFfnBwd.τ).loc Cert.KernelFfnBwd.main_arg1)
      ∧ r.2.mem ((c.tc : Thread Cert.KernelFfnBwd.nD Cert.KernelFfnBwd.τ).loc Cert.KernelFfnBwd.main_arg2) = m ((c.tc : Thread Cert.KernelFfnBwd.nD Cert.KernelFfnBwd.τ).loc Cert.KernelFfnBwd.main_arg2)
      ∧ r.2.mem ((c.tc : Thread Cert.KernelFfnBwd.nD Cert.KernelFfnBwd.τ).loc Cert.KernelFfnBwd.main_arg3) = m ((c.tc : Thread Cert.KernelFfnBwd.nD Cert.KernelFfnBwd.τ).loc Cert.KernelFfnBwd.main_arg3)
      ∧ r.2.mem ((c.tc : Thread Cert.KernelFfnBwd.nD Cert.KernelFfnBwd.τ).loc Cert.KernelFfnBwd.main_arg4) = m ((c.tc : Thread Cert.KernelFfnBwd.nD Cert.KernelFfnBwd.τ).loc Cert.KernelFfnBwd.main_arg4)
      ∧ r.2.mem ((c.tc : Thread Cert.KernelFfnBwd.nD Cert.KernelFfnBwd.τ).loc Cert.KernelFfnBwd.main_arg5) = m ((c.tc : Thread Cert.KernelFfnBwd.nD Cert.KernelFfnBwd.τ).loc Cert.KernelFfnBwd.main_arg5))
      ∧ r.2.sem = fun _ => 0)

def quiescent_KernelFfnBwdIdeal [hKernelFfnBwdIdeal : Cert.KernelFfnBwdIdeal.Facts] : Prop :=
  ∀ (m : (ℓ : Loc Cert.KernelFfnBwdIdeal.nD Cert.KernelFfnBwdIdeal.τ Cert.KernelFfnBwdIdeal.sig) → Buf (Elt Ideal) ℓ) (g : Dev Cert.KernelFfnBwdIdeal.nD → PrngReg), Pre_KernelFfnBwdIdeal m →
    θ_run (Cert.KernelFfnBwdIdeal.defs (F := Ideal)) (onTc (τ := Cert.KernelFfnBwdIdeal.τ) (Cert.KernelFfnBwdIdeal.main (F := Ideal))) ⟨m, fun _ => 0, g⟩ (fun r => (∀ c : Dev Cert.KernelFfnBwdIdeal.nD,
      r.2.mem ((c.tc : Thread Cert.KernelFfnBwdIdeal.nD Cert.KernelFfnBwdIdeal.τ).loc Cert.KernelFfnBwdIdeal.main_arg0) = m ((c.tc : Thread Cert.KernelFfnBwdIdeal.nD Cert.KernelFfnBwdIdeal.τ).loc Cert.KernelFfnBwdIdeal.main_arg0)
      ∧ r.2.mem ((c.tc : Thread Cert.KernelFfnBwdIdeal.nD Cert.KernelFfnBwdIdeal.τ).loc Cert.KernelFfnBwdIdeal.main_arg1) = m ((c.tc : Thread Cert.KernelFfnBwdIdeal.nD Cert.KernelFfnBwdIdeal.τ).loc Cert.KernelFfnBwdIdeal.main_arg1)
      ∧ r.2.mem ((c.tc : Thread Cert.KernelFfnBwdIdeal.nD Cert.KernelFfnBwdIdeal.τ).loc Cert.KernelFfnBwdIdeal.main_arg2) = m ((c.tc : Thread Cert.KernelFfnBwdIdeal.nD Cert.KernelFfnBwdIdeal.τ).loc Cert.KernelFfnBwdIdeal.main_arg2)
      ∧ r.2.mem ((c.tc : Thread Cert.KernelFfnBwdIdeal.nD Cert.KernelFfnBwdIdeal.τ).loc Cert.KernelFfnBwdIdeal.main_arg3) = m ((c.tc : Thread Cert.KernelFfnBwdIdeal.nD Cert.KernelFfnBwdIdeal.τ).loc Cert.KernelFfnBwdIdeal.main_arg3)
      ∧ r.2.mem ((c.tc : Thread Cert.KernelFfnBwdIdeal.nD Cert.KernelFfnBwdIdeal.τ).loc Cert.KernelFfnBwdIdeal.main_arg4) = m ((c.tc : Thread Cert.KernelFfnBwdIdeal.nD Cert.KernelFfnBwdIdeal.τ).loc Cert.KernelFfnBwdIdeal.main_arg4)
      ∧ r.2.mem ((c.tc : Thread Cert.KernelFfnBwdIdeal.nD Cert.KernelFfnBwdIdeal.τ).loc Cert.KernelFfnBwdIdeal.main_arg5) = m ((c.tc : Thread Cert.KernelFfnBwdIdeal.nD Cert.KernelFfnBwdIdeal.τ).loc Cert.KernelFfnBwdIdeal.main_arg5))
      ∧ r.2.sem = fun _ => 0)

def quiescent_KernelFfnBwdIdeal_pre_finite_ffn [hKernelFfnBwdIdeal : Cert.KernelFfnBwdIdeal.Facts] [hPre_finite_ffn : Cert.Pre_finite_ffn.Facts] : Prop :=
  ∀ (m : (ℓ : Loc Cert.KernelFfnBwdIdeal.nD Cert.KernelFfnBwdIdeal.τ Cert.KernelFfnBwdIdeal.sig) → Buf (Elt Ideal) ℓ) (g : Dev Cert.KernelFfnBwdIdeal.nD → PrngReg), Pre_KernelFfnBwdIdeal_finite_ffn m →
    θ_run (Cert.KernelFfnBwdIdeal.defs (F := Ideal)) (onTc (τ := Cert.KernelFfnBwdIdeal.τ) (Cert.KernelFfnBwdIdeal.main (F := Ideal))) ⟨m, fun _ => 0, g⟩ (fun r => (∀ c : Dev Cert.KernelFfnBwdIdeal.nD,
      r.2.mem ((c.tc : Thread Cert.KernelFfnBwdIdeal.nD Cert.KernelFfnBwdIdeal.τ).loc Cert.KernelFfnBwdIdeal.main_arg0) = m ((c.tc : Thread Cert.KernelFfnBwdIdeal.nD Cert.KernelFfnBwdIdeal.τ).loc Cert.KernelFfnBwdIdeal.main_arg0)
      ∧ r.2.mem ((c.tc : Thread Cert.KernelFfnBwdIdeal.nD Cert.KernelFfnBwdIdeal.τ).loc Cert.KernelFfnBwdIdeal.main_arg1) = m ((c.tc : Thread Cert.KernelFfnBwdIdeal.nD Cert.KernelFfnBwdIdeal.τ).loc Cert.KernelFfnBwdIdeal.main_arg1)
      ∧ r.2.mem ((c.tc : Thread Cert.KernelFfnBwdIdeal.nD Cert.KernelFfnBwdIdeal.τ).loc Cert.KernelFfnBwdIdeal.main_arg2) = m ((c.tc : Thread Cert.KernelFfnBwdIdeal.nD Cert.KernelFfnBwdIdeal.τ).loc Cert.KernelFfnBwdIdeal.main_arg2)
      ∧ r.2.mem ((c.tc : Thread Cert.KernelFfnBwdIdeal.nD Cert.KernelFfnBwdIdeal.τ).loc Cert.KernelFfnBwdIdeal.main_arg3) = m ((c.tc : Thread Cert.KernelFfnBwdIdeal.nD Cert.KernelFfnBwdIdeal.τ).loc Cert.KernelFfnBwdIdeal.main_arg3)
      ∧ r.2.mem ((c.tc : Thread Cert.KernelFfnBwdIdeal.nD Cert.KernelFfnBwdIdeal.τ).loc Cert.KernelFfnBwdIdeal.main_arg4) = m ((c.tc : Thread Cert.KernelFfnBwdIdeal.nD Cert.KernelFfnBwdIdeal.τ).loc Cert.KernelFfnBwdIdeal.main_arg4)
      ∧ r.2.mem ((c.tc : Thread Cert.KernelFfnBwdIdeal.nD Cert.KernelFfnBwdIdeal.τ).loc Cert.KernelFfnBwdIdeal.main_arg5) = m ((c.tc : Thread Cert.KernelFfnBwdIdeal.nD Cert.KernelFfnBwdIdeal.τ).loc Cert.KernelFfnBwdIdeal.main_arg5))
      ∧ r.2.sem = fun _ => 0)

def quiescent_ReferenceFfnBwdIdeal [hReferenceFfnBwdIdeal : Cert.ReferenceFfnBwdIdeal.Facts] : Prop :=
  ∀ (m : (ℓ : Loc Cert.ReferenceFfnBwdIdeal.nD Cert.ReferenceFfnBwdIdeal.τ Cert.ReferenceFfnBwdIdeal.sig) → Buf (Elt Ideal) ℓ) (g : Dev Cert.ReferenceFfnBwdIdeal.nD → PrngReg), Pre_ReferenceFfnBwdIdeal m →
    θ_run (Cert.ReferenceFfnBwdIdeal.defs (F := Ideal)) (onTc (τ := Cert.ReferenceFfnBwdIdeal.τ) (Cert.ReferenceFfnBwdIdeal.main (F := Ideal))) ⟨m, fun _ => 0, g⟩ (fun r => (∀ c : Dev Cert.ReferenceFfnBwdIdeal.nD,
      r.2.mem ((c.tc : Thread Cert.ReferenceFfnBwdIdeal.nD Cert.ReferenceFfnBwdIdeal.τ).loc Cert.ReferenceFfnBwdIdeal.main_arg0) = m ((c.tc : Thread Cert.ReferenceFfnBwdIdeal.nD Cert.ReferenceFfnBwdIdeal.τ).loc Cert.ReferenceFfnBwdIdeal.main_arg0)
      ∧ r.2.mem ((c.tc : Thread Cert.ReferenceFfnBwdIdeal.nD Cert.ReferenceFfnBwdIdeal.τ).loc Cert.ReferenceFfnBwdIdeal.main_arg1) = m ((c.tc : Thread Cert.ReferenceFfnBwdIdeal.nD Cert.ReferenceFfnBwdIdeal.τ).loc Cert.ReferenceFfnBwdIdeal.main_arg1)
      ∧ r.2.mem ((c.tc : Thread Cert.ReferenceFfnBwdIdeal.nD Cert.ReferenceFfnBwdIdeal.τ).loc Cert.ReferenceFfnBwdIdeal.main_arg2) = m ((c.tc : Thread Cert.ReferenceFfnBwdIdeal.nD Cert.ReferenceFfnBwdIdeal.τ).loc Cert.ReferenceFfnBwdIdeal.main_arg2)
      ∧ r.2.mem ((c.tc : Thread Cert.ReferenceFfnBwdIdeal.nD Cert.ReferenceFfnBwdIdeal.τ).loc Cert.ReferenceFfnBwdIdeal.main_arg3) = m ((c.tc : Thread Cert.ReferenceFfnBwdIdeal.nD Cert.ReferenceFfnBwdIdeal.τ).loc Cert.ReferenceFfnBwdIdeal.main_arg3)
      ∧ r.2.mem ((c.tc : Thread Cert.ReferenceFfnBwdIdeal.nD Cert.ReferenceFfnBwdIdeal.τ).loc Cert.ReferenceFfnBwdIdeal.main_arg4) = m ((c.tc : Thread Cert.ReferenceFfnBwdIdeal.nD Cert.ReferenceFfnBwdIdeal.τ).loc Cert.ReferenceFfnBwdIdeal.main_arg4)
      ∧ r.2.mem ((c.tc : Thread Cert.ReferenceFfnBwdIdeal.nD Cert.ReferenceFfnBwdIdeal.τ).loc Cert.ReferenceFfnBwdIdeal.main_arg5) = m ((c.tc : Thread Cert.ReferenceFfnBwdIdeal.nD Cert.ReferenceFfnBwdIdeal.τ).loc Cert.ReferenceFfnBwdIdeal.main_arg5))
      ∧ r.2.sem = fun _ => 0)

def quiescent_ReferenceFfnBwdIdeal_pre_finite_ffn [hReferenceFfnBwdIdeal : Cert.ReferenceFfnBwdIdeal.Facts] [hPre_finite_ffn : Cert.Pre_finite_ffn.Facts] : Prop :=
  ∀ (m : (ℓ : Loc Cert.ReferenceFfnBwdIdeal.nD Cert.ReferenceFfnBwdIdeal.τ Cert.ReferenceFfnBwdIdeal.sig) → Buf (Elt Ideal) ℓ) (g : Dev Cert.ReferenceFfnBwdIdeal.nD → PrngReg), Pre_ReferenceFfnBwdIdeal_finite_ffn m →
    θ_run (Cert.ReferenceFfnBwdIdeal.defs (F := Ideal)) (onTc (τ := Cert.ReferenceFfnBwdIdeal.τ) (Cert.ReferenceFfnBwdIdeal.main (F := Ideal))) ⟨m, fun _ => 0, g⟩ (fun r => (∀ c : Dev Cert.ReferenceFfnBwdIdeal.nD,
      r.2.mem ((c.tc : Thread Cert.ReferenceFfnBwdIdeal.nD Cert.ReferenceFfnBwdIdeal.τ).loc Cert.ReferenceFfnBwdIdeal.main_arg0) = m ((c.tc : Thread Cert.ReferenceFfnBwdIdeal.nD Cert.ReferenceFfnBwdIdeal.τ).loc Cert.ReferenceFfnBwdIdeal.main_arg0)
      ∧ r.2.mem ((c.tc : Thread Cert.ReferenceFfnBwdIdeal.nD Cert.ReferenceFfnBwdIdeal.τ).loc Cert.ReferenceFfnBwdIdeal.main_arg1) = m ((c.tc : Thread Cert.ReferenceFfnBwdIdeal.nD Cert.ReferenceFfnBwdIdeal.τ).loc Cert.ReferenceFfnBwdIdeal.main_arg1)
      ∧ r.2.mem ((c.tc : Thread Cert.ReferenceFfnBwdIdeal.nD Cert.ReferenceFfnBwdIdeal.τ).loc Cert.ReferenceFfnBwdIdeal.main_arg2) = m ((c.tc : Thread Cert.ReferenceFfnBwdIdeal.nD Cert.ReferenceFfnBwdIdeal.τ).loc Cert.ReferenceFfnBwdIdeal.main_arg2)
      ∧ r.2.mem ((c.tc : Thread Cert.ReferenceFfnBwdIdeal.nD Cert.ReferenceFfnBwdIdeal.τ).loc Cert.ReferenceFfnBwdIdeal.main_arg3) = m ((c.tc : Thread Cert.ReferenceFfnBwdIdeal.nD Cert.ReferenceFfnBwdIdeal.τ).loc Cert.ReferenceFfnBwdIdeal.main_arg3)
      ∧ r.2.mem ((c.tc : Thread Cert.ReferenceFfnBwdIdeal.nD Cert.ReferenceFfnBwdIdeal.τ).loc Cert.ReferenceFfnBwdIdeal.main_arg4) = m ((c.tc : Thread Cert.ReferenceFfnBwdIdeal.nD Cert.ReferenceFfnBwdIdeal.τ).loc Cert.ReferenceFfnBwdIdeal.main_arg4)
      ∧ r.2.mem ((c.tc : Thread Cert.ReferenceFfnBwdIdeal.nD Cert.ReferenceFfnBwdIdeal.τ).loc Cert.ReferenceFfnBwdIdeal.main_arg5) = m ((c.tc : Thread Cert.ReferenceFfnBwdIdeal.nD Cert.ReferenceFfnBwdIdeal.τ).loc Cert.ReferenceFfnBwdIdeal.main_arg5))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5)
      ∧ r.2.mem ((c.tc : Thread Cert.KernelFfn.nD Cert.KernelFfn.τ).loc Cert.KernelFfn.main_arg6) = m ((c.tc : Thread Cert.KernelFfn.nD Cert.KernelFfn.τ).loc Cert.KernelFfn.main_arg6)
      ∧ r.2.mem ((c.tc : Thread Cert.KernelFfn.nD Cert.KernelFfn.τ).loc Cert.KernelFfn.main_arg7) = m ((c.tc : Thread Cert.KernelFfn.nD Cert.KernelFfn.τ).loc Cert.KernelFfn.main_arg7)
      ∧ r.2.mem ((c.tc : Thread Cert.KernelFfn.nD Cert.KernelFfn.τ).loc Cert.KernelFfn.main_arg8) = m ((c.tc : Thread Cert.KernelFfn.nD Cert.KernelFfn.τ).loc Cert.KernelFfn.main_arg8)
      ∧ r.2.mem ((c.tc : Thread Cert.KernelFfn.nD Cert.KernelFfn.τ).loc Cert.KernelFfn.main_arg9) = m ((c.tc : Thread Cert.KernelFfn.nD Cert.KernelFfn.τ).loc Cert.KernelFfn.main_arg9)
      ∧ r.2.mem ((c.tc : Thread Cert.KernelFfn.nD Cert.KernelFfn.τ).loc Cert.KernelFfn.main_arg10) = m ((c.tc : Thread Cert.KernelFfn.nD Cert.KernelFfn.τ).loc Cert.KernelFfn.main_arg10)
      ∧ r.2.mem ((c.tc : Thread Cert.KernelFfn.nD Cert.KernelFfn.τ).loc Cert.KernelFfn.main_arg11) = m ((c.tc : Thread Cert.KernelFfn.nD Cert.KernelFfn.τ).loc Cert.KernelFfn.main_arg11))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
      ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6)
      ∧ r.2.mem ((c.tc : Thread Cert.KernelFfnIdeal.nD Cert.KernelFfnIdeal.τ).loc Cert.KernelFfnIdeal.main_arg7) = m ((c.tc : Thread Cert.KernelFfnIdeal.nD Cert.KernelFfnIdeal.τ).loc Cert.KernelFfnIdeal.main_arg7)
      ∧ r.2.mem ((c.tc : Thread Cert.KernelFfnIdeal.nD Cert.KernelFfnIdeal.τ).loc Cert.KernelFfnIdeal.main_arg8) = m ((c.tc : Thread Cert.KernelFfnIdeal.nD Cert.KernelFfnIdeal.τ).loc Cert.KernelFfnIdeal.main_arg8)
      ∧ r.2.mem ((c.tc : Thread Cert.KernelFfnIdeal.nD Cert.KernelFfnIdeal.τ).loc Cert.KernelFfnIdeal.main_arg9) = m ((c.tc : Thread Cert.KernelFfnIdeal.nD Cert.KernelFfnIdeal.τ).loc Cert.KernelFfnIdeal.main_arg9)
      ∧ r.2.mem ((c.tc : Thread Cert.KernelFfnIdeal.nD Cert.KernelFfnIdeal.τ).loc Cert.KernelFfnIdeal.main_arg10) = m ((c.tc : Thread Cert.KernelFfnIdeal.nD Cert.KernelFfnIdeal.τ).loc Cert.KernelFfnIdeal.main_arg10)
      ∧ r.2.mem ((c.tc : Thread Cert.KernelFfnIdeal.nD Cert.KernelFfnIdeal.τ).loc Cert.KernelFfnIdeal.main_arg11) = m ((c.tc : Thread Cert.KernelFfnIdeal.nD Cert.KernelFfnIdeal.τ).loc Cert.KernelFfnIdeal.main_arg11))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5)
      ∧ r.2.mem ((c.tc : Thread Cert.ReferenceFfnIdeal.nD Cert.ReferenceFfnIdeal.τ).loc Cert.ReferenceFfnIdeal.main_arg6) = m ((c.tc : Thread Cert.ReferenceFfnIdeal.nD Cert.ReferenceFfnIdeal.τ).loc Cert.ReferenceFfnIdeal.main_arg6)
      ∧ r.2.mem ((c.tc : Thread Cert.ReferenceFfnIdeal.nD Cert.ReferenceFfnIdeal.τ).loc Cert.ReferenceFfnIdeal.main_arg7) = m ((c.tc : Thread Cert.ReferenceFfnIdeal.nD Cert.ReferenceFfnIdeal.τ).loc Cert.ReferenceFfnIdeal.main_arg7)
      ∧ r.2.mem ((c.tc : Thread Cert.ReferenceFfnIdeal.nD Cert.ReferenceFfnIdeal.τ).loc Cert.ReferenceFfnIdeal.main_arg8) = m ((c.tc : Thread Cert.ReferenceFfnIdeal.nD Cert.ReferenceFfnIdeal.τ).loc Cert.ReferenceFfnIdeal.main_arg8)
      ∧ r.2.mem ((c.tc : Thread Cert.ReferenceFfnIdeal.nD Cert.ReferenceFfnIdeal.τ).loc Cert.ReferenceFfnIdeal.main_arg9) = m ((c.tc : Thread Cert.ReferenceFfnIdeal.nD Cert.ReferenceFfnIdeal.τ).loc Cert.ReferenceFfnIdeal.main_arg9)
      ∧ r.2.mem ((c.tc : Thread Cert.ReferenceFfnIdeal.nD Cert.ReferenceFfnIdeal.τ).loc Cert.ReferenceFfnIdeal.main_arg10) = m ((c.tc : Thread Cert.ReferenceFfnIdeal.nD Cert.ReferenceFfnIdeal.τ).loc Cert.ReferenceFfnIdeal.main_arg10)
      ∧ r.2.mem ((c.tc : Thread Cert.ReferenceFfnIdeal.nD Cert.ReferenceFfnIdeal.τ).loc Cert.ReferenceFfnIdeal.main_arg11) = m ((c.tc : Thread Cert.ReferenceFfnIdeal.nD Cert.ReferenceFfnIdeal.τ).loc Cert.ReferenceFfnIdeal.main_arg11))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)) →
    ∃ (v0 : (c : Dev Cert.KernelGateIdeal.nD) → Buf (Elt Ideal) ((c.tc : Thread Cert.KernelGateIdeal.nD Cert.KernelGateIdeal.τ).loc Cert.KernelGateIdeal.main_v0)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v0) = v0 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v7) = v0 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v5) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v5) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def preserves_KernelBranch_KernelBranchIdeal : Prop :=
  True

def algebraic_KernelBranchIdeal_ReferenceBranchIdeal [hKernelBranchIdeal : Cert.KernelBranchIdeal.Facts] [hReferenceBranchIdeal : Cert.ReferenceBranchIdeal.Facts] : Prop :=
  ∀ (m : (ℓ : Loc Cert.KernelBranchIdeal.nD Cert.KernelBranchIdeal.τ Cert.KernelBranchIdeal.sig) → Buf (Elt Ideal) ℓ) (g : Dev Cert.KernelBranchIdeal.nD → PrngReg)
    (m' : (ℓ : Loc Cert.ReferenceBranchIdeal.nD Cert.ReferenceBranchIdeal.τ Cert.ReferenceBranchIdeal.sig) → Buf (Elt Ideal) ℓ) (g' : Dev Cert.ReferenceBranchIdeal.nD → PrngReg), Pre_KernelBranchIdeal m →
    (∀ c : Dev Cert.KernelBranchIdeal.nD,
      m' ((c.tc : Thread Cert.ReferenceBranchIdeal.nD Cert.ReferenceBranchIdeal.τ).loc Cert.ReferenceBranchIdeal.main_arg0) = m ((c.tc : Thread Cert.KernelBranchIdeal.nD Cert.KernelBranchIdeal.τ).loc Cert.KernelBranchIdeal.main_arg0)
      ∧ m' ((c.tc : Thread Cert.ReferenceBranchIdeal.nD Cert.ReferenceBranchIdeal.τ).loc Cert.ReferenceBranchIdeal.main_arg1) = m ((c.tc : Thread Cert.KernelBranchIdeal.nD Cert.KernelBranchIdeal.τ).loc Cert.KernelBranchIdeal.main_arg1)) →
    ∃ (v0 : (c : Dev Cert.KernelBranchIdeal.nD) → Buf (Elt Ideal) ((c.tc : Thread Cert.KernelBranchIdeal.nD Cert.KernelBranchIdeal.τ).loc Cert.KernelBranchIdeal.main_v0)),
      θ_run (Cert.KernelBranchIdeal.defs (F := Ideal)) (onTc (τ := Cert.KernelBranchIdeal.τ) (Cert.KernelBranchIdeal.main (F := Ideal))) ⟨m, fun _ => 0, g⟩ (fun r => ∀ c : Dev Cert.KernelBranchIdeal.nD,
          r.2.mem ((c.tc : Thread Cert.KernelBranchIdeal.nD Cert.KernelBranchIdeal.τ).loc Cert.KernelBranchIdeal.main_v0) = v0 c
          ∧ r.2.mem ((c.tc : Thread Cert.KernelBranchIdeal.nD Cert.KernelBranchIdeal.τ).loc Cert.KernelBranchIdeal.main_arg0) = m ((c.tc : Thread Cert.KernelBranchIdeal.nD Cert.KernelBranchIdeal.τ).loc Cert.KernelBranchIdeal.main_arg0)
          ∧ r.2.mem ((c.tc : Thread Cert.KernelBranchIdeal.nD Cert.KernelBranchIdeal.τ).loc Cert.KernelBranchIdeal.main_arg1) = m ((c.tc : Thread Cert.KernelBranchIdeal.nD Cert.KernelBranchIdeal.τ).loc Cert.KernelBranchIdeal.main_arg1))
      ∧ θ_run (Cert.ReferenceBranchIdeal.defs (F := Ideal)) (onTc (τ := Cert.ReferenceBranchIdeal.τ) (Cert.ReferenceBranchIdeal.main (F := Ideal))) ⟨m', fun _ => 0, g'⟩ (fun r => ∀ c : Dev Cert.ReferenceBranchIdeal.nD,
          r.2.mem ((c.tc : Thread Cert.ReferenceBranchIdeal.nD Cert.ReferenceBranchIdeal.τ).loc Cert.ReferenceBranchIdeal.main_v6) = v0 c
          ∧ r.2.mem ((c.tc : Thread Cert.ReferenceBranchIdeal.nD Cert.ReferenceBranchIdeal.τ).loc Cert.ReferenceBranchIdeal.main_arg0) = m' ((c.tc : Thread Cert.ReferenceBranchIdeal.nD Cert.ReferenceBranchIdeal.τ).loc Cert.ReferenceBranchIdeal.main_arg0)
          ∧ r.2.mem ((c.tc : Thread Cert.ReferenceBranchIdeal.nD Cert.ReferenceBranchIdeal.τ).loc Cert.ReferenceBranchIdeal.main_arg1) = m' ((c.tc : Thread Cert.ReferenceBranchIdeal.nD Cert.ReferenceBranchIdeal.τ).loc Cert.ReferenceBranchIdeal.main_arg1))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v0)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v8) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)) →
    ∃ (v0 : (c : Dev Cert.KernelMixIdeal.nD) → Buf (Elt Ideal) ((c.tc : Thread Cert.KernelMixIdeal.nD Cert.KernelMixIdeal.τ).loc Cert.KernelMixIdeal.main_v4_0)) (v1 : (c : Dev Cert.KernelMixIdeal.nD) → Buf (Elt Ideal) ((c.tc : Thread Cert.KernelMixIdeal.nD Cert.KernelMixIdeal.τ).loc Cert.KernelMixIdeal.main_v4_1)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v4_0) = v0 c
          ∧ r.2.mem ((c.tc : Thread Cert.KernelMixIdeal.nD Cert.KernelMixIdeal.τ).loc Cert.KernelMixIdeal.main_v4_1) = v1 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v13) = v0 c
          ∧ r.2.mem ((c.tc : Thread Cert.ReferenceMixIdeal.nD Cert.ReferenceMixIdeal.τ).loc Cert.ReferenceMixIdeal.main_v15) = v1 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2))

def preserves_KernelMixBwd_KernelMixBwdIdeal : Prop :=
  True

def algebraic_KernelMixBwdIdeal_ReferenceMixBwdIdeal [hKernelMixBwdIdeal : Cert.KernelMixBwdIdeal.Facts] [hReferenceMixBwdIdeal : Cert.ReferenceMixBwdIdeal.Facts] : Prop :=
  ∀ (m : (ℓ : Loc Cert.KernelMixBwdIdeal.nD Cert.KernelMixBwdIdeal.τ Cert.KernelMixBwdIdeal.sig) → Buf (Elt Ideal) ℓ) (g : Dev Cert.KernelMixBwdIdeal.nD → PrngReg)
    (m' : (ℓ : Loc Cert.ReferenceMixBwdIdeal.nD Cert.ReferenceMixBwdIdeal.τ Cert.ReferenceMixBwdIdeal.sig) → Buf (Elt Ideal) ℓ) (g' : Dev Cert.ReferenceMixBwdIdeal.nD → PrngReg), Pre_KernelMixBwdIdeal m →
    (∀ c : Dev Cert.KernelMixBwdIdeal.nD,
      m' ((c.tc : Thread Cert.ReferenceMixBwdIdeal.nD Cert.ReferenceMixBwdIdeal.τ).loc Cert.ReferenceMixBwdIdeal.main_arg0) = m ((c.tc : Thread Cert.KernelMixBwdIdeal.nD Cert.KernelMixBwdIdeal.τ).loc Cert.KernelMixBwdIdeal.main_arg0)
      ∧ m' ((c.tc : Thread Cert.ReferenceMixBwdIdeal.nD Cert.ReferenceMixBwdIdeal.τ).loc Cert.ReferenceMixBwdIdeal.main_arg1) = m ((c.tc : Thread Cert.KernelMixBwdIdeal.nD Cert.KernelMixBwdIdeal.τ).loc Cert.KernelMixBwdIdeal.main_arg1)
      ∧ m' ((c.tc : Thread Cert.ReferenceMixBwdIdeal.nD Cert.ReferenceMixBwdIdeal.τ).loc Cert.ReferenceMixBwdIdeal.main_arg2) = m ((c.tc : Thread Cert.KernelMixBwdIdeal.nD Cert.KernelMixBwdIdeal.τ).loc Cert.KernelMixBwdIdeal.main_arg2)
      ∧ m' ((c.tc : Thread Cert.ReferenceMixBwdIdeal.nD Cert.ReferenceMixBwdIdeal.τ).loc Cert.ReferenceMixBwdIdeal.main_arg3) = m ((c.tc : Thread Cert.KernelMixBwdIdeal.nD Cert.KernelMixBwdIdeal.τ).loc Cert.KernelMixBwdIdeal.main_arg3)
      ∧ m' ((c.tc : Thread Cert.ReferenceMixBwdIdeal.nD Cert.ReferenceMixBwdIdeal.τ).loc Cert.ReferenceMixBwdIdeal.main_arg4) = m ((c.tc : Thread Cert.KernelMixBwdIdeal.nD Cert.KernelMixBwdIdeal.τ).loc Cert.KernelMixBwdIdeal.main_arg4)) →
    ∃ (v0 : (c : Dev Cert.KernelMixBwdIdeal.nD) → Buf (Elt Ideal) ((c.tc : Thread Cert.KernelMixBwdIdeal.nD Cert.KernelMixBwdIdeal.τ).loc Cert.KernelMixBwdIdeal.main_v4_0)) (v1 : (c : Dev Cert.KernelMixBwdIdeal.nD) → Buf (Elt Ideal) ((c.tc : Thread Cert.KernelMixBwdIdeal.nD Cert.KernelMixBwdIdeal.τ).loc Cert.KernelMixBwdIdeal.main_v4_1)),
      θ_run (Cert.KernelMixBwdIdeal.defs (F := Ideal)) (onTc (τ := Cert.KernelMixBwdIdeal.τ) (Cert.KernelMixBwdIdeal.main (F := Ideal))) ⟨m, fun _ => 0, g⟩ (fun r => ∀ c : Dev Cert.KernelMixBwdIdeal.nD,
          r.2.mem ((c.tc : Thread Cert.KernelMixBwdIdeal.nD Cert.KernelMixBwdIdeal.τ).loc Cert.KernelMixBwdIdeal.main_v4_0) = v0 c
          ∧ r.2.mem ((c.tc : Thread Cert.KernelMixBwdIdeal.nD Cert.KernelMixBwdIdeal.τ).loc Cert.KernelMixBwdIdeal.main_v4_1) = v1 c
          ∧ r.2.mem ((c.tc : Thread Cert.KernelMixBwdIdeal.nD Cert.KernelMixBwdIdeal.τ).loc Cert.KernelMixBwdIdeal.main_arg0) = m ((c.tc : Thread Cert.KernelMixBwdIdeal.nD Cert.KernelMixBwdIdeal.τ).loc Cert.KernelMixBwdIdeal.main_arg0)
          ∧ r.2.mem ((c.tc : Thread Cert.KernelMixBwdIdeal.nD Cert.KernelMixBwdIdeal.τ).loc Cert.KernelMixBwdIdeal.main_arg1) = m ((c.tc : Thread Cert.KernelMixBwdIdeal.nD Cert.KernelMixBwdIdeal.τ).loc Cert.KernelMixBwdIdeal.main_arg1)
          ∧ r.2.mem ((c.tc : Thread Cert.KernelMixBwdIdeal.nD Cert.KernelMixBwdIdeal.τ).loc Cert.KernelMixBwdIdeal.main_arg2) = m ((c.tc : Thread Cert.KernelMixBwdIdeal.nD Cert.KernelMixBwdIdeal.τ).loc Cert.KernelMixBwdIdeal.main_arg2)
          ∧ r.2.mem ((c.tc : Thread Cert.KernelMixBwdIdeal.nD Cert.KernelMixBwdIdeal.τ).loc Cert.KernelMixBwdIdeal.main_arg3) = m ((c.tc : Thread Cert.KernelMixBwdIdeal.nD Cert.KernelMixBwdIdeal.τ).loc Cert.KernelMixBwdIdeal.main_arg3)
          ∧ r.2.mem ((c.tc : Thread Cert.KernelMixBwdIdeal.nD Cert.KernelMixBwdIdeal.τ).loc Cert.KernelMixBwdIdeal.main_arg4) = m ((c.tc : Thread Cert.KernelMixBwdIdeal.nD Cert.KernelMixBwdIdeal.τ).loc Cert.KernelMixBwdIdeal.main_arg4))
      ∧ θ_run (Cert.ReferenceMixBwdIdeal.defs (F := Ideal)) (onTc (τ := Cert.ReferenceMixBwdIdeal.τ) (Cert.ReferenceMixBwdIdeal.main (F := Ideal))) ⟨m', fun _ => 0, g'⟩ (fun r => ∀ c : Dev Cert.ReferenceMixBwdIdeal.nD,
          r.2.mem ((c.tc : Thread Cert.ReferenceMixBwdIdeal.nD Cert.ReferenceMixBwdIdeal.τ).loc Cert.ReferenceMixBwdIdeal.main_v39) = v0 c
          ∧ r.2.mem ((c.tc : Thread Cert.ReferenceMixBwdIdeal.nD Cert.ReferenceMixBwdIdeal.τ).loc Cert.ReferenceMixBwdIdeal.main_v40) = v1 c
          ∧ r.2.mem ((c.tc : Thread Cert.ReferenceMixBwdIdeal.nD Cert.ReferenceMixBwdIdeal.τ).loc Cert.ReferenceMixBwdIdeal.main_arg0) = m' ((c.tc : Thread Cert.ReferenceMixBwdIdeal.nD Cert.ReferenceMixBwdIdeal.τ).loc Cert.ReferenceMixBwdIdeal.main_arg0)
          ∧ r.2.mem ((c.tc : Thread Cert.ReferenceMixBwdIdeal.nD Cert.ReferenceMixBwdIdeal.τ).loc Cert.ReferenceMixBwdIdeal.main_arg1) = m' ((c.tc : Thread Cert.ReferenceMixBwdIdeal.nD Cert.ReferenceMixBwdIdeal.τ).loc Cert.ReferenceMixBwdIdeal.main_arg1)
          ∧ r.2.mem ((c.tc : Thread Cert.ReferenceMixBwdIdeal.nD Cert.ReferenceMixBwdIdeal.τ).loc Cert.ReferenceMixBwdIdeal.main_arg2) = m' ((c.tc : Thread Cert.ReferenceMixBwdIdeal.nD Cert.ReferenceMixBwdIdeal.τ).loc Cert.ReferenceMixBwdIdeal.main_arg2)
          ∧ r.2.mem ((c.tc : Thread Cert.ReferenceMixBwdIdeal.nD Cert.ReferenceMixBwdIdeal.τ).loc Cert.ReferenceMixBwdIdeal.main_arg3) = m' ((c.tc : Thread Cert.ReferenceMixBwdIdeal.nD Cert.ReferenceMixBwdIdeal.τ).loc Cert.ReferenceMixBwdIdeal.main_arg3)
          ∧ r.2.mem ((c.tc : Thread Cert.ReferenceMixBwdIdeal.nD Cert.ReferenceMixBwdIdeal.τ).loc Cert.ReferenceMixBwdIdeal.main_arg4) = m' ((c.tc : Thread Cert.ReferenceMixBwdIdeal.nD Cert.ReferenceMixBwdIdeal.τ).loc Cert.ReferenceMixBwdIdeal.main_arg4))

def preserves_KernelFfnBwd_KernelFfnBwdIdeal : Prop :=
  True

def algebraic_KernelFfnBwdIdeal_ReferenceFfnBwdIdeal_pre_finite_ffn [hKernelFfnBwdIdeal : Cert.KernelFfnBwdIdeal.Facts] [hReferenceFfnBwdIdeal : Cert.ReferenceFfnBwdIdeal.Facts] [hPre_finite_ffn : Cert.Pre_finite_ffn.Facts] : Prop :=
  ∀ (m : (ℓ : Loc Cert.KernelFfnBwdIdeal.nD Cert.KernelFfnBwdIdeal.τ Cert.KernelFfnBwdIdeal.sig) → Buf (Elt Ideal) ℓ) (g : Dev Cert.KernelFfnBwdIdeal.nD → PrngReg)
    (m' : (ℓ : Loc Cert.ReferenceFfnBwdIdeal.nD Cert.ReferenceFfnBwdIdeal.τ Cert.ReferenceFfnBwdIdeal.sig) → Buf (Elt Ideal) ℓ) (g' : Dev Cert.ReferenceFfnBwdIdeal.nD → PrngReg), Pre_KernelFfnBwdIdeal_finite_ffn m →
    (∀ c : Dev Cert.KernelFfnBwdIdeal.nD,
      m' ((c.tc : Thread Cert.ReferenceFfnBwdIdeal.nD Cert.ReferenceFfnBwdIdeal.τ).loc Cert.ReferenceFfnBwdIdeal.main_arg0) = m ((c.tc : Thread Cert.KernelFfnBwdIdeal.nD Cert.KernelFfnBwdIdeal.τ).loc Cert.KernelFfnBwdIdeal.main_arg0)
      ∧ m' ((c.tc : Thread Cert.ReferenceFfnBwdIdeal.nD Cert.ReferenceFfnBwdIdeal.τ).loc Cert.ReferenceFfnBwdIdeal.main_arg1) = m ((c.tc : Thread Cert.KernelFfnBwdIdeal.nD Cert.KernelFfnBwdIdeal.τ).loc Cert.KernelFfnBwdIdeal.main_arg1)
      ∧ m' ((c.tc : Thread Cert.ReferenceFfnBwdIdeal.nD Cert.ReferenceFfnBwdIdeal.τ).loc Cert.ReferenceFfnBwdIdeal.main_arg2) = m ((c.tc : Thread Cert.KernelFfnBwdIdeal.nD Cert.KernelFfnBwdIdeal.τ).loc Cert.KernelFfnBwdIdeal.main_arg2)
      ∧ m' ((c.tc : Thread Cert.ReferenceFfnBwdIdeal.nD Cert.ReferenceFfnBwdIdeal.τ).loc Cert.ReferenceFfnBwdIdeal.main_arg3) = m ((c.tc : Thread Cert.KernelFfnBwdIdeal.nD Cert.KernelFfnBwdIdeal.τ).loc Cert.KernelFfnBwdIdeal.main_arg3)
      ∧ m' ((c.tc : Thread Cert.ReferenceFfnBwdIdeal.nD Cert.ReferenceFfnBwdIdeal.τ).loc Cert.ReferenceFfnBwdIdeal.main_arg4) = m ((c.tc : Thread Cert.KernelFfnBwdIdeal.nD Cert.KernelFfnBwdIdeal.τ).loc Cert.KernelFfnBwdIdeal.main_arg4)
      ∧ m' ((c.tc : Thread Cert.ReferenceFfnBwdIdeal.nD Cert.ReferenceFfnBwdIdeal.τ).loc Cert.ReferenceFfnBwdIdeal.main_arg5) = m ((c.tc : Thread Cert.KernelFfnBwdIdeal.nD Cert.KernelFfnBwdIdeal.τ).loc Cert.KernelFfnBwdIdeal.main_arg5)) →
    ∃ (v0 : (c : Dev Cert.KernelFfnBwdIdeal.nD) → Buf (Elt Ideal) ((c.tc : Thread Cert.KernelFfnBwdIdeal.nD Cert.KernelFfnBwdIdeal.τ).loc Cert.KernelFfnBwdIdeal.main_v23_0)) (v1 : (c : Dev Cert.KernelFfnBwdIdeal.nD) → Buf (Elt Ideal) ((c.tc : Thread Cert.KernelFfnBwdIdeal.nD Cert.KernelFfnBwdIdeal.τ).loc Cert.KernelFfnBwdIdeal.main_v23_1)) (v2 : (c : Dev Cert.KernelFfnBwdIdeal.nD) → Buf (Elt Ideal) ((c.tc : Thread Cert.KernelFfnBwdIdeal.nD Cert.KernelFfnBwdIdeal.τ).loc Cert.KernelFfnBwdIdeal.main_v23_2)) (v3 : (c : Dev Cert.KernelFfnBwdIdeal.nD) → Buf (Elt Ideal) ((c.tc : Thread Cert.KernelFfnBwdIdeal.nD Cert.KernelFfnBwdIdeal.τ).loc Cert.KernelFfnBwdIdeal.main_v23_3)),
      θ_run (Cert.KernelFfnBwdIdeal.defs (F := Ideal)) (onTc (τ := Cert.KernelFfnBwdIdeal.τ) (Cert.KernelFfnBwdIdeal.main (F := Ideal))) ⟨m, fun _ => 0, g⟩ (fun r => ∀ c : Dev Cert.KernelFfnBwdIdeal.nD,
          r.2.mem ((c.tc : Thread Cert.KernelFfnBwdIdeal.nD Cert.KernelFfnBwdIdeal.τ).loc Cert.KernelFfnBwdIdeal.main_v23_0) = v0 c
          ∧ r.2.mem ((c.tc : Thread Cert.KernelFfnBwdIdeal.nD Cert.KernelFfnBwdIdeal.τ).loc Cert.KernelFfnBwdIdeal.main_v23_1) = v1 c
          ∧ r.2.mem ((c.tc : Thread Cert.KernelFfnBwdIdeal.nD Cert.KernelFfnBwdIdeal.τ).loc Cert.KernelFfnBwdIdeal.main_v23_2) = v2 c
          ∧ r.2.mem ((c.tc : Thread Cert.KernelFfnBwdIdeal.nD Cert.KernelFfnBwdIdeal.τ).loc Cert.KernelFfnBwdIdeal.main_v23_3) = v3 c
          ∧ r.2.mem ((c.tc : Thread Cert.KernelFfnBwdIdeal.nD Cert.KernelFfnBwdIdeal.τ).loc Cert.KernelFfnBwdIdeal.main_arg0) = m ((c.tc : Thread Cert.KernelFfnBwdIdeal.nD Cert.KernelFfnBwdIdeal.τ).loc Cert.KernelFfnBwdIdeal.main_arg0)
          ∧ r.2.mem ((c.tc : Thread Cert.KernelFfnBwdIdeal.nD Cert.KernelFfnBwdIdeal.τ).loc Cert.KernelFfnBwdIdeal.main_arg1) = m ((c.tc : Thread Cert.KernelFfnBwdIdeal.nD Cert.KernelFfnBwdIdeal.τ).loc Cert.KernelFfnBwdIdeal.main_arg1)
          ∧ r.2.mem ((c.tc : Thread Cert.KernelFfnBwdIdeal.nD Cert.KernelFfnBwdIdeal.τ).loc Cert.KernelFfnBwdIdeal.main_arg2) = m ((c.tc : Thread Cert.KernelFfnBwdIdeal.nD Cert.KernelFfnBwdIdeal.τ).loc Cert.KernelFfnBwdIdeal.main_arg2)
          ∧ r.2.mem ((c.tc : Thread Cert.KernelFfnBwdIdeal.nD Cert.KernelFfnBwdIdeal.τ).loc Cert.KernelFfnBwdIdeal.main_arg3) = m ((c.tc : Thread Cert.KernelFfnBwdIdeal.nD Cert.KernelFfnBwdIdeal.τ).loc Cert.KernelFfnBwdIdeal.main_arg3)
          ∧ r.2.mem ((c.tc : Thread Cert.KernelFfnBwdIdeal.nD Cert.KernelFfnBwdIdeal.τ).loc Cert.KernelFfnBwdIdeal.main_arg4) = m ((c.tc : Thread Cert.KernelFfnBwdIdeal.nD Cert.KernelFfnBwdIdeal.τ).loc Cert.KernelFfnBwdIdeal.main_arg4)
          ∧ r.2.mem ((c.tc : Thread Cert.KernelFfnBwdIdeal.nD Cert.KernelFfnBwdIdeal.τ).loc Cert.KernelFfnBwdIdeal.main_arg5) = m ((c.tc : Thread Cert.KernelFfnBwdIdeal.nD Cert.KernelFfnBwdIdeal.τ).loc Cert.KernelFfnBwdIdeal.main_arg5))
      ∧ θ_run (Cert.ReferenceFfnBwdIdeal.defs (F := Ideal)) (onTc (τ := Cert.ReferenceFfnBwdIdeal.τ) (Cert.ReferenceFfnBwdIdeal.main (F := Ideal))) ⟨m', fun _ => 0, g'⟩ (fun r => ∀ c : Dev Cert.ReferenceFfnBwdIdeal.nD,
          r.2.mem ((c.tc : Thread Cert.ReferenceFfnBwdIdeal.nD Cert.ReferenceFfnBwdIdeal.τ).loc Cert.ReferenceFfnBwdIdeal.main_v48) = v0 c
          ∧ r.2.mem ((c.tc : Thread Cert.ReferenceFfnBwdIdeal.nD Cert.ReferenceFfnBwdIdeal.τ).loc Cert.ReferenceFfnBwdIdeal.main_v49) = v1 c
          ∧ r.2.mem ((c.tc : Thread Cert.ReferenceFfnBwdIdeal.nD Cert.ReferenceFfnBwdIdeal.τ).loc Cert.ReferenceFfnBwdIdeal.main_v50) = v2 c
          ∧ r.2.mem ((c.tc : Thread Cert.ReferenceFfnBwdIdeal.nD Cert.ReferenceFfnBwdIdeal.τ).loc Cert.ReferenceFfnBwdIdeal.main_v51) = v3 c
          ∧ r.2.mem ((c.tc : Thread Cert.ReferenceFfnBwdIdeal.nD Cert.ReferenceFfnBwdIdeal.τ).loc Cert.ReferenceFfnBwdIdeal.main_arg0) = m' ((c.tc : Thread Cert.ReferenceFfnBwdIdeal.nD Cert.ReferenceFfnBwdIdeal.τ).loc Cert.ReferenceFfnBwdIdeal.main_arg0)
          ∧ r.2.mem ((c.tc : Thread Cert.ReferenceFfnBwdIdeal.nD Cert.ReferenceFfnBwdIdeal.τ).loc Cert.ReferenceFfnBwdIdeal.main_arg1) = m' ((c.tc : Thread Cert.ReferenceFfnBwdIdeal.nD Cert.ReferenceFfnBwdIdeal.τ).loc Cert.ReferenceFfnBwdIdeal.main_arg1)
          ∧ r.2.mem ((c.tc : Thread Cert.ReferenceFfnBwdIdeal.nD Cert.ReferenceFfnBwdIdeal.τ).loc Cert.ReferenceFfnBwdIdeal.main_arg2) = m' ((c.tc : Thread Cert.ReferenceFfnBwdIdeal.nD Cert.ReferenceFfnBwdIdeal.τ).loc Cert.ReferenceFfnBwdIdeal.main_arg2)
          ∧ r.2.mem ((c.tc : Thread Cert.ReferenceFfnBwdIdeal.nD Cert.ReferenceFfnBwdIdeal.τ).loc Cert.ReferenceFfnBwdIdeal.main_arg3) = m' ((c.tc : Thread Cert.ReferenceFfnBwdIdeal.nD Cert.ReferenceFfnBwdIdeal.τ).loc Cert.ReferenceFfnBwdIdeal.main_arg3)
          ∧ r.2.mem ((c.tc : Thread Cert.ReferenceFfnBwdIdeal.nD Cert.ReferenceFfnBwdIdeal.τ).loc Cert.ReferenceFfnBwdIdeal.main_arg4) = m' ((c.tc : Thread Cert.ReferenceFfnBwdIdeal.nD Cert.ReferenceFfnBwdIdeal.τ).loc Cert.ReferenceFfnBwdIdeal.main_arg4)
          ∧ r.2.mem ((c.tc : Thread Cert.ReferenceFfnBwdIdeal.nD Cert.ReferenceFfnBwdIdeal.τ).loc Cert.ReferenceFfnBwdIdeal.main_arg5) = m' ((c.tc : Thread Cert.ReferenceFfnBwdIdeal.nD Cert.ReferenceFfnBwdIdeal.τ).loc Cert.ReferenceFfnBwdIdeal.main_arg5))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)
      ∧ m' ((c.tc : Thread Cert.ReferenceFfnIdeal.nD Cert.ReferenceFfnIdeal.τ).loc Cert.ReferenceFfnIdeal.main_arg6) = m ((c.tc : Thread Cert.KernelFfnIdeal.nD Cert.KernelFfnIdeal.τ).loc Cert.KernelFfnIdeal.main_arg6)
      ∧ m' ((c.tc : Thread Cert.ReferenceFfnIdeal.nD Cert.ReferenceFfnIdeal.τ).loc Cert.ReferenceFfnIdeal.main_arg7) = m ((c.tc : Thread Cert.KernelFfnIdeal.nD Cert.KernelFfnIdeal.τ).loc Cert.KernelFfnIdeal.main_arg7)
      ∧ m' ((c.tc : Thread Cert.ReferenceFfnIdeal.nD Cert.ReferenceFfnIdeal.τ).loc Cert.ReferenceFfnIdeal.main_arg8) = m ((c.tc : Thread Cert.KernelFfnIdeal.nD Cert.KernelFfnIdeal.τ).loc Cert.KernelFfnIdeal.main_arg8)
      ∧ m' ((c.tc : Thread Cert.ReferenceFfnIdeal.nD Cert.ReferenceFfnIdeal.τ).loc Cert.ReferenceFfnIdeal.main_arg9) = m ((c.tc : Thread Cert.KernelFfnIdeal.nD Cert.KernelFfnIdeal.τ).loc Cert.KernelFfnIdeal.main_arg9)
      ∧ m' ((c.tc : Thread Cert.ReferenceFfnIdeal.nD Cert.ReferenceFfnIdeal.τ).loc Cert.ReferenceFfnIdeal.main_arg10) = m ((c.tc : Thread Cert.KernelFfnIdeal.nD Cert.KernelFfnIdeal.τ).loc Cert.KernelFfnIdeal.main_arg10)
      ∧ m' ((c.tc : Thread Cert.ReferenceFfnIdeal.nD Cert.ReferenceFfnIdeal.τ).loc Cert.ReferenceFfnIdeal.main_arg11) = m ((c.tc : Thread Cert.KernelFfnIdeal.nD Cert.KernelFfnIdeal.τ).loc Cert.KernelFfnIdeal.main_arg11)) →
    ∃ (v0 : (c : Dev Cert.KernelFfnIdeal.nD) → Buf (Elt Ideal) ((c.tc : Thread Cert.KernelFfnIdeal.nD Cert.KernelFfnIdeal.τ).loc Cert.KernelFfnIdeal.main_v21_0)) (v1 : (c : Dev Cert.KernelFfnIdeal.nD) → Buf (Elt Ideal) ((c.tc : Thread Cert.KernelFfnIdeal.nD Cert.KernelFfnIdeal.τ).loc Cert.KernelFfnIdeal.main_v21_1)) (v2 : (c : Dev Cert.KernelFfnIdeal.nD) → Buf (Elt Ideal) ((c.tc : Thread Cert.KernelFfnIdeal.nD Cert.KernelFfnIdeal.τ).loc Cert.KernelFfnIdeal.main_v21_2)) (v3 : (c : Dev Cert.KernelFfnIdeal.nD) → Buf (Elt Ideal) ((c.tc : Thread Cert.KernelFfnIdeal.nD Cert.KernelFfnIdeal.τ).loc Cert.KernelFfnIdeal.main_v21_3)) (v4 : (c : Dev Cert.KernelFfnIdeal.nD) → Buf (Elt Ideal) ((c.tc : Thread Cert.KernelFfnIdeal.nD Cert.KernelFfnIdeal.τ).loc Cert.KernelFfnIdeal.main_v21_4)) (v5 : (c : Dev Cert.KernelFfnIdeal.nD) → Buf (Elt Ideal) ((c.tc : Thread Cert.KernelFfnIdeal.nD Cert.KernelFfnIdeal.τ).loc Cert.KernelFfnIdeal.main_v21_5)) (v6 : (c : Dev Cert.KernelFfnIdeal.nD) → Buf (Elt Ideal) ((c.tc : Thread Cert.KernelFfnIdeal.nD Cert.KernelFfnIdeal.τ).loc Cert.KernelFfnIdeal.main_v21_6)) (v7 : (c : Dev Cert.KernelFfnIdeal.nD) → Buf (Elt Ideal) ((c.tc : Thread Cert.KernelFfnIdeal.nD Cert.KernelFfnIdeal.τ).loc Cert.KernelFfnIdeal.main_v21_7)) (v8 : (c : Dev Cert.KernelFfnIdeal.nD) → Buf (Elt Ideal) ((c.tc : Thread Cert.KernelFfnIdeal.nD Cert.KernelFfnIdeal.τ).loc Cert.KernelFfnIdeal.main_v21_8)) (v9 : (c : Dev Cert.KernelFfnIdeal.nD) → Buf (Elt Ideal) ((c.tc : Thread Cert.KernelFfnIdeal.nD Cert.KernelFfnIdeal.τ).loc Cert.KernelFfnIdeal.main_v21_9)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v21_0) = v0 c
          ∧ r.2.mem ((c.tc : Thread Cert.KernelFfnIdeal.nD Cert.KernelFfnIdeal.τ).loc Cert.KernelFfnIdeal.main_v21_1) = v1 c
          ∧ r.2.mem ((c.tc : Thread Cert.KernelFfnIdeal.nD Cert.KernelFfnIdeal.τ).loc Cert.KernelFfnIdeal.main_v21_2) = v2 c
          ∧ r.2.mem ((c.tc : Thread Cert.KernelFfnIdeal.nD Cert.KernelFfnIdeal.τ).loc Cert.KernelFfnIdeal.main_v21_3) = v3 c
          ∧ r.2.mem ((c.tc : Thread Cert.KernelFfnIdeal.nD Cert.KernelFfnIdeal.τ).loc Cert.KernelFfnIdeal.main_v21_4) = v4 c
          ∧ r.2.mem ((c.tc : Thread Cert.KernelFfnIdeal.nD Cert.KernelFfnIdeal.τ).loc Cert.KernelFfnIdeal.main_v21_5) = v5 c
          ∧ r.2.mem ((c.tc : Thread Cert.KernelFfnIdeal.nD Cert.KernelFfnIdeal.τ).loc Cert.KernelFfnIdeal.main_v21_6) = v6 c
          ∧ r.2.mem ((c.tc : Thread Cert.KernelFfnIdeal.nD Cert.KernelFfnIdeal.τ).loc Cert.KernelFfnIdeal.main_v21_7) = v7 c
          ∧ r.2.mem ((c.tc : Thread Cert.KernelFfnIdeal.nD Cert.KernelFfnIdeal.τ).loc Cert.KernelFfnIdeal.main_v21_8) = v8 c
          ∧ r.2.mem ((c.tc : Thread Cert.KernelFfnIdeal.nD Cert.KernelFfnIdeal.τ).loc Cert.KernelFfnIdeal.main_v21_9) = v9 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
          ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6)
          ∧ r.2.mem ((c.tc : Thread Cert.KernelFfnIdeal.nD Cert.KernelFfnIdeal.τ).loc Cert.KernelFfnIdeal.main_arg7) = m ((c.tc : Thread Cert.KernelFfnIdeal.nD Cert.KernelFfnIdeal.τ).loc Cert.KernelFfnIdeal.main_arg7)
          ∧ r.2.mem ((c.tc : Thread Cert.KernelFfnIdeal.nD Cert.KernelFfnIdeal.τ).loc Cert.KernelFfnIdeal.main_arg8) = m ((c.tc : Thread Cert.KernelFfnIdeal.nD Cert.KernelFfnIdeal.τ).loc Cert.KernelFfnIdeal.main_arg8)
          ∧ r.2.mem ((c.tc : Thread Cert.KernelFfnIdeal.nD Cert.KernelFfnIdeal.τ).loc Cert.KernelFfnIdeal.main_arg9) = m ((c.tc : Thread Cert.KernelFfnIdeal.nD Cert.KernelFfnIdeal.τ).loc Cert.KernelFfnIdeal.main_arg9)
          ∧ r.2.mem ((c.tc : Thread Cert.KernelFfnIdeal.nD Cert.KernelFfnIdeal.τ).loc Cert.KernelFfnIdeal.main_arg10) = m ((c.tc : Thread Cert.KernelFfnIdeal.nD Cert.KernelFfnIdeal.τ).loc Cert.KernelFfnIdeal.main_arg10)
          ∧ r.2.mem ((c.tc : Thread Cert.KernelFfnIdeal.nD Cert.KernelFfnIdeal.τ).loc Cert.KernelFfnIdeal.main_arg11) = m ((c.tc : Thread Cert.KernelFfnIdeal.nD Cert.KernelFfnIdeal.τ).loc Cert.KernelFfnIdeal.main_arg11))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v93) = v0 c
          ∧ r.2.mem ((c.tc : Thread Cert.ReferenceFfnIdeal.nD Cert.ReferenceFfnIdeal.τ).loc Cert.ReferenceFfnIdeal.main_v94) = v1 c
          ∧ r.2.mem ((c.tc : Thread Cert.ReferenceFfnIdeal.nD Cert.ReferenceFfnIdeal.τ).loc Cert.ReferenceFfnIdeal.main_v95) = v2 c
          ∧ r.2.mem ((c.tc : Thread Cert.ReferenceFfnIdeal.nD Cert.ReferenceFfnIdeal.τ).loc Cert.ReferenceFfnIdeal.main_v96) = v3 c
          ∧ r.2.mem ((c.tc : Thread Cert.ReferenceFfnIdeal.nD Cert.ReferenceFfnIdeal.τ).loc Cert.ReferenceFfnIdeal.main_v73) = v4 c
          ∧ r.2.mem ((c.tc : Thread Cert.ReferenceFfnIdeal.nD Cert.ReferenceFfnIdeal.τ).loc Cert.ReferenceFfnIdeal.main_v97) = v5 c
          ∧ r.2.mem ((c.tc : Thread Cert.ReferenceFfnIdeal.nD Cert.ReferenceFfnIdeal.τ).loc Cert.ReferenceFfnIdeal.main_v98) = v6 c
          ∧ r.2.mem ((c.tc : Thread Cert.ReferenceFfnIdeal.nD Cert.ReferenceFfnIdeal.τ).loc Cert.ReferenceFfnIdeal.main_v99) = v7 c
          ∧ r.2.mem ((c.tc : Thread Cert.ReferenceFfnIdeal.nD Cert.ReferenceFfnIdeal.τ).loc Cert.ReferenceFfnIdeal.main_v100) = v8 c
          ∧ r.2.mem ((c.tc : Thread Cert.ReferenceFfnIdeal.nD Cert.ReferenceFfnIdeal.τ).loc Cert.ReferenceFfnIdeal.main_v92) = v9 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5)
          ∧ r.2.mem ((c.tc : Thread Cert.ReferenceFfnIdeal.nD Cert.ReferenceFfnIdeal.τ).loc Cert.ReferenceFfnIdeal.main_arg6) = m' ((c.tc : Thread Cert.ReferenceFfnIdeal.nD Cert.ReferenceFfnIdeal.τ).loc Cert.ReferenceFfnIdeal.main_arg6)
          ∧ r.2.mem ((c.tc : Thread Cert.ReferenceFfnIdeal.nD Cert.ReferenceFfnIdeal.τ).loc Cert.ReferenceFfnIdeal.main_arg7) = m' ((c.tc : Thread Cert.ReferenceFfnIdeal.nD Cert.ReferenceFfnIdeal.τ).loc Cert.ReferenceFfnIdeal.main_arg7)
          ∧ r.2.mem ((c.tc : Thread Cert.ReferenceFfnIdeal.nD Cert.ReferenceFfnIdeal.τ).loc Cert.ReferenceFfnIdeal.main_arg8) = m' ((c.tc : Thread Cert.ReferenceFfnIdeal.nD Cert.ReferenceFfnIdeal.τ).loc Cert.ReferenceFfnIdeal.main_arg8)
          ∧ r.2.mem ((c.tc : Thread Cert.ReferenceFfnIdeal.nD Cert.ReferenceFfnIdeal.τ).loc Cert.ReferenceFfnIdeal.main_arg9) = m' ((c.tc : Thread Cert.ReferenceFfnIdeal.nD Cert.ReferenceFfnIdeal.τ).loc Cert.ReferenceFfnIdeal.main_arg9)
          ∧ r.2.mem ((c.tc : Thread Cert.ReferenceFfnIdeal.nD Cert.ReferenceFfnIdeal.τ).loc Cert.ReferenceFfnIdeal.main_arg10) = m' ((c.tc : Thread Cert.ReferenceFfnIdeal.nD Cert.ReferenceFfnIdeal.τ).loc Cert.ReferenceFfnIdeal.main_arg10)
          ∧ r.2.mem ((c.tc : Thread Cert.ReferenceFfnIdeal.nD Cert.ReferenceFfnIdeal.τ).loc Cert.ReferenceFfnIdeal.main_arg11) = m' ((c.tc : Thread Cert.ReferenceFfnIdeal.nD Cert.ReferenceFfnIdeal.τ).loc Cert.ReferenceFfnIdeal.main_arg11))

def preserves_Kernel_KernelIdeal : Prop :=
  True

def algebraic_KernelIdeal_ReferenceIdeal_on_written_pre_finite [hKernelIdeal : Cert.KernelIdeal.Facts] [hReferenceIdeal : Cert.ReferenceIdeal.Facts] [hPre_finite : Cert.Pre_finite.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v103_0)) (v1 : (c : Dev Cert.KernelIdeal.nD) → Buf (Elt Ideal) ((c.tc : Thread Cert.KernelIdeal.nD Cert.KernelIdeal.τ).loc Cert.KernelIdeal.main_v103_1)) (v2 : (c : Dev Cert.KernelIdeal.nD) → Buf (Elt Ideal) ((c.tc : Thread Cert.KernelIdeal.nD Cert.KernelIdeal.τ).loc Cert.KernelIdeal.main_v103_2)) (v3 : (c : Dev Cert.KernelIdeal.nD) → Buf (Elt Ideal) ((c.tc : Thread Cert.KernelIdeal.nD Cert.KernelIdeal.τ).loc Cert.KernelIdeal.main_v103_3)) (v4 : (c : Dev Cert.KernelIdeal.nD) → Buf (Elt Ideal) ((c.tc : Thread Cert.KernelIdeal.nD Cert.KernelIdeal.τ).loc Cert.KernelIdeal.main_v103_4)) (v5 : (c : Dev Cert.KernelIdeal.nD) → Buf (Elt Ideal) ((c.tc : Thread Cert.KernelIdeal.nD Cert.KernelIdeal.τ).loc Cert.KernelIdeal.main_v103_5)) (v6 : (c : Dev Cert.KernelIdeal.nD) → Buf (Elt Ideal) ((c.tc : Thread Cert.KernelIdeal.nD Cert.KernelIdeal.τ).loc Cert.KernelIdeal.main_v103_6)) (v7 : (c : Dev Cert.KernelIdeal.nD) → Buf (Elt Ideal) ((c.tc : Thread Cert.KernelIdeal.nD Cert.KernelIdeal.τ).loc Cert.KernelIdeal.main_v103_7)) (v8 : (c : Dev Cert.KernelIdeal.nD) → Buf (Elt Ideal) ((c.tc : Thread Cert.KernelIdeal.nD Cert.KernelIdeal.τ).loc Cert.KernelIdeal.main_v103_8)) (v9 : (c : Dev Cert.KernelIdeal.nD) → Buf (Elt Ideal) ((c.tc : Thread Cert.KernelIdeal.nD Cert.KernelIdeal.τ).loc Cert.KernelIdeal.main_v103_9)) (v10 : (c : Dev Cert.KernelIdeal.nD) → Buf (Elt Ideal) ((c.tc : Thread Cert.KernelIdeal.nD Cert.KernelIdeal.τ).loc Cert.KernelIdeal.main_v103_10)) (v11 : (c : Dev Cert.KernelIdeal.nD) → Buf (Elt Ideal) ((c.tc : Thread Cert.KernelIdeal.nD Cert.KernelIdeal.τ).loc Cert.KernelIdeal.main_v103_11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 i = 1#1 → r.2.mem ((c.tc : Thread Cert.KernelIdeal.nD Cert.KernelIdeal.τ).loc Cert.KernelIdeal.main_v103_0) i = v0 c i)
          ∧ (∀ i : (⟨2, ![8192, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 i = 1#1 → r.2.mem ((c.tc : Thread Cert.KernelIdeal.nD Cert.KernelIdeal.τ).loc Cert.KernelIdeal.main_v103_1) i = v1 c i)
          ∧ (∀ i : (⟨2, ![8192, 6144]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 i = 1#1 → r.2.mem ((c.tc : Thread Cert.KernelIdeal.nD Cert.KernelIdeal.τ).loc Cert.KernelIdeal.main_v103_2) i = v2 c i)
          ∧ (∀ i : (⟨2, ![8192, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 i = 1#1 → r.2.mem ((c.tc : Thread Cert.KernelIdeal.nD Cert.KernelIdeal.τ).loc Cert.KernelIdeal.main_v103_3) i = v3 c i)
          ∧ (∀ i : (⟨2, ![1, 2048]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 i = 1#1 → r.2.mem ((c.tc : Thread Cert.KernelIdeal.nD Cert.KernelIdeal.τ).loc Cert.KernelIdeal.main_v103_4) i = v4 c i)
          ∧ (∀ i : (⟨2, ![1, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 i = 1#1 → r.2.mem ((c.tc : Thread Cert.KernelIdeal.nD Cert.KernelIdeal.τ).loc Cert.KernelIdeal.main_v103_5) i = v5 c i)
          ∧ (∀ i : (⟨2, ![1, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 i = 1#1 → r.2.mem ((c.tc : Thread Cert.KernelIdeal.nD Cert.KernelIdeal.τ).loc Cert.KernelIdeal.main_v103_6) i = v6 c i)
          ∧ (∀ i : (⟨2, ![1, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 i = 1#1 → r.2.mem ((c.tc : Thread Cert.KernelIdeal.nD Cert.KernelIdeal.τ).loc Cert.KernelIdeal.main_v103_7) i = v7 c i)
          ∧ (∀ i : (⟨3, ![8, 128, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.1 i = 1#1 → r.2.mem ((c.tc : Thread Cert.KernelIdeal.nD Cert.KernelIdeal.τ).loc Cert.KernelIdeal.main_v103_8) i = v8 c i)
          ∧ (∀ i : (⟨2, ![1, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2.1 i = 1#1 → r.2.mem ((c.tc : Thread Cert.KernelIdeal.nD Cert.KernelIdeal.τ).loc Cert.KernelIdeal.main_v103_9) i = v9 c i)
          ∧ (∀ i : (⟨2, ![1, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2.2.1 i = 1#1 → r.2.mem ((c.tc : Thread Cert.KernelIdeal.nD Cert.KernelIdeal.τ).loc Cert.KernelIdeal.main_v103_10) i = v10 c i)
          ∧ (∀ i : (⟨2, ![1, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2.2.2 i = 1#1 → r.2.mem ((c.tc : Thread Cert.KernelIdeal.nD Cert.KernelIdeal.τ).loc Cert.KernelIdeal.main_v103_11) i = v11 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 i = 1#1 → r.2.mem ((c.tc : Thread Cert.ReferenceIdeal.nD Cert.ReferenceIdeal.τ).loc Cert.ReferenceIdeal.main_v221) i = v0 c i)
          ∧ (∀ i : (⟨2, ![8192, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 i = 1#1 → r.2.mem ((c.tc : Thread Cert.ReferenceIdeal.nD Cert.ReferenceIdeal.τ).loc Cert.ReferenceIdeal.main_v222) i = v1 c i)
          ∧ (∀ i : (⟨2, ![8192, 6144]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 i = 1#1 → r.2.mem ((c.tc : Thread Cert.ReferenceIdeal.nD Cert.ReferenceIdeal.τ).loc Cert.ReferenceIdeal.main_v223) i = v2 c i)
          ∧ (∀ i : (⟨2, ![8192, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 i = 1#1 → r.2.mem ((c.tc : Thread Cert.ReferenceIdeal.nD Cert.ReferenceIdeal.τ).loc Cert.ReferenceIdeal.main_v169) i = v3 c i)
          ∧ (∀ i : (⟨2, ![1, 2048]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 i = 1#1 → r.2.mem ((c.tc : Thread Cert.ReferenceIdeal.nD Cert.ReferenceIdeal.τ).loc Cert.ReferenceIdeal.main_v225) i = v4 c i)
          ∧ (∀ i : (⟨2, ![1, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 i = 1#1 → r.2.mem ((c.tc : Thread Cert.ReferenceIdeal.nD Cert.ReferenceIdeal.τ).loc Cert.ReferenceIdeal.main_v226) i = v5 c i)
          ∧ (∀ i : (⟨2, ![1, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 i = 1#1 → r.2.mem ((c.tc : Thread Cert.ReferenceIdeal.nD Cert.ReferenceIdeal.τ).loc Cert.ReferenceIdeal.main_v227) i = v6 c i)
          ∧ (∀ i : (⟨2, ![1, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 i = 1#1 → r.2.mem ((c.tc : Thread Cert.ReferenceIdeal.nD Cert.ReferenceIdeal.τ).loc Cert.ReferenceIdeal.main_v228) i = v7 c i)
          ∧ (∀ i : (⟨3, ![8, 128, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.1 i = 1#1 → r.2.mem ((c.tc : Thread Cert.ReferenceIdeal.nD Cert.ReferenceIdeal.τ).loc Cert.ReferenceIdeal.main_v184) i = v8 c i)
          ∧ (∀ i : (⟨2, ![1, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2.1 i = 1#1 → r.2.mem ((c.tc : Thread Cert.ReferenceIdeal.nD Cert.ReferenceIdeal.τ).loc Cert.ReferenceIdeal.main_v229) i = v9 c i)
          ∧ (∀ i : (⟨2, ![1, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2.2.1 i = 1#1 → r.2.mem ((c.tc : Thread Cert.ReferenceIdeal.nD Cert.ReferenceIdeal.τ).loc Cert.ReferenceIdeal.main_v230) i = v10 c i)
          ∧ (∀ i : (⟨2, ![1, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2.2.2 i = 1#1 → r.2.mem ((c.tc : Thread Cert.ReferenceIdeal.nD Cert.ReferenceIdeal.τ).loc Cert.ReferenceIdeal.main_v231) i = v11 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernelGate : Cert.KernelGate.Facts) (hKernelGateIdeal : Cert.KernelGateIdeal.Facts) (hReferenceGateIdeal : Cert.ReferenceGateIdeal.Facts) (hKernelDown : Cert.KernelDown.Facts) (hKernelDownIdeal : Cert.KernelDownIdeal.Facts) (hReferenceDownIdeal : Cert.ReferenceDownIdeal.Facts) (hKernelOut : Cert.KernelOut.Facts) (hKernelOutIdeal : Cert.KernelOutIdeal.Facts) (hReferenceOutIdeal : Cert.ReferenceOutIdeal.Facts) (hKernelBranch : Cert.KernelBranch.Facts) (hKernelBranchIdeal : Cert.KernelBranchIdeal.Facts) (hReferenceBranchIdeal : Cert.ReferenceBranchIdeal.Facts) (hKernelIn : Cert.KernelIn.Facts) (hKernelInIdeal : Cert.KernelInIdeal.Facts) (hReferenceInIdeal : Cert.ReferenceInIdeal.Facts) (hKernelMix : Cert.KernelMix.Facts) (hKernelMixIdeal : Cert.KernelMixIdeal.Facts) (hReferenceMixIdeal : Cert.ReferenceMixIdeal.Facts) (hKernelMixBwd : Cert.KernelMixBwd.Facts) (hKernelMixBwdIdeal : Cert.KernelMixBwdIdeal.Facts) (hReferenceMixBwdIdeal : Cert.ReferenceMixBwdIdeal.Facts) (hKernelFfnBwd : Cert.KernelFfnBwd.Facts) (hKernelFfnBwdIdeal : Cert.KernelFfnBwdIdeal.Facts) (hReferenceFfnBwdIdeal : Cert.ReferenceFfnBwdIdeal.Facts) (hKernelFfn : Cert.KernelFfn.Facts) (hKernelFfnIdeal : Cert.KernelFfnIdeal.Facts) (hReferenceFfnIdeal : Cert.ReferenceFfnIdeal.Facts) (hKernel : Cert.Kernel.Facts) (hKernelIdeal : Cert.KernelIdeal.Facts) (hReferenceIdeal : Cert.ReferenceIdeal.Facts) (hPre_finite_ffn : Cert.Pre_finite_ffn.Facts) (hPre_finite : Cert.Pre_finite.Facts) (hOn_written : Cert.On_written.Facts),
    quiescent_KernelGate (hKernelGate := hKernelGate)
    ∧ quiescent_KernelGateIdeal (hKernelGateIdeal := hKernelGateIdeal)
    ∧ quiescent_ReferenceGateIdeal (hReferenceGateIdeal := hReferenceGateIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelBranch (hKernelBranch := hKernelBranch)
    ∧ quiescent_KernelBranchIdeal (hKernelBranchIdeal := hKernelBranchIdeal)
    ∧ quiescent_ReferenceBranchIdeal (hReferenceBranchIdeal := hReferenceBranchIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelMixBwd (hKernelMixBwd := hKernelMixBwd)
    ∧ quiescent_KernelMixBwdIdeal (hKernelMixBwdIdeal := hKernelMixBwdIdeal)
    ∧ quiescent_ReferenceMixBwdIdeal (hReferenceMixBwdIdeal := hReferenceMixBwdIdeal)
    ∧ quiescent_KernelFfnBwd (hKernelFfnBwd := hKernelFfnBwd)
    ∧ quiescent_KernelFfnBwdIdeal (hKernelFfnBwdIdeal := hKernelFfnBwdIdeal)
    ∧ quiescent_KernelFfnBwdIdeal_pre_finite_ffn (hKernelFfnBwdIdeal := hKernelFfnBwdIdeal) (hPre_finite_ffn := hPre_finite_ffn)
    ∧ quiescent_ReferenceFfnBwdIdeal (hReferenceFfnBwdIdeal := hReferenceFfnBwdIdeal)
    ∧ quiescent_ReferenceFfnBwdIdeal_pre_finite_ffn (hReferenceFfnBwdIdeal := hReferenceFfnBwdIdeal) (hPre_finite_ffn := hPre_finite_ffn)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_KernelGate_KernelGateIdeal
    ∧ algebraic_KernelGateIdeal_ReferenceGateIdeal (hKernelGateIdeal := hKernelGateIdeal) (hReferenceGateIdeal := hReferenceGateIdeal)
    ∧ preserves_KernelDown_KernelDownIdeal
    ∧ algebraic_KernelDownIdeal_ReferenceDownIdeal (hKernelDownIdeal := hKernelDownIdeal) (hReferenceDownIdeal := hReferenceDownIdeal)
    ∧ preserves_KernelOut_KernelOutIdeal
    ∧ algebraic_KernelOutIdeal_ReferenceOutIdeal (hKernelOutIdeal := hKernelOutIdeal) (hReferenceOutIdeal := hReferenceOutIdeal)
    ∧ preserves_KernelBranch_KernelBranchIdeal
    ∧ algebraic_KernelBranchIdeal_ReferenceBranchIdeal (hKernelBranchIdeal := hKernelBranchIdeal) (hReferenceBranchIdeal := hReferenceBranchIdeal)
    ∧ preserves_KernelIn_KernelInIdeal
    ∧ algebraic_KernelInIdeal_ReferenceInIdeal (hKernelInIdeal := hKernelInIdeal) (hReferenceInIdeal := hReferenceInIdeal)
    ∧ preserves_KernelMix_KernelMixIdeal
    ∧ algebraic_KernelMixIdeal_ReferenceMixIdeal (hKernelMixIdeal := hKernelMixIdeal) (hReferenceMixIdeal := hReferenceMixIdeal)
    ∧ preserves_KernelMixBwd_KernelMixBwdIdeal
    ∧ algebraic_KernelMixBwdIdeal_ReferenceMixBwdIdeal (hKernelMixBwdIdeal := hKernelMixBwdIdeal) (hReferenceMixBwdIdeal := hReferenceMixBwdIdeal)
    ∧ preserves_KernelFfnBwd_KernelFfnBwdIdeal
    ∧ algebraic_KernelFfnBwdIdeal_ReferenceFfnBwdIdeal_pre_finite_ffn (hKernelFfnBwdIdeal := hKernelFfnBwdIdeal) (hReferenceFfnBwdIdeal := hReferenceFfnBwdIdeal) (hPre_finite_ffn := hPre_finite_ffn)
    ∧ preserves_KernelFfn_KernelFfnIdeal
    ∧ algebraic_KernelFfnIdeal_ReferenceFfnIdeal (hKernelFfnIdeal := hKernelFfnIdeal) (hReferenceFfnIdeal := hReferenceFfnIdeal)
    ∧ preserves_Kernel_KernelIdeal
    ∧ algebraic_KernelIdeal_ReferenceIdeal_on_written_pre_finite (hKernelIdeal := hKernelIdeal) (hReferenceIdeal := hReferenceIdeal) (hPre_finite := hPre_finite) (hOn_written := hOn_written)
-- ==== On_written.lean ====
abbrev S8192x1024 : Shape := ⟨2, ![8192, 1024]⟩
abbrev S8192x6144 : Shape := ⟨2, ![8192, 6144]⟩
abbrev S2048 : Shape := ⟨1, ![2048]⟩
abbrev S1024 : Shape := ⟨1, ![1024]⟩
abbrev S2x1024 : Shape := ⟨2, ![2, 1024]⟩
abbrev S8x128x128 : Shape := ⟨3, ![8, 128, 128]⟩
abbrev S8x128 : Shape := ⟨2, ![8, 128]⟩
abbrev S3x1024x1024 : Shape := ⟨3, ![3, 1024, 1024]⟩
abbrev S_ : Shape := ⟨0, ![]⟩
abbrev S1x2048 : Shape := ⟨2, ![1, 2048]⟩
abbrev S1x1024 : Shape := ⟨2, ![1, 1024]⟩

class Facts : Prop where
  bcast_S_S8192x1024 : S_.BroadcastsInDim S8192x1024 (![] : Fin 0 → Fin S8192x1024.rank)
  bcast_S_S8192x6144 : S_.BroadcastsInDim S8192x6144 (![] : Fin 0 → Fin S8192x6144.rank)
  bcast_S_S1x2048 : S_.BroadcastsInDim S1x2048 (![] : Fin 0 → Fin S1x2048.rank)
  bcast_S_S1x1024 : S_.BroadcastsInDim S1x1024 (![] : Fin 0 → Fin S1x1024.rank)
  bcast_S_S8x128x128 : S_.BroadcastsInDim S8x128x128 (![] : Fin 0 → Fin S8x128x128.rank)

variable [Facts]

def fn_part1 {F : FTy → Type} [FloatOps F] (main_v0 : IVec S8192x1024 1) (main_v1 : IVec S8192x1024 1) (main_v4 : IVec S8192x6144 1) (main_v5 : IVec S8192x1024 1) (main_v6 : IVec S1x2048 1) (main_v7 : IVec S1x1024 1) (main_v8 : IVec S1x1024 1) (main_v9 : IVec S1x1024 1) (main_v10 : IVec S8x128x128 1) (main_v11 : IVec S1x1024 1) (main_v12 : IVec S1x1024 1) : IVec S8192x1024 1 × IVec S8192x1024 1 × IVec S8192x6144 1 × IVec S8192x1024 1 × IVec S1x2048 1 × IVec S1x1024 1 × IVec S1x1024 1 × IVec S1x1024 1 × IVec S8x128x128 1 × IVec S1x1024 1 × IVec S1x1024 1 × IVec S1x1024 1 :=
  let main_c_10 : IVec S_ 1 := constantI S_ 1 1#1
  let main_v13 : IVec S1x1024 1 := broadcastInDim S1x1024 ![] bcast_S_S1x1024 main_c_10
  (main_v0, main_v1, main_v4, main_v5, main_v6, main_v7, main_v8, main_v9, main_v10, main_v11, main_v12, main_v13)

def fn {F : FTy → Type} [FloatOps F] (main_arg0 : FVec F S8192x1024 .f32) (main_arg1 : FVec F S8192x1024 .f32) (main_arg2 : FVec F S8192x6144 .f32) (main_arg3 : FVec F S2048 .f32) (main_arg4 : FVec F S1024 .f32) (main_arg5 : FVec F S2x1024 .f32) (main_arg6 : FVec F S2x1024 .f32) (main_arg7 : FVec F S8x128x128 .f32) (main_arg8 : FVec F S8x128 .f32) (main_arg9 : FVec F S3x1024x1024 .f32) : IVec S8192x1024 1 × IVec S8192x1024 1 × IVec S8192x6144 1 × IVec S8192x1024 1 × IVec S1x2048 1 × IVec S1x1024 1 × IVec S1x1024 1 × IVec S1x1024 1 × IVec S8x128x128 1 × IVec S1x1024 1 × IVec S1x1024 1 × IVec S1x1024 1 :=
  let main_c : IVec S_ 1 := constantI S_ 1 1#1
  let main_v0 : IVec S8192x1024 1 := broadcastInDim S8192x1024 ![] bcast_S_S8192x1024 main_c
  let main_c_0 : IVec S_ 1 := constantI S_ 1 1#1
  let main_v1 : IVec S8192x1024 1 := broadcastInDim S8192x1024 ![] bcast_S_S8192x1024 main_c_0
  let main_v2 : IVec S8192x6144 32 := iotaInDim S8192x6144 32 1
  let main_c_1 : IVec S_ 32 := constantI S_ 32 2048#32
  let main_v3 : IVec S8192x6144 32 := broadcastInDim S8192x6144 ![] bcast_S_S8192x6144 main_c_1
  let main_v4 : IVec S8192x6144 1 := cmpi .sge main_v2 main_v3
  let main_c_2 : IVec S_ 1 := constantI S_ 1 1#1
  let main_v5 : IVec S8192x1024 1 := broadcastInDim S8192x1024 ![] bcast_S_S8192x1024 main_c_2
  let main_c_3 : IVec S_ 1 := constantI S_ 1 1#1
  let main_v6 : IVec S1x2048 1 := broadcastInDim S1x2048 ![] bcast_S_S1x2048 main_c_3
  let main_c_4 : IVec S_ 1 := constantI S_ 1 1#1
  let main_v7 : IVec S1x1024 1 := broadcastInDim S1x1024 ![] bcast_S_S1x1024 main_c_4
  let main_c_5 : IVec S_ 1 := constantI S_ 1 1#1
  let main_v8 : IVec S1x1024 1 := broadcastInDim S1x1024 ![] bcast_S_S1x1024 main_c_5
  let main_c_6 : IVec S_ 1 := constantI S_ 1 1#1
  let main_v9 : IVec S1x1024 1 := broadcastInDim S1x1024 ![] bcast_S_S1x1024 main_c_6
  let main_c_7 : IVec S_ 1 := constantI S_ 1 1#1
  let main_v10 : IVec S8x128x128 1 := broadcastInDim S8x128x128 ![] bcast_S_S8x128x128 main_c_7
  let main_c_8 : IVec S_ 1 := constantI S_ 1 1#1
  let main_v11 : IVec S1x1024 1 := broadcastInDim S1x1024 ![] bcast_S_S1x1024 main_c_8
  let main_c_9 : IVec S_ 1 := constantI S_ 1 1#1
  let main_v12 : IVec S1x1024 1 := broadcastInDim S1x1024 ![] bcast_S_S1x1024 main_c_9
  fn_part1 (F := F) main_v0 main_v1 main_v4 main_v5 main_v6 main_v7 main_v8 main_v9 main_v10 main_v11 main_v12
-- ==== Pre_finite.lean ====
abbrev S8192x1024 : Shape := ⟨2, ![8192, 1024]⟩
abbrev S8192x6144 : Shape := ⟨2, ![8192, 6144]⟩
abbrev S2048 : Shape := ⟨1, ![2048]⟩
abbrev S1024 : Shape := ⟨1, ![1024]⟩
abbrev S2x1024 : Shape := ⟨2, ![2, 1024]⟩
abbrev S8x128x128 : Shape := ⟨3, ![8, 128, 128]⟩
abbrev S8x128 : Shape := ⟨2, ![8, 128]⟩
abbrev S3x1024x1024 : Shape := ⟨3, ![3, 1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x6144 : S_.BroadcastsInDim S8192x6144 (![] : Fin 0 → Fin S8192x6144.rank)
  reducesTo_S8192x6144_S_d0_1 : S8192x6144.ReducesTo [0, 1] S_
  bcast_S_S2048 : S_.BroadcastsInDim S2048 (![] : Fin 0 → Fin S2048.rank)
  reducesTo_S2048_S_d0 : S2048.ReducesTo [0] S_
  bcast_S_S1024 : S_.BroadcastsInDim S1024 (![] : Fin 0 → Fin S1024.rank)
  reducesTo_S1024_S_d0 : S1024.ReducesTo [0] S_
  bcast_S_S2x1024 : S_.BroadcastsInDim S2x1024 (![] : Fin 0 → Fin S2x1024.rank)
  reducesTo_S2x1024_S_d0_1 : S2x1024.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S3x1024x1024 : S_.BroadcastsInDim S3x1024x1024 (![] : Fin 0 → Fin S3x1024x1024.rank)
  reducesTo_S3x1024x1024_S_d0_1_2 : S3x1024x1024.ReducesTo [0, 1, 2] S_

variable [Facts]

def fn_part2 {F : FTy → Type} [FloatOps F] (main_arg8 : FVec F S8x128 .f32) (main_arg9 : FVec F S3x1024x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S8x128 .f32 := Host.absf main_arg8
  let main_cst_14 : FVec F S_ .f32 := constant S_ .f32 0x7F800000#32
  let main_v33 : FVec F S8x128 .f32 := broadcastInDim S8x128 ![] bcast_S_S8x128 main_cst_14
  let main_v34 : IVec S8x128 1 := cmpf .olt main_v32 main_v33
  let main_c_15 : IVec S_ 1 := constantI S_ 1 1#1
  let main_v35 : IVec S_ 1 := (fun x v => Host.reduce IntOp.andi x v reducesTo_S8x128_S_d0_1 h_S_) main_v34 main_c_15
  let main_v36 : FVec F S3x1024x1024 .f32 := Host.absf main_arg9
  let main_cst_16 : FVec F S_ .f32 := constant S_ .f32 0x7F800000#32
  let main_v37 : FVec F S3x1024x1024 .f32 := broadcastInDim S3x1024x1024 ![] bcast_S_S3x1024x1024 main_cst_16
  let main_v38 : IVec S3x1024x1024 1 := cmpf .olt main_v36 main_v37
  let main_c_17 : IVec S_ 1 := constantI S_ 1 1#1
  let main_v39 : IVec S_ 1 := (fun x v => Host.reduce IntOp.andi x v reducesTo_S3x1024x1024_S_d0_1_2 h_S_) main_v38 main_c_17
  let main_v40 : IVec S_ 1 := andi main_v3 main_v7
  let main_v41 : IVec S_ 1 := andi main_v40 main_v11
  let main_v42 : IVec S_ 1 := andi main_v41 main_v15
  let main_v43 : IVec S_ 1 := andi main_v42 main_v19
  let main_v44 : IVec S_ 1 := andi main_v43 main_v23
  let main_v45 : IVec S_ 1 := andi main_v44 main_v27
  let main_v46 : IVec S_ 1 := andi main_v45 main_v31
  let main_v47 : IVec S_ 1 := andi main_v46 main_v35
  let main_v48 : IVec S_ 1 := andi main_v47 main_v39
  main_v48

def fn_part1 {F : FTy → Type} [FloatOps F] (main_arg4 : FVec F S1024 .f32) (main_arg5 : FVec F S2x1024 .f32) (main_arg6 : FVec F S2x1024 .f32) (main_arg7 : FVec F S8x128x128 .f32) (main_arg8 : FVec F S8x128 .f32) (main_arg9 : FVec F S3x1024x1024 .f32) (main_v3 : IVec S_ 1) (main_v7 : IVec S_ 1) (main_v11 : IVec S_ 1) (main_v15 : IVec S_ 1) : IVec S_ 1 :=
  let main_v16 : FVec F S1024 .f32 := Host.absf main_arg4
  let main_cst_6 : FVec F S_ .f32 := constant S_ .f32 0x7F800000#32
  let main_v17 : FVec F S1024 .f32 := broadcastInDim S1024 ![] bcast_S_S1024 main_cst_6
  let main_v18 : IVec S1024 1 := cmpf .olt main_v16 main_v17
  let main_c_7 : IVec S_ 1 := constantI S_ 1 1#1
  let main_v19 : IVec S_ 1 := (fun x v => Host.reduce IntOp.andi x v reducesTo_S1024_S_d0 h_S_) main_v18 main_c_7
  let main_v20 : FVec F S2x1024 .f32 := Host.absf main_arg5
  let main_cst_8 : FVec F S_ .f32 := constant S_ .f32 0x7F800000#32
  let main_v21 : FVec F S2x1024 .f32 := broadcastInDim S2x1024 ![] bcast_S_S2x1024 main_cst_8
  let main_v22 : IVec S2x1024 1 := cmpf .olt main_v20 main_v21
  let main_c_9 : IVec S_ 1 := constantI S_ 1 1#1
  let main_v23 : IVec S_ 1 := (fun x v => Host.reduce IntOp.andi x v reducesTo_S2x1024_S_d0_1 h_S_) main_v22 main_c_9
  let main_v24 : FVec F S2x1024 .f32 := Host.absf main_arg6
  let main_cst_10 : FVec F S_ .f32 := constant S_ .f32 0x7F800000#32
  let main_v25 : FVec F S2x1024 .f32 := broadcastInDim S2x1024 ![] bcast_S_S2x1024 main_cst_10
  let main_v26 : IVec S2x1024 1 := cmpf .olt main_v24 main_v25
  let main_c_11 : IVec S_ 1 := constantI S_ 1 1#1
  let main_v27 : IVec S_ 1 := (fun x v => Host.reduce IntOp.andi x v reducesTo_S2x1024_S_d0_1 h_S_) main_v26 main_c_11
  let main_v28 : FVec F S8x128x128 .f32 := Host.absf main_arg7
  let main_cst_12 : FVec F S_ .f32 := constant S_ .f32 0x7F800000#32
  let main_v29 : FVec F S8x128x128 .f32 := broadcastInDim S8x128x128 ![] bcast_S_S8x128x128 main_cst_12
  let main_v30 : IVec S8x128x128 1 := cmpf .olt main_v28 main_v29
  let main_c_13 : IVec S_ 1 := constantI S_ 1 1#1
  let main_v31 : IVec S_ 1 := (fun x v => Host.reduce IntOp.andi x v reducesTo_S8x128x128_S_d0_1_2 h_S_) main_v30 main_c_13
  fn_part2 (F := F) main_arg8 main_arg9 main_v3 main_v7 main_v11 main_v15 main_v19 main_v23 main_v27 main_v31

def fn {F : FTy → Type} [FloatOps F] (main_arg0 : FVec F S8192x1024 .f32) (main_arg1 : FVec F S8192x1024 .f32) (main_arg2 : FVec F S8192x6144 .f32) (main_arg3 : FVec F S2048 .f32) (main_arg4 : FVec F S1024 .f32) (main_arg5 : FVec F S2x1024 .f32) (main_arg6 : FVec F S2x1024 .f32) (main_arg7 : FVec F S8x128x128 .f32) (main_arg8 : FVec F S8x128 .f32) (main_arg9 : FVec F S3x1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S8192x6144 .f32 := Host.absf main_arg2
  let main_cst_2 : FVec F S_ .f32 := constant S_ .f32 0x7F800000#32
  let main_v9 : FVec F S8192x6144 .f32 := broadcastInDim S8192x6144 ![] bcast_S_S8192x6144 main_cst_2
  let main_v10 : IVec S8192x6144 1 := cmpf .olt main_v8 main_v9
  let main_c_3 : IVec S_ 1 := constantI S_ 1 1#1
  let main_v11 : IVec S_ 1 := (fun x v => Host.reduce IntOp.andi x v reducesTo_S8192x6144_S_d0_1 h_S_) main_v10 main_c_3
  let main_v12 : FVec F S2048 .f32 := Host.absf main_arg3
  let main_cst_4 : FVec F S_ .f32 := constant S_ .f32 0x7F800000#32
  let main_v13 : FVec F S2048 .f32 := broadcastInDim S2048 ![] bcast_S_S2048 main_cst_4
  let main_v14 : IVec S2048 1 := cmpf .olt main_v12 main_v13
  let main_c_5 : IVec S_ 1 := constantI S_ 1 1#1
  let main_v15 : IVec S_ 1 := (fun x v => Host.reduce IntOp.andi x v reducesTo_S2048_S_d0 h_S_) main_v14 main_c_5
  fn_part1 (F := F) main_arg4 main_arg5 main_arg6 main_arg7 main_arg8 main_arg9 main_v3 main_v7 main_v11 main_v15
-- ==== Pre_finite_ffn.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x2816 .f32) (main_arg5 : FVec F S2816x1024 .f32) (main_v3 : IVec S_ 1) (main_v7 : IVec S_ 1) (main_v11 : IVec S_ 1) (main_v15 : IVec S_ 1) : IVec S_ 1 :=
  let main_v16 : FVec F S1024x2816 .f32 := Host.absf main_arg4
  let main_cst_6 : FVec F S_ .f32 := constant S_ .f32 0x7F800000#32
  let main_v17 : FVec F S1024x2816 .f32 := broadcastInDim S1024x2816 ![] bcast_S_S1024x2816 main_cst_6
  let main_v18 : IVec S1024x2816 1 := cmpf .olt main_v16 main_v17
  let main_c_7 : IVec S_ 1 := constantI S_ 1 1#1
  let main_v19 : IVec S_ 1 := (fun x v => Host.reduce IntOp.andi x v reducesTo_S1024x2816_S_d0_1 h_S_) main_v18 main_c_7
  let main_v20 : FVec F S2816x1024 .f32 := Host.absf main_arg5
  let main_cst_8 : FVec F S_ .f32 := constant S_ .f32 0x7F800000#32
  let main_v21 : FVec F S2816x1024 .f32 := broadcastInDim S2816x1024 ![] bcast_S_S2816x1024 main_cst_8
  let main_v22 : IVec S2816x1024 1 := cmpf .olt main_v20 main_v21
  let main_c_9 : IVec S_ 1 := constantI S_ 1 1#1
  let main_v23 : IVec S_ 1 := (fun x v => Host.reduce IntOp.andi x v reducesTo_S2816x1024_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S8192x1024 .f32) (main_arg1 : FVec F S8192x1024 .f32) (main_arg2 : FVec F S1024 .f32) (main_arg3 : FVec F S1024x2816 .f32) (main_arg4 : FVec F S1024x2816 .f32) (main_arg5 : FVec F S2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S1024 .f32 := Host.absf main_arg2
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_c_3 : IVec S_ 1 := constantI S_ 1 1#1
  let main_v11 : IVec S_ 1 := (fun x v => Host.reduce IntOp.andi x v reducesTo_S1024_S_d0 h_S_) main_v10 main_c_3
  let main_v12 : FVec F S1024x2816 .f32 := Host.absf main_arg3
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg4 main_arg5 main_v3 main_v7 main_v11 main_v15
-- ==== KernelGate.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceGateIdeal.lean ====
abbrev S8192x2816 : Shape := ⟨2, ![8192, 2816]⟩
abbrev S8192x1024 : Shape := ⟨2, ![8192, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x1024, .f32⟩
  | .hbm, ⟨3, _⟩ => ⟨S8192x2816, .f32⟩
  | .hbm, ⟨4, _⟩ => ⟨S_, .f32⟩
  | .hbm, ⟨5, _⟩ => ⟨S1024x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelDown.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceDownIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8192x2816, .f32⟩
  | .hbm, ⟨3, _⟩ => ⟨S_, .f32⟩
  | .hbm, ⟨4, _⟩ => ⟨S2816x1024, .f32⟩
  | .hbm, ⟨5, _⟩ => ⟨S8192x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelOut.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== ReferenceOutIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelBranch.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== ReferenceBranchIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelIn.lean ====
abbrev S8192x1024 : Shape := ⟨2, ![8192, 1024]⟩
abbrev S8192x6144 : Shape := ⟨2, ![8192, 6144]⟩
abbrev S4x1024x1536 : Shape := ⟨3, ![4, 1024, 1536]⟩
abbrev S2048x1024 : Shape := ⟨2, ![2048, 1024]⟩
abbrev S2048x1536 : Shape := ⟨2, ![2048, 1536]⟩
abbrev S1x1024x1536 : Shape := ⟨3, ![1, 1024, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S4x1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1x1024x1536, .bf16⟩
  | .local _ .vmem, ⟨5, _⟩ => ⟨S1x1024x1536, .bf16⟩
  | .local _ .vmem, ⟨6, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceInIdeal.lean ====
abbrev S8192x1024 : Shape := ⟨2, ![8192, 1024]⟩
abbrev S8192x6144 : Shape := ⟨2, ![8192, 6144]⟩
abbrev S_ : Shape := ⟨0, ![]⟩
abbrev S1024x6144 : Shape := ⟨2, ![1024, 6144]⟩
abbrev S6144x1024 : Shape := ⟨2, ![6144, 1024]⟩
abbrev S1024x4x1536 : Shape := ⟨3, ![1024, 4, 1536]⟩
abbrev S4x1024x1536 : Shape := ⟨3, ![4, 1024, 1536]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S8192x1024, .f32⟩
  | .hbm, ⟨3, _⟩ => ⟨S8192x6144, .f32⟩
  | .hbm, ⟨4, _⟩ => ⟨S_, .f32⟩
  | .hbm, ⟨5, _⟩ => ⟨S1024x6144, .f32⟩
  | .hbm, ⟨6, _⟩ => ⟨S8192x6144, .f32⟩
  | .hbm, ⟨7, _⟩ => ⟨S6144x1024, .f32⟩
  | .hbm, ⟨8, _⟩ => ⟨S1024x6144, .f32⟩
  | .hbm, ⟨9, _⟩ => ⟨S1024x4x1536, .f32⟩
  | .hbm, ⟨10, _⟩ => ⟨S4x1024x1536, .f32⟩
  | .hbm, ⟨11, _⟩ => ⟨S4x1024x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelMix.lean ====
abbrev S8192x1024 : Shape := ⟨2, ![8192, 1024]⟩
abbrev S1024 : Shape := ⟨1, ![1024]⟩
abbrev S1024x6144 : Shape := ⟨2, ![1024, 6144]⟩
abbrev S1024x4x1536 : Shape := ⟨3, ![1024, 4, 1536]⟩
abbrev S4x1024x1536 : Shape := ⟨3, ![4, 1024, 1536]⟩
abbrev S1x1024 : Shape := ⟨2, ![1, 1024]⟩
abbrev S8192x6144 : Shape := ⟨2, ![8192, 6144]⟩
abbrev S512x1024 : Shape := ⟨2, ![512, 1024]⟩
abbrev S512x6144 : Shape := ⟨2, ![512, 6144]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 9
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x6144, .f32⟩
  | .hbm, ⟨3, _⟩ => ⟨S1024x4x1536, .f32⟩
  | .hbm, ⟨4, _⟩ => ⟨S4x1024x1536, .f32⟩
  | .hbm, ⟨5, _⟩ => ⟨S4x1024x1536, .bf16⟩
  | .hbm, ⟨6, _⟩ => ⟨S1x1024, .f32⟩
  | .hbm, ⟨7, _⟩ => ⟨S8192x1024, .bf16⟩
  | .hbm, ⟨8, _⟩ => ⟨S8192x6144, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x1536, .bf16⟩
  | .local _ .vmem, ⟨4, _⟩ => ⟨S512x1024, .bf16⟩
  | .local _ .vmem, ⟨5, _⟩ => ⟨S512x1024, .bf16⟩
  | .local _ .vmem, ⟨6, _⟩ => ⟨S512x6144, .bf16⟩
  | .local _ .vmem, ⟨7, _⟩ => ⟨S512x6144, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x6144 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceMixIdeal.lean ====
abbrev S8192x1024 : Shape := ⟨2, ![8192, 1024]⟩
abbrev S1024 : Shape := ⟨1, ![1024]⟩
abbrev S1024x6144 : Shape := ⟨2, ![1024, 6144]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x6144 : Shape := ⟨2, ![8192, 6144]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x6144, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x6144, .f32⟩
  | .hbm, ⟨21, _⟩ => ⟨S8192x6144, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== KernelMixBwd.lean ====
abbrev S8192x1024 : Shape := ⟨2, ![8192, 1024]⟩
abbrev S8192x6144 : Shape := ⟨2, ![8192, 6144]⟩
abbrev S1024 : Shape := ⟨1, ![1024]⟩
abbrev S1024x6144 : Shape := ⟨2, ![1024, 6144]⟩
abbrev S1024x4x1536 : Shape := ⟨3, ![1024, 4, 1536]⟩
abbrev S4x1024x1536 : Shape := ⟨3, ![4, 1024, 1536]⟩
abbrev S1x1024 : Shape := ⟨2, ![1, 1024]⟩
abbrev S512x1024 : Shape := ⟨2, ![512, 1024]⟩
abbrev S512x6144 : Shape := ⟨2, ![512, 6144]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x6144, .bf16⟩
  | .hbm, ⟨2, _⟩ => ⟨S8192x1024, .f32⟩
  | .hbm, ⟨3, _⟩ => ⟨S1024, .f32⟩
  | .hbm, ⟨4, _⟩ => ⟨S1024x6144, .f32⟩
  | .hbm, ⟨5, _⟩ => ⟨S1024x4x1536, .f32⟩
  | .hbm, ⟨6, _⟩ => ⟨S4x1024x1536, .f32⟩
  | .hbm, ⟨7, _⟩ => ⟨S4x1024x1536, .bf16⟩
  | .hbm, ⟨8, _⟩ => ⟨S1x1024, .f32⟩
  | .hbm, ⟨9, _⟩ => ⟨S8192x1024, .f32⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x6144, .bf16⟩
  | .local _ .vmem, ⟨3, _⟩ => ⟨S512x6144, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S4x1024x1536, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceMixBwdIdeal.lean ====
abbrev S8192x1024 : Shape := ⟨2, ![8192, 1024]⟩
abbrev S8192x6144 : Shape := ⟨2, ![8192, 6144]⟩
abbrev S1024 : Shape := ⟨1, ![1024]⟩
abbrev S1024x6144 : Shape := ⟨2, ![1024, 6144]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x6144, .bf16⟩
  | .hbm, ⟨2, _⟩ => ⟨S8192x1024, .f32⟩
  | .hbm, ⟨3, _⟩ => ⟨S1024, .f32⟩
  | .hbm, ⟨4, _⟩ => ⟨S1024x6144, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x6144, .f32⟩
  | .hbm, ⟨26, _⟩ => ⟨S8192x6144, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== KernelFfnBwd.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S256x1024 : Shape := ⟨2, ![256, 1024]⟩
abbrev S256x2816 : Shape := ⟨2, ![256, 2816]⟩
abbrev S512x1024 : Shape := ⟨2, ![512, 1024]⟩
abbrev S256x512 : Shape := ⟨2, ![256, 512]⟩
abbrev S256x256 : Shape := ⟨2, ![256, 256]⟩
abbrev S256 : Shape := ⟨1, ![256]⟩
abbrev S256x1 : Shape := ⟨2, ![256, 1]⟩

abbrev nBuf : Space → Nat
  | .hbm => 36
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S2816x1024, .f32⟩
  | .hbm, ⟨25, _⟩ => ⟨S2816x1024, .bf16⟩
  | .hbm, ⟨26, _⟩ => ⟨S2816x1024, .f32⟩
  | .hbm, ⟨27, _⟩ => ⟨S2816x1024, .bf16⟩
  | .hbm, ⟨28, _⟩ => ⟨S8192x2816, .bf16⟩
  | .hbm, ⟨29, _⟩ => ⟨S8192x2816, .bf16⟩
  | .hbm, ⟨30, _⟩ => ⟨S1x1024, .f32⟩
  | .hbm, ⟨31, _⟩ => ⟨S2816x1024, .bf16⟩
  | .hbm, ⟨32, _⟩ => ⟨S8192x1024, .f32⟩
  | .hbm, ⟨33, _⟩ => ⟨S8192x2816, .bf16⟩
  | .hbm, ⟨34, _⟩ => ⟨S8192x2816, .bf16⟩
  | .hbm, ⟨35, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S1x1024, .f32⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev main_v23_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceFfnBwdIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 82
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x1024, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x2816, .bf16⟩
  | .hbm, ⟨80, _⟩ => ⟨S8192x2816, .bf16⟩
  | .hbm, ⟨81, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_3 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_4 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩

abbrev nD : Nat := 1
abbrev τ : Topo := Topo.v7x

variable {F : FTy → Type} [FloatOps F]
-- ==== KernelFfn.lean ====
abbrev S8192x6144 : Shape := ⟨2, ![8192, 6144]⟩
abbrev S8192x1024 : Shape := ⟨2, ![8192, 1024]⟩
abbrev S2x1024 : Shape := ⟨2, ![2, 1024]⟩
abbrev S8x128x128 : Shape := ⟨3, ![8, 128, 128]⟩
abbrev S8x128 : Shape := ⟨2, ![8, 128]⟩
abbrev S2048 : Shape := ⟨1, ![2048]⟩
abbrev S3x1024x1024 : Shape := ⟨3, ![3, 1024, 1024]⟩
abbrev S1024 : Shape := ⟨1, ![1024]⟩
abbrev S1024x2816 : Shape := ⟨2, ![1024, 2816]⟩
abbrev S2816x1024 : Shape := ⟨2, ![2816, 1024]⟩
abbrev S128x8 : Shape := ⟨2, ![128, 8]⟩
abbrev S128x8x128 : Shape := ⟨3, ![128, 8, 128]⟩
abbrev S128x1024 : Shape := ⟨2, ![128, 1024]⟩
abbrev S1x1024 : Shape := ⟨2, ![1, 1024]⟩
abbrev S1x2048 : Shape := ⟨2, ![1, 2048]⟩
abbrev S3x4x256x1024 : Shape := ⟨4, ![3, 4, 256, 1024]⟩
abbrev S4x3x256x1024 : Shape := ⟨4, ![4, 3, 256, 1024]⟩
abbrev S4x768x1024 : Shape := ⟨3, ![4, 768, 1024]⟩
abbrev S8192x2816 : Shape := ⟨2, ![8192, 2816]⟩
abbrev S256x2048 : Shape := ⟨2, ![256, 2048]⟩
abbrev S256x1024 : Shape := ⟨2, ![256, 1024]⟩
abbrev S4x256x1024 : Shape := ⟨3, ![4, 256, 1024]⟩
abbrev S256x2816 : Shape := ⟨2, ![256, 2816]⟩
abbrev S256 : Shape := ⟨1, ![256]⟩
abbrev S256x1 : Shape := ⟨2, ![256, 1]⟩
abbrev S128x128 : Shape := ⟨2, ![128, 128]⟩
abbrev S128x256 : Shape := ⟨2, ![128, 256]⟩
abbrev S1x128x128 : Shape := ⟨3, ![1, 128, 128]⟩
abbrev S1024x1024 : Shape := ⟨2, ![1024, 1024]⟩
abbrev S512x1024 : Shape := ⟨2, ![512, 1024]⟩
abbrev S256x512 : Shape := ⟨2, ![256, 512]⟩
abbrev S256x256 : Shape := ⟨2, ![256, 256]⟩

abbrev nBuf : Space → Nat
  | .hbm => 43
  | .vmem => 40
  | .smem => 0
  | _ => 0

abbrev bufTy : (tb : Table) → Fin (tcTables nBuf tb) → BufTy
  | .hbm, ⟨0, _⟩ => ⟨S8192x6144, .bf16⟩
  | .hbm, ⟨1, _⟩ => ⟨S8192x1024, .bf16⟩
  | .hbm, ⟨2, _⟩ => ⟨S8192x1024, .f32⟩
  | .hbm, ⟨3, _⟩ => ⟨S2x1024, .f32⟩
  | .hbm, ⟨4, _⟩ => ⟨S8x128x128, .f32⟩
  | .hbm, ⟨5, _⟩ => ⟨S8x128, .f32⟩
  | .hbm, ⟨6, _⟩ => ⟨S2048, .f32⟩
  | .hbm, ⟨7, _⟩ => ⟨S3x1024x1024, .f32⟩
  | .hbm, ⟨8, _⟩ => ⟨S1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S8x128x128, .bf16⟩
  | .hbm, ⟨13, _⟩ => ⟨S128x8, .f32⟩
  | .hbm, ⟨14, _⟩ => ⟨S128x8x128, .f32⟩
  | .hbm, ⟨15, _⟩ => ⟨S128x1024, .f32⟩
  | .hbm, ⟨16, _⟩ => ⟨S2816x1024, .f32⟩
  | .hbm, ⟨17, _⟩ => ⟨S2816x1024, .bf16⟩
  | .hbm, ⟨18, _⟩ => ⟨S2816x1024, .f32⟩
  | .hbm, ⟨19, _⟩ => ⟨S2816x1024, .bf16⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S1x2048, .f32⟩
  | .hbm, ⟨27, _⟩ => ⟨S3x4x256x1024, .f32⟩
  | .hbm, ⟨28, _⟩ => ⟨S3x4x256x1024, .bf16⟩
  | .hbm, ⟨29, _⟩ => ⟨S4x3x256x1024, .bf16⟩
  | .hbm, ⟨30, _⟩ => ⟨S4x768x1024, .bf16⟩
  | .hbm, ⟨31, _⟩ => ⟨S1x1024, .f32⟩
  | .hbm, ⟨32, _⟩ => ⟨S2816x1024, .bf16⟩
  | .hbm, ⟨33, _⟩ => ⟨S8192x1024, .bf16⟩
  | .hbm, ⟨34, _⟩ => ⟨S8192x1024, .bf16⟩
  | .hbm, ⟨35, _⟩ => ⟨S8192x1024, .bf16⟩
  | .hbm, ⟨36, _⟩ => ⟨S8192x1024, .bf16⟩
  | .hbm, ⟨37, _⟩ => ⟨S8192x1024, .f32⟩
  | .hbm, ⟨38, _⟩ => ⟨S8192x1024, .bf16⟩
  | .hbm, ⟨39, _⟩ => ⟨S8192x2816, .bf16⟩
  | .hbm, ⟨40, _⟩ => ⟨S8192x2816, .bf16⟩
  | .hbm, ⟨41, _⟩ => ⟨S8192x2816, .bf16⟩
  | .hbm, ⟨42, _⟩ => ⟨S8192x1024, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S8x128x128, .bf16⟩
  | .local _ .vmem, ⟨11, _⟩ => ⟨S128x1024, .f32⟩
  | .local _ .vmem, ⟨12, _⟩ => ⟨S1x2048, .f32⟩
  | .local _ .vmem, ⟨13, _⟩ => ⟨S4x256x1024, .bf16⟩
  | .local _ .vmem, ⟨14, _⟩ => ⟨S4x256x1024, .bf16⟩
  | .local _ .vmem, ⟨15, _⟩ => ⟨S1x1024, .f32⟩
  | .local _ .vmem, ⟨16, _⟩ => ⟨S2816x1024, .bf16⟩
  | .local _ .vmem, ⟨17, _⟩ => ⟨S2816x1024, .bf16⟩
  | .local _ .vmem, ⟨18, _⟩ => ⟨S2816x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .f32⟩
  | .local _ .vmem, ⟨28, _⟩ => ⟨S256x1024, .f32⟩
  | .local _ .vmem, ⟨29, _⟩ => ⟨S256x1024, .bf16⟩
  | .local _ .vmem, ⟨30, _⟩ => ⟨S256x1024, .bf16⟩
  | .local _ .vmem, ⟨31, _⟩ => ⟨S256x2816, .bf16⟩
  | .local _ .vmem, ⟨32, _⟩ => ⟨S256x2816, .bf16⟩
  | .local _ .vmem, ⟨33, _⟩ => ⟨S256x2816, .bf16⟩
  | .local _ .vmem, ⟨34, _⟩ => ⟨S256x2816, .bf16⟩
  | .local _ .vmem, ⟨35, _⟩ => ⟨S256x2816, .bf16⟩
  | .local _ .vmem, ⟨36, _⟩ => ⟨S256x2816, .bf16⟩
  | .local _ .vmem, ⟨37, _⟩ => ⟨S256x1024, .f32⟩
  | .local _ .vmem, ⟨38, _⟩ => ⟨S256x1024, .f32⟩
  | .local _ .vmem, ⟨39, _⟩ => ⟨S256x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21_0 : Ref sig .tc := ⟨.hbm, 33, rfl⟩
abbrev main_v21_1 : Ref sig .tc := ⟨.hbm, 34, rfl⟩
abbrev main_v21_2 : Ref sig .tc := ⟨.hbm, 35, rfl⟩
abbrev main_v21_3 : Ref sig .tc := ⟨.hbm, 36, rfl⟩
abbrev main_v21_4 : Ref sig .tc := ⟨.hbm, 37, rfl⟩
abbrev main_v21_5 : Ref sig .tc := ⟨.hbm, 38, rfl⟩
abbrev main_v21_6 : Ref sig .tc := ⟨.hbm, 39, rfl⟩
abbrev main_v21_7 : Ref sig .tc := ⟨.hbm, 40, rfl⟩
abbrev main_v21_8 : Ref sig .tc := ⟨.hbm, 41, rfl⟩
abbrev main_v21_9 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg23_1 : Ref sig .tc := ⟨.vmem, 36, rfl⟩
abbrev cc0_stg24_0 : Ref sig .tc := ⟨.vmem, 37, rfl⟩
abbrev cc0_stg24_1 : Ref sig .tc := ⟨.vmem, 38, rfl⟩
abbrev cc0_scratch0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34
abbrev cc0_sem23_0 : DmaSem sig := 35
abbrev cc0_sem23_1 : DmaSem sig := 36
abbrev cc0_sem24_0 : DmaSem sig := 37
abbrev cc0_sem24_1 : DmaSem sig := 38

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_10 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x2816 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x2816 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x2816 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== ReferenceFfnIdeal.lean ====
abbrev S8192x6144 : Shape := ⟨2, ![8192, 6144]⟩
abbrev S8192x1024 : Shape := ⟨2, ![8192, 1024]⟩
abbrev S2x1024 : Shape := ⟨2, ![2, 1024]⟩
abbrev S8x128x128 : Shape := ⟨3, ![8, 128, 128]⟩
abbrev S8x128 : Shape := ⟨2, ![8, 128]⟩
abbrev S2048 : Shape := ⟨1, ![2048]⟩
abbrev S3x1024x1024 : Shape := ⟨3, ![3, 1024, 1024]⟩
abbrev S1024 : Shape := ⟨1, ![1024]⟩
abbrev S1024x2816 : Shape := ⟨2, ![1024, 2816]⟩
abbrev S2816x1024 : Shape := ⟨2, ![2816, 1024]⟩
abbrev S8192x4096 : Shape := ⟨2, ![8192, 4096]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S64x128x8x128 : Shape := ⟨4, ![64, 128, 8, 128]⟩
abbrev S8x128x64x128 : Shape := ⟨4, ![8, 128, 64, 128]⟩
abbrev S128x8 : Shape := ⟨2, ![128, 8]⟩
abbrev S1x128x8x1 : Shape := ⟨4, ![1, 128, 8, 1]⟩
abbrev S1x1024x1024 : Shape := ⟨3, ![1, 1024, 1024]⟩
abbrev S1024x1024 : Shape := ⟨2, ![1024, 1024]⟩
abbrev S8192x2816 : Shape := ⟨2, ![8192, 2816]⟩

abbrev nBuf : Space → Nat
  | .hbm => 133
  | .vmem => 0
  | .smem => 0
  | _ => 0

abbrev hbmTy0_0 (i : Nat) : BufTy := match i % 128 with
  | 0 => ⟨S8192x6144, .bf16⟩
  | 1 => ⟨S8192x1024, .bf16⟩
  | 2 => ⟨S8192x1024, .f32⟩
  | 3 => ⟨S2x1024, .f32⟩
  | 4 => ⟨S8x128x128, .f32⟩
  | 5 => ⟨S8x128, .f32⟩
  | 6 => ⟨S2048, .f32⟩
  | 7 => ⟨S3x1024x1024, .f32⟩
  | 8 => ⟨S1024, .f32⟩
  | 9 => ⟨S1024x2816, .f32⟩
  | 10 => ⟨S1024x2816, .f32⟩
  | 11 => ⟨S2816x1024, .f32⟩
  | 12 => ⟨S8192x4096, .bf16⟩
  | 13 => ⟨S8192x4096, .f32⟩
  | 14 => ⟨S8192x1024, .f32⟩
  | 15 => ⟨S8192x1024, .f32⟩
  | 16 => ⟨S8192x1024, .f32⟩
  | 17 => ⟨S8192x1024, .f32⟩
  | 18 => ⟨S1024, .f32⟩
  | 19 => ⟨S1024, .f32⟩
  | 20 => ⟨S1x1024, .f32⟩
  | 21 => ⟨S1024, .f32⟩
  | 22 => ⟨S1x1024, .f32⟩
  | 23 => ⟨S1024, .f32⟩
  | 24 => ⟨S_, .f32⟩
  | 25 => ⟨S8192, .f32⟩
  | 26 => ⟨S8192x1, .f32⟩
  | 27 => ⟨S_, .f32⟩
  | 28 => ⟨S8192x1, .f32⟩
  | 29 => ⟨S8192x1, .f32⟩
  | 30 => ⟨S8192x1024, .f32⟩
  | 31 => ⟨S8192x1024, .f32⟩
  | 32 => ⟨S8192x1024, .f32⟩
  | 33 => ⟨S_, .f32⟩
  | 34 => ⟨S8192, .f32⟩
  | 35 => ⟨S8192x1, .f32⟩
  | 36 => ⟨S_, .f32⟩
  | 37 => ⟨S8192x1, .f32⟩
  | 38 => ⟨S8192x1, .f32⟩
  | 39 => ⟨S8192x1024, .f32⟩
  | 40 => ⟨S8192x1024, .f32⟩
  | 41 => ⟨S_, .f32⟩
  | 42 => ⟨S8192x1, .f32⟩
  | 43 => ⟨S8192x1, .f32⟩
  | 44 => ⟨S8192x1, .f32⟩
  | 45 => ⟨S8192x1024, .f32⟩
  | 46 => ⟨S8192x1024, .f32⟩
  | 47 => ⟨S1x1024, .f32⟩
  | 48 => ⟨S8192x1024, .f32⟩
  | 49 => ⟨S8192x1024, .f32⟩
  | 50 => ⟨S1x1024, .f32⟩
  | 51 => ⟨S8192x1024, .f32⟩
  | 52 => ⟨S8192x1024, .f32⟩
  | 53 => ⟨S64x128x8x128, .f32⟩
  | 54 => ⟨S8x128x64x128, .f32⟩
  | 55 => ⟨S64x128x8x128, .f32⟩
  | 56 => ⟨S128x8, .f32⟩
  | 57 => ⟨S1x128x8x1, .f32⟩
  | 58 => ⟨S64x128x8x128, .f32⟩
  | 59 => ⟨S64x128x8x128, .f32⟩
  | 60 => ⟨S8192x1024, .f32⟩
  | 61 => ⟨S8192x1024, .f32⟩
  | 62 => ⟨S1x1024x1024, .f32⟩
  | 63 => ⟨S1024x1024, .f32⟩
  | 64 => ⟨S8192x1024, .f32⟩
  | 65 => ⟨S1x1024, .f32⟩
  | 66 => ⟨S8192x1024, .f32⟩
  | 67 => ⟨S8192x1024, .f32⟩
  | 68 => ⟨S8192x1024, .f32⟩
  | 69 => ⟨S8192x1024, .f32⟩
  | 70 => ⟨S_, .f32⟩
  | 71 => ⟨S8192x1024, .f32⟩
  | 72 => ⟨S8192x1024, .f32⟩
  | 73 => ⟨S_, .f32⟩
  | 74 => ⟨S8192x1024, .f32⟩
  | 75 => ⟨S8192x1024, .f32⟩
  | 76 => ⟨S8192x1024, .f32⟩
  | 77 => ⟨S8192x1024, .f32⟩
  | 78 => ⟨S1x1024, .f32⟩
  | 79 => ⟨S8192x1024, .f32⟩
  | 80 => ⟨S8192x1024, .f32⟩
  | 81 => ⟨S8192x1024, .f32⟩
  | 82 => ⟨S8192x1024, .f32⟩
  | 83 => ⟨S_, .f32⟩
  | 84 => ⟨S8192x1024, .f32⟩
  | 85 => ⟨S8192x1024, .f32⟩
  | 86 => ⟨S_, .f32⟩
  | 87 => ⟨S8192x1024, .f32⟩
  | 88 => ⟨S8192x1024, .f32⟩
  | 89 => ⟨S8192x1024, .f32⟩
  | 90 => ⟨S8192x1024, .f32⟩
  | 91 => ⟨S1x1024x1024, .f32⟩
  | 92 => ⟨S1024x1024, .f32⟩
  | 93 => ⟨S8192x1024, .f32⟩
  | 94 => ⟨S8192x1024, .f32⟩
  | 95 => ⟨S8192x1024, .f32⟩
  | 96 => ⟨S_, .f32⟩
  | 97 => ⟨S8192, .f32⟩
  | 98 => ⟨S8192x1, .f32⟩
  | 99 => ⟨S_, .f32⟩
  | 100 => ⟨S8192x1, .f32⟩
  | 101 => ⟨S8192x1, .f32⟩
  | 102 => ⟨S_, .f32⟩
  | 103 => ⟨S8192x1, .f32⟩
  | 104 => ⟨S8192x1, .f32⟩
  | 105 => ⟨S8192x1, .f32⟩
  | 106 => ⟨S8192x1024, .f32⟩
  | 107 => ⟨S8192x1024, .f32⟩
  | 108 => ⟨S1x1024, .f32⟩
  | 109 => ⟨S8192x1024, .f32⟩
  | 110 => ⟨S8192x1024, .f32⟩
  | 111 => ⟨S8192x2816, .f32⟩
  | 112 => ⟨S8192x2816, .f32⟩
  | 113 => ⟨S8192x2816, .f32⟩
  | 114 => ⟨S8192x2816, .f32⟩
  | 115 => ⟨S_, .f32⟩
  | 116 => ⟨S8192x2816, .f32⟩
  | 117 => ⟨S8192x2816, .f32⟩
  | 118 => ⟨S_, .f32⟩
  | 119 => ⟨S8192x2816, .f32⟩
  | 120 => ⟨S8192x2816, .f32⟩
  | 121 => ⟨S8192x2816, .f32⟩
  | 122 => ⟨S8192x2816, .f32⟩
  | 123 => ⟨S8192x1024, .f32⟩
  | 124 => ⟨S8192x1024, .f32⟩
  | 125 => ⟨S8192x1024, .bf16⟩
  | 126 => ⟨S8192x1024, .bf16⟩
  | 127 => ⟨S8192x1024, .bf16⟩
  | _ => ⟨S8192x6144, .bf16⟩

abbrev hbmTy0_1 (i : Nat) : BufTy := match i % 128 with
  | 0 => ⟨S8192x1024, .bf16⟩
  | 1 => ⟨S8192x1024, .bf16⟩
  | 2 => ⟨S8192x2816, .bf16⟩
  | 3 => ⟨S8192x2816, .bf16⟩
  | 4 => ⟨S8192x2816, .bf16⟩
  | _ => ⟨S8192x6144, .bf16⟩

abbrev hbmTy (i : Nat) : BufTy := match i / 128 with
  | 0 => hbmTy0_0 i
  | 1 => hbmTy0_1 i
  | _ => ⟨S8192x6144, .bf16⟩

abbrev bufTy : (tb : Table) → Fin (tcTables nBuf tb) → BufTy
  | .hbm, ⟨i, _⟩ => hbmTy i
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_4 : Ref sig .tc := ⟨.hbm, 70, rfl⟩
abbrev main_v53 : Ref sig .tc := ⟨.hbm, 71, rfl⟩
abbrev main_v54 : Ref sig .tc := ⟨.hbm, 72, rfl⟩
abbrev main_cst_5 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_6 : Ref sig .tc := ⟨.hbm, 83, rfl⟩
abbrev main_v64 : Ref sig .tc := ⟨.hbm, 84, rfl⟩
abbrev main_v65 : Ref sig .tc := ⟨.hbm, 85, rfl⟩
abbrev main_cst_7 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_8 : Ref sig .tc := ⟨.hbm, 96, rfl⟩
abbrev main_v75 : Ref sig .tc := ⟨.hbm, 97, rfl⟩
abbrev main_v76 : Ref sig .tc := ⟨.hbm, 98, rfl⟩
abbrev main_cst_9 : Ref sig .tc := ⟨.hbm, 99, rfl⟩
abbrev main_v77 : Ref sig .tc := ⟨.hbm, 100, rfl⟩
abbrev main_v78 : Ref sig .tc := ⟨.hbm, 101, rfl⟩
abbrev main_cst_10 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_call0_v0 : Ref sig .tc := ⟨.hbm, 113, rfl⟩
abbrev main_call0_v1 : Ref sig .tc := ⟨.hbm, 114, rfl⟩
abbrev main_call0_cst : Ref sig .tc := ⟨.hbm, 115, rfl⟩
abbrev main_call0_v2 : Ref sig .tc := ⟨.hbm, 116, rfl⟩
abbrev main_call0_v3 : Ref sig .tc := ⟨.hbm, 117, rfl⟩
abbrev main_call0_cst_0 : Ref sig .tc := ⟨.hbm, 118, rfl⟩
abbrev main_call0_v4 : Ref sig .tc := ⟨.hbm, 119, rfl⟩
abbrev main_call0_v5 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩

abbrev nD : Nat := 1
abbrev τ : Topo := Topo.v7x

variable {F : FTy → Type} [FloatOps F]
-- ==== Kernel.lean ====
abbrev S8192x1024 : Shape := ⟨2, ![8192, 1024]⟩
abbrev S8192x6144 : Shape := ⟨2, ![8192, 6144]⟩
abbrev S2048 : Shape := ⟨1, ![2048]⟩
abbrev S1024 : Shape := ⟨1, ![1024]⟩
abbrev S2x1024 : Shape := ⟨2, ![2, 1024]⟩
abbrev S8x128x128 : Shape := ⟨3, ![8, 128, 128]⟩
abbrev S8x128 : Shape := ⟨2, ![8, 128]⟩
abbrev S3x1024x1024 : Shape := ⟨3, ![3, 1024, 1024]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S64x128x8x128 : Shape := ⟨4, ![64, 128, 8, 128]⟩
abbrev S8x128x64x128 : Shape := ⟨4, ![8, 128, 64, 128]⟩
abbrev S128x8 : Shape := ⟨2, ![128, 8]⟩
abbrev S1x128x8x1 : Shape := ⟨4, ![1, 128, 8, 1]⟩
abbrev S1x2048 : Shape := ⟨2, ![1, 2048]⟩
abbrev S3x4x256x1024 : Shape := ⟨4, ![3, 4, 256, 1024]⟩
abbrev S4x3x256x1024 : Shape := ⟨4, ![4, 3, 256, 1024]⟩
abbrev S4x768x1024 : Shape := ⟨3, ![4, 768, 1024]⟩
abbrev S256x1024 : Shape := ⟨2, ![256, 1024]⟩
abbrev S256x2048 : Shape := ⟨2, ![256, 2048]⟩
abbrev S256x1 : Shape := ⟨2, ![256, 1]⟩
abbrev S4x256x1024 : Shape := ⟨3, ![4, 256, 1024]⟩
abbrev S256x6144 : Shape := ⟨2, ![256, 6144]⟩
abbrev S128x1024 : Shape := ⟨2, ![128, 1024]⟩
abbrev S256 : Shape := ⟨1, ![256]⟩
abbrev S128x128 : Shape := ⟨2, ![128, 128]⟩
abbrev S128x256 : Shape := ⟨2, ![128, 256]⟩
abbrev S1x128x128 : Shape := ⟨3, ![1, 128, 128]⟩
abbrev S128 : Shape := ⟨1, ![128]⟩
abbrev S1x128 : Shape := ⟨2, ![1, 128]⟩

abbrev nBuf : Space → Nat
  | .hbm => 143
  | .vmem => 44
  | .smem => 0
  | _ => 0

abbrev hbmTy0_0 (i : Nat) : BufTy := match i % 128 with
  | 0 => ⟨S8192x1024, .f32⟩
  | 1 => ⟨S8192x1024, .f32⟩
  | 2 => ⟨S8192x6144, .f32⟩
  | 3 => ⟨S2048, .f32⟩
  | 4 => ⟨S1024, .f32⟩
  | 5 => ⟨S2x1024, .f32⟩
  | 6 => ⟨S2x1024, .f32⟩
  | 7 => ⟨S8x128x128, .f32⟩
  | 8 => ⟨S8x128, .f32⟩
  | 9 => ⟨S3x1024x1024, .f32⟩
  | 10 => ⟨S1x1024x1024, .f32⟩
  | 11 => ⟨S1024x1024, .f32⟩
  | 12 => ⟨S1x1024x1024, .f32⟩
  | 13 => ⟨S1024x1024, .f32⟩
  | 14 => ⟨S1x1024x1024, .f32⟩
  | 15 => ⟨S1024x1024, .f32⟩
  | 16 => ⟨S1x1024, .f32⟩
  | 17 => ⟨S8192x1024, .f32⟩
  | 18 => ⟨S8192x1024, .f32⟩
  | 19 => ⟨S_, .f32⟩
  | 20 => ⟨S8192, .f32⟩
  | 21 => ⟨S8192x1, .f32⟩
  | 22 => ⟨S_, .f32⟩
  | 23 => ⟨S8192x1, .f32⟩
  | 24 => ⟨S8192x1, .f32⟩
  | 25 => ⟨S8192x1024, .f32⟩
  | 26 => ⟨S8192x1024, .f32⟩
  | 27 => ⟨S8192x1024, .f32⟩
  | 28 => ⟨S_, .f32⟩
  | 29 => ⟨S8192, .f32⟩
  | 30 => ⟨S8192x1, .f32⟩
  | 31 => ⟨S_, .f32⟩
  | 32 => ⟨S8192x1, .f32⟩
  | 33 => ⟨S8192x1, .f32⟩
  | 34 => ⟨S_, .f32⟩
  | 35 => ⟨S8192x1, .f32⟩
  | 36 => ⟨S8192x1, .f32⟩
  | 37 => ⟨S8192x1, .f32⟩
  | 38 => ⟨S8192x1024, .f32⟩
  | 39 => ⟨S8192x1024, .f32⟩
  | 40 => ⟨S8192x1024, .f32⟩
  | 41 => ⟨S8192x1024, .f32⟩
  | 42 => ⟨S1x1024, .f32⟩
  | 43 => ⟨S1024, .f32⟩
  | 44 => ⟨S1x1024, .f32⟩
  | 45 => ⟨S8192x1024, .f32⟩
  | 46 => ⟨S8192x1024, .f32⟩
  | 47 => ⟨S1x1024, .f32⟩
  | 48 => ⟨S1024, .f32⟩
  | 49 => ⟨S1x1024, .f32⟩
  | 50 => ⟨S8192x1024, .f32⟩
  | 51 => ⟨S8192x1024, .f32⟩
  | 52 => ⟨S8192x1024, .f32⟩
  | 53 => ⟨S8192x1024, .f32⟩
  | 54 => ⟨S_, .f32⟩
  | 55 => ⟨S8192x1024, .f32⟩
  | 56 => ⟨S8192x1024, .f32⟩
  | 57 => ⟨S_, .f32⟩
  | 58 => ⟨S8192x1024, .f32⟩
  | 59 => ⟨S8192x1024, .f32⟩
  | 60 => ⟨S8192x1024, .f32⟩
  | 61 => ⟨S8192x1024, .f32⟩
  | 62 => ⟨S8192x1024, .f32⟩
  | 63 => ⟨S8192x1024, .f32⟩
  | 64 => ⟨S_, .f32⟩
  | 65 => ⟨S8192, .f32⟩
  | 66 => ⟨S8192x1, .f32⟩
  | 67 => ⟨S_, .f32⟩
  | 68 => ⟨S8192x1, .f32⟩
  | 69 => ⟨S8192x1, .f32⟩
  | 70 => ⟨S8192x1024, .f32⟩
  | 71 => ⟨S8192x1024, .f32⟩
  | 72 => ⟨S8192x1024, .f32⟩
  | 73 => ⟨S8192x1024, .f32⟩
  | 74 => ⟨S8192x1024, .f32⟩
  | 75 => ⟨S_, .f32⟩
  | 76 => ⟨S8192, .f32⟩
  | 77 => ⟨S8192x1, .f32⟩
  | 78 => ⟨S_, .f32⟩
  | 79 => ⟨S8192x1, .f32⟩
  | 80 => ⟨S8192x1, .f32⟩
  | 81 => ⟨S_, .f32⟩
  | 82 => ⟨S8192x1, .f32⟩
  | 83 => ⟨S8192x1, .f32⟩
  | 84 => ⟨S8192x1, .f32⟩
  | 85 => ⟨S8192x1024, .f32⟩
  | 86 => ⟨S8192x1024, .f32⟩
  | 87 => ⟨S1x1024, .f32⟩
  | 88 => ⟨S1024, .f32⟩
  | 89 => ⟨S1x1024, .f32⟩
  | 90 => ⟨S8192x1024, .f32⟩
  | 91 => ⟨S8192x1024, .f32⟩
  | 92 => ⟨S1x1024, .f32⟩
  | 93 => ⟨S1024, .f32⟩
  | 94 => ⟨S1x1024, .f32⟩
  | 95 => ⟨S8192x1024, .f32⟩
  | 96 => ⟨S8192x1024, .f32⟩
  | 97 => ⟨S64x128x8x128, .f32⟩
  | 98 => ⟨S8x128x64x128, .f32⟩
  | 99 => ⟨S64x128x8x128, .f32⟩
  | 100 => ⟨S128x8, .f32⟩
  | 101 => ⟨S1x128x8x1, .f32⟩
  | 102 => ⟨S64x128x8x128, .f32⟩
  | 103 => ⟨S64x128x8x128, .f32⟩
  | 104 => ⟨S8192x1024, .f32⟩
  | 105 => ⟨S8192x1024, .f32⟩
  | 106 => ⟨S8192x1024, .f32⟩
  | 107 => ⟨S8x128x128, .bf16⟩
  | 108 => ⟨S8x128x128, .bf16⟩
  | 109 => ⟨S8192x6144, .bf16⟩
  | 110 => ⟨S8192x1024, .bf16⟩
  | 111 => ⟨S8192x1024, .bf16⟩
  | 112 => ⟨S8192x1024, .bf16⟩
  | 113 => ⟨S8192x1024, .bf16⟩
  | 114 => ⟨S1x1024, .f32⟩
  | 115 => ⟨S1024, .f32⟩
  | 116 => ⟨S1x1024, .f32⟩
  | 117 => ⟨S1x1024, .f32⟩
  | 118 => ⟨S1024, .f32⟩
  | 119 => ⟨S1x1024, .f32⟩
  | 120 => ⟨S1x2048, .f32⟩
  | 121 => ⟨S1x1024, .f32⟩
  | 122 => ⟨S1024, .f32⟩
  | 123 => ⟨S1x1024, .f32⟩
  | 124 => ⟨S1x1024, .f32⟩
  | 125 => ⟨S1024, .f32⟩
  | 126 => ⟨S1x1024, .f32⟩
  | 127 => ⟨S3x4x256x1024, .f32⟩
  | _ => ⟨S8192x1024, .f32⟩

abbrev hbmTy0_1 (i : Nat) : BufTy := match i % 128 with
  | 0 => ⟨S3x4x256x1024, .bf16⟩
  | 1 => ⟨S4x3x256x1024, .bf16⟩
  | 2 => ⟨S4x768x1024, .bf16⟩
  | 3 => ⟨S8192x1024, .bf16⟩
  | 4 => ⟨S8192x1024, .bf16⟩
  | 5 => ⟨S8192x6144, .bf16⟩
  | 6 => ⟨S8192x1024, .f32⟩
  | 7 => ⟨S1x2048, .f32⟩
  | 8 => ⟨S1x1024, .f32⟩
  | 9 => ⟨S1x1024, .f32⟩
  | 10 => ⟨S1x1024, .f32⟩
  | 11 => ⟨S8x128x128, .f32⟩
  | 12 => ⟨S1x1024, .f32⟩
  | 13 => ⟨S1x1024, .f32⟩
  | 14 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1, .f32⟩
  | .local _ .vmem, ⟨15, _⟩ => ⟨S256x1, .f32⟩
  | .local _ .vmem, ⟨16, _⟩ => ⟨S1x1024, .f32⟩
  | .local _ .vmem, ⟨17, _⟩ => ⟨S1x1024, .f32⟩
  | .local _ .vmem, ⟨18, _⟩ => ⟨S8x128x128, .bf16⟩
  | .local _ .vmem, ⟨19, _⟩ => ⟨S8x128x128, .bf16⟩
  | .local _ .vmem, ⟨20, _⟩ => ⟨S1x2048, .f32⟩
  | .local _ .vmem, ⟨21, _⟩ => ⟨S1x1024, .f32⟩
  | .local _ .vmem, ⟨22, _⟩ => ⟨S1x1024, .f32⟩
  | .local _ .vmem, ⟨23, _⟩ => ⟨S4x256x1024, .bf16⟩
  | .local _ .vmem, ⟨24, _⟩ => ⟨S4x256x1024, .bf16⟩
  | .local _ .vmem, ⟨25, _⟩ => ⟨S4x256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x6144, .bf16⟩
  | .local _ .vmem, ⟨31, _⟩ => ⟨S256x6144, .bf16⟩
  | .local _ .vmem, ⟨32, _⟩ => ⟨S256x1024, .f32⟩
  | .local _ .vmem, ⟨33, _⟩ => ⟨S256x1024, .f32⟩
  | .local _ .vmem, ⟨34, _⟩ => ⟨S1x2048, .f32⟩
  | .local _ .vmem, ⟨35, _⟩ => ⟨S1x1024, .f32⟩
  | .local _ .vmem, ⟨36, _⟩ => ⟨S1x1024, .f32⟩
  | .local _ .vmem, ⟨37, _⟩ => ⟨S1x1024, .f32⟩
  | .local _ .vmem, ⟨38, _⟩ => ⟨S8x128x128, .f32⟩
  | .local _ .vmem, ⟨39, _⟩ => ⟨S1x1024, .f32⟩
  | .local _ .vmem, ⟨40, _⟩ => ⟨S1x1024, .f32⟩
  | .local _ .vmem, ⟨41, _⟩ => ⟨S1x1024, .f32⟩
  | .local _ .vmem, ⟨42, _⟩ => ⟨S256x1024, .f32⟩
  | .local _ .vmem, ⟨43, _⟩ => ⟨S128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_4 : Ref sig .tc := ⟨.hbm, 64, rfl⟩
abbrev main_v41 : Ref sig .tc := ⟨.hbm, 65, rfl⟩
abbrev main_v42 : Ref sig .tc := ⟨.hbm, 66, rfl⟩
abbrev main_cst_5 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_6 : Ref sig .tc := ⟨.hbm, 75, rfl⟩
abbrev main_v50 : Ref sig .tc := ⟨.hbm, 76, rfl⟩
abbrev main_v51 : Ref sig .tc := ⟨.hbm, 77, rfl⟩
abbrev main_cst_7 : Ref sig .tc := ⟨.hbm, 78, rfl⟩
abbrev main_v52 : Ref sig .tc := ⟨.hbm, 79, rfl⟩
abbrev main_v53 : Ref sig .tc := ⟨.hbm, 80, rfl⟩
abbrev main_cst_8 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103_0 : Ref sig .tc := ⟨.hbm, 131, rfl⟩
abbrev main_v103_1 : Ref sig .tc := ⟨.hbm, 132, rfl⟩
abbrev main_v103_2 : Ref sig .tc := ⟨.hbm, 133, rfl⟩
abbrev main_v103_3 : Ref sig .tc := ⟨.hbm, 134, rfl⟩
abbrev main_v103_4 : Ref sig .tc := ⟨.hbm, 135, rfl⟩
abbrev main_v103_5 : Ref sig .tc := ⟨.hbm, 136, rfl⟩
abbrev main_v103_6 : Ref sig .tc := ⟨.hbm, 137, rfl⟩
abbrev main_v103_7 : Ref sig .tc := ⟨.hbm, 138, rfl⟩
abbrev main_v103_8 : Ref sig .tc := ⟨.hbm, 139, rfl⟩
abbrev main_v103_9 : Ref sig .tc := ⟨.hbm, 140, rfl⟩
abbrev main_v103_10 : Ref sig .tc := ⟨.hbm, 141, rfl⟩
abbrev main_v103_11 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg23_0 : Ref sig .tc := ⟨.vmem, 35, rfl⟩
abbrev cc0_stg24_0 : Ref sig .tc := ⟨.vmem, 36, rfl⟩
abbrev cc0_stg25_0 : Ref sig .tc := ⟨.vmem, 37, rfl⟩
abbrev cc0_stg26_0 : Ref sig .tc := ⟨.vmem, 38, rfl⟩
abbrev cc0_stg27_0 : Ref sig .tc := ⟨.vmem, 39, rfl⟩
abbrev cc0_stg28_0 : Ref sig .tc := ⟨.vmem, 40, rfl⟩
abbrev cc0_stg29_0 : Ref sig .tc := ⟨.vmem, 41, rfl⟩
abbrev cc0_scratch0 : Ref sig .tc := ⟨.vmem, 42, rfl⟩
abbrev cc0_scratch1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem23_0 : DmaSem sig := 35
abbrev cc0_sem24_0 : DmaSem sig := 36
abbrev cc0_sem25_0 : DmaSem sig := 37
abbrev cc0_sem26_0 : DmaSem sig := 38
abbrev cc0_sem27_0 : DmaSem sig := 39
abbrev cc0_sem28_0 : DmaSem sig := 40
abbrev cc0_sem29_0 : DmaSem sig := 41

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v425 : BitVec 1 := Scalar.cmpi .eq arg0 c31_i32
  let v426 : BitVec 32 := Scalar.extui v425
  let c0_i32_229 : BitVec 32 := 0#32
  let v427 : BitVec 1 := Scalar.cmpi .ne v426 c0_i32_229
  v427

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_17 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x256x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x256x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x6144 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S1x2048 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S8x128x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S1x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]
-- ==== ReferenceIdeal.lean ====
abbrev S8192x1024 : Shape := ⟨2, ![8192, 1024]⟩
abbrev S8192x6144 : Shape := ⟨2, ![8192, 6144]⟩
abbrev S2048 : Shape := ⟨1, ![2048]⟩
abbrev S1024 : Shape := ⟨1, ![1024]⟩
abbrev S2x1024 : Shape := ⟨2, ![2, 1024]⟩
abbrev S8x128x128 : Shape := ⟨3, ![8, 128, 128]⟩
abbrev S8x128 : Shape := ⟨2, ![8, 128]⟩
abbrev S3x1024x1024 : Shape := ⟨3, ![3, 1024, 1024]⟩
abbrev S1x1024x1024 : Shape := ⟨3, ![1, 1024, 1024]⟩
abbrev S1024x1024 : Shape := ⟨2, ![1024, 1024]⟩
abbrev S8192x4096 : Shape := ⟨2, ![8192, 4096]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S64x128x8x128 : Shape := ⟨4, ![64, 128, 8, 128]⟩
abbrev S8x128x64x128 : Shape := ⟨4, ![8, 128, 64, 128]⟩
abbrev S128x8 : Shape := ⟨2, ![128, 8]⟩
abbrev S1x128x8x1 : Shape := ⟨4, ![1, 128, 8, 1]⟩
abbrev S8x64x128x128 : Shape := ⟨4, ![8, 64, 128, 128]⟩
abbrev S8192x2048 : Shape := ⟨2, ![8192, 2048]⟩
abbrev S1x2048 : Shape := ⟨2, ![1, 2048]⟩

abbrev nBuf : Space → Nat
  | .hbm => 308
  | .vmem => 0
  | .smem => 0
  | _ => 0

abbrev hbmTy0_0 (i : Nat) : BufTy := match i % 128 with
  | 0 => ⟨S8192x1024, .f32⟩
  | 1 => ⟨S8192x1024, .f32⟩
  | 2 => ⟨S8192x6144, .f32⟩
  | 3 => ⟨S2048, .f32⟩
  | 4 => ⟨S1024, .f32⟩
  | 5 => ⟨S2x1024, .f32⟩
  | 6 => ⟨S2x1024, .f32⟩
  | 7 => ⟨S8x128x128, .f32⟩
  | 8 => ⟨S8x128, .f32⟩
  | 9 => ⟨S3x1024x1024, .f32⟩
  | 10 => ⟨S1x1024x1024, .f32⟩
  | 11 => ⟨S1024x1024, .f32⟩
  | 12 => ⟨S1x1024x1024, .f32⟩
  | 13 => ⟨S1024x1024, .f32⟩
  | 14 => ⟨S1x1024x1024, .f32⟩
  | 15 => ⟨S1024x1024, .f32⟩
  | 16 => ⟨S8192x4096, .f32⟩
  | 17 => ⟨S8192x1024, .f32⟩
  | 18 => ⟨S8192x1024, .f32⟩
  | 19 => ⟨S8192x1024, .f32⟩
  | 20 => ⟨S8192x1024, .f32⟩
  | 21 => ⟨S1024, .f32⟩
  | 22 => ⟨S1024, .f32⟩
  | 23 => ⟨S1x1024, .f32⟩
  | 24 => ⟨S1024, .f32⟩
  | 25 => ⟨S1x1024, .f32⟩
  | 26 => ⟨S1024, .f32⟩
  | 27 => ⟨S1x1024, .f32⟩
  | 28 => ⟨S8192x1024, .f32⟩
  | 29 => ⟨S8192x1024, .f32⟩
  | 30 => ⟨S_, .f32⟩
  | 31 => ⟨S8192, .f32⟩
  | 32 => ⟨S8192x1, .f32⟩
  | 33 => ⟨S_, .f32⟩
  | 34 => ⟨S8192x1, .f32⟩
  | 35 => ⟨S8192x1, .f32⟩
  | 36 => ⟨S8192x1024, .f32⟩
  | 37 => ⟨S8192x1024, .f32⟩
  | 38 => ⟨S8192x1024, .f32⟩
  | 39 => ⟨S_, .f32⟩
  | 40 => ⟨S8192x1024, .f32⟩
  | 41 => ⟨S8192x1024, .f32⟩
  | 42 => ⟨S_, .f32⟩
  | 43 => ⟨S8192, .f32⟩
  | 44 => ⟨S8192x1, .f32⟩
  | 45 => ⟨S_, .f32⟩
  | 46 => ⟨S8192x1, .f32⟩
  | 47 => ⟨S8192x1, .f32⟩
  | 48 => ⟨S8192x1024, .f32⟩
  | 49 => ⟨S8192x1024, .f32⟩
  | 50 => ⟨S_, .f32⟩
  | 51 => ⟨S8192x1, .f32⟩
  | 52 => ⟨S8192x1, .f32⟩
  | 53 => ⟨S8192x1, .f32⟩
  | 54 => ⟨S8192x1, .f32⟩
  | 55 => ⟨S_, .f32⟩
  | 56 => ⟨S8192x1, .f32⟩
  | 57 => ⟨S8192x1, .f32⟩
  | 58 => ⟨S8192x1024, .f32⟩
  | 59 => ⟨S8192x1024, .f32⟩
  | 60 => ⟨S1x1024, .f32⟩
  | 61 => ⟨S8192x1024, .f32⟩
  | 62 => ⟨S8192x1024, .f32⟩
  | 63 => ⟨S1x1024, .f32⟩
  | 64 => ⟨S8192x1024, .f32⟩
  | 65 => ⟨S8192x1024, .f32⟩
  | 66 => ⟨S8192x1024, .f32⟩
  | 67 => ⟨S8192x1024, .f32⟩
  | 68 => ⟨S_, .f32⟩
  | 69 => ⟨S8192x1024, .f32⟩
  | 70 => ⟨S8192x1024, .f32⟩
  | 71 => ⟨S_, .f32⟩
  | 72 => ⟨S8192x1024, .f32⟩
  | 73 => ⟨S8192x1024, .f32⟩
  | 74 => ⟨S_, .f32⟩
  | 75 => ⟨S8192x1024, .f32⟩
  | 76 => ⟨S8192x1024, .f32⟩
  | 77 => ⟨S8192x1024, .f32⟩
  | 78 => ⟨S8192x1024, .f32⟩
  | 79 => ⟨S8192x1024, .f32⟩
  | 80 => ⟨S1x1024, .f32⟩
  | 81 => ⟨S1024, .f32⟩
  | 82 => ⟨S1x1024, .f32⟩
  | 83 => ⟨S1024, .f32⟩
  | 84 => ⟨S_, .f32⟩
  | 85 => ⟨S8192, .f32⟩
  | 86 => ⟨S8192x1, .f32⟩
  | 87 => ⟨S_, .f32⟩
  | 88 => ⟨S8192x1, .f32⟩
  | 89 => ⟨S8192x1, .f32⟩
  | 90 => ⟨S8192x1024, .f32⟩
  | 91 => ⟨S8192x1024, .f32⟩
  | 92 => ⟨S8192x1024, .f32⟩
  | 93 => ⟨S_, .f32⟩
  | 94 => ⟨S8192x1024, .f32⟩
  | 95 => ⟨S8192x1024, .f32⟩
  | 96 => ⟨S_, .f32⟩
  | 97 => ⟨S8192, .f32⟩
  | 98 => ⟨S8192x1, .f32⟩
  | 99 => ⟨S_, .f32⟩
  | 100 => ⟨S8192x1, .f32⟩
  | 101 => ⟨S8192x1, .f32⟩
  | 102 => ⟨S8192x1024, .f32⟩
  | 103 => ⟨S8192x1024, .f32⟩
  | 104 => ⟨S_, .f32⟩
  | 105 => ⟨S8192x1, .f32⟩
  | 106 => ⟨S8192x1, .f32⟩
  | 107 => ⟨S8192x1, .f32⟩
  | 108 => ⟨S8192x1, .f32⟩
  | 109 => ⟨S_, .f32⟩
  | 110 => ⟨S8192x1, .f32⟩
  | 111 => ⟨S8192x1, .f32⟩
  | 112 => ⟨S8192x1024, .f32⟩
  | 113 => ⟨S8192x1024, .f32⟩
  | 114 => ⟨S1x1024, .f32⟩
  | 115 => ⟨S8192x1024, .f32⟩
  | 116 => ⟨S8192x1024, .f32⟩
  | 117 => ⟨S1x1024, .f32⟩
  | 118 => ⟨S8192x1024, .f32⟩
  | 119 => ⟨S8192x1024, .f32⟩
  | 120 => ⟨S64x128x8x128, .f32⟩
  | 121 => ⟨S8x128x64x128, .f32⟩
  | 122 => ⟨S64x128x8x128, .f32⟩
  | 123 => ⟨S128x8, .f32⟩
  | 124 => ⟨S1x128x8x1, .f32⟩
  | 125 => ⟨S64x128x8x128, .f32⟩
  | 126 => ⟨S64x128x8x128, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S1x1024, .f32⟩
  | 3 => ⟨S8192x1024, .f32⟩
  | 4 => ⟨S8192x1024, .f32⟩
  | 5 => ⟨S8192x1024, .f32⟩
  | 6 => ⟨S8192x1024, .f32⟩
  | 7 => ⟨S_, .f32⟩
  | 8 => ⟨S8192x1024, .f32⟩
  | 9 => ⟨S8192x1024, .f32⟩
  | 10 => ⟨S_, .f32⟩
  | 11 => ⟨S8192x1024, .f32⟩
  | 12 => ⟨S8192x1024, .f32⟩
  | 13 => ⟨S_, .f32⟩
  | 14 => ⟨S8192x1024, .f32⟩
  | 15 => ⟨S8192x1024, .f32⟩
  | 16 => ⟨S8192x1024, .f32⟩
  | 17 => ⟨S8192x1024, .f32⟩
  | 18 => ⟨S1x1024, .f32⟩
  | 19 => ⟨S8192x1024, .f32⟩
  | 20 => ⟨S8192x1024, .f32⟩
  | 21 => ⟨S8192x1024, .f32⟩
  | 22 => ⟨S8192x1024, .f32⟩
  | 23 => ⟨S_, .f32⟩
  | 24 => ⟨S8192x1024, .f32⟩
  | 25 => ⟨S8192x1024, .f32⟩
  | 26 => ⟨S_, .f32⟩
  | 27 => ⟨S8192x1024, .f32⟩
  | 28 => ⟨S8192x1024, .f32⟩
  | 29 => ⟨S_, .f32⟩
  | 30 => ⟨S8192x1024, .f32⟩
  | 31 => ⟨S8192x1024, .f32⟩
  | 32 => ⟨S8192x1024, .f32⟩
  | 33 => ⟨S8192x1024, .f32⟩
  | 34 => ⟨S8192x1024, .f32⟩
  | 35 => ⟨S8192x1024, .f32⟩
  | 36 => ⟨S8192x1024, .f32⟩
  | 37 => ⟨S8192x1024, .f32⟩
  | 38 => ⟨S8192x1024, .f32⟩
  | 39 => ⟨S8192x1024, .f32⟩
  | 40 => ⟨S_, .f32⟩
  | 41 => ⟨S1024, .f32⟩
  | 42 => ⟨S1x1024, .f32⟩
  | 43 => ⟨S_, .f32⟩
  | 44 => ⟨S1024, .f32⟩
  | 45 => ⟨S8192x1024, .f32⟩
  | 46 => ⟨S8192x1024, .f32⟩
  | 47 => ⟨S8192x1024, .f32⟩
  | 48 => ⟨S_, .f32⟩
  | 49 => ⟨S1024, .f32⟩
  | 50 => ⟨S1x1024, .f32⟩
  | 51 => ⟨S_, .f32⟩
  | 52 => ⟨S1024, .f32⟩
  | 53 => ⟨S8192x1024, .f32⟩
  | 54 => ⟨S8192x1024, .f32⟩
  | 55 => ⟨S8192x1024, .f32⟩
  | 56 => ⟨S8192x1024, .f32⟩
  | 57 => ⟨S8192x1024, .f32⟩
  | 58 => ⟨S_, .f32⟩
  | 59 => ⟨S1024, .f32⟩
  | 60 => ⟨S1x1024, .f32⟩
  | 61 => ⟨S_, .f32⟩
  | 62 => ⟨S1024, .f32⟩
  | 63 => ⟨S8192x1024, .f32⟩
  | 64 => ⟨S_, .f32⟩
  | 65 => ⟨S1024, .f32⟩
  | 66 => ⟨S1x1024, .f32⟩
  | 67 => ⟨S8192x1024, .f32⟩
  | 68 => ⟨S8192x1024, .f32⟩
  | 69 => ⟨S_, .f32⟩
  | 70 => ⟨S1024, .f32⟩
  | 71 => ⟨S8192x1024, .f32⟩
  | 72 => ⟨S_, .f32⟩
  | 73 => ⟨S8192, .f32⟩
  | 74 => ⟨S8192x1, .f32⟩
  | 75 => ⟨S8192x1024, .f32⟩
  | 76 => ⟨S8192x1024, .f32⟩
  | 77 => ⟨S8192x1, .f32⟩
  | 78 => ⟨S8192x1024, .f32⟩
  | 79 => ⟨S_, .f32⟩
  | 80 => ⟨S8192, .f32⟩
  | 81 => ⟨S8192x1, .f32⟩
  | 82 => ⟨S_, .f32⟩
  | 83 => ⟨S8192x1, .f32⟩
  | 84 => ⟨S8192x1, .f32⟩
  | 85 => ⟨S_, .f32⟩
  | 86 => ⟨S8192, .f32⟩
  | 87 => ⟨S8192x1024, .f32⟩
  | 88 => ⟨S8192x1024, .f32⟩
  | 89 => ⟨S8192x1024, .f32⟩
  | 90 => ⟨S_, .f32⟩
  | 91 => ⟨S8192, .f32⟩
  | 92 => ⟨S8192x1, .f32⟩
  | 93 => ⟨S8192x1024, .f32⟩
  | 94 => ⟨S8192x1, .f32⟩
  | 95 => ⟨S_, .f32⟩
  | 96 => ⟨S8192x1, .f32⟩
  | 97 => ⟨S8192x1, .f32⟩
  | 98 => ⟨S_, .f32⟩
  | 99 => ⟨S8192, .f32⟩
  | 100 => ⟨S8192x1024, .f32⟩
  | 101 => ⟨S8192x1024, .f32⟩
  | 102 => ⟨S_, .f32⟩
  | 103 => ⟨S1024, .f32⟩
  | 104 => ⟨S1x1024, .f32⟩
  | 105 => ⟨S_, .f32⟩
  | 106 => ⟨S1024, .f32⟩
  | 107 => ⟨S8192x1024, .f32⟩
  | 108 => ⟨S8192x1024, .f32⟩
  | 109 => ⟨S8192x1024, .f32⟩
  | 110 => ⟨S64x128x8x128, .f32⟩
  | 111 => ⟨S_, .f32⟩
  | 112 => ⟨S128x8, .f32⟩
  | 113 => ⟨S1x128x8x1, .f32⟩
  | 114 => ⟨S_, .f32⟩
  | 115 => ⟨S128x8, .f32⟩
  | 116 => ⟨S8x128, .f32⟩
  | 117 => ⟨S8x128x64x128, .f32⟩
  | 118 => ⟨S8x64x128x128, .f32⟩
  | 119 => ⟨S64x128x8x128, .f32⟩
  | 120 => ⟨S8x128x128, .f32⟩
  | 121 => ⟨S8192x1024, .f32⟩
  | 122 => ⟨S_, .f32⟩
  | 123 => ⟨S1024, .f32⟩
  | 124 => ⟨S1x1024, .f32⟩
  | 125 => ⟨S_, .f32⟩
  | 126 => ⟨S1024, .f32⟩
  | 127 => ⟨S8192x1024, .f32⟩
  | _ => ⟨S8192x1024, .f32⟩

abbrev hbmTy0_2 (i : Nat) : BufTy := match i % 128 with
  | 0 => ⟨S_, .f32⟩
  | 1 => ⟨S1024, .f32⟩
  | 2 => ⟨S1x1024, .f32⟩
  | 3 => ⟨S8192x1024, .f32⟩
  | 4 => ⟨S8192x1024, .f32⟩
  | 5 => ⟨S_, .f32⟩
  | 6 => ⟨S1024, .f32⟩
  | 7 => ⟨S8192x1024, .f32⟩
  | 8 => ⟨S_, .f32⟩
  | 9 => ⟨S8192, .f32⟩
  | 10 => ⟨S8192x1, .f32⟩
  | 11 => ⟨S8192x1024, .f32⟩
  | 12 => ⟨S8192x1024, .f32⟩
  | 13 => ⟨S8192x1, .f32⟩
  | 14 => ⟨S8192x1024, .f32⟩
  | 15 => ⟨S_, .f32⟩
  | 16 => ⟨S8192, .f32⟩
  | 17 => ⟨S8192x1, .f32⟩
  | 18 => ⟨S_, .f32⟩
  | 19 => ⟨S8192x1, .f32⟩
  | 20 => ⟨S8192x1, .f32⟩
  | 21 => ⟨S_, .f32⟩
  | 22 => ⟨S8192, .f32⟩
  | 23 => ⟨S8192x1024, .f32⟩
  | 24 => ⟨S8192x1024, .f32⟩
  | 25 => ⟨S8192x1024, .f32⟩
  | 26 => ⟨S_, .f32⟩
  | 27 => ⟨S8192, .f32⟩
  | 28 => ⟨S8192x1, .f32⟩
  | 29 => ⟨S8192x1024, .f32⟩
  | 30 => ⟨S8192x1, .f32⟩
  | 31 => ⟨S_, .f32⟩
  | 32 => ⟨S8192x1, .f32⟩
  | 33 => ⟨S8192x1, .f32⟩
  | 34 => ⟨S_, .f32⟩
  | 35 => ⟨S8192, .f32⟩
  | 36 => ⟨S8192x1024, .f32⟩
  | 37 => ⟨S8192x1024, .f32⟩
  | 38 => ⟨S_, .f32⟩
  | 39 => ⟨S8192x2048, .f32⟩
  | 40 => ⟨S8192x6144, .f32⟩
  | 41 => ⟨S8192x1024, .bf16⟩
  | 42 => ⟨S8192x1024, .bf16⟩
  | 43 => ⟨S8192x6144, .bf16⟩
  | 44 => ⟨S2048, .f32⟩
  | 45 => ⟨S1x2048, .f32⟩
  | 46 => ⟨S1x1024, .f32⟩
  | 47 => ⟨S1x1024, .f32⟩
  | 48 => ⟨S1x1024, .f32⟩
  | 49 => ⟨S1x1024, .f32⟩
  | 50 => ⟨S1x1024, .f32⟩
  | 51 => ⟨S1x1024, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call0_v0 : Ref sig .tc := ⟨.hbm, 66, rfl⟩
abbrev main_call0_v1 : Ref sig .tc := ⟨.hbm, 67, rfl⟩
abbrev main_call0_cst : Ref sig .tc := ⟨.hbm, 68, rfl⟩
abbrev main_call0_v2 : Ref sig .tc := ⟨.hbm, 69, rfl⟩
abbrev main_call0_v3 : Ref sig .tc := ⟨.hbm, 70, rfl⟩
abbrev main_call0_cst_0 : Ref sig .tc := ⟨.hbm, 71, rfl⟩
abbrev main_call0_v4 : Ref sig .tc := ⟨.hbm, 72, rfl⟩
abbrev main_v49_2 : Ref sig .tc := ⟨.hbm, 73, rfl⟩
abbrev main_call0_cst_1 : Ref sig .tc := ⟨.hbm, 74, rfl⟩
abbrev main_call0_v6 : Ref sig .tc := ⟨.hbm, 75, rfl⟩
abbrev main_call0_v7 : Ref sig .tc := ⟨.hbm, 76, rfl⟩
abbrev main_v49_1 : Ref sig .tc := ⟨.hbm, 77, rfl⟩
abbrev main_v49_0 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_6 : Ref sig .tc := ⟨.hbm, 84, rfl⟩
abbrev main_v55 : Ref sig .tc := ⟨.hbm, 85, rfl⟩
abbrev main_v56 : Ref sig .tc := ⟨.hbm, 86, rfl⟩
abbrev main_cst_7 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_8 : Ref sig .tc := ⟨.hbm, 93, rfl⟩
abbrev main_v62 : Ref sig .tc := ⟨.hbm, 94, rfl⟩
abbrev main_v63 : Ref sig .tc := ⟨.hbm, 95, rfl⟩
abbrev main_cst_9 : Ref sig .tc := ⟨.hbm, 96, rfl⟩
abbrev main_v64 : Ref sig .tc := ⟨.hbm, 97, rfl⟩
abbrev main_v65 : Ref sig .tc := ⟨.hbm, 98, rfl⟩
abbrev main_cst_10 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_11 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_12 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_13 : Ref sig .tc := ⟨.hbm, 135, rfl⟩
abbrev main_v99 : Ref sig .tc := ⟨.hbm, 136, rfl⟩
abbrev main_v100 : Ref sig .tc := ⟨.hbm, 137, rfl⟩
abbrev main_cst_14 : Ref sig .tc := ⟨.hbm, 138, rfl⟩
abbrev main_v101 : Ref sig .tc := ⟨.hbm, 139, rfl⟩
abbrev main_v102 : Ref sig .tc := ⟨.hbm, 140, rfl⟩
abbrev main_cst_15 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_cst_16 : Ref sig .tc := ⟨.hbm, 151, rfl⟩
abbrev main_v112 : Ref sig .tc := ⟨.hbm, 152, rfl⟩
abbrev main_v113 : Ref sig .tc := ⟨.hbm, 153, rfl⟩
abbrev main_cst_17 : Ref sig .tc := ⟨.hbm, 154, rfl⟩
abbrev main_v114 : Ref sig .tc := ⟨.hbm, 155, rfl⟩
abbrev main_v115 : Ref sig .tc := ⟨.hbm, 156, rfl⟩
abbrev main_cst_18 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_cst_19 : Ref sig .tc := ⟨.hbm, 168, rfl⟩
abbrev main_v126 : Ref sig .tc := ⟨.hbm, 169, rfl⟩
abbrev main_v127 : Ref sig .tc := ⟨.hbm, 170, rfl⟩
abbrev main_cst_20 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_cst_21 : Ref sig .tc := ⟨.hbm, 176, rfl⟩
abbrev main_v132 : Ref sig .tc := ⟨.hbm, 177, rfl⟩
abbrev main_v133 : Ref sig .tc := ⟨.hbm, 178, rfl⟩
abbrev main_cst_22 : Ref sig .tc := ⟨.hbm, 179, rfl⟩
abbrev main_v134 : Ref sig .tc := ⟨.hbm, 180, rfl⟩
abbrev main_v135 : Ref sig .tc := ⟨.hbm, 181, rfl⟩
abbrev main_call1_v0 : Ref sig .tc := ⟨.hbm, 182, rfl⟩
abbrev main_call1_v1 : Ref sig .tc := ⟨.hbm, 183, rfl⟩
abbrev main_call1_v2 : Ref sig .tc := ⟨.hbm, 184, rfl⟩
abbrev main_v136 : Ref sig .tc := ⟨.hbm, 185, rfl⟩
abbrev main_cst_23 : Ref sig .tc := ⟨.hbm, 186, rfl⟩
abbrev main_v137 : Ref sig .tc := ⟨.hbm, 187, rfl⟩
abbrev main_v138 : Ref sig .tc := ⟨.hbm, 188, rfl⟩
abbrev main_cst_24 : Ref sig .tc := ⟨.hbm, 189, rfl⟩
abbrev main_v139 : Ref sig .tc := ⟨.hbm, 190, rfl⟩
abbrev main_v140 : Ref sig .tc := ⟨.hbm, 191, rfl⟩
abbrev main_cst_25 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_cst_26 : Ref sig .tc := ⟨.hbm, 197, rfl⟩
abbrev main_v145 : Ref sig .tc := ⟨.hbm, 198, rfl⟩
abbrev main_v146 : Ref sig .tc := ⟨.hbm, 199, rfl⟩
abbrev main_cst_27 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_cst_28 : Ref sig .tc := ⟨.hbm, 207, rfl⟩
abbrev main_v153 : Ref sig .tc := ⟨.hbm, 208, rfl⟩
abbrev main_v154 : Ref sig .tc := ⟨.hbm, 209, rfl⟩
abbrev main_cst_29 : Ref sig .tc := ⟨.hbm, 210, rfl⟩
abbrev main_v155 : Ref sig .tc := ⟨.hbm, 211, rfl⟩
abbrev main_v156 : Ref sig .tc := ⟨.hbm, 212, rfl⟩
abbrev main_cst_30 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_cst_31 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_cst_32 : Ref sig .tc := ⟨.hbm, 223, rfl⟩
abbrev main_v165 : Ref sig .tc := ⟨.hbm, 224, rfl⟩
abbrev main_v166 : Ref sig .tc := ⟨.hbm, 225, rfl⟩
abbrev main_cst_33 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_cst_34 : Ref sig .tc := ⟨.hbm, 230, rfl⟩
abbrev main_v170 : Ref sig .tc := ⟨.hbm, 231, rfl⟩
abbrev main_v171 : Ref sig .tc := ⟨.hbm, 232, rfl⟩
abbrev main_cst_35 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_cst_36 : Ref sig .tc := ⟨.hbm, 239, rfl⟩
abbrev main_v177 : Ref sig .tc := ⟨.hbm, 240, rfl⟩
abbrev main_v178 : Ref sig .tc := ⟨.hbm, 241, rfl⟩
abbrev main_cst_37 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_cst_38 : Ref sig .tc := ⟨.hbm, 250, rfl⟩
abbrev main_v186 : Ref sig .tc := ⟨.hbm, 251, rfl⟩
abbrev main_v187 : Ref sig .tc := ⟨.hbm, 252, rfl⟩
abbrev main_cst_39 : Ref sig .tc := ⟨.hbm, 253, rfl⟩
abbrev main_v188 : Ref sig .tc := ⟨.hbm, 254, rfl⟩
abbrev main_v189 : Ref sig .tc := ⟨.hbm, 255, rfl⟩
abbrev main_cst_40 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_cst_41 : Ref sig .tc := ⟨.hbm, 261, rfl⟩
abbrev main_v194 : Ref sig .tc := ⟨.hbm, 262, rfl⟩
abbrev main_v195 : Ref sig .tc := ⟨.hbm, 263, rfl⟩
abbrev main_cst_42 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_cst_43 : Ref sig .tc := ⟨.hbm, 271, rfl⟩
abbrev main_v202 : Ref sig .tc := ⟨.hbm, 272, rfl⟩
abbrev main_v203 : Ref sig .tc := ⟨.hbm, 273, rfl⟩
abbrev main_cst_44 : Ref sig .tc := ⟨.hbm, 274, rfl⟩
abbrev main_v204 : Ref sig .tc := ⟨.hbm, 275, rfl⟩
abbrev main_v205 : Ref sig .tc := ⟨.hbm, 276, rfl⟩
abbrev main_cst_45 : Ref sig .tc := ⟨.hbm, 277, rfl⟩
abbrev main_v206 : Ref sig .tc := ⟨.hbm, 278, rfl⟩
abbrev main_v207 : Ref sig .tc := ⟨.hbm, 279, rfl⟩
abbrev main_v208 : Ref sig .tc := ⟨.hbm, 280, rfl⟩
abbrev main_v209 : Ref sig .tc := ⟨.hbm, 281, rfl⟩
abbrev main_cst_46 : Ref sig .tc := ⟨.hbm, 282, rfl⟩
abbrev main_v210 : Ref sig .tc := ⟨.hbm, 283, rfl⟩
abbrev main_v211 : Ref sig .tc := ⟨.hbm, 284, rfl⟩
abbrev main_v212 : Ref sig .tc := ⟨.hbm, 285, rfl⟩
abbrev main_v213 : Ref sig .tc := ⟨.hbm, 286, rfl⟩
abbrev main_cst_47 : Ref sig .tc := ⟨.hbm, 287, rfl⟩
abbrev main_v214 : Ref sig .tc := ⟨.hbm, 288, rfl⟩
abbrev main_v215 : Ref sig .tc := ⟨.hbm, 289, rfl⟩
abbrev main_cst_48 : Ref sig .tc := ⟨.hbm, 290, rfl⟩
abbrev main_v216 : Ref sig .tc := ⟨.hbm, 291, rfl⟩
abbrev main_v217 : Ref sig .tc := ⟨.hbm, 292, rfl⟩
abbrev main_v218 : Ref sig .tc := ⟨.hbm, 293, rfl⟩
abbrev main_cst_49 : Ref sig .tc := ⟨.hbm, 294, rfl⟩
abbrev main_v219 : Ref sig .tc := ⟨.hbm, 295, rfl⟩
abbrev main_v220 : Ref sig .tc := ⟨.hbm, 296, rfl⟩
abbrev main_v221 : Ref sig .tc := ⟨.hbm, 297, rfl⟩
abbrev main_v222 : Ref sig .tc := ⟨.hbm, 298, rfl⟩
abbrev main_v223 : Ref sig .tc := ⟨.hbm, 299, rfl⟩
abbrev main_v224 : Ref sig .tc := ⟨.hbm, 300, rfl⟩
abbrev main_v225 : Ref sig .tc := ⟨.hbm, 301, rfl⟩
abbrev main_v226 : Ref sig .tc := ⟨.hbm, 302, rfl⟩
abbrev main_v227 : Ref sig .tc := ⟨.hbm, 303, rfl⟩
abbrev main_v228 : Ref sig .tc := ⟨.hbm, 304, rfl⟩
abbrev main_v229 : Ref sig .tc := ⟨.hbm, 305, rfl⟩
abbrev main_v230 : Ref sig .tc := ⟨.hbm, 306, rfl⟩
abbrev main_v231 : Ref sig .tc := ⟨.hbm, 307, rfl⟩

abbrev nD : Nat := 1
abbrev τ : Topo := Topo.v7x

variable {F : FTy → Type} [FloatOps F]
-- ==== Proof.Base.lean ====
/-
  The body's two conditions in closed form over the 32 grid points, the staging buffers at a point, the scratch buffers,
  and which windows a point leaves alone: what the three runs of the body (`RunA`, `RunB`, `RunC`) are stated over.
-/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

abbrev cond0_1 (i : grid0.Coords) : Prop := k0_cond2 i = 1#1
theorem hcond0_1 : ∀ t : Fin cfg0.N, cond0_1 (grid0.coords t) ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [cond0_1, k0_cond2, e0]
    word_cmp
   : ∀ t : Fin grid0.N, cond0_1 (grid0.coords t) ↔ t.val % 32 = 31)

/-! ## Where the windows are idle (the printed configuration's table `Cfg.idle`) -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
theorem liveAt0_14 : ∀ t : Fin cfg0.N, cfg0.idle 14 (grid0.coords t) = false := fun _ => rfl
theorem liveAt0_15 : ∀ t : Fin cfg0.N, cfg0.idle 15 (grid0.coords t) = false := fun _ => rfl
theorem liveAt0_16 : ∀ t : Fin cfg0.N, cfg0.idle 16 (grid0.coords t) = false := fun _ => rfl
theorem liveAt0_17 : ∀ t : Fin cfg0.N, cfg0.idle 17 (grid0.coords t) = false := fun _ => rfl
theorem liveAt0_18 : ∀ t : Fin cfg0.N, cfg0.idle 18 (grid0.coords t) = false := fun _ => rfl
theorem liveAt0_19 : ∀ t : Fin cfg0.N, cfg0.idle 19 (grid0.coords t) = false := fun _ => rfl
theorem liveAt0_20 : ∀ t : Fin cfg0.N, cfg0.idle 20 (grid0.coords t) = false := fun _ => rfl
theorem liveAt0_21 : ∀ t : Fin cfg0.N, cfg0.idle 21 (grid0.coords t) = false := fun _ => rfl
theorem liveAt0_22 : ∀ t : Fin cfg0.N, cfg0.idle 22 (grid0.coords t) = false := fun _ => rfl
theorem liveAt0_23 : ∀ t : Fin cfg0.N, cfg0.idle 23 (grid0.coords t) = false := fun _ => rfl
theorem liveAt0_24 : ∀ t : Fin cfg0.N, cfg0.idle 24 (grid0.coords t) = false := fun _ => rfl
theorem liveAt0_26 : ∀ t : Fin cfg0.N, cfg0.idle 26 (grid0.coords t) = false := fun _ => rfl
theorem liveAt0_27 : ∀ t : Fin cfg0.N, cfg0.idle 27 (grid0.coords t) = false := fun _ => rfl
theorem liveAt0_28 : ∀ t : Fin cfg0.N, cfg0.idle 28 (grid0.coords t) = false := fun _ => rfl
theorem liveAt0_29 : ∀ t : Fin cfg0.N, cfg0.idle 29 (grid0.coords t) = false := fun _ => rfl
theorem idleAt0_25_A : ∀ t : Fin cfg0.N, cond0_0 (grid0.coords t) → ¬cond0_1 (grid0.coords t) → cfg0.idle 25 (grid0.coords t) = true := by decide +kernel
theorem noFlush0_25_A : ∀ t : Fin cfg0.N, cond0_0 (grid0.coords t) → ¬cond0_1 (grid0.coords t) → (cfg0.win 25).flush t = false := by decide +kernel
theorem idleAt0_25_B : ∀ t : Fin cfg0.N, ¬cond0_0 (grid0.coords t) → ¬cond0_1 (grid0.coords t) → cfg0.idle 25 (grid0.coords t) = true := by decide +kernel
theorem noFlush0_25_B : ∀ t : Fin cfg0.N, ¬cond0_0 (grid0.coords t) → ¬cond0_1 (grid0.coords t) → (cfg0.win 25).flush t = false := by decide +kernel
theorem liveAt0_25_C : ∀ t : Fin cfg0.N, ¬cond0_0 (grid0.coords t) → cond0_1 (grid0.coords t) → cfg0.idle 25 (grid0.coords t) = false := by decide +kernel

/-! ## The kernel body on any staging memrefs: a subtype the run finds -/

abbrev VO0_18 : View sig .tc .vmem S256x1024 .bf16 := (Memref.whole cc0_stg18_0 : Memref sig .tc .vmem S256x1024 .bf16).view
abbrev VO0_19 : View sig .tc .vmem S256x1024 .bf16 := (Memref.whole cc0_stg19_0 : Memref sig .tc .vmem S256x1024 .bf16).view
abbrev VO0_20 : View sig .tc .vmem S256x6144 .bf16 := (Memref.whole cc0_stg20_0 : Memref sig .tc .vmem S256x6144 .bf16).view
abbrev VO0_21 : View sig .tc .vmem S256x1024 .f32 := (Memref.whole cc0_stg21_0 : Memref sig .tc .vmem S256x1024 .f32).view
abbrev VO0_22 : View sig .tc .vmem S1x2048 .f32 := (Memref.whole cc0_stg22_0 : Memref sig .tc .vmem S1x2048 .f32).view
abbrev VO0_23 : View sig .tc .vmem S1x1024 .f32 := (Memref.whole cc0_stg23_0 : Memref sig .tc .vmem S1x1024 .f32).view
abbrev VO0_24 : View sig .tc .vmem S1x1024 .f32 := (Memref.whole cc0_stg24_0 : Memref sig .tc .vmem S1x1024 .f32).view
abbrev VO0_25 : View sig .tc .vmem S1x1024 .f32 := (Memref.whole cc0_stg25_0 : Memref sig .tc .vmem S1x1024 .f32).view
abbrev VO0_26 : View sig .tc .vmem S8x128x128 .f32 := (Memref.whole cc0_stg26_0 : Memref sig .tc .vmem S8x128x128 .f32).view
abbrev VO0_27 : View sig .tc .vmem S1x1024 .f32 := (Memref.whole cc0_stg27_0 : Memref sig .tc .vmem S1x1024 .f32).view
abbrev VO0_28 : View sig .tc .vmem S1x1024 .f32 := (Memref.whole cc0_stg28_0 : Memref sig .tc .vmem S1x1024 .f32).view
abbrev VO0_29 : View sig .tc .vmem S1x1024 .f32 := (Memref.whole cc0_stg29_0 : Memref sig .tc .vmem S1x1024 .f32).view
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x128x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S8x128x128 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x2048 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1024 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S4x256x1024 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S4x256x1024 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S4x256x1024 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S256x1024 .bf16 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S256x1024 .bf16 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S256x6144 .bf16 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S256x1024 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S1x2048 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S1x1024 .f32 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S1x1024 .f32 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S1x1024 .f32 := win0_25.stage (cfg0.slots t 25)
abbrev hs0_25 (t : Fin cfg0.N) : (ms0_25 t).IsWhole := hstage0_25 ((cfg0.slots t 25).cast nbuf0_25)
abbrev ms0_26 (t : Fin cfg0.N) : Memref sig .tc .vmem S8x128x128 .f32 := win0_26.stage (cfg0.slots t 26)
abbrev hs0_26 (t : Fin cfg0.N) : (ms0_26 t).IsWhole := hstage0_26 ((cfg0.slots t 26).cast nbuf0_26)
abbrev ms0_27 (t : Fin cfg0.N) : Memref sig .tc .vmem S1x1024 .f32 := win0_27.stage (cfg0.slots t 27)
abbrev hs0_27 (t : Fin cfg0.N) : (ms0_27 t).IsWhole := hstage0_27 ((cfg0.slots t 27).cast nbuf0_27)
abbrev ms0_28 (t : Fin cfg0.N) : Memref sig .tc .vmem S1x1024 .f32 := win0_28.stage (cfg0.slots t 28)
abbrev hs0_28 (t : Fin cfg0.N) : (ms0_28 t).IsWhole := hstage0_28 ((cfg0.slots t 28).cast nbuf0_28)
abbrev ms0_29 (t : Fin cfg0.N) : Memref sig .tc .vmem S1x1024 .f32 := win0_29.stage (cfg0.slots t 29)
abbrev hs0_29 (t : Fin cfg0.N) : (ms0_29 t).IsWhole := hstage0_29 ((cfg0.slots t 29).cast nbuf0_29)
abbrev scM0_0 : Memref sig .tc .vmem S256x1024 .f32 := Memref.whole cc0_scratch0
abbrev scM0_1 : Memref sig .tc .vmem S128x1024 .f32 := Memref.whole cc0_scratch1
abbrev VS0_1 : View sig .tc .vmem S128x1024 .f32 := scM0_1.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.RunA.lean ====
/-
  The body at the first point: the accumulators are zeroed first.
-/
module

public import proofs.«01_k».proof.Proof.Base

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 10000000 in
/-- The body at the first point: the accumulators are zeroed first. On whole staging buffers, the inputs' at `x0` … `x17`,
    it runs to the continuation and leaves in each output the pieces found here, written over some contents. -/
noncomputable def run_A (c : Dev nD) (i : grid0.Coords) (arg1 : Memref sig .tc .vmem S256x1024 .f32) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S8x128x128 .bf16) (harg11 : arg11.IsWhole) (arg12 : Memref sig .tc .vmem S8x128x128 .bf16) (harg12 : arg12.IsWhole) (arg13 : Memref sig .tc .vmem S1x2048 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S4x256x1024 .bf16) (harg16 : arg16.IsWhole) (arg17 : Memref sig .tc .vmem S4x256x1024 .bf16) (harg17 : arg17.IsWhole) (arg18 : Memref sig .tc .vmem S4x256x1024 .bf16) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S256x6144 .bf16) (harg21 : arg21.IsWhole) (arg22 : Memref sig .tc .vmem S256x1024 .f32) (harg22 : arg22.IsWhole) (arg23 : Memref sig .tc .vmem S1x2048 .f32) (harg23 : arg23.IsWhole) (arg24 : Memref sig .tc .vmem S1x1024 .f32) (harg24 : arg24.IsWhole) (arg25 : Memref sig .tc .vmem S1x1024 .f32) (harg25 : arg25.IsWhole) (arg26 : Memref sig .tc .vmem S1x1024 .f32) (harg26 : arg26.IsWhole) (arg27 : Memref sig .tc .vmem S8x128x128 .f32) (harg27 : arg27.IsWhole) (arg28 : Memref sig .tc .vmem S1x1024 .f32) (harg28 : arg28.IsWhole) (arg29 : Memref sig .tc .vmem S1x1024 .f32) (harg29 : arg29.IsWhole) (arg30 : Memref sig .tc .vmem S1x1024 .f32) (harg30 : arg30.IsWhole) (arg31 : Memref sig .tc .vmem S256x1024 .f32) (harg31 : arg31.IsWhole) (arg32 : Memref sig .tc .vmem S128x1024 .f32) (harg32 : arg32.IsWhole) (hc0 : cond0_0 i) (hc1 : ¬cond0_1 i)
    (x0 : Vec F S256x1024 .f32) (x1 : Vec F S256x2048 .bf16) (x2 : Vec F S256x2048 .bf16) (x3 : Vec F S256x1024 .bf16) (x4 : Vec F S256x1024 .bf16) (x5 : Vec F S256x1024 .bf16) (x6 : Vec F S256x1024 .bf16) (x7 : Vec F S256x1 .f32) (x8 : Vec F S1x1024 .f32) (x9 : Vec F S1x1024 .f32) (x10 : Vec F S8x128x128 .bf16) (x11 : Vec F S8x128x128 .bf16) (x12 : Vec F S1x2048 .f32) (x13 : Vec F S1x1024 .f32) (x14 : Vec F S1x1024 .f32) (x15 : Vec F S4x256x1024 .bf16) (x16 : Vec F S4x256x1024 .bf16) (x17 : Vec F S4x256x1024 .bf16) :
    Σ' (L18 : List (View.Piece (Elt F) S256x1024 .bf16)), Σ' (L19 : List (View.Piece (Elt F) S256x1024 .bf16)), Σ' (L20 : List (View.Piece (Elt F) S256x6144 .bf16)), Σ' (L21 : List (View.Piece (Elt F) S256x1024 .f32)), Σ' (L22 : List (View.Piece (Elt F) S1x2048 .f32)), Σ' (L23 : List (View.Piece (Elt F) S1x1024 .f32)), Σ' (L24 : List (View.Piece (Elt F) S1x1024 .f32)), Σ' (L25 : List (View.Piece (Elt F) S1x1024 .f32)), Σ' (L26 : List (View.Piece (Elt F) S8x128x128 .f32)), Σ' (L27 : List (View.Piece (Elt F) S1x1024 .f32)), Σ' (L28 : List (View.Piece (Elt F) S1x1024 .f32)), Σ' (L29 : List (View.Piece (Elt F) S1x1024 .f32)), Σ' (LS1 : List (View.Piece (Elt F) S128x1024 .f32)), { LT0 : List (View.Piece (Elt F) S256x1024 .f32) //
      ∀ (xi25 : Vec F S1x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ owns (c : Thread nD τ) arg26 fullShare xi25 ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ owns (c : Thread nD τ) arg26 fullShare xi25 ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f L28) ∗ (∃ f, arg30.view.loc (c : Thread nD τ) ↦[arg30.view.set]{fullShare} arg30.view.writes (Elt F) f L29) ∗ (∃ f, arg31.view.loc (c : Thread nD τ) ↦[arg31.view.set]{fullShare} arg31.view.writes (Elt F) f LT0) ∗ (∃ f, arg32.view.loc (c : Thread nD τ) ↦[arg32.view.set]{fullShare} arg32.view.writes (Elt F) f LS1)) -∗ K ⟨⟩))
          ⊢ wp frame (wpE (defs₀ (F := F)) Variants.none c none) E (cc0_merge_sgu_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K } := by
  refine ⟨?_, ?_, ?_, ?_, ?_, ?_, ?_, [], ?_, ?_, ?_, ?_, ?_, ?_, fun xi25 E K => ?run⟩
  case run =>
    simp only [cc0_merge_sgu_bwd_eq_skeleton]; unfold cc0_merge_sgu_bwd_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%f25, %hf25, H25⟩, ⟨%d26, %f26, -, H26⟩, ⟨%d27, %f27, -, H27⟩, ⟨%d28, %f28, -, H28⟩, ⟨%d29, %f29, -, H29⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg26.eq_unread hf25
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]
    · iexists _; isplitr; · ipureintro; exact harg26.read_unread _
      iexact H25
    isplitl [H26]; · iexists _; iexact H26
    isplitl [H27]; · iexists _; iexact H27
    isplitl [H28]; · iexists _; iexact H28
    isplitl [H29]; · iexists _; iexact H29
    isplitl [HS0]; · iexists _; iexact HS0
    iexists _; iexact HS1

end Cert.KernelIdeal.Hand

end
-- ==== Proof.RunB.lean ====
/-
  The body at the points between the first and the last.
-/
module

public import proofs.«01_k».proof.Proof.RunA

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 10000000 in
/-- The body at the points between the first and the last. On whole staging buffers, the inputs' at `x0` … `x17`, the accumulators' at `xo22` … `xo29` and the carried scratch at `xs1`,
    it runs to the continuation and leaves in each output the pieces found here, written over some contents. -/
noncomputable def run_B (c : Dev nD) (i : grid0.Coords) (arg1 : Memref sig .tc .vmem S256x1024 .f32) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S8x128x128 .bf16) (harg11 : arg11.IsWhole) (arg12 : Memref sig .tc .vmem S8x128x128 .bf16) (harg12 : arg12.IsWhole) (arg13 : Memref sig .tc .vmem S1x2048 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S4x256x1024 .bf16) (harg16 : arg16.IsWhole) (arg17 : Memref sig .tc .vmem S4x256x1024 .bf16) (harg17 : arg17.IsWhole) (arg18 : Memref sig .tc .vmem S4x256x1024 .bf16) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S256x6144 .bf16) (harg21 : arg21.IsWhole) (arg22 : Memref sig .tc .vmem S256x1024 .f32) (harg22 : arg22.IsWhole) (arg23 : Memref sig .tc .vmem S1x2048 .f32) (harg23 : arg23.IsWhole) (arg24 : Memref sig .tc .vmem S1x1024 .f32) (harg24 : arg24.IsWhole) (arg25 : Memref sig .tc .vmem S1x1024 .f32) (harg25 : arg25.IsWhole) (arg26 : Memref sig .tc .vmem S1x1024 .f32) (harg26 : arg26.IsWhole) (arg27 : Memref sig .tc .vmem S8x128x128 .f32) (harg27 : arg27.IsWhole) (arg28 : Memref sig .tc .vmem S1x1024 .f32) (harg28 : arg28.IsWhole) (arg29 : Memref sig .tc .vmem S1x1024 .f32) (harg29 : arg29.IsWhole) (arg30 : Memref sig .tc .vmem S1x1024 .f32) (harg30 : arg30.IsWhole) (arg31 : Memref sig .tc .vmem S256x1024 .f32) (harg31 : arg31.IsWhole) (arg32 : Memref sig .tc .vmem S128x1024 .f32) (harg32 : arg32.IsWhole) (hc0 : ¬cond0_0 i) (hc1 : ¬cond0_1 i)
    (x0 : Vec F S256x1024 .f32) (x1 : Vec F S256x2048 .bf16) (x2 : Vec F S256x2048 .bf16) (x3 : Vec F S256x1024 .bf16) (x4 : Vec F S256x1024 .bf16) (x5 : Vec F S256x1024 .bf16) (x6 : Vec F S256x1024 .bf16) (x7 : Vec F S256x1 .f32) (x8 : Vec F S1x1024 .f32) (x9 : Vec F S1x1024 .f32) (x10 : Vec F S8x128x128 .bf16) (x11 : Vec F S8x128x128 .bf16) (x12 : Vec F S1x2048 .f32) (x13 : Vec F S1x1024 .f32) (x14 : Vec F S1x1024 .f32) (x15 : Vec F S4x256x1024 .bf16) (x16 : Vec F S4x256x1024 .bf16) (x17 : Vec F S4x256x1024 .bf16) (xo22 : Vec F S1x2048 .f32) (xo23 : Vec F S1x1024 .f32) (xo24 : Vec F S1x1024 .f32) (xo26 : Vec F S8x128x128 .f32) (xo27 : Vec F S1x1024 .f32) (xo28 : Vec F S1x1024 .f32) (xo29 : Vec F S1x1024 .f32) (xs1 : Vec F S128x1024 .f32) :
    Σ' (L18 : List (View.Piece (Elt F) S256x1024 .bf16)), Σ' (L19 : List (View.Piece (Elt F) S256x1024 .bf16)), Σ' (L20 : List (View.Piece (Elt F) S256x6144 .bf16)), Σ' (L21 : List (View.Piece (Elt F) S256x1024 .f32)), Σ' (L22 : List (View.Piece (Elt F) S1x2048 .f32)), Σ' (L23 : List (View.Piece (Elt F) S1x1024 .f32)), Σ' (L24 : List (View.Piece (Elt F) S1x1024 .f32)), Σ' (L25 : List (View.Piece (Elt F) S1x1024 .f32)), Σ' (L26 : List (View.Piece (Elt F) S8x128x128 .f32)), Σ' (L27 : List (View.Piece (Elt F) S1x1024 .f32)), Σ' (L28 : List (View.Piece (Elt F) S1x1024 .f32)), Σ' (L29 : List (View.Piece (Elt F) S1x1024 .f32)), Σ' (LS1 : List (View.Piece (Elt F) S128x1024 .f32)), { LT0 : List (View.Piece (Elt F) S256x1024 .f32) //
      ∀ (xi25 : Vec F S1x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare xo22 ∗ owns (c : Thread nD τ) arg24 fullShare xo23 ∗ owns (c : Thread nD τ) arg25 fullShare xo24 ∗ owns (c : Thread nD τ) arg26 fullShare xi25 ∗ owns (c : Thread nD τ) arg27 fullShare xo26 ∗ owns (c : Thread nD τ) arg28 fullShare xo27 ∗ owns (c : Thread nD τ) arg29 fullShare xo28 ∗ owns (c : Thread nD τ) arg30 fullShare xo29 ∗ (∃ d, owns (c : Thread nD τ) arg31 fullShare d) ∗ owns (c : Thread nD τ) arg32 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ owns (c : Thread nD τ) arg26 fullShare xi25 ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f L28) ∗ (∃ f, arg30.view.loc (c : Thread nD τ) ↦[arg30.view.set]{fullShare} arg30.view.writes (Elt F) f L29) ∗ (∃ f, arg31.view.loc (c : Thread nD τ) ↦[arg31.view.set]{fullShare} arg31.view.writes (Elt F) f LT0) ∗ (∃ f, arg32.view.loc (c : Thread nD τ) ↦[arg32.view.set]{fullShare} arg32.view.writes (Elt F) f LS1)) -∗ K ⟨⟩))
          ⊢ wp frame (wpE (defs₀ (F := F)) Variants.none c none) E (cc0_merge_sgu_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K } := by
  refine ⟨?_, ?_, ?_, ?_, ?_, ?_, ?_, [], ?_, ?_, ?_, ?_, ?_, ?_, fun xi25 E K => ?run⟩
  case run =>
    simp only [cc0_merge_sgu_bwd_eq_skeleton]; unfold cc0_merge_sgu_bwd_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg23.eq_unread hf22; obtain rfl := harg24.eq_unread hf23; obtain rfl := harg25.eq_unread hf24; obtain rfl := harg26.eq_unread hf25; obtain rfl := harg27.eq_unread hf26; obtain rfl := harg28.eq_unread hf27; obtain rfl := harg29.eq_unread hf28; obtain rfl := harg30.eq_unread hf29; obtain rfl := harg32.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]
    · iexists _; isplitr; · ipureintro; exact harg26.read_unread _
      iexact H25
    isplitl [H26]; · iexists _; iexact H26
    isplitl [H27]; · iexists _; iexact H27
    isplitl [H28]; · iexists _; iexact H28
    isplitl [H29]; · iexists _; iexact H29
    isplitl [HS0]; · iexists _; iexact HS0
    iexists _; iexact HS1

end Cert.KernelIdeal.Hand

end
-- ==== Proof.RunC.lean ====
/-
  The body at the last point: the bias gradient is written out of the scratch.
-/
module

public import proofs.«01_k».proof.Proof.RunB

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 10000000 in
/-- The body at the last point: the bias gradient is written out of the scratch. On whole staging buffers, the inputs' at `x0` … `x17`, the accumulators' at `xo22` … `xo29` and the carried scratch at `xs1`,
    it runs to the continuation and leaves in each output the pieces found here, written over some contents. -/
noncomputable def run_C (c : Dev nD) (i : grid0.Coords) (arg1 : Memref sig .tc .vmem S256x1024 .f32) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S8x128x128 .bf16) (harg11 : arg11.IsWhole) (arg12 : Memref sig .tc .vmem S8x128x128 .bf16) (harg12 : arg12.IsWhole) (arg13 : Memref sig .tc .vmem S1x2048 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S4x256x1024 .bf16) (harg16 : arg16.IsWhole) (arg17 : Memref sig .tc .vmem S4x256x1024 .bf16) (harg17 : arg17.IsWhole) (arg18 : Memref sig .tc .vmem S4x256x1024 .bf16) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S256x6144 .bf16) (harg21 : arg21.IsWhole) (arg22 : Memref sig .tc .vmem S256x1024 .f32) (harg22 : arg22.IsWhole) (arg23 : Memref sig .tc .vmem S1x2048 .f32) (harg23 : arg23.IsWhole) (arg24 : Memref sig .tc .vmem S1x1024 .f32) (harg24 : arg24.IsWhole) (arg25 : Memref sig .tc .vmem S1x1024 .f32) (harg25 : arg25.IsWhole) (arg26 : Memref sig .tc .vmem S1x1024 .f32) (harg26 : arg26.IsWhole) (arg27 : Memref sig .tc .vmem S8x128x128 .f32) (harg27 : arg27.IsWhole) (arg28 : Memref sig .tc .vmem S1x1024 .f32) (harg28 : arg28.IsWhole) (arg29 : Memref sig .tc .vmem S1x1024 .f32) (harg29 : arg29.IsWhole) (arg30 : Memref sig .tc .vmem S1x1024 .f32) (harg30 : arg30.IsWhole) (arg31 : Memref sig .tc .vmem S256x1024 .f32) (harg31 : arg31.IsWhole) (arg32 : Memref sig .tc .vmem S128x1024 .f32) (harg32 : arg32.IsWhole) (hc0 : ¬cond0_0 i) (hc1 : cond0_1 i)
    (x0 : Vec F S256x1024 .f32) (x1 : Vec F S256x2048 .bf16) (x2 : Vec F S256x2048 .bf16) (x3 : Vec F S256x1024 .bf16) (x4 : Vec F S256x1024 .bf16) (x5 : Vec F S256x1024 .bf16) (x6 : Vec F S256x1024 .bf16) (x7 : Vec F S256x1 .f32) (x8 : Vec F S1x1024 .f32) (x9 : Vec F S1x1024 .f32) (x10 : Vec F S8x128x128 .bf16) (x11 : Vec F S8x128x128 .bf16) (x12 : Vec F S1x2048 .f32) (x13 : Vec F S1x1024 .f32) (x14 : Vec F S1x1024 .f32) (x15 : Vec F S4x256x1024 .bf16) (x16 : Vec F S4x256x1024 .bf16) (x17 : Vec F S4x256x1024 .bf16) (xo22 : Vec F S1x2048 .f32) (xo23 : Vec F S1x1024 .f32) (xo24 : Vec F S1x1024 .f32) (xo26 : Vec F S8x128x128 .f32) (xo27 : Vec F S1x1024 .f32) (xo28 : Vec F S1x1024 .f32) (xo29 : Vec F S1x1024 .f32) (xs1 : Vec F S128x1024 .f32) :
    Σ' (L18 : List (View.Piece (Elt F) S256x1024 .bf16)), Σ' (L19 : List (View.Piece (Elt F) S256x1024 .bf16)), Σ' (L20 : List (View.Piece (Elt F) S256x6144 .bf16)), Σ' (L21 : List (View.Piece (Elt F) S256x1024 .f32)), Σ' (L22 : List (View.Piece (Elt F) S1x2048 .f32)), Σ' (L23 : List (View.Piece (Elt F) S1x1024 .f32)), Σ' (L24 : List (View.Piece (Elt F) S1x1024 .f32)), Σ' (L25 : List (View.Piece (Elt F) S1x1024 .f32)), Σ' (L26 : List (View.Piece (Elt F) S8x128x128 .f32)), Σ' (L27 : List (View.Piece (Elt F) S1x1024 .f32)), Σ' (L28 : List (View.Piece (Elt F) S1x1024 .f32)), Σ' (L29 : List (View.Piece (Elt F) S1x1024 .f32)), Σ' (LS1 : List (View.Piece (Elt F) S128x1024 .f32)), { LT0 : List (View.Piece (Elt F) S256x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare xo22 ∗ owns (c : Thread nD τ) arg24 fullShare xo23 ∗ owns (c : Thread nD τ) arg25 fullShare xo24 ∗ (∃ d, owns (c : Thread nD τ) arg26 fullShare d) ∗ owns (c : Thread nD τ) arg27 fullShare xo26 ∗ owns (c : Thread nD τ) arg28 fullShare xo27 ∗ owns (c : Thread nD τ) arg29 fullShare xo28 ∗ owns (c : Thread nD τ) arg30 fullShare xo29 ∗ (∃ d, owns (c : Thread nD τ) arg31 fullShare d) ∗ owns (c : Thread nD τ) arg32 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f L28) ∗ (∃ f, arg30.view.loc (c : Thread nD τ) ↦[arg30.view.set]{fullShare} arg30.view.writes (Elt F) f L29) ∗ (∃ f, arg31.view.loc (c : Thread nD τ) ↦[arg31.view.set]{fullShare} arg31.view.writes (Elt F) f LT0) ∗ (∃ f, arg32.view.loc (c : Thread nD τ) ↦[arg32.view.set]{fullShare} arg32.view.writes (Elt F) f LS1)) -∗ K ⟨⟩))
          ⊢ wp frame (wpE (defs₀ (F := F)) Variants.none c none) E (cc0_merge_sgu_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K } := by
  refine ⟨?_, ?_, ?_, ?_, ?_, ?_, ?_, ?_, ?_, ?_, ?_, ?_, ?_, ?_, fun E K => ?run⟩
  case run =>
    simp only [cc0_merge_sgu_bwd_eq_skeleton]; unfold cc0_merge_sgu_bwd_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%f22, %hf22, H22⟩, ⟨%f23, %hf23, H23⟩, ⟨%f24, %hf24, H24⟩, ⟨%d25, %f25, -, H25⟩, ⟨%f26, %hf26, H26⟩, ⟨%f27, %hf27, H27⟩, ⟨%f28, %hf28, H28⟩, ⟨%f29, %hf29, H29⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg23.eq_unread hf22; obtain rfl := harg24.eq_unread hf23; obtain rfl := harg25.eq_unread hf24; obtain rfl := harg27.eq_unread hf26; obtain rfl := harg28.eq_unread hf27; obtain rfl := harg29.eq_unread hf28; obtain rfl := harg30.eq_unread hf29; obtain rfl := harg32.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [HS0]; · iexists _; iexact HS0
    iexists _; iexact HS1

end Cert.KernelIdeal.Hand

end
-- ==== Proof.Vals.lean ====
/-
  What one grid point leaves in its output blocks, as functions of the blocks it reads and of the sums the points before it left;
  and that each of the three runs of the body leaves exactly these.
-/
module

public import proofs.«01_k».proof.Proof.RunC
public import Idealize.ShloMosaic.Lib.Pipeline.ValueKit
public import Idealize.ShloMosaic.Lib.Pipeline.ReadBack

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The blocks a point reads and the sums carried from point to point -/

/-- The eighteen blocks a grid point reads: the rows of the residual's gradient, of the projection and of the saved forward
    values, then the layer's weights. -/
structure Ins (F : FTy → Type) where
  x0 : Vec F S256x1024 .f32
  x1 : Vec F S256x2048 .bf16
  x2 : Vec F S256x2048 .bf16
  x3 : Vec F S256x1024 .bf16
  x4 : Vec F S256x1024 .bf16
  x5 : Vec F S256x1024 .bf16
  x6 : Vec F S256x1024 .bf16
  x7 : Vec F S256x1 .f32
  x8 : Vec F S1x1024 .f32
  x9 : Vec F S1x1024 .f32
  x10 : Vec F S8x128x128 .bf16
  x11 : Vec F S8x128x128 .bf16
  x12 : Vec F S1x2048 .f32
  x13 : Vec F S1x1024 .f32
  x14 : Vec F S1x1024 .f32
  x15 : Vec F S4x256x1024 .bf16
  x16 : Vec F S4x256x1024 .bf16
  x17 : Vec F S4x256x1024 .bf16

/-- The sums over tokens that the points carry: the gradients of the gate bias, of the inner layer norm, of the spatial weights,
    of the convolution's layer norm and bias, and of the spatial bias before its last reduction. -/
structure Sums (F : FTy → Type) where
  a22 : Vec F S1x2048 .f32
  a23 : Vec F S1x1024 .f32
  a24 : Vec F S1x1024 .f32
  a26 : Vec F S8x128x128 .f32
  a27 : Vec F S1x1024 .f32
  a28 : Vec F S1x1024 .f32
  a29 : Vec F S1x1024 .f32
  s1 : Vec F S128x1024 .f32

namespace Ins
variable (X : Ins F)

/-- Gradient of the merged branches. -/
def dme : FVec F S256x1024 .f32 := k0_pay18 X.x0 X.x17
/-- The first branch's gate. -/
def sA : FVec F S256x1024 .f32 := k0_pay19 (View.ld X.x2 (Rect.unit ![0, 0] S256x1024.size inb_S256x2048_S256x1024_0_0)) (View.ld X.x12 (Rect.unit ![0, 0] S1x1024.size inb_S1x2048_S1x1024_0_0))
/-- One plus the exponential: the second branch's gate inverted. -/
def sB : FVec F S256x1024 .f32 := k0_pay20 (View.ld X.x2 (Rect.unit ![0, 1024] S256x1024.size inb_S256x2048_S256x1024_0_1024)) (View.ld X.x12 (Rect.unit ![0, 1024] S1x1024.size inb_S1x2048_S1x1024_0_1024))
/-- Gradient of the convolution branch's activation. -/
def dc3 : FVec F S256x1024 .f32 := k0_pay25 X.dme X.sA X.x15
/-- Gradient of the gated value. -/
def dgt : FVec F S256x1024 .f32 := k0_pay26 X.dme X.sB k0_pay21 X.x16
/-- Gradient of the spatially mixed value. -/
def dmx : FVec F S256x1024 .f32 := k0_pay43 X.dgt (View.ld X.x1 (Rect.unit ![0, 0] S256x1024.size inb_S256x2048_S256x1024_0_0))
/-- The same in the narrow type. -/
def dmb : FVec F S256x1024 .bf16 := k0_pay49 X.dmx
/-- The inner layer norm's normalised value. -/
def vh : FVec F S256x1024 .f32 := k0_pay46 (View.ld X.x1 (Rect.unit ![0, 1024] S256x1024.size inb_S256x2048_S256x1024_0_1024))
/-- The inner layer norm's output. -/
def vn : FVec F S256x1024 .bf16 := k0_pay48 X.vh (k0_pay47 X.x8) X.x9
/-- The convolution's output before its layer norm, normalised. -/
def c1h : FVec F S256x1024 .f32 := k0_pay27 X.x6
/-- Gradient of the convolution's output. -/
def o21 : FVec F S256x1024 .f32 := k0_pay34 X.dc3 X.c1h (k0_pay29 X.x6 X.x13 X.x14) (k0_pay30 X.x6 X.x13 X.x14) X.x13 X.x7
/-- Gradient of the convolution branch. -/
def o18 : FVec F S256x1024 .bf16 := k0_pay23 X.dme X.sA
/-- Gradient of the spatial branch. -/
def o19 : FVec F S256x1024 .bf16 := k0_pay24 X.dme X.sB k0_pay21
/-- Gradient of the inner layer norm's output: sixteen tiles, two chunks of tokens for each of the eight groups. -/
def dvn : Vec F S256x1024 .f32 := View.canon ([
    ⟨Rect.unit ![128, 896] S128x128.size inb_S256x1024_S128x128_128_896, k0_pay95 X.dmb (View.ld X.x11 (Rect.unit ![7, 0, 0] S1x128x128.size inb_S8x128x128_S1x128x128_7_0_0))⟩,
    ⟨Rect.unit ![0, 896] S128x128.size inb_S256x1024_S128x128_0_896, k0_pay94 X.dmb (View.ld X.x11 (Rect.unit ![7, 0, 0] S1x128x128.size inb_S8x128x128_S1x128x128_7_0_0))⟩,
    ⟨Rect.unit ![128, 768] S128x128.size inb_S256x1024_S128x128_128_768, k0_pay90 (k0_pay85 X.dmb) (k0_pay87 (View.ld X.x11 (Rect.unit ![6, 0, 0] S1x128x128.size inb_S8x128x128_S1x128x128_6_0_0)))⟩,
    ⟨Rect.unit ![0, 768] S128x128.size inb_S256x1024_S128x128_0_768, k0_pay89 (k0_pay85 X.dmb) (k0_pay87 (View.ld X.x11 (Rect.unit ![6, 0, 0] S1x128x128.size inb_S8x128x128_S1x128x128_6_0_0)))⟩,
    ⟨Rect.unit ![128, 640] S128x128.size inb_S256x1024_S128x128_128_640, k0_pay84 (k0_pay79 X.dmb) (View.ld X.x11 (Rect.unit ![5, 0, 0] S1x128x128.size inb_S8x128x128_S1x128x128_5_0_0))⟩,
    ⟨Rect.unit ![0, 640] S128x128.size inb_S256x1024_S128x128_0_640, k0_pay83 (k0_pay79 X.dmb) (View.ld X.x11 (Rect.unit ![5, 0, 0] S1x128x128.size inb_S8x128x128_S1x128x128_5_0_0))⟩,
    ⟨Rect.unit ![128, 512] S128x128.size inb_S256x1024_S128x128_128_512, k0_pay78 X.dmb (View.ld X.x11 (Rect.unit ![4, 0, 0] S1x128x128.size inb_S8x128x128_S1x128x128_4_0_0))⟩,
    ⟨Rect.unit ![0, 512] S128x128.size inb_S256x1024_S128x128_0_512, k0_pay77 X.dmb (View.ld X.x11 (Rect.unit ![4, 0, 0] S1x128x128.size inb_S8x128x128_S1x128x128_4_0_0))⟩,
    ⟨Rect.unit ![128, 384] S128x128.size inb_S256x1024_S128x128_128_384, k0_pay73 (k0_pay70 X.dmb (View.ld X.x11 (Rect.unit ![3, 0, 0] S1x128x128.size inb_S8x128x128_S1x128x128_3_0_0)))⟩,
    ⟨Rect.unit ![0, 384] S128x128.size inb_S256x1024_S128x128_0_384, k0_pay72 (k0_pay71 X.dmb (View.ld X.x11 (Rect.unit ![3, 0, 0] S1x128x128.size inb_S8x128x128_S1x128x128_3_0_0)))⟩,
    ⟨Rect.unit ![128, 256] S128x128.size inb_S256x1024_S128x128_128_256, k0_pay67 (k0_pay62 X.dmb) (View.ld X.x11 (Rect.unit ![2, 0, 0] S1x128x128.size inb_S8x128x128_S1x128x128_2_0_0))⟩,
    ⟨Rect.unit ![0, 256] S128x128.size inb_S256x1024_S128x128_0_256, k0_pay66 (k0_pay62 X.dmb) (View.ld X.x11 (Rect.unit ![2, 0, 0] S1x128x128.size inb_S8x128x128_S1x128x128_2_0_0))⟩,
    ⟨Rect.unit ![128, 128] S128x128.size inb_S256x1024_S128x128_128_128, k0_pay61 X.dmb (View.ld X.x11 (Rect.unit ![1, 0, 0] S1x128x128.size inb_S8x128x128_S1x128x128_1_0_0))⟩,
    ⟨Rect.unit ![0, 128] S128x128.size inb_S256x1024_S128x128_0_128, k0_pay60 X.dmb (View.ld X.x11 (Rect.unit ![1, 0, 0] S1x128x128.size inb_S8x128x128_S1x128x128_1_0_0))⟩,
    ⟨Rect.unit ![128, 0] S128x128.size inb_S256x1024_S128x128_128_0, k0_pay56 (k0_pay55 X.dmx (View.ld X.x11 (Rect.unit ![0, 0, 0] S1x128x128.size inb_S8x128x128_S1x128x128_0_0_0)))⟩,
    ⟨Rect.unit ![0, 0] S128x128.size inb_S256x1024_S128x128_0_0, k0_pay54 X.dmx (View.ld X.x11 (Rect.unit ![0, 0, 0] S1x128x128.size inb_S8x128x128_S1x128x128_0_0_0))⟩] : List (View.Piece (Elt F) S256x1024 .f32))
/-- The written part of the projection's gradient: the value's, the mixed half's and the two gates' columns. -/
def o20 : Vec F S256x6144 .bf16 := View.canon ([
    ⟨Rect.unit ![0, 3072] S256x1024.size inb_S256x6144_S256x1024_0_3072, k0_pay98 (k0_pay45 (View.ld X.x1 (Rect.unit ![0, 1024] S256x1024.size inb_S256x2048_S256x1024_0_1024))) X.vh X.dvn X.x8⟩,
    ⟨Rect.unit ![0, 2048] S256x1024.size inb_S256x6144_S256x1024_0_2048, k0_pay42 X.dgt X.x5⟩,
    ⟨Rect.unit ![0, 5120] S256x1024.size inb_S256x6144_S256x1024_0_5120, k0_pay39 X.dme (k0_pay22 X.sB k0_pay21) X.x4⟩,
    ⟨Rect.unit ![0, 4096] S256x1024.size inb_S256x6144_S256x1024_0_4096, k0_pay38 X.dme X.sA X.x3⟩] : List (View.Piece (Elt F) S256x6144 .bf16))
/-- The gate bias's sum after this point. -/
def n22 (p : Vec F S1x2048 .f32) : Vec F S1x2048 .f32 := View.canon ([
    ⟨Rect.unit ![0, 1024] S1x1024.size inb_S1x2048_S1x1024_0_1024, k0_pay41 (k0_pay37 X.dme (k0_pay22 X.sB k0_pay21) X.x4) (View.ld p (Rect.unit ![0, 1024] S1x1024.size inb_S1x2048_S1x1024_0_1024))⟩,
    ⟨Rect.unit ![0, 0] S1x1024.size inb_S1x2048_S1x1024_0_0, k0_pay40 X.dme X.sA X.x3 (View.ld p (Rect.unit ![0, 0] S1x1024.size inb_S1x2048_S1x1024_0_0))⟩] : List (View.Piece (Elt F) S1x2048 .f32))
/-- The spatial weights' sum after this point, group by group. -/
def n26 (p : Vec F S8x128x128 .f32) : Vec F S8x128x128 .f32 := View.canon ([
    ⟨Rect.unit ![7, 0, 0] S1x128x128.size inb_S8x128x128_S1x128x128_7_0_0, k0_pay92 X.vn X.dmb (View.ld p (Rect.unit ![7, 0, 0] S1x128x128.size inb_S8x128x128_S1x128x128_7_0_0))⟩,
    ⟨Rect.unit ![6, 0, 0] S1x128x128.size inb_S8x128x128_S1x128x128_6_0_0, k0_pay86 X.vn X.dmb (View.ld p (Rect.unit ![6, 0, 0] S1x128x128.size inb_S8x128x128_S1x128x128_6_0_0))⟩,
    ⟨Rect.unit ![5, 0, 0] S1x128x128.size inb_S8x128x128_S1x128x128_5_0_0, k0_pay81 (k0_pay79 X.dmb) (k0_pay80 X.vn) (View.ld p (Rect.unit ![5, 0, 0] S1x128x128.size inb_S8x128x128_S1x128x128_5_0_0))⟩,
    ⟨Rect.unit ![4, 0, 0] S1x128x128.size inb_S8x128x128_S1x128x128_4_0_0, k0_pay75 X.vn X.dmb (View.ld p (Rect.unit ![4, 0, 0] S1x128x128.size inb_S8x128x128_S1x128x128_4_0_0))⟩,
    ⟨Rect.unit ![3, 0, 0] S1x128x128.size inb_S8x128x128_S1x128x128_3_0_0, k0_pay69 X.vn X.dmb (View.ld p (Rect.unit ![3, 0, 0] S1x128x128.size inb_S8x128x128_S1x128x128_3_0_0))⟩,
    ⟨Rect.unit ![2, 0, 0] S1x128x128.size inb_S8x128x128_S1x128x128_2_0_0, k0_pay64 (k0_pay63 X.vn X.dmb (View.ld p (Rect.unit ![2, 0, 0] S1x128x128.size inb_S8x128x128_S1x128x128_2_0_0)))⟩,
    ⟨Rect.unit ![1, 0, 0] S1x128x128.size inb_S8x128x128_S1x128x128_1_0_0, k0_pay58 X.vn X.dmb (View.ld p (Rect.unit ![1, 0, 0] S1x128x128.size inb_S8x128x128_S1x128x128_1_0_0))⟩,
    ⟨Rect.unit ![0, 0, 0] S1x128x128.size inb_S8x128x128_S1x128x128_0_0_0, k0_pay52 X.dmx X.vh (k0_pay47 X.x8) X.x9 (View.ld p (Rect.unit ![0, 0, 0] S1x128x128.size inb_S8x128x128_S1x128x128_0_0_0))⟩] : List (View.Piece (Elt F) S8x128x128 .f32))
/-- The inner layer norm's gain. -/
def n23 (p : Vec F S1x1024 .f32) : Vec F S1x1024 .f32 := k0_pay96 X.vh X.dvn p
/-- The inner layer norm's shift. -/
def n24 (p : Vec F S1x1024 .f32) : Vec F S1x1024 .f32 := k0_pay97 X.dvn p
/-- The convolution's layer norm gain. -/
def n27 (p : Vec F S1x1024 .f32) : Vec F S1x1024 .f32 := k0_pay32 X.dc3 X.c1h (k0_pay29 X.x6 X.x13 X.x14) (k0_pay30 X.x6 X.x13 X.x14) p
/-- The convolution's layer norm shift. -/
def n28 (p : Vec F S1x1024 .f32) : Vec F S1x1024 .f32 := k0_pay33 X.dc3 (k0_pay29 X.x6 X.x13 X.x14) (k0_pay30 X.x6 X.x13 X.x14) p
/-- The convolution's bias. -/
def n29 (p : Vec F S1x1024 .f32) : Vec F S1x1024 .f32 := k0_pay35 X.o21 p
/-- The spatial bias, before the sum over a group's channels. -/
def ns1 (p : Vec F S128x1024 .f32) : Vec F S128x1024 .f32 := k0_pay50 X.dmx p

/-- All sums after this point. -/
def step (s : Sums F) : Sums F :=
  ⟨X.n22 s.a22, X.n23 s.a23, X.n24 s.a24, X.n26 s.a26, X.n27 s.a27, X.n28 s.a28, X.n29 s.a29, X.ns1 s.s1⟩
end Ins

/-- The sums before the first point. -/
def Sums.zero : Sums F := ⟨k0_pay10, k0_pay11, k0_pay12, k0_pay13, k0_pay15, k0_pay16, k0_pay17, k0_pay14⟩

/-- The spatial bias's gradient: the last point adds up each group's channels. -/
def o25 (s : Vec F S128x1024 .f32) : Vec F S1x1024 .f32 := View.canon ([
    ⟨Rect.unit ![0, 896] S1x128.size inb_S1x1024_S1x128_0_896, k0_pay3 (View.ld s (Rect.unit ![0, 896] S128x128.size inb_S128x1024_S128x128_0_896))⟩,
    ⟨Rect.unit ![0, 768] S1x128.size inb_S1x1024_S1x128_0_768, k0_pay2 (View.ld s (Rect.unit ![0, 768] S128x128.size inb_S128x1024_S128x128_0_768))⟩,
    ⟨Rect.unit ![0, 640] S1x128.size inb_S1x1024_S1x128_0_640, k0_pay1 (k0_pay9 (View.ld s (Rect.unit ![0, 640] S128x128.size inb_S128x1024_S128x128_0_640)))⟩,
    ⟨Rect.unit ![0, 512] S1x128.size inb_S1x1024_S1x128_0_512, k0_pay8 (View.ld s (Rect.unit ![0, 512] S128x128.size inb_S128x1024_S128x128_0_512))⟩,
    ⟨Rect.unit ![0, 384] S1x128.size inb_S1x1024_S1x128_0_384, k0_pay7 (View.ld s (Rect.unit ![0, 384] S128x128.size inb_S128x1024_S128x128_0_384))⟩,
    ⟨Rect.unit ![0, 256] S1x128.size inb_S1x1024_S1x128_0_256, k0_pay6 (View.ld s (Rect.unit ![0, 256] S128x128.size inb_S128x1024_S128x128_0_256))⟩,
    ⟨Rect.unit ![0, 128] S1x128.size inb_S1x1024_S1x128_0_128, k0_pay5 (View.ld s (Rect.unit ![0, 128] S128x128.size inb_S128x1024_S128x128_0_128))⟩,
    ⟨Rect.unit ![0, 0] S1x128.size inb_S1x1024_S1x128_0_0, k0_pay4 (View.ld s (Rect.unit ![0, 0] S128x128.size inb_S128x1024_S128x128_0_0))⟩] : List (View.Piece (Elt F) S1x1024 .f32))

/-- A load of the whole buffer after several stores reads what they leave. -/
theorem readCov_whole2 {sig : RefSig} {κ : Kind} {sp : Space} {a b : ℕ} {e : EltTy} (v : View sig κ sp (⟨2, ![a, b]⟩ : Shape) e)
    (L : List (View.Piece (Elt F) (⟨2, ![a, b]⟩ : Shape) e)) (inb) :
    v.readCov L (Rect.unit (s := (⟨2, ![a, b]⟩ : Shape)) ![0, 0] (![a, b]) inb).toLoadRect = View.canon L := by
  rw [View.readCov_eq_canon']
  funext j
  congr 1
  funext k
  apply Fin.ext
  fin_cases k <;> simp [LoadRect.idx, Rect.unit, Rect.toLoadRect]

/-- Stores that cover the whole buffer hide what was stored before them. -/
theorem canon_append_cover {s : Shape} {e : EltTy} : ∀ (L M L' : List (View.Piece (Elt F) s e)) (_ : M = L ++ L') (h : ∀ y, ∃ p ∈ L, y ∈ p.1.set),
    View.canon M = View.canon L := by
  have key : ∀ (L L' : List (View.Piece (Elt F) s e)) (y), (∃ p ∈ L, y ∈ p.1.set) → View.canon (L ++ L') y = View.canon L y := by
    intro L
    induction L with
    | nil => intro L' y h; obtain ⟨_, hm, _⟩ := h; exact absurd hm List.not_mem_nil
    | cons p L ih =>
      intro L' y h
      by_cases hy : y ∈ p.1.set
      · obtain ⟨r, w⟩ := p
        obtain ⟨x, rfl⟩ : ∃ x, r.emb x = y := r.exists_idx_of_mem hy
        rw [List.cons_append, View.canon_cons_emb, View.canon_cons_emb]
      · have hL : ∃ p' ∈ L, y ∈ p'.1.set := by
          obtain ⟨p', hm, hy'⟩ := h
          rcases List.mem_cons.mp hm with rfl | hm
          · exact absurd hy' hy
          · exact ⟨p', hm, hy'⟩
        rw [List.cons_append, View.canon_cons_of_not_mem _ _ hy, View.canon_cons_of_not_mem _ _ hy, ih L' y hL]
  rintro L _ L' rfl h; funext y; exact key L L' y (h y)

/-- Contents of the projection's gradient block that agree with the named value on the columns the kernel writes. -/
def Ins.Agrees20 (X : Ins F) (Y : Vec F S256x6144 .bf16) : Prop := ∀ y : S256x6144.Idx, 2048 ≤ (y 1 : ℕ) → Y y = X.o20 y

/-- The columns the kernel leaves alone end at column 2048. -/
theorem left_not_mem (y : S256x6144.Idx) (hy : 2048 ≤ (y 1 : ℕ)) (inb) :
    y ∉ (Rect.unit (s := S256x6144) ![0, 0] ![256, 2048] inb).set := by
  exact Rect.not_mem_set_of_axis _ y 1 0 2048 rfl rfl rfl (Or.inr (by omega))

/-- Pieces that cover the written columns and read back as the named value leave contents that agree with it. -/
theorem Ins.agrees20_of (X : Ins F) (L : List (View.Piece (Elt F) S256x6144 .bf16)) (w)
    (h : ∀ y, ∃ p ∈ L ++ [⟨Rect.unit (s := S256x6144) ![0, 0] ![256, 2048] (by decide), w⟩], y ∈ p.1.set)
    (hc : View.canon L = X.o20) (v : View sig .tc .vmem S256x6144 .bf16) (f) :
    X.Agrees20 (v.read (Elt F) (v.writes (Elt F) f L)) := by
  intro y hy
  obtain ⟨q, hq, hyq⟩ := h y
  rcases List.mem_append.mp hq with hq | hq
  · exact (View.read_writes_apply_eq_canon v f y _ ⟨q, hq, hyq⟩).trans (congrFun hc y)
  · have hq' := List.mem_singleton.mp hq
    rw [hq'] at hyq
    exact absurd hyq (left_not_mem y hy (by decide))

end Cert.KernelIdeal.Hand

end
-- ==== Proof.ValA.lean ====
/-
  What the run of case A leaves, window by window.
-/
module

public import proofs.«01_k».proof.Proof.Vals
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords) (arg1 : Memref sig .tc .vmem S256x1024 .f32) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S8x128x128 .bf16) (harg11 : arg11.IsWhole) (arg12 : Memref sig .tc .vmem S8x128x128 .bf16) (harg12 : arg12.IsWhole) (arg13 : Memref sig .tc .vmem S1x2048 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S4x256x1024 .bf16) (harg16 : arg16.IsWhole) (arg17 : Memref sig .tc .vmem S4x256x1024 .bf16) (harg17 : arg17.IsWhole) (arg18 : Memref sig .tc .vmem S4x256x1024 .bf16) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S256x6144 .bf16) (harg21 : arg21.IsWhole) (arg22 : Memref sig .tc .vmem S256x1024 .f32) (harg22 : arg22.IsWhole) (arg23 : Memref sig .tc .vmem S1x2048 .f32) (harg23 : arg23.IsWhole) (arg24 : Memref sig .tc .vmem S1x1024 .f32) (harg24 : arg24.IsWhole) (arg25 : Memref sig .tc .vmem S1x1024 .f32) (harg25 : arg25.IsWhole) (arg26 : Memref sig .tc .vmem S1x1024 .f32) (harg26 : arg26.IsWhole) (arg27 : Memref sig .tc .vmem S8x128x128 .f32) (harg27 : arg27.IsWhole) (arg28 : Memref sig .tc .vmem S1x1024 .f32) (harg28 : arg28.IsWhole) (arg29 : Memref sig .tc .vmem S1x1024 .f32) (harg29 : arg29.IsWhole) (arg30 : Memref sig .tc .vmem S1x1024 .f32) (harg30 : arg30.IsWhole) (arg31 : Memref sig .tc .vmem S256x1024 .f32) (harg31 : arg31.IsWhole) (arg32 : Memref sig .tc .vmem S128x1024 .f32) (harg32 : arg32.IsWhole) (hc0 : cond0_0 i) (hc1 : ¬cond0_1 i)
    (x0 : Vec F S256x1024 .f32) (x1 : Vec F S256x2048 .bf16) (x2 : Vec F S256x2048 .bf16) (x3 : Vec F S256x1024 .bf16) (x4 : Vec F S256x1024 .bf16) (x5 : Vec F S256x1024 .bf16) (x6 : Vec F S256x1024 .bf16) (x7 : Vec F S256x1 .f32) (x8 : Vec F S1x1024 .f32) (x9 : Vec F S1x1024 .f32) (x10 : Vec F S8x128x128 .bf16) (x11 : Vec F S8x128x128 .bf16) (x12 : Vec F S1x2048 .f32) (x13 : Vec F S1x1024 .f32) (x14 : Vec F S1x1024 .f32) (x15 : Vec F S4x256x1024 .bf16) (x16 : Vec F S4x256x1024 .bf16) (x17 : Vec F S4x256x1024 .bf16)

/-- The convolution branch's gradient. -/
theorem valA_18 : View.canon (run_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 x12 x13 x14 x15 x16 x17).1 =
    Ins.o18 (⟨x0, x1, x2, x3, x4, x5, x6, x7, x8, x9, x10, x11, x12, x13, x14, x15, x16, x17⟩ : Ins F) := by
  frame_open
  simp (disch := decide) only [↓ View.readCov_skip, ↓ View.readCov_cons_toLoadRect, ↓ View.readCov_fill]
  frame_out
  all_goals try simp only [readCov_whole2]
  all_goals rfl

/-- The spatial branch's gradient. -/
theorem valA_19 : View.canon (run_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 x12 x13 x14 x15 x16 x17).2.1 =
    Ins.o19 (⟨x0, x1, x2, x3, x4, x5, x6, x7, x8, x9, x10, x11, x12, x13, x14, x15, x16, x17⟩ : Ins F) := by
  frame_open
  simp (disch := decide) only [↓ View.readCov_skip, ↓ View.readCov_cons_toLoadRect, ↓ View.readCov_fill]
  frame_out
  all_goals try simp only [readCov_whole2]
  all_goals rfl

/-- The projection's gradient, where it is written. -/
theorem valA_20 : View.canon (run_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 x12 x13 x14 x15 x16 x17).2.2.1 =
    Ins.o20 (⟨x0, x1, x2, x3, x4, x5, x6, x7, x8, x9, x10, x11, x12, x13, x14, x15, x16, x17⟩ : Ins F) := by
  frame_open
  simp (disch := decide) only [↓ View.readCov_skip, ↓ View.readCov_cons_toLoadRect, ↓ View.readCov_fill]
  frame_out
  all_goals try simp only [readCov_whole2]
  all_goals rfl

/-- The gradient of the convolution's output. -/
theorem valA_21 : View.canon (run_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 x12 x13 x14 x15 x16 x17).2.2.2.1 =
    Ins.o21 (⟨x0, x1, x2, x3, x4, x5, x6, x7, x8, x9, x10, x11, x12, x13, x14, x15, x16, x17⟩ : Ins F) := by
  frame_open
  simp (disch := decide) only [↓ View.readCov_skip, ↓ View.readCov_cons_toLoadRect, ↓ View.readCov_fill]
  frame_out
  all_goals try simp only [readCov_whole2]
  all_goals rfl

/-- The gate bias's sum. -/
theorem valA_22 : View.canon (run_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 x12 x13 x14 x15 x16 x17).2.2.2.2.1 =
    Ins.n22 (⟨x0, x1, x2, x3, x4, x5, x6, x7, x8, x9, x10, x11, x12, x13, x14, x15, x16, x17⟩ : Ins F) Sums.zero.a22 := by
  frame_open
  simp (disch := decide) only [↓ View.readCov_skip, ↓ View.readCov_cons_toLoadRect, ↓ View.readCov_fill]
  frame_out
  all_goals try simp only [readCov_whole2]
  all_goals refine canon_append_cover _ _ [?p] ?h (fun y => View.cover_of_tiledL _ (![1, 1024]) (by sl_kernel_rfl) y)
  case h => exact rfl

/-- The inner gain's sum. -/
theorem valA_23 : View.canon (run_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 x12 x13 x14 x15 x16 x17).2.2.2.2.2.1 =
    Ins.n23 (⟨x0, x1, x2, x3, x4, x5, x6, x7, x8, x9, x10, x11, x12, x13, x14, x15, x16, x17⟩ : Ins F) Sums.zero.a23 := by
  frame_open
  simp (disch := decide) only [↓ View.readCov_skip, ↓ View.readCov_cons_toLoadRect, ↓ View.readCov_fill]
  frame_out
  all_goals try simp only [readCov_whole2]
  all_goals rfl

/-- The inner shift's sum. -/
theorem valA_24 : View.canon (run_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 x12 x13 x14 x15 x16 x17).2.2.2.2.2.2.1 =
    Ins.n24 (⟨x0, x1, x2, x3, x4, x5, x6, x7, x8, x9, x10, x11, x12, x13, x14, x15, x16, x17⟩ : Ins F) Sums.zero.a24 := by
  frame_open
  simp (disch := decide) only [↓ View.readCov_skip, ↓ View.readCov_cons_toLoadRect, ↓ View.readCov_fill]
  frame_out
  all_goals try simp only [readCov_whole2]
  all_goals rfl

/-- The spatial weights' sum. -/
theorem valA_26 : View.canon (run_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 x12 x13 x14 x15 x16 x17).2.2.2.2.2.2.2.2.1 =
    Ins.n26 (⟨x0, x1, x2, x3, x4, x5, x6, x7, x8, x9, x10, x11, x12, x13, x14, x15, x16, x17⟩ : Ins F) Sums.zero.a26 := by
  frame_open
  simp (disch := decide) only [↓ View.readCov_skip, ↓ View.readCov_cons_toLoadRect, ↓ View.readCov_fill]
  frame_out
  all_goals try simp only [readCov_whole2]
  all_goals refine canon_append_cover _ _ [?p] ?h (fun y => View.cover_of_tiledL _ (![1, 128, 128]) (by sl_kernel_rfl) y)
  case h => exact rfl

/-- The convolution gain's sum. -/
theorem valA_27 : View.canon (run_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 x12 x13 x14 x15 x16 x17).2.2.2.2.2.2.2.2.2.1 =
    Ins.n27 (⟨x0, x1, x2, x3, x4, x5, x6, x7, x8, x9, x10, x11, x12, x13, x14, x15, x16, x17⟩ : Ins F) Sums.zero.a27 := by
  frame_open
  simp (disch := decide) only [↓ View.readCov_skip, ↓ View.readCov_cons_toLoadRect, ↓ View.readCov_fill]
  frame_out
  all_goals try simp only [readCov_whole2]
  all_goals rfl

/-- The convolution shift's sum. -/
theorem valA_28 : View.canon (run_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 x12 x13 x14 x15 x16 x17).2.2.2.2.2.2.2.2.2.2.1 =
    Ins.n28 (⟨x0, x1, x2, x3, x4, x5, x6, x7, x8, x9, x10, x11, x12, x13, x14, x15, x16, x17⟩ : Ins F) Sums.zero.a28 := by
  frame_open
  simp (disch := decide) only [↓ View.readCov_skip, ↓ View.readCov_cons_toLoadRect, ↓ View.readCov_fill]
  frame_out
  all_goals try simp only [readCov_whole2]
  all_goals rfl

/-- The convolution bias's sum. -/
theorem valA_29 : View.canon (run_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 x12 x13 x14 x15 x16 x17).2.2.2.2.2.2.2.2.2.2.2.1 =
    Ins.n29 (⟨x0, x1, x2, x3, x4, x5, x6, x7, x8, x9, x10, x11, x12, x13, x14, x15, x16, x17⟩ : Ins F) Sums.zero.a29 := by
  frame_open
  simp (disch := decide) only [↓ View.readCov_skip, ↓ View.readCov_cons_toLoadRect, ↓ View.readCov_fill]
  frame_out
  all_goals try simp only [readCov_whole2]
  all_goals rfl

/-- The carried sum of the spatial bias. -/
theorem valA_S1 : View.canon (run_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 x12 x13 x14 x15 x16 x17).2.2.2.2.2.2.2.2.2.2.2.2.1 =
    Ins.ns1 (⟨x0, x1, x2, x3, x4, x5, x6, x7, x8, x9, x10, x11, x12, x13, x14, x15, x16, x17⟩ : Ins F) Sums.zero.s1 := by
  frame_open
  simp (disch := decide) only [↓ View.readCov_skip, ↓ View.readCov_cons_toLoadRect, ↓ View.readCov_fill]
  frame_out
  all_goals try simp only [readCov_whole2]
  all_goals rfl

end Cert.KernelIdeal.Hand

end
-- ==== Proof.BodyA.lean ====
/-
  The body's triple in case A: the blocks read, the sums before, and what the point leaves, as named functions of them.
-/
module

public import proofs.«01_k».proof.Proof.ValA
public import Idealize.ShloMosaic.Lib.Ring
public import Idealize.ShloMosaic.Lib.Tactic
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S256x1024 .f32) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S8x128x128 .bf16) (harg11 : arg11.IsWhole) (arg12 : Memref sig .tc .vmem S8x128x128 .bf16) (harg12 : arg12.IsWhole) (arg13 : Memref sig .tc .vmem S1x2048 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S4x256x1024 .bf16) (harg16 : arg16.IsWhole) (arg17 : Memref sig .tc .vmem S4x256x1024 .bf16) (harg17 : arg17.IsWhole) (arg18 : Memref sig .tc .vmem S4x256x1024 .bf16) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S256x6144 .bf16) (harg21 : arg21.IsWhole) (arg22 : Memref sig .tc .vmem S256x1024 .f32) (harg22 : arg22.IsWhole) (arg23 : Memref sig .tc .vmem S1x2048 .f32) (harg23 : arg23.IsWhole) (arg24 : Memref sig .tc .vmem S1x1024 .f32) (harg24 : arg24.IsWhole) (arg25 : Memref sig .tc .vmem S1x1024 .f32) (harg25 : arg25.IsWhole) (arg26 : Memref sig .tc .vmem S1x1024 .f32) (harg26 : arg26.IsWhole) (arg27 : Memref sig .tc .vmem S8x128x128 .f32) (harg27 : arg27.IsWhole) (arg28 : Memref sig .tc .vmem S1x1024 .f32) (harg28 : arg28.IsWhole) (arg29 : Memref sig .tc .vmem S1x1024 .f32) (harg29 : arg29.IsWhole) (arg30 : Memref sig .tc .vmem S1x1024 .f32) (harg30 : arg30.IsWhole) (arg31 : Memref sig .tc .vmem S256x1024 .f32) (harg31 : arg31.IsWhole) (arg32 : Memref sig .tc .vmem S128x1024 .f32) (harg32 : arg32.IsWhole) (hc0 : cond0_0 i) (hc1 : ¬cond0_1 i) (X : Ins F)

set_option maxHeartbeats 4000000 in
/-- What the run leaves of the projection's gradient agrees with the named value wherever it is written. -/
theorem agrees20_A (v : View sig .tc .vmem S256x6144 .bf16) (f) :
    Ins.Agrees20 X (v.read (Elt F) (v.writes (Elt F) f (run_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 X.x0 X.x1 X.x2 X.x3 X.x4 X.x5 X.x6 X.x7 X.x8 X.x9 X.x10 X.x11 X.x12 X.x13 X.x14 X.x15 X.x16 X.x17).2.2.1)) :=
  Ins.agrees20_of X _ (fun _ => X.o20 (fun a => ⟨0, by fin_cases a <;> decide⟩))
    (fun y => View.cover_of_tiledBy ((run_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 X.x0 X.x1 X.x2 X.x3 X.x4 X.x5 X.x6 X.x7 X.x8 X.x9 X.x10 X.x11 X.x12 X.x13 X.x14 X.x15 X.x16 X.x17).2.2.1 ++ [⟨Rect.unit (s := S256x6144) ![0, 0] ![256, 2048] (by decide), _⟩])
      (![256, 1024]) (by sl_kernel_rfl) y) (valA_20 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) v f

include hc0 hc1 in
set_option maxHeartbeats 4000000 in
/-- The body at a point of case A. -/
theorem body_A (xi25 : Vec F S1x1024 .f32) (E : Set ℕ) (K : PUnit → sProp 𝕄) :
    iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ owns (c : Thread nD τ) arg11 fullShare X.x10 ∗ owns (c : Thread nD τ) arg12 fullShare X.x11 ∗ owns (c : Thread nD τ) arg13 fullShare X.x12 ∗ owns (c : Thread nD τ) arg14 fullShare X.x13 ∗ owns (c : Thread nD τ) arg15 fullShare X.x14 ∗ owns (c : Thread nD τ) arg16 fullShare X.x15 ∗ owns (c : Thread nD τ) arg17 fullShare X.x16 ∗ owns (c : Thread nD τ) arg18 fullShare X.x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ owns (c : Thread nD τ) arg26 fullShare xi25 ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d)
        ∗ (iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ owns (c : Thread nD τ) arg11 fullShare X.x10 ∗ owns (c : Thread nD τ) arg12 fullShare X.x11 ∗ owns (c : Thread nD τ) arg13 fullShare X.x12 ∗ owns (c : Thread nD τ) arg14 fullShare X.x13 ∗ owns (c : Thread nD τ) arg15 fullShare X.x14 ∗ owns (c : Thread nD τ) arg16 fullShare X.x15 ∗ owns (c : Thread nD τ) arg17 fullShare X.x16 ∗ owns (c : Thread nD τ) arg18 fullShare X.x17 ∗ owns (c : Thread nD τ) arg19 fullShare X.o18 ∗ owns (c : Thread nD τ) arg20 fullShare X.o19 ∗ (∃ Y, ⌜Ins.Agrees20 X Y⌝ ∗ owns (c : Thread nD τ) arg21 fullShare Y) ∗ owns (c : Thread nD τ) arg22 fullShare X.o21 ∗ owns (c : Thread nD τ) arg23 fullShare (X.step Sums.zero).a22 ∗ owns (c : Thread nD τ) arg24 fullShare (X.step Sums.zero).a23 ∗ owns (c : Thread nD τ) arg25 fullShare (X.step Sums.zero).a24 ∗ owns (c : Thread nD τ) arg26 fullShare xi25 ∗ owns (c : Thread nD τ) arg27 fullShare (X.step Sums.zero).a26 ∗ owns (c : Thread nD τ) arg28 fullShare (X.step Sums.zero).a27 ∗ owns (c : Thread nD τ) arg29 fullShare (X.step Sums.zero).a28 ∗ owns (c : Thread nD τ) arg30 fullShare (X.step Sums.zero).a29 ∗ (∃ d, owns (c : Thread nD τ) arg31 fullShare d) ∗ owns (c : Thread nD τ) arg32 fullShare (X.step Sums.zero).s1) -∗ K ⟨⟩))
      ⊢ wp frame (wpE (defs₀ (F := F)) Variants.none c none) E (cc0_merge_sgu_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K := by
  refine BIBase.Entails.trans ?_ ((run_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 X.x0 X.x1 X.x2 X.x3 X.x4 X.x5 X.x6 X.x7 X.x8 X.x9 X.x10 X.x11 X.x12 X.x13 X.x14 X.x15 X.x16 X.x17).2.2.2.2.2.2.2.2.2.2.2.2.2.2 xi25 E K)
  iintro ⟨H0, H1, H2, H3, H4, H5, H6, H7, H8, H9, H10, H11, H12, H13, H14, H15, H16, H17, H18, H19, H20, H21, H22, H23, H24, H25, H26, H27, H28, H29, HS0, HS1, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [HS0]; · iexact HS0
  isplitl [HS1]; · iexact HS1
  iintro ⟨H0, H1, H2, H3, H4, H5, H6, H7, H8, H9, H10, H11, H12, H13, H14, H15, H16, H17, ⟨%e18, H18⟩, ⟨%e19, H19⟩, ⟨%e20, H20⟩, ⟨%e21, H21⟩, ⟨%e22, H22⟩, ⟨%e23, H23⟩, ⟨%e24, H24⟩, H25, ⟨%e26, H26⟩, ⟨%e27, H27⟩, ⟨%e28, H28⟩, ⟨%e29, H29⟩, ⟨%f0, HS0⟩, ⟨%f1, HS1⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · unfold owns; iexists _; isplitr
    swap; · iexact H18
    ipureintro; exact (View.read_writes_eq_canon _ _ _ (View.cover_of_tiledL _ (![256, 1024]) (by sl_kernel_rfl))).trans (valA_18 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact (View.read_writes_eq_canon _ _ _ (View.cover_of_tiledL _ (![256, 1024]) (by sl_kernel_rfl))).trans (valA_19 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · iexists _; isplitr
    swap
    · unfold owns; iexists _; isplitr
      swap; · iexact H20
      ipureintro; rfl
    ipureintro; exact agrees20_A _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ X _ _
  isplitl [H21]
  · unfold owns; iexists _; isplitr
    swap; · iexact H21
    ipureintro; exact (View.read_writes_eq_canon _ _ _ (View.cover_of_tiledL _ (![256, 1024]) (by sl_kernel_rfl))).trans (valA_21 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact (View.read_writes_eq_canon _ _ _ (View.cover_of_tiledBy _ (![1, 1024]) (by sl_kernel_rfl))).trans (valA_22 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H23]
  · unfold owns; iexists _; isplitr
    swap; · iexact H23
    ipureintro; exact (View.read_writes_eq_canon _ _ _ (View.cover_of_tiledL _ (![1, 1024]) (by sl_kernel_rfl))).trans (valA_23 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H24]
  · unfold owns; iexists _; isplitr
    swap; · iexact H24
    ipureintro; exact (View.read_writes_eq_canon _ _ _ (View.cover_of_tiledL _ (![1, 1024]) (by sl_kernel_rfl))).trans (valA_24 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H25]; · iexact H25
  isplitl [H26]
  · unfold owns; iexists _; isplitr
    swap; · iexact H26
    ipureintro; exact (View.read_writes_eq_canon _ _ _ (View.cover_of_tiledBy _ (![1, 128, 128]) (by sl_kernel_rfl))).trans (valA_26 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H27]
  · unfold owns; iexists _; isplitr
    swap; · iexact H27
    ipureintro; exact (View.read_writes_eq_canon _ _ _ (View.cover_of_tiledL _ (![1, 1024]) (by sl_kernel_rfl))).trans (valA_27 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H28]
  · unfold owns; iexists _; isplitr
    swap; · iexact H28
    ipureintro; exact (View.read_writes_eq_canon _ _ _ (View.cover_of_tiledL _ (![1, 1024]) (by sl_kernel_rfl))).trans (valA_28 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H29]
  · unfold owns; iexists _; isplitr
    swap; · iexact H29
    ipureintro; exact (View.read_writes_eq_canon _ _ _ (View.cover_of_tiledL _ (![1, 1024]) (by sl_kernel_rfl))).trans (valA_29 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [HS0]
  · iexists _; unfold owns; iexists _; isplitr
    swap; · iexact HS0
    ipureintro; rfl
  unfold owns; iexists _; isplitr
  swap; · iexact HS1
  ipureintro; exact (View.read_writes_eq_canon _ _ _ (View.cover_of_tiledL _ (![128, 1024]) (by sl_kernel_rfl))).trans (valA_S1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

end Cert.KernelIdeal.Hand

end
-- ==== Proof.ValB.lean ====
/-
  What the run of case B leaves, window by window.
-/
module

public import proofs.«01_k».proof.Proof.Vals
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords) (arg1 : Memref sig .tc .vmem S256x1024 .f32) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S8x128x128 .bf16) (harg11 : arg11.IsWhole) (arg12 : Memref sig .tc .vmem S8x128x128 .bf16) (harg12 : arg12.IsWhole) (arg13 : Memref sig .tc .vmem S1x2048 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S4x256x1024 .bf16) (harg16 : arg16.IsWhole) (arg17 : Memref sig .tc .vmem S4x256x1024 .bf16) (harg17 : arg17.IsWhole) (arg18 : Memref sig .tc .vmem S4x256x1024 .bf16) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S256x6144 .bf16) (harg21 : arg21.IsWhole) (arg22 : Memref sig .tc .vmem S256x1024 .f32) (harg22 : arg22.IsWhole) (arg23 : Memref sig .tc .vmem S1x2048 .f32) (harg23 : arg23.IsWhole) (arg24 : Memref sig .tc .vmem S1x1024 .f32) (harg24 : arg24.IsWhole) (arg25 : Memref sig .tc .vmem S1x1024 .f32) (harg25 : arg25.IsWhole) (arg26 : Memref sig .tc .vmem S1x1024 .f32) (harg26 : arg26.IsWhole) (arg27 : Memref sig .tc .vmem S8x128x128 .f32) (harg27 : arg27.IsWhole) (arg28 : Memref sig .tc .vmem S1x1024 .f32) (harg28 : arg28.IsWhole) (arg29 : Memref sig .tc .vmem S1x1024 .f32) (harg29 : arg29.IsWhole) (arg30 : Memref sig .tc .vmem S1x1024 .f32) (harg30 : arg30.IsWhole) (arg31 : Memref sig .tc .vmem S256x1024 .f32) (harg31 : arg31.IsWhole) (arg32 : Memref sig .tc .vmem S128x1024 .f32) (harg32 : arg32.IsWhole) (hc0 : ¬cond0_0 i) (hc1 : ¬cond0_1 i)
    (x0 : Vec F S256x1024 .f32) (x1 : Vec F S256x2048 .bf16) (x2 : Vec F S256x2048 .bf16) (x3 : Vec F S256x1024 .bf16) (x4 : Vec F S256x1024 .bf16) (x5 : Vec F S256x1024 .bf16) (x6 : Vec F S256x1024 .bf16) (x7 : Vec F S256x1 .f32) (x8 : Vec F S1x1024 .f32) (x9 : Vec F S1x1024 .f32) (x10 : Vec F S8x128x128 .bf16) (x11 : Vec F S8x128x128 .bf16) (x12 : Vec F S1x2048 .f32) (x13 : Vec F S1x1024 .f32) (x14 : Vec F S1x1024 .f32) (x15 : Vec F S4x256x1024 .bf16) (x16 : Vec F S4x256x1024 .bf16) (x17 : Vec F S4x256x1024 .bf16) (xo22 : Vec F S1x2048 .f32) (xo23 : Vec F S1x1024 .f32) (xo24 : Vec F S1x1024 .f32) (xo26 : Vec F S8x128x128 .f32) (xo27 : Vec F S1x1024 .f32) (xo28 : Vec F S1x1024 .f32) (xo29 : Vec F S1x1024 .f32) (xs1 : Vec F S128x1024 .f32)

/-- The convolution branch's gradient. -/
theorem valB_18 : View.canon (run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 x12 x13 x14 x15 x16 x17 xo22 xo23 xo24 xo26 xo27 xo28 xo29 xs1).1 =
    Ins.o18 (⟨x0, x1, x2, x3, x4, x5, x6, x7, x8, x9, x10, x11, x12, x13, x14, x15, x16, x17⟩ : Ins F) := by
  frame_open
  simp (disch := decide) only [↓ View.readCov_skip, ↓ View.readCov_cons_toLoadRect, ↓ View.readCov_fill]
  frame_out
  all_goals try simp only [readCov_whole2]
  all_goals rfl

/-- The spatial branch's gradient. -/
theorem valB_19 : View.canon (run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 x12 x13 x14 x15 x16 x17 xo22 xo23 xo24 xo26 xo27 xo28 xo29 xs1).2.1 =
    Ins.o19 (⟨x0, x1, x2, x3, x4, x5, x6, x7, x8, x9, x10, x11, x12, x13, x14, x15, x16, x17⟩ : Ins F) := by
  frame_open
  simp (disch := decide) only [↓ View.readCov_skip, ↓ View.readCov_cons_toLoadRect, ↓ View.readCov_fill]
  frame_out
  all_goals try simp only [readCov_whole2]
  all_goals rfl

/-- The projection's gradient, where it is written. -/
theorem valB_20 : View.canon (run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 x12 x13 x14 x15 x16 x17 xo22 xo23 xo24 xo26 xo27 xo28 xo29 xs1).2.2.1 =
    Ins.o20 (⟨x0, x1, x2, x3, x4, x5, x6, x7, x8, x9, x10, x11, x12, x13, x14, x15, x16, x17⟩ : Ins F) := by
  frame_open
  simp (disch := decide) only [↓ View.readCov_skip, ↓ View.readCov_cons_toLoadRect, ↓ View.readCov_fill]
  frame_out
  all_goals try simp only [readCov_whole2]
  all_goals rfl

/-- The gradient of the convolution's output. -/
theorem valB_21 : View.canon (run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 x12 x13 x14 x15 x16 x17 xo22 xo23 xo24 xo26 xo27 xo28 xo29 xs1).2.2.2.1 =
    Ins.o21 (⟨x0, x1, x2, x3, x4, x5, x6, x7, x8, x9, x10, x11, x12, x13, x14, x15, x16, x17⟩ : Ins F) := by
  frame_open
  simp (disch := decide) only [↓ View.readCov_skip, ↓ View.readCov_cons_toLoadRect, ↓ View.readCov_fill]
  frame_out
  all_goals try simp only [readCov_whole2]
  all_goals rfl

/-- The gate bias's sum. -/
theorem valB_22 : View.canon (run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 x12 x13 x14 x15 x16 x17 xo22 xo23 xo24 xo26 xo27 xo28 xo29 xs1).2.2.2.2.1 =
    Ins.n22 (⟨x0, x1, x2, x3, x4, x5, x6, x7, x8, x9, x10, x11, x12, x13, x14, x15, x16, x17⟩ : Ins F) xo22 := by
  frame_open
  simp (disch := decide) only [↓ View.readCov_skip, ↓ View.readCov_cons_toLoadRect, ↓ View.readCov_fill]
  frame_out
  all_goals try simp only [readCov_whole2]
  all_goals rfl

/-- The inner gain's sum. -/
theorem valB_23 : View.canon (run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 x12 x13 x14 x15 x16 x17 xo22 xo23 xo24 xo26 xo27 xo28 xo29 xs1).2.2.2.2.2.1 =
    Ins.n23 (⟨x0, x1, x2, x3, x4, x5, x6, x7, x8, x9, x10, x11, x12, x13, x14, x15, x16, x17⟩ : Ins F) xo23 := by
  frame_open
  simp (disch := decide) only [↓ View.readCov_skip, ↓ View.readCov_cons_toLoadRect, ↓ View.readCov_fill]
  frame_out
  all_goals try simp only [readCov_whole2]
  all_goals rfl

/-- The inner shift's sum. -/
theorem valB_24 : View.canon (run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 x12 x13 x14 x15 x16 x17 xo22 xo23 xo24 xo26 xo27 xo28 xo29 xs1).2.2.2.2.2.2.1 =
    Ins.n24 (⟨x0, x1, x2, x3, x4, x5, x6, x7, x8, x9, x10, x11, x12, x13, x14, x15, x16, x17⟩ : Ins F) xo24 := by
  frame_open
  simp (disch := decide) only [↓ View.readCov_skip, ↓ View.readCov_cons_toLoadRect, ↓ View.readCov_fill]
  frame_out
  all_goals try simp only [readCov_whole2]
  all_goals rfl

/-- The spatial weights' sum. -/
theorem valB_26 : View.canon (run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 x12 x13 x14 x15 x16 x17 xo22 xo23 xo24 xo26 xo27 xo28 xo29 xs1).2.2.2.2.2.2.2.2.1 =
    Ins.n26 (⟨x0, x1, x2, x3, x4, x5, x6, x7, x8, x9, x10, x11, x12, x13, x14, x15, x16, x17⟩ : Ins F) xo26 := by
  frame_open
  simp (disch := decide) only [↓ View.readCov_skip, ↓ View.readCov_cons_toLoadRect, ↓ View.readCov_fill]
  frame_out
  all_goals try simp only [readCov_whole2]
  all_goals rfl

/-- The convolution gain's sum. -/
theorem valB_27 : View.canon (run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 x12 x13 x14 x15 x16 x17 xo22 xo23 xo24 xo26 xo27 xo28 xo29 xs1).2.2.2.2.2.2.2.2.2.1 =
    Ins.n27 (⟨x0, x1, x2, x3, x4, x5, x6, x7, x8, x9, x10, x11, x12, x13, x14, x15, x16, x17⟩ : Ins F) xo27 := by
  frame_open
  simp (disch := decide) only [↓ View.readCov_skip, ↓ View.readCov_cons_toLoadRect, ↓ View.readCov_fill]
  frame_out
  all_goals try simp only [readCov_whole2]
  all_goals rfl

/-- The convolution shift's sum. -/
theorem valB_28 : View.canon (run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 x12 x13 x14 x15 x16 x17 xo22 xo23 xo24 xo26 xo27 xo28 xo29 xs1).2.2.2.2.2.2.2.2.2.2.1 =
    Ins.n28 (⟨x0, x1, x2, x3, x4, x5, x6, x7, x8, x9, x10, x11, x12, x13, x14, x15, x16, x17⟩ : Ins F) xo28 := by
  frame_open
  simp (disch := decide) only [↓ View.readCov_skip, ↓ View.readCov_cons_toLoadRect, ↓ View.readCov_fill]
  frame_out
  all_goals try simp only [readCov_whole2]
  all_goals rfl

/-- The convolution bias's sum. -/
theorem valB_29 : View.canon (run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 x12 x13 x14 x15 x16 x17 xo22 xo23 xo24 xo26 xo27 xo28 xo29 xs1).2.2.2.2.2.2.2.2.2.2.2.1 =
    Ins.n29 (⟨x0, x1, x2, x3, x4, x5, x6, x7, x8, x9, x10, x11, x12, x13, x14, x15, x16, x17⟩ : Ins F) xo29 := by
  frame_open
  simp (disch := decide) only [↓ View.readCov_skip, ↓ View.readCov_cons_toLoadRect, ↓ View.readCov_fill]
  frame_out
  all_goals try simp only [readCov_whole2]
  all_goals rfl

/-- The carried sum of the spatial bias. -/
theorem valB_S1 : View.canon (run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 x12 x13 x14 x15 x16 x17 xo22 xo23 xo24 xo26 xo27 xo28 xo29 xs1).2.2.2.2.2.2.2.2.2.2.2.2.1 =
    Ins.ns1 (⟨x0, x1, x2, x3, x4, x5, x6, x7, x8, x9, x10, x11, x12, x13, x14, x15, x16, x17⟩ : Ins F) xs1 := by
  frame_open
  simp (disch := decide) only [↓ View.readCov_skip, ↓ View.readCov_cons_toLoadRect, ↓ View.readCov_fill]
  frame_out
  all_goals try simp only [readCov_whole2]
  all_goals rfl

end Cert.KernelIdeal.Hand

end
-- ==== Proof.BodyB.lean ====
/-
  The body's triple in case B: the blocks read, the sums before, and what the point leaves, as named functions of them.
-/
module

public import proofs.«01_k».proof.Proof.ValB
public import Idealize.ShloMosaic.Lib.Ring
public import Idealize.ShloMosaic.Lib.Tactic
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S256x1024 .f32) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S8x128x128 .bf16) (harg11 : arg11.IsWhole) (arg12 : Memref sig .tc .vmem S8x128x128 .bf16) (harg12 : arg12.IsWhole) (arg13 : Memref sig .tc .vmem S1x2048 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S4x256x1024 .bf16) (harg16 : arg16.IsWhole) (arg17 : Memref sig .tc .vmem S4x256x1024 .bf16) (harg17 : arg17.IsWhole) (arg18 : Memref sig .tc .vmem S4x256x1024 .bf16) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S256x6144 .bf16) (harg21 : arg21.IsWhole) (arg22 : Memref sig .tc .vmem S256x1024 .f32) (harg22 : arg22.IsWhole) (arg23 : Memref sig .tc .vmem S1x2048 .f32) (harg23 : arg23.IsWhole) (arg24 : Memref sig .tc .vmem S1x1024 .f32) (harg24 : arg24.IsWhole) (arg25 : Memref sig .tc .vmem S1x1024 .f32) (harg25 : arg25.IsWhole) (arg26 : Memref sig .tc .vmem S1x1024 .f32) (harg26 : arg26.IsWhole) (arg27 : Memref sig .tc .vmem S8x128x128 .f32) (harg27 : arg27.IsWhole) (arg28 : Memref sig .tc .vmem S1x1024 .f32) (harg28 : arg28.IsWhole) (arg29 : Memref sig .tc .vmem S1x1024 .f32) (harg29 : arg29.IsWhole) (arg30 : Memref sig .tc .vmem S1x1024 .f32) (harg30 : arg30.IsWhole) (arg31 : Memref sig .tc .vmem S256x1024 .f32) (harg31 : arg31.IsWhole) (arg32 : Memref sig .tc .vmem S128x1024 .f32) (harg32 : arg32.IsWhole) (hc0 : ¬cond0_0 i) (hc1 : ¬cond0_1 i) (X : Ins F) (p : Sums F)

set_option maxHeartbeats 4000000 in
/-- What the run leaves of the projection's gradient agrees with the named value wherever it is written. -/
theorem agrees20_B (v : View sig .tc .vmem S256x6144 .bf16) (f) :
    Ins.Agrees20 X (v.read (Elt F) (v.writes (Elt F) f (run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 X.x0 X.x1 X.x2 X.x3 X.x4 X.x5 X.x6 X.x7 X.x8 X.x9 X.x10 X.x11 X.x12 X.x13 X.x14 X.x15 X.x16 X.x17 p.a22 p.a23 p.a24 p.a26 p.a27 p.a28 p.a29 p.s1).2.2.1)) :=
  Ins.agrees20_of X _ (fun _ => X.o20 (fun a => ⟨0, by fin_cases a <;> decide⟩))
    (fun y => View.cover_of_tiledBy ((run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 X.x0 X.x1 X.x2 X.x3 X.x4 X.x5 X.x6 X.x7 X.x8 X.x9 X.x10 X.x11 X.x12 X.x13 X.x14 X.x15 X.x16 X.x17 p.a22 p.a23 p.a24 p.a26 p.a27 p.a28 p.a29 p.s1).2.2.1 ++ [⟨Rect.unit (s := S256x6144) ![0, 0] ![256, 2048] (by decide), _⟩])
      (![256, 1024]) (by sl_kernel_rfl) y) (valB_20 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) v f

include hc0 hc1 in
set_option maxHeartbeats 4000000 in
/-- The body at a point of case B. -/
theorem body_B (xi25 : Vec F S1x1024 .f32) (E : Set ℕ) (K : PUnit → sProp 𝕄) :
    iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ owns (c : Thread nD τ) arg11 fullShare X.x10 ∗ owns (c : Thread nD τ) arg12 fullShare X.x11 ∗ owns (c : Thread nD τ) arg13 fullShare X.x12 ∗ owns (c : Thread nD τ) arg14 fullShare X.x13 ∗ owns (c : Thread nD τ) arg15 fullShare X.x14 ∗ owns (c : Thread nD τ) arg16 fullShare X.x15 ∗ owns (c : Thread nD τ) arg17 fullShare X.x16 ∗ owns (c : Thread nD τ) arg18 fullShare X.x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare p.a22 ∗ owns (c : Thread nD τ) arg24 fullShare p.a23 ∗ owns (c : Thread nD τ) arg25 fullShare p.a24 ∗ owns (c : Thread nD τ) arg26 fullShare xi25 ∗ owns (c : Thread nD τ) arg27 fullShare p.a26 ∗ owns (c : Thread nD τ) arg28 fullShare p.a27 ∗ owns (c : Thread nD τ) arg29 fullShare p.a28 ∗ owns (c : Thread nD τ) arg30 fullShare p.a29 ∗ (∃ d, owns (c : Thread nD τ) arg31 fullShare d) ∗ owns (c : Thread nD τ) arg32 fullShare p.s1
        ∗ (iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ owns (c : Thread nD τ) arg11 fullShare X.x10 ∗ owns (c : Thread nD τ) arg12 fullShare X.x11 ∗ owns (c : Thread nD τ) arg13 fullShare X.x12 ∗ owns (c : Thread nD τ) arg14 fullShare X.x13 ∗ owns (c : Thread nD τ) arg15 fullShare X.x14 ∗ owns (c : Thread nD τ) arg16 fullShare X.x15 ∗ owns (c : Thread nD τ) arg17 fullShare X.x16 ∗ owns (c : Thread nD τ) arg18 fullShare X.x17 ∗ owns (c : Thread nD τ) arg19 fullShare X.o18 ∗ owns (c : Thread nD τ) arg20 fullShare X.o19 ∗ (∃ Y, ⌜Ins.Agrees20 X Y⌝ ∗ owns (c : Thread nD τ) arg21 fullShare Y) ∗ owns (c : Thread nD τ) arg22 fullShare X.o21 ∗ owns (c : Thread nD τ) arg23 fullShare (X.step p).a22 ∗ owns (c : Thread nD τ) arg24 fullShare (X.step p).a23 ∗ owns (c : Thread nD τ) arg25 fullShare (X.step p).a24 ∗ owns (c : Thread nD τ) arg26 fullShare xi25 ∗ owns (c : Thread nD τ) arg27 fullShare (X.step p).a26 ∗ owns (c : Thread nD τ) arg28 fullShare (X.step p).a27 ∗ owns (c : Thread nD τ) arg29 fullShare (X.step p).a28 ∗ owns (c : Thread nD τ) arg30 fullShare (X.step p).a29 ∗ (∃ d, owns (c : Thread nD τ) arg31 fullShare d) ∗ owns (c : Thread nD τ) arg32 fullShare (X.step p).s1) -∗ K ⟨⟩))
      ⊢ wp frame (wpE (defs₀ (F := F)) Variants.none c none) E (cc0_merge_sgu_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K := by
  refine BIBase.Entails.trans ?_ ((run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 X.x0 X.x1 X.x2 X.x3 X.x4 X.x5 X.x6 X.x7 X.x8 X.x9 X.x10 X.x11 X.x12 X.x13 X.x14 X.x15 X.x16 X.x17 p.a22 p.a23 p.a24 p.a26 p.a27 p.a28 p.a29 p.s1).2.2.2.2.2.2.2.2.2.2.2.2.2.2 xi25 E K)
  iintro ⟨H0, H1, H2, H3, H4, H5, H6, H7, H8, H9, H10, H11, H12, H13, H14, H15, H16, H17, H18, H19, H20, H21, H22, H23, H24, H25, H26, H27, H28, H29, HS0, HS1, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [HS0]; · iexact HS0
  isplitl [HS1]; · iexact HS1
  iintro ⟨H0, H1, H2, H3, H4, H5, H6, H7, H8, H9, H10, H11, H12, H13, H14, H15, H16, H17, ⟨%e18, H18⟩, ⟨%e19, H19⟩, ⟨%e20, H20⟩, ⟨%e21, H21⟩, ⟨%e22, H22⟩, ⟨%e23, H23⟩, ⟨%e24, H24⟩, H25, ⟨%e26, H26⟩, ⟨%e27, H27⟩, ⟨%e28, H28⟩, ⟨%e29, H29⟩, ⟨%f0, HS0⟩, ⟨%f1, HS1⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · unfold owns; iexists _; isplitr
    swap; · iexact H18
    ipureintro; exact (View.read_writes_eq_canon _ _ _ (View.cover_of_tiledL _ (![256, 1024]) (by sl_kernel_rfl))).trans (valB_18 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact (View.read_writes_eq_canon _ _ _ (View.cover_of_tiledL _ (![256, 1024]) (by sl_kernel_rfl))).trans (valB_19 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · iexists _; isplitr
    swap
    · unfold owns; iexists _; isplitr
      swap; · iexact H20
      ipureintro; rfl
    ipureintro; exact agrees20_B _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ X p _ _
  isplitl [H21]
  · unfold owns; iexists _; isplitr
    swap; · iexact H21
    ipureintro; exact (View.read_writes_eq_canon _ _ _ (View.cover_of_tiledL _ (![256, 1024]) (by sl_kernel_rfl))).trans (valB_21 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact (View.read_writes_eq_canon _ _ _ (View.cover_of_tiledL _ (![1, 1024]) (by sl_kernel_rfl))).trans (valB_22 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H23]
  · unfold owns; iexists _; isplitr
    swap; · iexact H23
    ipureintro; exact (View.read_writes_eq_canon _ _ _ (View.cover_of_tiledL _ (![1, 1024]) (by sl_kernel_rfl))).trans (valB_23 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H24]
  · unfold owns; iexists _; isplitr
    swap; · iexact H24
    ipureintro; exact (View.read_writes_eq_canon _ _ _ (View.cover_of_tiledL _ (![1, 1024]) (by sl_kernel_rfl))).trans (valB_24 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H25]; · iexact H25
  isplitl [H26]
  · unfold owns; iexists _; isplitr
    swap; · iexact H26
    ipureintro; exact (View.read_writes_eq_canon _ _ _ (View.cover_of_tiledL _ (![1, 128, 128]) (by sl_kernel_rfl))).trans (valB_26 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H27]
  · unfold owns; iexists _; isplitr
    swap; · iexact H27
    ipureintro; exact (View.read_writes_eq_canon _ _ _ (View.cover_of_tiledL _ (![1, 1024]) (by sl_kernel_rfl))).trans (valB_27 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H28]
  · unfold owns; iexists _; isplitr
    swap; · iexact H28
    ipureintro; exact (View.read_writes_eq_canon _ _ _ (View.cover_of_tiledL _ (![1, 1024]) (by sl_kernel_rfl))).trans (valB_28 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H29]
  · unfold owns; iexists _; isplitr
    swap; · iexact H29
    ipureintro; exact (View.read_writes_eq_canon _ _ _ (View.cover_of_tiledL _ (![1, 1024]) (by sl_kernel_rfl))).trans (valB_29 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [HS0]
  · iexists _; unfold owns; iexists _; isplitr
    swap; · iexact HS0
    ipureintro; rfl
  unfold owns; iexists _; isplitr
  swap; · iexact HS1
  ipureintro; exact (View.read_writes_eq_canon _ _ _ (View.cover_of_tiledL _ (![128, 1024]) (by sl_kernel_rfl))).trans (valB_S1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

end Cert.KernelIdeal.Hand

end
-- ==== Proof.ValC.lean ====
/-
  What the run of case C leaves, window by window.
-/
module

public import proofs.«01_k».proof.Proof.Vals
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords) (arg1 : Memref sig .tc .vmem S256x1024 .f32) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S8x128x128 .bf16) (harg11 : arg11.IsWhole) (arg12 : Memref sig .tc .vmem S8x128x128 .bf16) (harg12 : arg12.IsWhole) (arg13 : Memref sig .tc .vmem S1x2048 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S4x256x1024 .bf16) (harg16 : arg16.IsWhole) (arg17 : Memref sig .tc .vmem S4x256x1024 .bf16) (harg17 : arg17.IsWhole) (arg18 : Memref sig .tc .vmem S4x256x1024 .bf16) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S256x6144 .bf16) (harg21 : arg21.IsWhole) (arg22 : Memref sig .tc .vmem S256x1024 .f32) (harg22 : arg22.IsWhole) (arg23 : Memref sig .tc .vmem S1x2048 .f32) (harg23 : arg23.IsWhole) (arg24 : Memref sig .tc .vmem S1x1024 .f32) (harg24 : arg24.IsWhole) (arg25 : Memref sig .tc .vmem S1x1024 .f32) (harg25 : arg25.IsWhole) (arg26 : Memref sig .tc .vmem S1x1024 .f32) (harg26 : arg26.IsWhole) (arg27 : Memref sig .tc .vmem S8x128x128 .f32) (harg27 : arg27.IsWhole) (arg28 : Memref sig .tc .vmem S1x1024 .f32) (harg28 : arg28.IsWhole) (arg29 : Memref sig .tc .vmem S1x1024 .f32) (harg29 : arg29.IsWhole) (arg30 : Memref sig .tc .vmem S1x1024 .f32) (harg30 : arg30.IsWhole) (arg31 : Memref sig .tc .vmem S256x1024 .f32) (harg31 : arg31.IsWhole) (arg32 : Memref sig .tc .vmem S128x1024 .f32) (harg32 : arg32.IsWhole) (hc0 : ¬cond0_0 i) (hc1 : cond0_1 i)
    (x0 : Vec F S256x1024 .f32) (x1 : Vec F S256x2048 .bf16) (x2 : Vec F S256x2048 .bf16) (x3 : Vec F S256x1024 .bf16) (x4 : Vec F S256x1024 .bf16) (x5 : Vec F S256x1024 .bf16) (x6 : Vec F S256x1024 .bf16) (x7 : Vec F S256x1 .f32) (x8 : Vec F S1x1024 .f32) (x9 : Vec F S1x1024 .f32) (x10 : Vec F S8x128x128 .bf16) (x11 : Vec F S8x128x128 .bf16) (x12 : Vec F S1x2048 .f32) (x13 : Vec F S1x1024 .f32) (x14 : Vec F S1x1024 .f32) (x15 : Vec F S4x256x1024 .bf16) (x16 : Vec F S4x256x1024 .bf16) (x17 : Vec F S4x256x1024 .bf16) (xo22 : Vec F S1x2048 .f32) (xo23 : Vec F S1x1024 .f32) (xo24 : Vec F S1x1024 .f32) (xo26 : Vec F S8x128x128 .f32) (xo27 : Vec F S1x1024 .f32) (xo28 : Vec F S1x1024 .f32) (xo29 : Vec F S1x1024 .f32) (xs1 : Vec F S128x1024 .f32)

/-- The convolution branch's gradient. -/
theorem valC_18 : View.canon (run_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 x12 x13 x14 x15 x16 x17 xo22 xo23 xo24 xo26 xo27 xo28 xo29 xs1).1 =
    Ins.o18 (⟨x0, x1, x2, x3, x4, x5, x6, x7, x8, x9, x10, x11, x12, x13, x14, x15, x16, x17⟩ : Ins F) := by
  frame_open
  simp (disch := decide) only [↓ View.readCov_skip, ↓ View.readCov_cons_toLoadRect, ↓ View.readCov_fill]
  frame_out
  all_goals try simp only [readCov_whole2]
  all_goals rfl

/-- The spatial branch's gradient. -/
theorem valC_19 : View.canon (run_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 x12 x13 x14 x15 x16 x17 xo22 xo23 xo24 xo26 xo27 xo28 xo29 xs1).2.1 =
    Ins.o19 (⟨x0, x1, x2, x3, x4, x5, x6, x7, x8, x9, x10, x11, x12, x13, x14, x15, x16, x17⟩ : Ins F) := by
  frame_open
  simp (disch := decide) only [↓ View.readCov_skip, ↓ View.readCov_cons_toLoadRect, ↓ View.readCov_fill]
  frame_out
  all_goals try simp only [readCov_whole2]
  all_goals rfl

/-- The projection's gradient, where it is written. -/
theorem valC_20 : View.canon (run_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 x12 x13 x14 x15 x16 x17 xo22 xo23 xo24 xo26 xo27 xo28 xo29 xs1).2.2.1 =
    Ins.o20 (⟨x0, x1, x2, x3, x4, x5, x6, x7, x8, x9, x10, x11, x12, x13, x14, x15, x16, x17⟩ : Ins F) := by
  frame_open
  simp (disch := decide) only [↓ View.readCov_skip, ↓ View.readCov_cons_toLoadRect, ↓ View.readCov_fill]
  frame_out
  all_goals try simp only [readCov_whole2]
  all_goals rfl

/-- The gradient of the convolution's output. -/
theorem valC_21 : View.canon (run_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 x12 x13 x14 x15 x16 x17 xo22 xo23 xo24 xo26 xo27 xo28 xo29 xs1).2.2.2.1 =
    Ins.o21 (⟨x0, x1, x2, x3, x4, x5, x6, x7, x8, x9, x10, x11, x12, x13, x14, x15, x16, x17⟩ : Ins F) := by
  frame_open
  simp (disch := decide) only [↓ View.readCov_skip, ↓ View.readCov_cons_toLoadRect, ↓ View.readCov_fill]
  frame_out
  all_goals try simp only [readCov_whole2]
  all_goals rfl

/-- The gate bias's sum. -/
theorem valC_22 : View.canon (run_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 x12 x13 x14 x15 x16 x17 xo22 xo23 xo24 xo26 xo27 xo28 xo29 xs1).2.2.2.2.1 =
    Ins.n22 (⟨x0, x1, x2, x3, x4, x5, x6, x7, x8, x9, x10, x11, x12, x13, x14, x15, x16, x17⟩ : Ins F) xo22 := by
  frame_open
  simp (disch := decide) only [↓ View.readCov_skip, ↓ View.readCov_cons_toLoadRect, ↓ View.readCov_fill]
  frame_out
  all_goals try simp only [readCov_whole2]
  all_goals rfl

/-- The inner gain's sum. -/
theorem valC_23 : View.canon (run_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 x12 x13 x14 x15 x16 x17 xo22 xo23 xo24 xo26 xo27 xo28 xo29 xs1).2.2.2.2.2.1 =
    Ins.n23 (⟨x0, x1, x2, x3, x4, x5, x6, x7, x8, x9, x10, x11, x12, x13, x14, x15, x16, x17⟩ : Ins F) xo23 := by
  frame_open
  simp (disch := decide) only [↓ View.readCov_skip, ↓ View.readCov_cons_toLoadRect, ↓ View.readCov_fill]
  frame_out
  all_goals try simp only [readCov_whole2]
  all_goals rfl

/-- The inner shift's sum. -/
theorem valC_24 : View.canon (run_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 x12 x13 x14 x15 x16 x17 xo22 xo23 xo24 xo26 xo27 xo28 xo29 xs1).2.2.2.2.2.2.1 =
    Ins.n24 (⟨x0, x1, x2, x3, x4, x5, x6, x7, x8, x9, x10, x11, x12, x13, x14, x15, x16, x17⟩ : Ins F) xo24 := by
  frame_open
  simp (disch := decide) only [↓ View.readCov_skip, ↓ View.readCov_cons_toLoadRect, ↓ View.readCov_fill]
  frame_out
  all_goals try simp only [readCov_whole2]
  all_goals rfl

/-- The spatial bias's gradient. -/
theorem valC_25 : View.canon (run_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 x12 x13 x14 x15 x16 x17 xo22 xo23 xo24 xo26 xo27 xo28 xo29 xs1).2.2.2.2.2.2.2.1 =
    o25 (Ins.ns1 (⟨x0, x1, x2, x3, x4, x5, x6, x7, x8, x9, x10, x11, x12, x13, x14, x15, x16, x17⟩ : Ins F) xs1) := by
  frame_open
  simp (disch := decide) only [↓ View.readCov_skip, ↓ View.readCov_cons_toLoadRect, ↓ View.readCov_fill]
  frame_out
  all_goals try simp only [readCov_whole2]
  all_goals rfl

/-- The spatial weights' sum. -/
theorem valC_26 : View.canon (run_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 x12 x13 x14 x15 x16 x17 xo22 xo23 xo24 xo26 xo27 xo28 xo29 xs1).2.2.2.2.2.2.2.2.1 =
    Ins.n26 (⟨x0, x1, x2, x3, x4, x5, x6, x7, x8, x9, x10, x11, x12, x13, x14, x15, x16, x17⟩ : Ins F) xo26 := by
  frame_open
  simp (disch := decide) only [↓ View.readCov_skip, ↓ View.readCov_cons_toLoadRect, ↓ View.readCov_fill]
  frame_out
  all_goals try simp only [readCov_whole2]
  all_goals rfl

/-- The convolution gain's sum. -/
theorem valC_27 : View.canon (run_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 x12 x13 x14 x15 x16 x17 xo22 xo23 xo24 xo26 xo27 xo28 xo29 xs1).2.2.2.2.2.2.2.2.2.1 =
    Ins.n27 (⟨x0, x1, x2, x3, x4, x5, x6, x7, x8, x9, x10, x11, x12, x13, x14, x15, x16, x17⟩ : Ins F) xo27 := by
  frame_open
  simp (disch := decide) only [↓ View.readCov_skip, ↓ View.readCov_cons_toLoadRect, ↓ View.readCov_fill]
  frame_out
  all_goals try simp only [readCov_whole2]
  all_goals rfl

/-- The convolution shift's sum. -/
theorem valC_28 : View.canon (run_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 x12 x13 x14 x15 x16 x17 xo22 xo23 xo24 xo26 xo27 xo28 xo29 xs1).2.2.2.2.2.2.2.2.2.2.1 =
    Ins.n28 (⟨x0, x1, x2, x3, x4, x5, x6, x7, x8, x9, x10, x11, x12, x13, x14, x15, x16, x17⟩ : Ins F) xo28 := by
  frame_open
  simp (disch := decide) only [↓ View.readCov_skip, ↓ View.readCov_cons_toLoadRect, ↓ View.readCov_fill]
  frame_out
  all_goals try simp only [readCov_whole2]
  all_goals rfl

/-- The convolution bias's sum. -/
theorem valC_29 : View.canon (run_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 x12 x13 x14 x15 x16 x17 xo22 xo23 xo24 xo26 xo27 xo28 xo29 xs1).2.2.2.2.2.2.2.2.2.2.2.1 =
    Ins.n29 (⟨x0, x1, x2, x3, x4, x5, x6, x7, x8, x9, x10, x11, x12, x13, x14, x15, x16, x17⟩ : Ins F) xo29 := by
  frame_open
  simp (disch := decide) only [↓ View.readCov_skip, ↓ View.readCov_cons_toLoadRect, ↓ View.readCov_fill]
  frame_out
  all_goals try simp only [readCov_whole2]
  all_goals rfl

/-- The carried sum of the spatial bias. -/
theorem valC_S1 : View.canon (run_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 x12 x13 x14 x15 x16 x17 xo22 xo23 xo24 xo26 xo27 xo28 xo29 xs1).2.2.2.2.2.2.2.2.2.2.2.2.1 =
    Ins.ns1 (⟨x0, x1, x2, x3, x4, x5, x6, x7, x8, x9, x10, x11, x12, x13, x14, x15, x16, x17⟩ : Ins F) xs1 := by
  frame_open
  simp (disch := decide) only [↓ View.readCov_skip, ↓ View.readCov_cons_toLoadRect, ↓ View.readCov_fill]
  frame_out
  all_goals try simp only [readCov_whole2]
  all_goals rfl

end Cert.KernelIdeal.Hand

end
-- ==== Proof.BodyC.lean ====
/-
  The body's triple in case C: the blocks read, the sums before, and what the point leaves, as named functions of them.
-/
module

public import proofs.«01_k».proof.Proof.ValC
public import Idealize.ShloMosaic.Lib.Ring
public import Idealize.ShloMosaic.Lib.Tactic
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S256x1024 .f32) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S8x128x128 .bf16) (harg11 : arg11.IsWhole) (arg12 : Memref sig .tc .vmem S8x128x128 .bf16) (harg12 : arg12.IsWhole) (arg13 : Memref sig .tc .vmem S1x2048 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S4x256x1024 .bf16) (harg16 : arg16.IsWhole) (arg17 : Memref sig .tc .vmem S4x256x1024 .bf16) (harg17 : arg17.IsWhole) (arg18 : Memref sig .tc .vmem S4x256x1024 .bf16) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S256x6144 .bf16) (harg21 : arg21.IsWhole) (arg22 : Memref sig .tc .vmem S256x1024 .f32) (harg22 : arg22.IsWhole) (arg23 : Memref sig .tc .vmem S1x2048 .f32) (harg23 : arg23.IsWhole) (arg24 : Memref sig .tc .vmem S1x1024 .f32) (harg24 : arg24.IsWhole) (arg25 : Memref sig .tc .vmem S1x1024 .f32) (harg25 : arg25.IsWhole) (arg26 : Memref sig .tc .vmem S1x1024 .f32) (harg26 : arg26.IsWhole) (arg27 : Memref sig .tc .vmem S8x128x128 .f32) (harg27 : arg27.IsWhole) (arg28 : Memref sig .tc .vmem S1x1024 .f32) (harg28 : arg28.IsWhole) (arg29 : Memref sig .tc .vmem S1x1024 .f32) (harg29 : arg29.IsWhole) (arg30 : Memref sig .tc .vmem S1x1024 .f32) (harg30 : arg30.IsWhole) (arg31 : Memref sig .tc .vmem S256x1024 .f32) (harg31 : arg31.IsWhole) (arg32 : Memref sig .tc .vmem S128x1024 .f32) (harg32 : arg32.IsWhole) (hc0 : ¬cond0_0 i) (hc1 : cond0_1 i) (X : Ins F) (p : Sums F)

set_option maxHeartbeats 4000000 in
/-- What the run leaves of the projection's gradient agrees with the named value wherever it is written. -/
theorem agrees20_C (v : View sig .tc .vmem S256x6144 .bf16) (f) :
    Ins.Agrees20 X (v.read (Elt F) (v.writes (Elt F) f (run_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 X.x0 X.x1 X.x2 X.x3 X.x4 X.x5 X.x6 X.x7 X.x8 X.x9 X.x10 X.x11 X.x12 X.x13 X.x14 X.x15 X.x16 X.x17 p.a22 p.a23 p.a24 p.a26 p.a27 p.a28 p.a29 p.s1).2.2.1)) :=
  Ins.agrees20_of X _ (fun _ => X.o20 (fun a => ⟨0, by fin_cases a <;> decide⟩))
    (fun y => View.cover_of_tiledBy ((run_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 X.x0 X.x1 X.x2 X.x3 X.x4 X.x5 X.x6 X.x7 X.x8 X.x9 X.x10 X.x11 X.x12 X.x13 X.x14 X.x15 X.x16 X.x17 p.a22 p.a23 p.a24 p.a26 p.a27 p.a28 p.a29 p.s1).2.2.1 ++ [⟨Rect.unit (s := S256x6144) ![0, 0] ![256, 2048] (by decide), _⟩])
      (![256, 1024]) (by sl_kernel_rfl) y) (valC_20 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) v f

include hc0 hc1 in
set_option maxHeartbeats 4000000 in
/-- The body at a point of case C. -/
theorem body_C (E : Set ℕ) (K : PUnit → sProp 𝕄) :
    iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ owns (c : Thread nD τ) arg11 fullShare X.x10 ∗ owns (c : Thread nD τ) arg12 fullShare X.x11 ∗ owns (c : Thread nD τ) arg13 fullShare X.x12 ∗ owns (c : Thread nD τ) arg14 fullShare X.x13 ∗ owns (c : Thread nD τ) arg15 fullShare X.x14 ∗ owns (c : Thread nD τ) arg16 fullShare X.x15 ∗ owns (c : Thread nD τ) arg17 fullShare X.x16 ∗ owns (c : Thread nD τ) arg18 fullShare X.x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare p.a22 ∗ owns (c : Thread nD τ) arg24 fullShare p.a23 ∗ owns (c : Thread nD τ) arg25 fullShare p.a24 ∗ (∃ d, owns (c : Thread nD τ) arg26 fullShare d) ∗ owns (c : Thread nD τ) arg27 fullShare p.a26 ∗ owns (c : Thread nD τ) arg28 fullShare p.a27 ∗ owns (c : Thread nD τ) arg29 fullShare p.a28 ∗ owns (c : Thread nD τ) arg30 fullShare p.a29 ∗ (∃ d, owns (c : Thread nD τ) arg31 fullShare d) ∗ owns (c : Thread nD τ) arg32 fullShare p.s1
        ∗ (iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ owns (c : Thread nD τ) arg11 fullShare X.x10 ∗ owns (c : Thread nD τ) arg12 fullShare X.x11 ∗ owns (c : Thread nD τ) arg13 fullShare X.x12 ∗ owns (c : Thread nD τ) arg14 fullShare X.x13 ∗ owns (c : Thread nD τ) arg15 fullShare X.x14 ∗ owns (c : Thread nD τ) arg16 fullShare X.x15 ∗ owns (c : Thread nD τ) arg17 fullShare X.x16 ∗ owns (c : Thread nD τ) arg18 fullShare X.x17 ∗ owns (c : Thread nD τ) arg19 fullShare X.o18 ∗ owns (c : Thread nD τ) arg20 fullShare X.o19 ∗ (∃ Y, ⌜Ins.Agrees20 X Y⌝ ∗ owns (c : Thread nD τ) arg21 fullShare Y) ∗ owns (c : Thread nD τ) arg22 fullShare X.o21 ∗ owns (c : Thread nD τ) arg23 fullShare (X.step p).a22 ∗ owns (c : Thread nD τ) arg24 fullShare (X.step p).a23 ∗ owns (c : Thread nD τ) arg25 fullShare (X.step p).a24 ∗ owns (c : Thread nD τ) arg26 fullShare (o25 (X.step p).s1) ∗ owns (c : Thread nD τ) arg27 fullShare (X.step p).a26 ∗ owns (c : Thread nD τ) arg28 fullShare (X.step p).a27 ∗ owns (c : Thread nD τ) arg29 fullShare (X.step p).a28 ∗ owns (c : Thread nD τ) arg30 fullShare (X.step p).a29 ∗ (∃ d, owns (c : Thread nD τ) arg31 fullShare d) ∗ owns (c : Thread nD τ) arg32 fullShare (X.step p).s1) -∗ K ⟨⟩))
      ⊢ wp frame (wpE (defs₀ (F := F)) Variants.none c none) E (cc0_merge_sgu_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K := by
  refine BIBase.Entails.trans ?_ ((run_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 X.x0 X.x1 X.x2 X.x3 X.x4 X.x5 X.x6 X.x7 X.x8 X.x9 X.x10 X.x11 X.x12 X.x13 X.x14 X.x15 X.x16 X.x17 p.a22 p.a23 p.a24 p.a26 p.a27 p.a28 p.a29 p.s1).2.2.2.2.2.2.2.2.2.2.2.2.2.2 E K)
  iintro ⟨H0, H1, H2, H3, H4, H5, H6, H7, H8, H9, H10, H11, H12, H13, H14, H15, H16, H17, H18, H19, H20, H21, H22, H23, H24, H25, H26, H27, H28, H29, HS0, HS1, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [HS0]; · iexact HS0
  isplitl [HS1]; · iexact HS1
  iintro ⟨H0, H1, H2, H3, H4, H5, H6, H7, H8, H9, H10, H11, H12, H13, H14, H15, H16, H17, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%f0, HS0⟩, ⟨%f1, HS1⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · unfold owns; iexists _; isplitr
    swap; · iexact H18
    ipureintro; exact (View.read_writes_eq_canon _ _ _ (View.cover_of_tiledL _ (![256, 1024]) (by sl_kernel_rfl))).trans (valC_18 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact (View.read_writes_eq_canon _ _ _ (View.cover_of_tiledL _ (![256, 1024]) (by sl_kernel_rfl))).trans (valC_19 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · iexists _; isplitr
    swap
    · unfold owns; iexists _; isplitr
      swap; · iexact H20
      ipureintro; rfl
    ipureintro; exact agrees20_C _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ X p _ _
  isplitl [H21]
  · unfold owns; iexists _; isplitr
    swap; · iexact H21
    ipureintro; exact (View.read_writes_eq_canon _ _ _ (View.cover_of_tiledL _ (![256, 1024]) (by sl_kernel_rfl))).trans (valC_21 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact (View.read_writes_eq_canon _ _ _ (View.cover_of_tiledL _ (![1, 1024]) (by sl_kernel_rfl))).trans (valC_22 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H23]
  · unfold owns; iexists _; isplitr
    swap; · iexact H23
    ipureintro; exact (View.read_writes_eq_canon _ _ _ (View.cover_of_tiledL _ (![1, 1024]) (by sl_kernel_rfl))).trans (valC_23 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H24]
  · unfold owns; iexists _; isplitr
    swap; · iexact H24
    ipureintro; exact (View.read_writes_eq_canon _ _ _ (View.cover_of_tiledL _ (![1, 1024]) (by sl_kernel_rfl))).trans (valC_24 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H25]
  · unfold owns; iexists _; isplitr
    swap; · iexact H25
    ipureintro; exact (View.read_writes_eq_canon _ _ _ (View.cover_of_tiledL _ (![1, 128]) (by sl_kernel_rfl))).trans (valC_25 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H26]
  · unfold owns; iexists _; isplitr
    swap; · iexact H26
    ipureintro; exact (View.read_writes_eq_canon _ _ _ (View.cover_of_tiledL _ (![1, 128, 128]) (by sl_kernel_rfl))).trans (valC_26 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H27]
  · unfold owns; iexists _; isplitr
    swap; · iexact H27
    ipureintro; exact (View.read_writes_eq_canon _ _ _ (View.cover_of_tiledL _ (![1, 1024]) (by sl_kernel_rfl))).trans (valC_27 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H28]
  · unfold owns; iexists _; isplitr
    swap; · iexact H28
    ipureintro; exact (View.read_writes_eq_canon _ _ _ (View.cover_of_tiledL _ (![1, 1024]) (by sl_kernel_rfl))).trans (valC_28 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H29]
  · unfold owns; iexists _; isplitr
    swap; · iexact H29
    ipureintro; exact (View.read_writes_eq_canon _ _ _ (View.cover_of_tiledL _ (![1, 1024]) (by sl_kernel_rfl))).trans (valC_29 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [HS0]
  · iexists _; unfold owns; iexists _; isplitr
    swap; · iexact HS0
    ipureintro; rfl
  unfold owns; iexists _; isplitr
  swap; · iexact HS1
  ipureintro; exact (View.read_writes_eq_canon _ _ _ (View.cover_of_tiledL _ (![128, 1024]) (by sl_kernel_rfl))).trans (valC_S1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

end Cert.KernelIdeal.Hand

end
-- ==== Proof.IdealRun.lean ====
/-
  The launch: what each grid point reads (`ins`), the running sums after it (`st`), the body's obligation at every point,
  the run of the whole program and its frame. The projection's gradient (window 20) is followed as a relation, since the
  kernel leaves its first 2048 columns alone; every other window is followed exactly.
-/
module

public import proofs.«01_k».proof.Proof.BodyA
public import proofs.«01_k».proof.Proof.BodyB
public import proofs.«01_k».proof.Proof.BodyC
public import Idealize.ShloMosaic.Lib.Pipeline.DatRel
public import Idealize.ShloMosaic.Lib.Pipeline.ArrRel
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point reads, and the sums it leaves -/

/-- The blocks that point `t` reads. -/
def ins (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t⟩

/-- The sums after point `n`. -/
def st (c : Dev nD) : (n : ℕ) → n < cfg0.N → Sums F
  | 0, h => (ins m c ⟨0, h⟩).step Sums.zero
  | n + 1, h => (ins m c ⟨n + 1, h⟩).step (st c n (Nat.lt_of_succ_lt h))

theorem st_A (c : Dev nD) (t : Fin cfg0.N) (h0 : t.val % 32 = 0) : st m c t.val t.isLt = (ins m c t).step Sums.zero := by
  have hN : t.val < 32 := lt_of_lt_of_eq t.isLt (show cfg0.N = 32 from N_0)
  obtain ⟨n, hn⟩ := t
  cases n with
  | zero => rfl
  | succ n => exfalso; dsimp only at h0 hN; omega

theorem st_pos (c : Dev nD) (t : Fin cfg0.N) (h0 : ¬t.val % 32 = 0) :
    st m c t.val t.isLt = (ins m c t).step (st m c (t.val - 1) (Nat.lt_of_le_of_lt (Nat.sub_le _ _) t.isLt)) := by
  obtain ⟨n, hn⟩ := t
  cases n with
  | zero => exact absurd (Nat.zero_mod _) h0
  | succ n => rfl

/-- Before position `n`: the scratch of the spatial bias' gradient at the sum so far, the other scratch at anything. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare (st m c n hn).s1) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0_0 fullShare d) ∗ owns (c : Thread nD τ) scM0_1 fullShare (st m c n hn).s1) ∗ (∃ r, prngReg c r)) := rfl

theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare (st m c (n - 1) (by omega)).s1) ∗ (∃ r, prngReg c r)) := by
  cases n with
  | zero => exact absurd rfl hz
  | succ n => rfl

/-! ## The proof data -/

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (ins m c t).o18
    | ⟨19, _⟩ => (ins m c t).o19
    | ⟨20, _⟩ => (ins m c t).o20
    | ⟨21, _⟩ => (ins m c t).o21
    | ⟨22, _⟩ => (st m c t.val t.isLt).a22
    | ⟨23, _⟩ => (st m c t.val t.isLt).a23
    | ⟨24, _⟩ => (st m c t.val t.isLt).a24
    | ⟨25, _⟩ => o25 (st m c t.val t.isLt).s1
    | ⟨26, _⟩ => (st m c t.val t.isLt).a26
    | ⟨27, _⟩ => (st m c t.val t.isLt).a27
    | ⟨28, _⟩ => (st m c t.val t.isLt).a28
    | ⟨29, _⟩ => (st m c t.val t.isLt).a29
    | ⟨_ + 30, h⟩ => absurd h (Nat.not_lt.2 (Nat.le_add_left _ _))
  Φ t := PhiS m c t.val (Nat.le_of_lt_succ t.isLt)
  q w := Pipeline.shareOf spec0 w
  owed _ := 0

/-- Window 20 alone is followed as a relation. -/
def loose0 : Fin cfg0.W → Bool := fun w => w == (20 : Fin 30)

/-- What is known of window 20 after a point: the columns the kernel writes. -/
def rel0 (c : Dev nD) : (w : Fin cfg0.W) → Fin cfg0.N → ((cfg0.win w).block.Idx → Elt F (cfg0.win w).elt) → Prop
  | ⟨20, _⟩, t, X => (ins m c t).Agrees20 X
  | _, _, _ => True

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = (ins m c t).o18 := by dsimp only [dats]
theorem after0_19 (c : Dev nD) (t : Fin cfg0.N) : (dats m 0 c).after 19 t = (ins m c t).o19 := by dsimp only [dats]
theorem after0_20 (c : Dev nD) (t : Fin cfg0.N) : (dats m 0 c).after 20 t = (ins m c t).o20 := by dsimp only [dats]
theorem after0_21 (c : Dev nD) (t : Fin cfg0.N) : (dats m 0 c).after 21 t = (ins m c t).o21 := by dsimp only [dats]
theorem after0_22 (c : Dev nD) (t : Fin cfg0.N) : (dats m 0 c).after 22 t = (st m c t.val t.isLt).a22 := by dsimp only [dats]
theorem after0_23 (c : Dev nD) (t : Fin cfg0.N) : (dats m 0 c).after 23 t = (st m c t.val t.isLt).a23 := by dsimp only [dats]
theorem after0_24 (c : Dev nD) (t : Fin cfg0.N) : (dats m 0 c).after 24 t = (st m c t.val t.isLt).a24 := by dsimp only [dats]
theorem after0_25 (c : Dev nD) (t : Fin cfg0.N) : (dats m 0 c).after 25 t = o25 (st m c t.val t.isLt).s1 := by dsimp only [dats]
theorem after0_26 (c : Dev nD) (t : Fin cfg0.N) : (dats m 0 c).after 26 t = (st m c t.val t.isLt).a26 := by dsimp only [dats]
theorem after0_27 (c : Dev nD) (t : Fin cfg0.N) : (dats m 0 c).after 27 t = (st m c t.val t.isLt).a27 := by dsimp only [dats]
theorem after0_28 (c : Dev nD) (t : Fin cfg0.N) : (dats m 0 c).after 28 t = (st m c t.val t.isLt).a28 := by dsimp only [dats]
theorem after0_29 (c : Dev nD) (t : Fin cfg0.N) : (dats m 0 c).after 29 t = (st m c t.val t.isLt).a29 := by dsimp only [dats]

theorem before0_0 (c : Dev nD) (t : Fin cfg0.N) (d) : (dats m 0 c).before 0 t d = (ins m c t).x0 :=
  before0_0_of m (dats m 0 c) (A_eq m c 0) (after0_0 m c) t d
theorem before0_1 (c : Dev nD) (t : Fin cfg0.N) (d) : (dats m 0 c).before 1 t d = (ins m c t).x1 :=
  before0_1_of m (dats m 0 c) (A_eq m c 1) (after0_1 m c) t d
theorem before0_2 (c : Dev nD) (t : Fin cfg0.N) (d) : (dats m 0 c).before 2 t d = (ins m c t).x2 :=
  before0_2_of m (dats m 0 c) (A_eq m c 2) (after0_2 m c) t d
theorem before0_3 (c : Dev nD) (t : Fin cfg0.N) (d) : (dats m 0 c).before 3 t d = (ins m c t).x3 :=
  before0_3_of m (dats m 0 c) (A_eq m c 3) (after0_3 m c) t d
theorem before0_4 (c : Dev nD) (t : Fin cfg0.N) (d) : (dats m 0 c).before 4 t d = (ins m c t).x4 :=
  before0_4_of m (dats m 0 c) (A_eq m c 4) (after0_4 m c) t d
theorem before0_5 (c : Dev nD) (t : Fin cfg0.N) (d) : (dats m 0 c).before 5 t d = (ins m c t).x5 :=
  before0_5_of m (dats m 0 c) (A_eq m c 5) (after0_5 m c) t d
theorem before0_6 (c : Dev nD) (t : Fin cfg0.N) (d) : (dats m 0 c).before 6 t d = (ins m c t).x6 :=
  before0_6_of m (dats m 0 c) (A_eq m c 6) (after0_6 m c) t d
theorem before0_7 (c : Dev nD) (t : Fin cfg0.N) (d) : (dats m 0 c).before 7 t d = (ins m c t).x7 :=
  before0_7_of m (dats m 0 c) (A_eq m c 7) (after0_7 m c) t d
theorem before0_8 (c : Dev nD) (t : Fin cfg0.N) (d) : (dats m 0 c).before 8 t d = (ins m c t).x8 :=
  before0_8_of m (dats m 0 c) (A_eq m c 8) (after0_8 m c) t d
theorem before0_9 (c : Dev nD) (t : Fin cfg0.N) (d) : (dats m 0 c).before 9 t d = (ins m c t).x9 :=
  before0_9_of m (dats m 0 c) (A_eq m c 9) (after0_9 m c) t d
theorem before0_10 (c : Dev nD) (t : Fin cfg0.N) (d) : (dats m 0 c).before 10 t d = (ins m c t).x10 :=
  before0_10_of m (dats m 0 c) (A_eq m c 10) (after0_10 m c) t d
theorem before0_11 (c : Dev nD) (t : Fin cfg0.N) (d) : (dats m 0 c).before 11 t d = (ins m c t).x11 :=
  before0_11_of m (dats m 0 c) (A_eq m c 11) (after0_11 m c) t d
theorem before0_12 (c : Dev nD) (t : Fin cfg0.N) (d) : (dats m 0 c).before 12 t d = (ins m c t).x12 :=
  before0_12_of m (dats m 0 c) (A_eq m c 12) (after0_12 m c) t d
theorem before0_13 (c : Dev nD) (t : Fin cfg0.N) (d) : (dats m 0 c).before 13 t d = (ins m c t).x13 :=
  before0_13_of m (dats m 0 c) (A_eq m c 13) (after0_13 m c) t d
theorem before0_14 (c : Dev nD) (t : Fin cfg0.N) (d) : (dats m 0 c).before 14 t d = (ins m c t).x14 :=
  before0_14_of m (dats m 0 c) (A_eq m c 14) (after0_14 m c) t d
theorem before0_15 (c : Dev nD) (t : Fin cfg0.N) (d) : (dats m 0 c).before 15 t d = (ins m c t).x15 :=
  before0_15_of m (dats m 0 c) (A_eq m c 15) (after0_15 m c) t d
theorem before0_16 (c : Dev nD) (t : Fin cfg0.N) (d) : (dats m 0 c).before 16 t d = (ins m c t).x16 :=
  before0_16_of m (dats m 0 c) (A_eq m c 16) (after0_16 m c) t d
theorem before0_17 (c : Dev nD) (t : Fin cfg0.N) (d) : (dats m 0 c).before 17 t d = (ins m c t).x17 :=
  before0_17_of m (dats m 0 c) (A_eq m c 17) (after0_17 m c) t d
theorem before0_22 (c : Dev nD) (t : Fin cfg0.N) (h0 : ¬t.val % 32 = 0) (d) :
    (dats m 0 c).before 22 t d = (st m c (t.val - 1) (Nat.lt_of_le_of_lt (Nat.sub_le _ _) t.isLt)).a22 := by
  have hN : t.val < 32 := lt_of_lt_of_eq t.isLt (show cfg0.N = 32 from N_0)
  rw [Dat.before_out_kept _ 22 rfl t (by omega) (Bool.eq_false_iff.mpr fun h => by have := (flush0_22 _).mp h; dsimp only at this; omega)
    (fun _ => rfl) (fun _ _ => rfl)]
  dsimp only [dats]
theorem before0_23 (c : Dev nD) (t : Fin cfg0.N) (h0 : ¬t.val % 32 = 0) (d) :
    (dats m 0 c).before 23 t d = (st m c (t.val - 1) (Nat.lt_of_le_of_lt (Nat.sub_le _ _) t.isLt)).a23 := by
  have hN : t.val < 32 := lt_of_lt_of_eq t.isLt (show cfg0.N = 32 from N_0)
  rw [Dat.before_out_kept _ 23 rfl t (by omega) (Bool.eq_false_iff.mpr fun h => by have := (flush0_23 _).mp h; dsimp only at this; omega)
    (fun _ => rfl) (fun _ _ => rfl)]
  dsimp only [dats]
theorem before0_24 (c : Dev nD) (t : Fin cfg0.N) (h0 : ¬t.val % 32 = 0) (d) :
    (dats m 0 c).before 24 t d = (st m c (t.val - 1) (Nat.lt_of_le_of_lt (Nat.sub_le _ _) t.isLt)).a24 := by
  have hN : t.val < 32 := lt_of_lt_of_eq t.isLt (show cfg0.N = 32 from N_0)
  rw [Dat.before_out_kept _ 24 rfl t (by omega) (Bool.eq_false_iff.mpr fun h => by have := (flush0_24 _).mp h; dsimp only at this; omega)
    (fun _ => rfl) (fun _ _ => rfl)]
  dsimp only [dats]
theorem before0_26 (c : Dev nD) (t : Fin cfg0.N) (h0 : ¬t.val % 32 = 0) (d) :
    (dats m 0 c).before 26 t d = (st m c (t.val - 1) (Nat.lt_of_le_of_lt (Nat.sub_le _ _) t.isLt)).a26 := by
  have hN : t.val < 32 := lt_of_lt_of_eq t.isLt (show cfg0.N = 32 from N_0)
  rw [Dat.before_out_kept _ 26 rfl t (by omega) (Bool.eq_false_iff.mpr fun h => by have := (flush0_26 _).mp h; dsimp only at this; omega)
    (fun _ => rfl) (fun _ _ => rfl)]
  dsimp only [dats]
theorem before0_27 (c : Dev nD) (t : Fin cfg0.N) (h0 : ¬t.val % 32 = 0) (d) :
    (dats m 0 c).before 27 t d = (st m c (t.val - 1) (Nat.lt_of_le_of_lt (Nat.sub_le _ _) t.isLt)).a27 := by
  have hN : t.val < 32 := lt_of_lt_of_eq t.isLt (show cfg0.N = 32 from N_0)
  rw [Dat.before_out_kept _ 27 rfl t (by omega) (Bool.eq_false_iff.mpr fun h => by have := (flush0_27 _).mp h; dsimp only at this; omega)
    (fun _ => rfl) (fun _ _ => rfl)]
  dsimp only [dats]
theorem before0_28 (c : Dev nD) (t : Fin cfg0.N) (h0 : ¬t.val % 32 = 0) (d) :
    (dats m 0 c).before 28 t d = (st m c (t.val - 1) (Nat.lt_of_le_of_lt (Nat.sub_le _ _) t.isLt)).a28 := by
  have hN : t.val < 32 := lt_of_lt_of_eq t.isLt (show cfg0.N = 32 from N_0)
  rw [Dat.before_out_kept _ 28 rfl t (by omega) (Bool.eq_false_iff.mpr fun h => by have := (flush0_28 _).mp h; dsimp only at this; omega)
    (fun _ => rfl) (fun _ _ => rfl)]
  dsimp only [dats]
theorem before0_29 (c : Dev nD) (t : Fin cfg0.N) (h0 : ¬t.val % 32 = 0) (d) :
    (dats m 0 c).before 29 t d = (st m c (t.val - 1) (Nat.lt_of_le_of_lt (Nat.sub_le _ _) t.isLt)).a29 := by
  have hN : t.val < 32 := lt_of_lt_of_eq t.isLt (show cfg0.N = 32 from N_0)
  rw [Dat.before_out_kept _ 29 rfl t (by omega) (Bool.eq_false_iff.mpr fun h => by have := (flush0_29 _).mp h; dsimp only at this; omega)
    (fun _ => rfl) (fun _ _ => rfl)]
  dsimp only [dats]

/-! ## The body's obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ Y, ⌜((dats m 0 c).toRRel loose0 (rel0 m c)).Finds 20 t Y⌝ ∗ owns (c : Thread nD τ) (ms0_20 t) fullShare Y)
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (∃ X, ⌜(ins m c t).Agrees20 X⌝ ∗ owns (c : Thread nD τ) (ms0_20 t) fullShare X)
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t
    ∗ (dats m 0 c).leavesExact 27 t
    ∗ (dats m 0 c).leavesExact 28 t
    ∗ (dats m 0 c).leavesExact 29 t)

theorem leaves0_0 (c : Dev nD) (t : Fin cfg0.N) : (dats m 0 c).leavesExact 0 t = owns (c : Thread nD τ) (ms0_0 t) fullShare ((ins m c t).x0) := by
  rw [show (dats m 0 c).leavesExact 0 t = owns (c : Thread nD τ) (ms0_0 t) fullShare ((dats m 0 c).after 0 t) from by
    unfold Dat.leavesExact; rw [liveAt0_0 t], after0_0]; rfl
theorem leaves0_1 (c : Dev nD) (t : Fin cfg0.N) : (dats m 0 c).leavesExact 1 t = owns (c : Thread nD τ) (ms0_1 t) fullShare ((ins m c t).x1) := by
  rw [show (dats m 0 c).leavesExact 1 t = owns (c : Thread nD τ) (ms0_1 t) fullShare ((dats m 0 c).after 1 t) from by
    unfold Dat.leavesExact; rw [liveAt0_1 t], after0_1]; rfl
theorem leaves0_2 (c : Dev nD) (t : Fin cfg0.N) : (dats m 0 c).leavesExact 2 t = owns (c : Thread nD τ) (ms0_2 t) fullShare ((ins m c t).x2) := by
  rw [show (dats m 0 c).leavesExact 2 t = owns (c : Thread nD τ) (ms0_2 t) fullShare ((dats m 0 c).after 2 t) from by
    unfold Dat.leavesExact; rw [liveAt0_2 t], after0_2]; rfl
theorem leaves0_3 (c : Dev nD) (t : Fin cfg0.N) : (dats m 0 c).leavesExact 3 t = owns (c : Thread nD τ) (ms0_3 t) fullShare ((ins m c t).x3) := by
  rw [show (dats m 0 c).leavesExact 3 t = owns (c : Thread nD τ) (ms0_3 t) fullShare ((dats m 0 c).after 3 t) from by
    unfold Dat.leavesExact; rw [liveAt0_3 t], after0_3]; rfl
theorem leaves0_4 (c : Dev nD) (t : Fin cfg0.N) : (dats m 0 c).leavesExact 4 t = owns (c : Thread nD τ) (ms0_4 t) fullShare ((ins m c t).x4) := by
  rw [show (dats m 0 c).leavesExact 4 t = owns (c : Thread nD τ) (ms0_4 t) fullShare ((dats m 0 c).after 4 t) from by
    unfold Dat.leavesExact; rw [liveAt0_4 t], after0_4]; rfl
theorem leaves0_5 (c : Dev nD) (t : Fin cfg0.N) : (dats m 0 c).leavesExact 5 t = owns (c : Thread nD τ) (ms0_5 t) fullShare ((ins m c t).x5) := by
  rw [show (dats m 0 c).leavesExact 5 t = owns (c : Thread nD τ) (ms0_5 t) fullShare ((dats m 0 c).after 5 t) from by
    unfold Dat.leavesExact; rw [liveAt0_5 t], after0_5]; rfl
theorem leaves0_6 (c : Dev nD) (t : Fin cfg0.N) : (dats m 0 c).leavesExact 6 t = owns (c : Thread nD τ) (ms0_6 t) fullShare ((ins m c t).x6) := by
  rw [show (dats m 0 c).leavesExact 6 t = owns (c : Thread nD τ) (ms0_6 t) fullShare ((dats m 0 c).after 6 t) from by
    unfold Dat.leavesExact; rw [liveAt0_6 t], after0_6]; rfl
theorem leaves0_7 (c : Dev nD) (t : Fin cfg0.N) : (dats m 0 c).leavesExact 7 t = owns (c : Thread nD τ) (ms0_7 t) fullShare ((ins m c t).x7) := by
  rw [show (dats m 0 c).leavesExact 7 t = owns (c : Thread nD τ) (ms0_7 t) fullShare ((dats m 0 c).after 7 t) from by
    unfold Dat.leavesExact; rw [liveAt0_7 t], after0_7]; rfl
theorem leaves0_8 (c : Dev nD) (t : Fin cfg0.N) : (dats m 0 c).leavesExact 8 t = owns (c : Thread nD τ) (ms0_8 t) fullShare ((ins m c t).x8) := by
  rw [show (dats m 0 c).leavesExact 8 t = owns (c : Thread nD τ) (ms0_8 t) fullShare ((dats m 0 c).after 8 t) from by
    unfold Dat.leavesExact; rw [liveAt0_8 t], after0_8]; rfl
theorem leaves0_9 (c : Dev nD) (t : Fin cfg0.N) : (dats m 0 c).leavesExact 9 t = owns (c : Thread nD τ) (ms0_9 t) fullShare ((ins m c t).x9) := by
  rw [show (dats m 0 c).leavesExact 9 t = owns (c : Thread nD τ) (ms0_9 t) fullShare ((dats m 0 c).after 9 t) from by
    unfold Dat.leavesExact; rw [liveAt0_9 t], after0_9]; rfl
theorem leaves0_10 (c : Dev nD) (t : Fin cfg0.N) : (dats m 0 c).leavesExact 10 t = owns (c : Thread nD τ) (ms0_10 t) fullShare ((ins m c t).x10) := by
  rw [show (dats m 0 c).leavesExact 10 t = owns (c : Thread nD τ) (ms0_10 t) fullShare ((dats m 0 c).after 10 t) from by
    unfold Dat.leavesExact; rw [liveAt0_10 t], after0_10]; rfl
theorem leaves0_11 (c : Dev nD) (t : Fin cfg0.N) : (dats m 0 c).leavesExact 11 t = owns (c : Thread nD τ) (ms0_11 t) fullShare ((ins m c t).x11) := by
  rw [show (dats m 0 c).leavesExact 11 t = owns (c : Thread nD τ) (ms0_11 t) fullShare ((dats m 0 c).after 11 t) from by
    unfold Dat.leavesExact; rw [liveAt0_11 t], after0_11]; rfl
theorem leaves0_12 (c : Dev nD) (t : Fin cfg0.N) : (dats m 0 c).leavesExact 12 t = owns (c : Thread nD τ) (ms0_12 t) fullShare ((ins m c t).x12) := by
  rw [show (dats m 0 c).leavesExact 12 t = owns (c : Thread nD τ) (ms0_12 t) fullShare ((dats m 0 c).after 12 t) from by
    unfold Dat.leavesExact; rw [liveAt0_12 t], after0_12]; rfl
theorem leaves0_13 (c : Dev nD) (t : Fin cfg0.N) : (dats m 0 c).leavesExact 13 t = owns (c : Thread nD τ) (ms0_13 t) fullShare ((ins m c t).x13) := by
  rw [show (dats m 0 c).leavesExact 13 t = owns (c : Thread nD τ) (ms0_13 t) fullShare ((dats m 0 c).after 13 t) from by
    unfold Dat.leavesExact; rw [liveAt0_13 t], after0_13]; rfl
theorem leaves0_14 (c : Dev nD) (t : Fin cfg0.N) : (dats m 0 c).leavesExact 14 t = owns (c : Thread nD τ) (ms0_14 t) fullShare ((ins m c t).x14) := by
  rw [show (dats m 0 c).leavesExact 14 t = owns (c : Thread nD τ) (ms0_14 t) fullShare ((dats m 0 c).after 14 t) from by
    unfold Dat.leavesExact; rw [liveAt0_14 t], after0_14]; rfl
theorem leaves0_15 (c : Dev nD) (t : Fin cfg0.N) : (dats m 0 c).leavesExact 15 t = owns (c : Thread nD τ) (ms0_15 t) fullShare ((ins m c t).x15) := by
  rw [show (dats m 0 c).leavesExact 15 t = owns (c : Thread nD τ) (ms0_15 t) fullShare ((dats m 0 c).after 15 t) from by
    unfold Dat.leavesExact; rw [liveAt0_15 t], after0_15]; rfl
theorem leaves0_16 (c : Dev nD) (t : Fin cfg0.N) : (dats m 0 c).leavesExact 16 t = owns (c : Thread nD τ) (ms0_16 t) fullShare ((ins m c t).x16) := by
  rw [show (dats m 0 c).leavesExact 16 t = owns (c : Thread nD τ) (ms0_16 t) fullShare ((dats m 0 c).after 16 t) from by
    unfold Dat.leavesExact; rw [liveAt0_16 t], after0_16]; rfl
theorem leaves0_17 (c : Dev nD) (t : Fin cfg0.N) : (dats m 0 c).leavesExact 17 t = owns (c : Thread nD τ) (ms0_17 t) fullShare ((ins m c t).x17) := by
  rw [show (dats m 0 c).leavesExact 17 t = owns (c : Thread nD τ) (ms0_17 t) fullShare ((dats m 0 c).after 17 t) from by
    unfold Dat.leavesExact; rw [liveAt0_17 t], after0_17]; rfl
theorem leaves0_18 (c : Dev nD) (t : Fin cfg0.N) : (dats m 0 c).leavesExact 18 t = owns (c : Thread nD τ) (ms0_18 t) fullShare ((ins m c t).o18) := by
  rw [show (dats m 0 c).leavesExact 18 t = owns (c : Thread nD τ) (ms0_18 t) fullShare ((dats m 0 c).after 18 t) from by
    unfold Dat.leavesExact; rw [liveAt0_18 t], after0_18]
theorem leaves0_19 (c : Dev nD) (t : Fin cfg0.N) : (dats m 0 c).leavesExact 19 t = owns (c : Thread nD τ) (ms0_19 t) fullShare ((ins m c t).o19) := by
  rw [show (dats m 0 c).leavesExact 19 t = owns (c : Thread nD τ) (ms0_19 t) fullShare ((dats m 0 c).after 19 t) from by
    unfold Dat.leavesExact; rw [liveAt0_19 t], after0_19]
theorem leaves0_21 (c : Dev nD) (t : Fin cfg0.N) : (dats m 0 c).leavesExact 21 t = owns (c : Thread nD τ) (ms0_21 t) fullShare ((ins m c t).o21) := by
  rw [show (dats m 0 c).leavesExact 21 t = owns (c : Thread nD τ) (ms0_21 t) fullShare ((dats m 0 c).after 21 t) from by
    unfold Dat.leavesExact; rw [liveAt0_21 t], after0_21]
theorem leaves0_22 (c : Dev nD) (t : Fin cfg0.N) : (dats m 0 c).leavesExact 22 t = owns (c : Thread nD τ) (ms0_22 t) fullShare ((st m c t.val t.isLt).a22) := by
  rw [show (dats m 0 c).leavesExact 22 t = owns (c : Thread nD τ) (ms0_22 t) fullShare ((dats m 0 c).after 22 t) from by
    unfold Dat.leavesExact; rw [liveAt0_22 t], after0_22]
theorem leaves0_23 (c : Dev nD) (t : Fin cfg0.N) : (dats m 0 c).leavesExact 23 t = owns (c : Thread nD τ) (ms0_23 t) fullShare ((st m c t.val t.isLt).a23) := by
  rw [show (dats m 0 c).leavesExact 23 t = owns (c : Thread nD τ) (ms0_23 t) fullShare ((dats m 0 c).after 23 t) from by
    unfold Dat.leavesExact; rw [liveAt0_23 t], after0_23]
theorem leaves0_24 (c : Dev nD) (t : Fin cfg0.N) : (dats m 0 c).leavesExact 24 t = owns (c : Thread nD τ) (ms0_24 t) fullShare ((st m c t.val t.isLt).a24) := by
  rw [show (dats m 0 c).leavesExact 24 t = owns (c : Thread nD τ) (ms0_24 t) fullShare ((dats m 0 c).after 24 t) from by
    unfold Dat.leavesExact; rw [liveAt0_24 t], after0_24]
theorem leaves0_26 (c : Dev nD) (t : Fin cfg0.N) : (dats m 0 c).leavesExact 26 t = owns (c : Thread nD τ) (ms0_26 t) fullShare ((st m c t.val t.isLt).a26) := by
  rw [show (dats m 0 c).leavesExact 26 t = owns (c : Thread nD τ) (ms0_26 t) fullShare ((dats m 0 c).after 26 t) from by
    unfold Dat.leavesExact; rw [liveAt0_26 t], after0_26]
theorem leaves0_27 (c : Dev nD) (t : Fin cfg0.N) : (dats m 0 c).leavesExact 27 t = owns (c : Thread nD τ) (ms0_27 t) fullShare ((st m c t.val t.isLt).a27) := by
  rw [show (dats m 0 c).leavesExact 27 t = owns (c : Thread nD τ) (ms0_27 t) fullShare ((dats m 0 c).after 27 t) from by
    unfold Dat.leavesExact; rw [liveAt0_27 t], after0_27]
theorem leaves0_28 (c : Dev nD) (t : Fin cfg0.N) : (dats m 0 c).leavesExact 28 t = owns (c : Thread nD τ) (ms0_28 t) fullShare ((st m c t.val t.isLt).a28) := by
  rw [show (dats m 0 c).leavesExact 28 t = owns (c : Thread nD τ) (ms0_28 t) fullShare ((dats m 0 c).after 28 t) from by
    unfold Dat.leavesExact; rw [liveAt0_28 t], after0_28]
theorem leaves0_29 (c : Dev nD) (t : Fin cfg0.N) : (dats m 0 c).leavesExact 29 t = owns (c : Thread nD τ) (ms0_29 t) fullShare ((st m c t.val t.isLt).a29) := by
  rw [show (dats m 0 c).leavesExact 29 t = owns (c : Thread nD τ) (ms0_29 t) fullShare ((dats m 0 c).after 29 t) from by
    unfold Dat.leavesExact; rw [liveAt0_29 t], after0_29]

set_option maxHeartbeats 10000000 in
/-- The body at a point of case A. -/
theorem sound_A (c : Dev nD) (t : Fin cfg0.N) (h0 : t.val % 32 = 0) (h1 : ¬t.val % 32 = 31) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).owesAt () t.succ = (dats m 0 c).owesAt () t.castSucc from rfl,
    show (dats m 0 c).Φ t.succ = PhiS m c (t.val + 1) t.isLt from rfl, PhiS_succ,
    show (dats m 0 c).Φ t.castSucc = PhiS m c t.val (Nat.le_of_lt t.isLt) from rfl]
  have hN : t.val < 32 := lt_of_lt_of_eq t.isLt (show cfg0.N = 32 from N_0)
  rw [leaves0_0, leaves0_1, leaves0_2, leaves0_3, leaves0_4, leaves0_5, leaves0_6, leaves0_7, leaves0_8, leaves0_9, leaves0_10, leaves0_11, leaves0_12, leaves0_13, leaves0_14, leaves0_15, leaves0_16, leaves0_17, leaves0_18, leaves0_19, leaves0_21, leaves0_22, leaves0_23, leaves0_24, leaves0_26, leaves0_27, leaves0_28, leaves0_29]
  rw [Dat.leavesExact_idle (dats m 0 c) 25 t (idleAt0_25_A t ((hcond0_0 t).mpr h0) (fun h => h1 ((hcond0_1 t).mp h))) (noFlush0_25_A t ((hcond0_0 t).mpr h0) (fun h => h1 ((hcond0_1 t).mp h)))]
  rw [st_A m c t h0, PhiS_zero m c _ _ (by omega), PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%Y20, %F20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply (body_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) ((hcond0_0 t).mpr h0) (fun h => h1 ((hcond0_1 t).mp h)) (ins m c t) ((dats m 0 c).before 25 t d25))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexact H25
  isplitl [H26]; · iexists _; iexact H26
  isplitl [H27]; · iexists _; iexact H27
  isplitl [H28]; · iexists _; iexact H28
  isplitl [H29]; · iexists _; iexact H29
  isplitl [HS0]; · iexact HS0
  isplitl [HS1]; · iexact HS1
  iintro ⟨G0, G1, G2, G3, G4, G5, G6, G7, G8, G9, G10, G11, G12, G13, G14, G15, G16, G17, G18, G19, G20, G21, G22, G23, G24, G25, G26, G27, G28, G29, GS0, GS1⟩
  isplitl [GS0 GS1 Hg]
  · isplitl [GS0 GS1]
    · isplitl [GS0]; · iexact GS0
      iexact GS1
    iexact Hg
  isplitl [Ho]; · iexact Ho
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [G12]; · iexact G12
  isplitl [G13]; · iexact G13
  isplitl [G14]; · iexact G14
  isplitl [G15]; · iexact G15
  isplitl [G16]; · iexact G16
  isplitl [G17]; · iexact G17
  isplitl [G18]; · iexact G18
  isplitl [G19]; · iexact G19
  isplitl [G20]; · iexact G20
  isplitl [G21]; · iexact G21
  isplitl [G22]; · iexact G22
  isplitl [G23]; · iexact G23
  isplitl [G24]; · iexact G24
  isplitl [G25]; · iexists _; iexact G25
  isplitl [G26]; · iexact G26
  isplitl [G27]; · iexact G27
  isplitl [G28]; · iexact G28
  iexact G29

set_option maxHeartbeats 10000000 in
/-- The body at a point of case B. -/
theorem sound_B (c : Dev nD) (t : Fin cfg0.N) (h0 : ¬t.val % 32 = 0) (h1 : ¬t.val % 32 = 31) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).owesAt () t.succ = (dats m 0 c).owesAt () t.castSucc from rfl,
    show (dats m 0 c).Φ t.succ = PhiS m c (t.val + 1) t.isLt from rfl, PhiS_succ,
    show (dats m 0 c).Φ t.castSucc = PhiS m c t.val (Nat.le_of_lt t.isLt) from rfl]
  have hN : t.val < 32 := lt_of_lt_of_eq t.isLt (show cfg0.N = 32 from N_0)
  rw [leaves0_0, leaves0_1, leaves0_2, leaves0_3, leaves0_4, leaves0_5, leaves0_6, leaves0_7, leaves0_8, leaves0_9, leaves0_10, leaves0_11, leaves0_12, leaves0_13, leaves0_14, leaves0_15, leaves0_16, leaves0_17, leaves0_18, leaves0_19, leaves0_21, leaves0_22, leaves0_23, leaves0_24, leaves0_26, leaves0_27, leaves0_28, leaves0_29]
  rw [Dat.leavesExact_idle (dats m 0 c) 25 t (idleAt0_25_B t (fun h => h0 ((hcond0_0 t).mp h)) (fun h => h1 ((hcond0_1 t).mp h))) (noFlush0_25_B t (fun h => h0 ((hcond0_0 t).mp h)) (fun h => h1 ((hcond0_1 t).mp h)))]
  simp only [before0_22 m c t h0, before0_23 m c t h0, before0_24 m c t h0, before0_26 m c t h0, before0_27 m c t h0, before0_28 m c t h0, before0_29 m c t h0]
  rw [st_pos m c t h0, PhiS_pos m c _ _ (by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%Y20, %F20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply (body_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) (fun h => h0 ((hcond0_0 t).mp h)) (fun h => h1 ((hcond0_1 t).mp h)) (ins m c t) (st m c (t.val - 1) (Nat.lt_of_le_of_lt (Nat.sub_le _ _) t.isLt)) ((dats m 0 c).before 25 t d25))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [HS0]; · iexact HS0
  isplitl [HS1]; · iexact HS1
  iintro ⟨G0, G1, G2, G3, G4, G5, G6, G7, G8, G9, G10, G11, G12, G13, G14, G15, G16, G17, G18, G19, G20, G21, G22, G23, G24, G25, G26, G27, G28, G29, GS0, GS1⟩
  isplitl [GS0 GS1 Hg]
  · isplitl [GS0 GS1]
    · isplitl [GS0]; · iexact GS0
      iexact GS1
    iexact Hg
  isplitl [Ho]; · iexact Ho
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [G12]; · iexact G12
  isplitl [G13]; · iexact G13
  isplitl [G14]; · iexact G14
  isplitl [G15]; · iexact G15
  isplitl [G16]; · iexact G16
  isplitl [G17]; · iexact G17
  isplitl [G18]; · iexact G18
  isplitl [G19]; · iexact G19
  isplitl [G20]; · iexact G20
  isplitl [G21]; · iexact G21
  isplitl [G22]; · iexact G22
  isplitl [G23]; · iexact G23
  isplitl [G24]; · iexact G24
  isplitl [G25]; · iexists _; iexact G25
  isplitl [G26]; · iexact G26
  isplitl [G27]; · iexact G27
  isplitl [G28]; · iexact G28
  iexact G29

set_option maxHeartbeats 10000000 in
/-- The body at a point of case C. -/
theorem sound_C (c : Dev nD) (t : Fin cfg0.N) (h0 : ¬t.val % 32 = 0) (h1 : t.val % 32 = 31) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).owesAt () t.succ = (dats m 0 c).owesAt () t.castSucc from rfl,
    show (dats m 0 c).Φ t.succ = PhiS m c (t.val + 1) t.isLt from rfl, PhiS_succ,
    show (dats m 0 c).Φ t.castSucc = PhiS m c t.val (Nat.le_of_lt t.isLt) from rfl]
  have hN : t.val < 32 := lt_of_lt_of_eq t.isLt (show cfg0.N = 32 from N_0)
  rw [leaves0_0, leaves0_1, leaves0_2, leaves0_3, leaves0_4, leaves0_5, leaves0_6, leaves0_7, leaves0_8, leaves0_9, leaves0_10, leaves0_11, leaves0_12, leaves0_13, leaves0_14, leaves0_15, leaves0_16, leaves0_17, leaves0_18, leaves0_19, leaves0_21, leaves0_22, leaves0_23, leaves0_24, leaves0_26, leaves0_27, leaves0_28, leaves0_29]
  rw [show (dats m 0 c).leavesExact 25 t = owns (c : Thread nD τ) (ms0_25 t) fullShare ((dats m 0 c).after 25 t) from by
    unfold Dat.leavesExact; rw [liveAt0_25_C t (fun h => h0 ((hcond0_0 t).mp h)) ((hcond0_1 t).mpr h1)], after0_25]
  simp only [before0_22 m c t h0, before0_23 m c t h0, before0_24 m c t h0, before0_26 m c t h0, before0_27 m c t h0, before0_28 m c t h0, before0_29 m c t h0]
  rw [st_pos m c t h0, PhiS_pos m c _ _ (by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%Y20, %F20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply (body_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) (fun h => h0 ((hcond0_0 t).mp h)) ((hcond0_1 t).mpr h1) (ins m c t) (st m c (t.val - 1) (Nat.lt_of_le_of_lt (Nat.sub_le _ _) t.isLt)))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [H22]; · iexact H22
  isplitl [H23]; · iexact H23
  isplitl [H24]; · iexact H24
  isplitl [H25]; · iexists _; iexact H25
  isplitl [H26]; · iexact H26
  isplitl [H27]; · iexact H27
  isplitl [H28]; · iexact H28
  isplitl [H29]; · iexact H29
  isplitl [HS0]; · iexact HS0
  isplitl [HS1]; · iexact HS1
  iintro ⟨G0, G1, G2, G3, G4, G5, G6, G7, G8, G9, G10, G11, G12, G13, G14, G15, G16, G17, G18, G19, G20, G21, G22, G23, G24, G25, G26, G27, G28, G29, GS0, GS1⟩
  isplitl [GS0 GS1 Hg]
  · isplitl [GS0 GS1]
    · isplitl [GS0]; · iexact GS0
      iexact GS1
    iexact Hg
  isplitl [Ho]; · iexact Ho
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [G12]; · iexact G12
  isplitl [G13]; · iexact G13
  isplitl [G14]; · iexact G14
  isplitl [G15]; · iexact G15
  isplitl [G16]; · iexact G16
  isplitl [G17]; · iexact G17
  isplitl [G18]; · iexact G18
  isplitl [G19]; · iexact G19
  isplitl [G20]; · iexact G20
  isplitl [G21]; · iexact G21
  isplitl [G22]; · iexact G22
  isplitl [G23]; · iexact G23
  isplitl [G24]; · iexact G24
  isplitl [G25]; · iexact G25
  isplitl [G26]; · iexact G26
  isplitl [G27]; · iexact G27
  isplitl [G28]; · iexact G28
  iexact G29

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 32 = 0
  · exact sound_A m c t h0 (by omega)
  · by_cases h1 : t.val % 32 = 31
    · exact sound_C m c t h0 h1
    · exact sound_B m c t h0 h1

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body keeps the proof data's promise at every point. -/
theorem body_obligation (c : Dev nD) :
    BodyObligationRel (dats (F := F) m 0 c) (defs₀ (F := F)) Variants.none () Set.univ loose0 (rel0 m c) := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 32 := N_0; omega
  rw [show (dats m 0 c).Φ (Fin.last cfg0.N) = PhiS m c (Fin.last cfg0.N).val (Nat.le_of_lt_succ (Fin.last cfg0.N).isLt) from rfl,
    PhiS_pos m c _ _ ht, PhiA0_eq]
  iintro ⟨⟨HS0, HS1⟩, Hg⟩
  isplitl [HS0 HS1]
  · isplitl [HS0]
    · iexact HS0
    iexists _; iexact HS1
  iexact Hg

/-! ## The run and the frame -/

/-- The proof data read as relations. -/
abbrev rdats (c : Dev nD) := (dats (F := F) m 0 c).toRRel loose0 (rel0 m c)

set_option backward.isDefEq.respectTransparency.types false in
/-- The whole program runs to its end, every array of the pipeline holds what the points left, and every counter is zero. -/
theorem run_main_quiescent : θ_run defs (onTc (τ := τ) (main (F := F))) (s₀ m ρ)
    (fun r => (RDat.FramePost (cfgs 0) (rdats m) (V m)) r ∧ r.2.sem = fun _ => 0) :=
  Pipeline.RDat.θ_run_frame_track_shared (Q' := _) cfgs (0 : Fin 1) launch₀0 defs₀ Variants.none (rdats m) m ρ main
    (hbody := fun c => (body_obligation m c).toRRel) (hq := fun _ _ _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (RDat.FramePost (cfgs 0) (rdats m) (V m)) :=
  (θ_run defs _ _).mono (fun _ h => h.1) (run_main_quiescent m ρ)

/-- Every argument array ends as it began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(cast (congrFun ((rdats m c).ArrAt_in 0 rfl _) _) ((h c).1 0)).trans (((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c)⟩) (run_main m ρ)

/-- The frame: the program ends, leaves its arguments alone, and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.KernelIdeal.Hand

end
-- ==== Proof.Same.lean ====
/-
  The kernel has the text of its idealization, part by part, over any floats. So the idealization's run, which holds over any
  floats, is the kernel's too, and with it the frame.
-/
module

public import proofs.«01_k».proof.Defs
public import proofs.«01_k».proof.Proof.Gen.Kernel
public import proofs.«01_k».proof.Proof.Gen.KernelIdeal
public import proofs.«01_k».proof.Proof.IdealRun

@[expose] public section

set_option maxHeartbeats 3000000
set_option backward.isDefEq.respectTransparency false

noncomputable section

namespace Cert.Kernel.Hand

open Idealize.ShloMosaic Idealize.SL.Sem

variable {F : FTy → Type} [FloatOps F] [hK : Cert.Kernel.Facts] [hI : Cert.KernelIdeal.Facts]

/-- Part 1 of the body is the same. -/
theorem part1 : @Cert.Kernel.k0_part1 F _ hK = @Cert.KernelIdeal.k0_part1 F _ hI := by
  unfold Cert.Kernel.k0_part1 Cert.KernelIdeal.k0_part1
  rfl
/-- Part 2 of the body is the same. -/
theorem part2 : @Cert.Kernel.k0_part2 F _ hK = @Cert.KernelIdeal.k0_part2 F _ hI := by
  unfold Cert.Kernel.k0_part2 Cert.KernelIdeal.k0_part2
  rfl
/-- Part 3 of the body is the same. -/
theorem part3 : @Cert.Kernel.k0_part3 F _ hK = @Cert.KernelIdeal.k0_part3 F _ hI := by
  unfold Cert.Kernel.k0_part3 Cert.KernelIdeal.k0_part3
  rfl
/-- Part 4 of the body is the same. -/
theorem part4 : @Cert.Kernel.k0_part4 F _ hK = @Cert.KernelIdeal.k0_part4 F _ hI := by
  unfold Cert.Kernel.k0_part4 Cert.KernelIdeal.k0_part4
  rfl
/-- Part 5 of the body is the same. -/
theorem part5 : @Cert.Kernel.k0_part5 F _ hK = @Cert.KernelIdeal.k0_part5 F _ hI := by
  unfold Cert.Kernel.k0_part5 Cert.KernelIdeal.k0_part5
  rfl
/-- Part 6 of the body is the same. -/
theorem part6 : @Cert.Kernel.k0_part6 F _ hK = @Cert.KernelIdeal.k0_part6 F _ hI := by
  unfold Cert.Kernel.k0_part6 Cert.KernelIdeal.k0_part6
  rfl
/-- Part 7 of the body is the same. -/
theorem part7 : @Cert.Kernel.k0_part7 F _ hK = @Cert.KernelIdeal.k0_part7 F _ hI := by
  unfold Cert.Kernel.k0_part7 Cert.KernelIdeal.k0_part7
  rfl
/-- Part 8 of the body is the same. -/
theorem part8 : @Cert.Kernel.k0_part8 F _ hK = @Cert.KernelIdeal.k0_part8 F _ hI := by
  unfold Cert.Kernel.k0_part8 Cert.KernelIdeal.k0_part8
  rfl
/-- Part 9 of the body is the same. -/
theorem part9 : @Cert.Kernel.k0_part9 F _ hK = @Cert.KernelIdeal.k0_part9 F _ hI := by
  unfold Cert.Kernel.k0_part9 Cert.KernelIdeal.k0_part9
  rfl
/-- Part 10 of the body is the same. -/
theorem part10 : @Cert.Kernel.k0_part10 F _ hK = @Cert.KernelIdeal.k0_part10 F _ hI := by
  unfold Cert.Kernel.k0_part10 Cert.KernelIdeal.k0_part10
  rfl
/-- Part 11 of the body is the same. -/
theorem part11 : @Cert.Kernel.k0_part11 F _ hK = @Cert.KernelIdeal.k0_part11 F _ hI := by
  unfold Cert.Kernel.k0_part11 Cert.KernelIdeal.k0_part11
  rfl
/-- Part 12 of the body is the same. -/
theorem part12 : @Cert.Kernel.k0_part12 F _ hK = @Cert.KernelIdeal.k0_part12 F _ hI := by
  unfold Cert.Kernel.k0_part12 Cert.KernelIdeal.k0_part12
  rfl
/-- Part 13 of the body is the same. -/
theorem part13 : @Cert.Kernel.k0_part13 F _ hK = @Cert.KernelIdeal.k0_part13 F _ hI := by
  unfold Cert.Kernel.k0_part13 Cert.KernelIdeal.k0_part13
  rfl
/-- The body is the same. -/
theorem body : @Cert.Kernel.cc0_merge_sgu_bwd F _ hK = @Cert.KernelIdeal.cc0_merge_sgu_bwd F _ hI := by
  unfold Cert.Kernel.cc0_merge_sgu_bwd Cert.KernelIdeal.cc0_merge_sgu_bwd
  simp only [part1, part2, part3, part4, part5, part6, part7, part8, part9, part10, part11, part12, part13]
  rfl
/-- The table of bodies is the same. -/
theorem bodies : Cert.Kernel.defs₀ (F := F) = Cert.KernelIdeal.defs₀ (F := F) := by
  unfold Cert.Kernel.defs₀ Cert.KernelIdeal.defs₀
  refine congrArg Defs.onTc (funext fun l => funext fun a => ?_)
  rcases l with ⟨_ | n, h⟩
  · obtain ⟨t, s⟩ := a
    dsimp only
    rw [body]
    rfl
  · exact absurd h (by omega)
/-- With the pipeline around it, it is the same. -/
theorem table : Cert.Kernel.defs (F := F) = Cert.KernelIdeal.defs (F := F) := by
  unfold Cert.Kernel.defs Cert.KernelIdeal.defs
  rw [bodies]
  rfl
/-- The first part of the host's program is the same. -/
theorem host0 : Cert.Kernel.main_part0 (F := F) = Cert.KernelIdeal.main_part0 (F := F) := by
  unfold Cert.Kernel.main_part0 Cert.KernelIdeal.main_part0
  rfl
/-- So is the second. -/
theorem host1 : Cert.Kernel.main_part1 (F := F) = Cert.KernelIdeal.main_part1 (F := F) := by
  unfold Cert.Kernel.main_part1 Cert.KernelIdeal.main_part1
  rfl
/-- The host's program is the same. -/
theorem host : Cert.Kernel.main (F := F) = Cert.KernelIdeal.main (F := F) := by
  unfold Cert.Kernel.main Cert.KernelIdeal.main
  rw [host0, host1]

/-- The kernel runs to its end, leaves its arguments alone, and every counter is zero. -/
theorem frame : haveI := Cert.Kernel.Gen.facts; Cert.quiescent_Kernel := by
  haveI := Cert.Kernel.Gen.facts
  haveI := Cert.KernelIdeal.Gen.facts
  intro m ρ _
  rw [table, host]
  exact Cert.KernelIdeal.Hand.frame (F := Bits) m ρ

end Cert.Kernel.Hand

end
-- ==== Proof.Entry.lean ====
/-
  What the kernel's windows read, as functions of the arguments: the saved forward values are the reference's own, cast.
-/
module

public import proofs.«01_k».proof.Proof.IdealRun
public import proofs.«01_k».proof.Proof.Gen.ReferenceIdeal.Read
public import Idealize.ShloMosaic.Lib.Claim
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ)

/-- The gradient of the residual stream after the layer. -/
abbrev A0 (c : Dev nD) : FVec Ideal S8192x1024 .f32 := m ((c : Thread nD τ).loc main_arg0)
/-- The convolution's output. -/
abbrev A1 (c : Dev nD) : FVec Ideal S8192x1024 .f32 := m ((c : Thread nD τ).loc main_arg1)
/-- The projection. -/
abbrev A2 (c : Dev nD) : FVec Ideal S8192x6144 .f32 := m ((c : Thread nD τ).loc main_arg2)
/-- The gates' bias. -/
abbrev A3 (c : Dev nD) : FVec Ideal S2048 .f32 := m ((c : Thread nD τ).loc main_arg3)
/-- The convolution's bias. -/
abbrev A4 (c : Dev nD) : FVec Ideal S1024 .f32 := m ((c : Thread nD τ).loc main_arg4)
/-- The convolution's layer norm: gain and shift. -/
abbrev A5 (c : Dev nD) : FVec Ideal S2x1024 .f32 := m ((c : Thread nD τ).loc main_arg5)
/-- The inner layer norm: gain and shift. -/
abbrev A6 (c : Dev nD) : FVec Ideal S2x1024 .f32 := m ((c : Thread nD τ).loc main_arg6)
/-- The spatial weights. -/
abbrev A7 (c : Dev nD) : FVec Ideal S8x128x128 .f32 := m ((c : Thread nD τ).loc main_arg7)
/-- The spatial bias. -/
abbrev A8 (c : Dev nD) : FVec Ideal S8x128 .f32 := m ((c : Thread nD τ).loc main_arg8)
/-- The three square weights. -/
abbrev A9 (c : Dev nD) : FVec Ideal S3x1024x1024 .f32 := m ((c : Thread nD τ).loc main_arg9)

/-- The normalised convolution's output, as the reference computes it. -/
theorem V_c1h (c : Dev nD) : V m c main_v85 = (Cert.ReferenceIdeal.Read.val_main_v42 (F := Ideal) (A1 m c) (A4 m c) : S8192x1024.Idx → EReal) := by
  entry_read; rfl
/-- Its reciprocal deviation. -/
theorem V_rstd (c : Dev nD) : V m c main_v22 = (Cert.ReferenceIdeal.Read.val_main_v37 (F := Ideal) (A1 m c) (A4 m c) : S8192x1.Idx → EReal) := by
  entry_read; rfl
/-- The convolution branch's output. -/
theorem V_ya (c : Dev nD) : V m c main_v82 = (Cert.ReferenceIdeal.Read.val_main_v50 (F := Ideal) (A1 m c) (A4 m c) (A5 m c) (A9 m c) : S8192x1024.Idx → EReal) := by
  entry_read; rfl

open Cert.ReferenceIdeal.Read in
/-- The value half of the gating input: the reference slices twice, the kernel once. -/
theorem slice_v (x : FVec Ideal S8192x6144 .f32) :
    (val_main_v8 (F := Ideal) x : S8192x1024.Idx → EReal) = extractStridedSlice S8192x1024 ![0, 3072] x slices_S8192x6144_S8192x1024_0_3072 := by
  funext i
  idx_vars i
  pointwise [val_main_v8, val_main_v6]
  blk_ext

open Cert.ReferenceIdeal.Read in
/-- The other half. -/
theorem slice_u (x : FVec Ideal S8192x6144 .f32) :
    (val_main_v7 (F := Ideal) x : S8192x1024.Idx → EReal) = extractStridedSlice S8192x1024 ![0, 2048] x slices_S8192x6144_S8192x1024_0_2048 := by
  funext i
  idx_vars i
  pointwise [val_main_v7, val_main_v6]
  blk_ext

open Cert.ReferenceIdeal.Read in
/-- The spatially mixed value. -/
theorem V_mixed (c : Dev nD) : V m c main_v84 = (val_main_v91 (F := Ideal) (A2 m c) (A6 m c) (A7 m c) (A8 m c) : S8192x1024.Idx → EReal) := by
  unfold val_main_v91 val_main_v90 val_main_v86 val_main_v85 val_main_v84 val_main_v83 val_main_v80 val_main_v77 val_main_v76 val_main_v72 val_main_v71 val_main_v69 val_main_v68 val_main_v67 val_main_v65 val_main_v64 val_main_v61 val_main_v60 val_main_v59 val_main_v58 val_main_v56 val_main_v55
  rw [slice_v]
  rfl
open Cert.ReferenceIdeal.Read in
/-- The spatial branch's output. -/
theorem V_yb (c : Dev nD) : V m c main_v83 = (val_main_v93 (F := Ideal) (A2 m c) (A6 m c) (A7 m c) (A8 m c) (A9 m c) : S8192x1024.Idx → EReal) := by
  unfold val_main_v93 val_main_v92 val_main_v91 val_main_v90 val_main_v86 val_main_v85 val_main_v84 val_main_v83 val_main_v80 val_main_v77 val_main_v76 val_main_v72 val_main_v71 val_main_v69 val_main_v68 val_main_v67 val_main_v65 val_main_v64 val_main_v61 val_main_v60 val_main_v59 val_main_v58 val_main_v56 val_main_v55
  rw [slice_v, slice_u]
  rfl

end Cert.KernelIdeal.Hand

end
-- ==== Proof.Reads.lean ====
/-
  The blocks a grid point reads, entry by entry, in the arguments.
-/
module

public import proofs.«01_k».proof.Proof.Entry
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.ReferenceIdeal.Read

variable (m : (ℓ : Loc nD τ sig) → Buf (Elt Ideal) ℓ)

/-- The token that row `i` of point `t`'s blocks holds. -/
def row (t : Fin cfg0.N) (i : Fin 256) : Fin 8192 :=
  ⟨256 * t.val + i.val, by have := lt_of_lt_of_eq t.isLt N_0; have := i.isLt; omega⟩

/-- Where each window's block lies, at every point. -/
theorem idx : ∀ t : Fin cfg0.N, win0_0.index t = ![t.val, 0] ∧ win0_1.index t = ![t.val, 1] ∧ win0_2.index t = ![t.val, 2]
    ∧ win0_3.index t = ![t.val, 0] ∧ win0_4.index t = ![t.val, 0] ∧ win0_5.index t = ![t.val, 0] ∧ win0_6.index t = ![t.val, 0]
    ∧ win0_7.index t = ![t.val, 0] ∧ win0_8.index t = ![0, 0] ∧ win0_9.index t = ![0, 0] ∧ win0_10.index t = ![0, 0, 0]
    ∧ win0_11.index t = ![0, 0, 0] ∧ win0_12.index t = ![0, 0] ∧ win0_13.index t = ![0, 0] ∧ win0_14.index t = ![0, 0]
    ∧ win0_15.index t = ![0, 0, 0] ∧ win0_16.index t = ![0, 1, 0] ∧ win0_17.index t = ![0, 2, 0] :=
  (by decide +kernel : ∀ t : Fin grid0.N, _)

/-- The residual's gradient. -/
theorem x0_at (c : Dev nD) (t : Fin cfg0.N) (i : Fin 256) (j : Fin 1024) :
    (ins m c t).x0 (ix2 i j) = A0 m c (ix2 (row t i) j) := by
  unfold ins; dsimp only; blk_simp [iblk]; rw [V_main_arg0]; blk_ext [row, idx t]
/-- The convolution branch's output. -/
theorem x3_at (c : Dev nD) (t : Fin cfg0.N) (i : Fin 256) (j : Fin 1024) :
    (ins m c t).x3 (ix2 i j) = val_main_v50 (F := Ideal) (A1 m c) (A4 m c) (A5 m c) (A9 m c) (ix2 (row t i) j) := by
  unfold ins; dsimp only; blk_simp [iblk]; rw [V_ya]; blk_ext [row, idx t]
/-- The spatial branch's output. -/
theorem x4_at (c : Dev nD) (t : Fin cfg0.N) (i : Fin 256) (j : Fin 1024) :
    (ins m c t).x4 (ix2 i j) = val_main_v93 (F := Ideal) (A2 m c) (A6 m c) (A7 m c) (A8 m c) (A9 m c) (ix2 (row t i) j) := by
  unfold ins; dsimp only; blk_simp [iblk]; rw [V_yb]; blk_ext [row, idx t]
/-- The spatially mixed value. -/
theorem x5_at (c : Dev nD) (t : Fin cfg0.N) (i : Fin 256) (j : Fin 1024) :
    (ins m c t).x5 (ix2 i j) = val_main_v91 (F := Ideal) (A2 m c) (A6 m c) (A7 m c) (A8 m c) (ix2 (row t i) j) := by
  unfold ins; dsimp only; blk_simp [iblk]; rw [V_mixed]; blk_ext [row, idx t]
/-- The normalised convolution's output. -/
theorem x6_at (c : Dev nD) (t : Fin cfg0.N) (i : Fin 256) (j : Fin 1024) :
    (ins m c t).x6 (ix2 i j) = val_main_v42 (F := Ideal) (A1 m c) (A4 m c) (ix2 (row t i) j) := by
  unfold ins; dsimp only; blk_simp [iblk]; rw [V_c1h]; blk_ext [row, idx t]
/-- Its reciprocal deviation. -/
theorem x7_at (c : Dev nD) (t : Fin cfg0.N) (i : Fin 256) :
    (ins m c t).x7 (ix2 i 0) = val_main_v37 (F := Ideal) (A1 m c) (A4 m c) (ix2 (row t i) 0) := by
  unfold ins; dsimp only; blk_simp [iblk]; rw [V_rstd]; blk_ext [row, idx t]
/-- The projection's columns of the spatial gating. -/
theorem V_x1_at (c : Dev nD) (i : Fin 8192) (j : Fin 6144) : (show FVec Ideal S8192x6144 .bf16 from V m c main_v81) (ix2 i j) = A2 m c (ix2 i j) := by
  entry_read; pointwise; try blk_ext
/-- The projection's columns of the spatial gating. -/
theorem x1_at (c : Dev nD) (t : Fin cfg0.N) (i : Fin 256) (j : Fin 2048) :
    (ins m c t).x1 (ix2 i j) = A2 m c (ix2 (row t i) ⟨2048 + j.val, by omega⟩) := by
  refine Eq.trans ?_ (V_x1_at m c (row t i) ⟨2048 + j.val, by omega⟩)
  unfold ins; dsimp only; blk_simp [iblk]; blk_ext [row, idx t]
/-- The projection's columns of the gates. -/
theorem V_x2_at (c : Dev nD) (i : Fin 8192) (j : Fin 6144) : (show FVec Ideal S8192x6144 .bf16 from V m c main_v81) (ix2 i j) = A2 m c (ix2 i j) := by
  entry_read; pointwise; try blk_ext
/-- The projection's columns of the gates. -/
theorem x2_at (c : Dev nD) (t : Fin cfg0.N) (i : Fin 256) (j : Fin 2048) :
    (ins m c t).x2 (ix2 i j) = A2 m c (ix2 (row t i) ⟨4096 + j.val, by omega⟩) := by
  refine Eq.trans ?_ (V_x2_at m c (row t i) ⟨4096 + j.val, by omega⟩)
  unfold ins; dsimp only; blk_simp [iblk]; blk_ext [row, idx t]
/-- The inner layer norm's gain. -/
theorem V_x8_at (c : Dev nD) (j : Fin 1024) : (show FVec Ideal S1x1024 .f32 from V m c main_v88) (ix2 0 j) = A6 m c (ix2 0 j) := by
  change (shapeCast S1x1024 (shapeCast S1024 (extractStridedSlice S1x1024 ![0, 0] (A6 m c) slices_S2x1024_S1x1024_0_0) shapeCasts_S1x1024_S1024) shapeCasts_S1024_S1x1024 : FVec Ideal S1x1024 .f32) (ix2 0 j) = _; pointwise; try blk_ext
/-- The inner layer norm's gain. -/
theorem x8_at (c : Dev nD) (t : Fin cfg0.N) (j : Fin 1024) :
    (ins m c t).x8 (ix2 0 j) = A6 m c (ix2 0 j) := by
  refine Eq.trans ?_ (V_x8_at m c j)
  unfold ins; dsimp only; blk_simp [iblk]; blk_ext [row, idx t]
/-- The inner layer norm's shift. -/
theorem V_x9_at (c : Dev nD) (j : Fin 1024) : (show FVec Ideal S1x1024 .f32 from V m c main_v91) (ix2 0 j) = A6 m c (ix2 1 j) := by
  change (shapeCast S1x1024 (shapeCast S1024 (extractStridedSlice S1x1024 ![1, 0] (A6 m c) slices_S2x1024_S1x1024_1_0) shapeCasts_S1x1024_S1024) shapeCasts_S1024_S1x1024 : FVec Ideal S1x1024 .f32) (ix2 0 j) = _; pointwise; try blk_ext
/-- The inner layer norm's shift. -/
theorem x9_at (c : Dev nD) (t : Fin cfg0.N) (j : Fin 1024) :
    (ins m c t).x9 (ix2 0 j) = A6 m c (ix2 1 j) := by
  refine Eq.trans ?_ (V_x9_at m c j)
  unfold ins; dsimp only; blk_simp [iblk]; blk_ext [row, idx t]
/-- The spatial weights. -/
theorem V_x10_at (c : Dev nD) (g : Fin 8) (p q : Fin 128) : (show FVec Ideal S8x128x128 .bf16 from V m c main_v79) (ix3 g p q) = A7 m c (ix3 g p q) := by
  entry_read; pointwise; try blk_ext
/-- The spatial weights. -/
theorem x10_at (c : Dev nD) (t : Fin cfg0.N) (g : Fin 8) (p q : Fin 128) :
    (ins m c t).x10 (ix3 g p q) = A7 m c (ix3 g p q) := by
  refine Eq.trans ?_ (V_x10_at m c g p q)
  unfold ins; dsimp only; blk_simp [iblk]; blk_ext [row, idx t]
/-- The spatial weights, transposed. -/
theorem V_x11_at (c : Dev nD) (g : Fin 8) (p q : Fin 128) : (show FVec Ideal S8x128x128 .bf16 from V m c main_v80) (ix3 g p q) = A7 m c (ix3 g q p) := by
  change (transpose S8x128x128 [0, 2, 1] (truncf .bf16 (A7 m c) bitsLt_bf16_f32) transposes_S8x128x128_S8x128x128_0_2_1 : FVec Ideal S8x128x128 .bf16) (ix3 g p q) = _; pointwise; try blk_ext
/-- The spatial weights, transposed. -/
theorem x11_at (c : Dev nD) (t : Fin cfg0.N) (g : Fin 8) (p q : Fin 128) :
    (ins m c t).x11 (ix3 g p q) = A7 m c (ix3 g q p) := by
  refine Eq.trans ?_ (V_x11_at m c g p q)
  unfold ins; dsimp only; blk_simp [iblk]; blk_ext [row, idx t]
/-- The gates' bias. -/
theorem V_x12_at (c : Dev nD) (j : Fin 2048) : (show FVec Ideal S1x2048 .f32 from V m c main_v92) (ix2 0 j) = A3 m c (ix1 j) := by
  change (shapeCast S1x2048 (A3 m c) shapeCasts_S2048_S1x2048 : FVec Ideal S1x2048 .f32) (ix2 0 j) = _; pointwise; try blk_ext
/-- The gates' bias. -/
theorem x12_at (c : Dev nD) (t : Fin cfg0.N) (j : Fin 2048) :
    (ins m c t).x12 (ix2 0 j) = A3 m c (ix1 j) := by
  refine Eq.trans ?_ (V_x12_at m c j)
  unfold ins; dsimp only; blk_simp [iblk]; blk_ext [row, idx t]
/-- The convolution's layer norm gain. -/
theorem V_x13_at (c : Dev nD) (j : Fin 1024) : (show FVec Ideal S1x1024 .f32 from V m c main_v95) (ix2 0 j) = A5 m c (ix2 0 j) := by
  change (shapeCast S1x1024 (shapeCast S1024 (extractStridedSlice S1x1024 ![0, 0] (A5 m c) slices_S2x1024_S1x1024_0_0) shapeCasts_S1x1024_S1024) shapeCasts_S1024_S1x1024 : FVec Ideal S1x1024 .f32) (ix2 0 j) = _; pointwise; try blk_ext
/-- The convolution's layer norm gain. -/
theorem x13_at (c : Dev nD) (t : Fin cfg0.N) (j : Fin 1024) :
    (ins m c t).x13 (ix2 0 j) = A5 m c (ix2 0 j) := by
  refine Eq.trans ?_ (V_x13_at m c j)
  unfold ins; dsimp only; blk_simp [iblk]; blk_ext [row, idx t]
/-- The convolution's layer norm shift. -/
theorem V_x14_at (c : Dev nD) (j : Fin 1024) : (show FVec Ideal S1x1024 .f32 from V m c main_v98) (ix2 0 j) = A5 m c (ix2 1 j) := by
  change (shapeCast S1x1024 (shapeCast S1024 (extractStridedSlice S1x1024 ![1, 0] (A5 m c) slices_S2x1024_S1x1024_1_0) shapeCasts_S1x1024_S1024) shapeCasts_S1024_S1x1024 : FVec Ideal S1x1024 .f32) (ix2 0 j) = _; pointwise; try blk_ext
/-- The convolution's layer norm shift. -/
theorem x14_at (c : Dev nD) (t : Fin cfg0.N) (j : Fin 1024) :
    (ins m c t).x14 (ix2 0 j) = A5 m c (ix2 1 j) := by
  refine Eq.trans ?_ (V_x14_at m c j)
  unfold ins; dsimp only; blk_simp [iblk]; blk_ext [row, idx t]
/-- The packed square weights: shard by shard, one weight's rows under another's. -/
theorem V_wsq (c : Dev nD) (s : Fin 4) (n : Fin 3) (r : Fin 256) (j : Fin 1024) :
    (show FVec Ideal S4x768x1024 .bf16 from V m c main_v102) (ix3 s ⟨n.val * 256 + r.val, by omega⟩ j) = A9 m c (ix3 n ⟨256 * s.val + r.val, by omega⟩ j) := by
  change (shapeCast S4x768x1024 (transpose S4x3x256x1024 [1, 0, 2, 3] (truncf .bf16 (shapeCast S3x4x256x1024 (A9 m c) shapeCasts_S3x1024x1024_S3x4x256x1024) bitsLt_bf16_f32) transposes_S3x4x256x1024_S4x3x256x1024_1_0_2_3) shapeCasts_S4x3x256x1024_S4x768x1024 : FVec Ideal S4x768x1024 .bf16) (ix3 s ⟨n.val * 256 + r.val, by omega⟩ j) = _
  pointwise; blk_ext
/-- The convolution branch's square weight, shard by shard. -/
theorem x15_at (c : Dev nD) (t : Fin cfg0.N) (s : Fin 4) (r : Fin 256) (j : Fin 1024) :
    (ins m c t).x15 (ix3 s r j) = A9 m c (ix3 0 ⟨256 * s.val + r.val, by omega⟩ j) := by
  refine Eq.trans ?_ (V_wsq m c s 0 r j)
  unfold ins; dsimp only; blk_simp [iblk]; blk_ext [row, idx t]
/-- The spatial branch's square weight, shard by shard. -/
theorem x16_at (c : Dev nD) (t : Fin cfg0.N) (s : Fin 4) (r : Fin 256) (j : Fin 1024) :
    (ins m c t).x16 (ix3 s r j) = A9 m c (ix3 1 ⟨256 * s.val + r.val, by omega⟩ j) := by
  refine Eq.trans ?_ (V_wsq m c s 1 r j)
  unfold ins; dsimp only; blk_simp [iblk]; blk_ext [row, idx t]
/-- The output's square weight, shard by shard. -/
theorem x17_at (c : Dev nD) (t : Fin cfg0.N) (s : Fin 4) (r : Fin 256) (j : Fin 1024) :
    (ins m c t).x17 (ix3 s r j) = A9 m c (ix3 2 ⟨256 * s.val + r.val, by omega⟩ j) := by
  refine Eq.trans ?_ (V_wsq m c s 2 r j)
  unfold ins; dsimp only; blk_simp [iblk]; blk_ext [row, idx t]

end Cert.KernelIdeal.Hand

end
-- ==== Proof.Refs.lean ====
/-
  The reference's intermediate arrays, named, and what each holds entry by entry.
-/
module

public import proofs.«01_k».proof.Proof.Reads
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.ReferenceIdeal.Read

variable (m : (ℓ : Loc nD τ sig) → Buf (Elt Ideal) ℓ) (c : Dev nD)

/-- The convolution branch's output. -/
abbrev rYa : FVec Ideal S8192x1024 .f32 := (val_main_v50 (F := Ideal) (A1 m c) (A4 m c) (A5 m c) (A9 m c))
/-- The spatially mixed value. -/
abbrev rMix : FVec Ideal S8192x1024 .f32 := (val_main_v91 (F := Ideal) (A2 m c) (A6 m c) (A7 m c) (A8 m c))
/-- The spatial branch's output. -/
abbrev rYb : FVec Ideal S8192x1024 .f32 := (val_main_v93 (F := Ideal) (A2 m c) (A6 m c) (A7 m c) (A8 m c) (A9 m c))
/-- The normalised convolution. -/
abbrev rC1h : FVec Ideal S8192x1024 .f32 := (val_main_v42 (F := Ideal) (A1 m c) (A4 m c))
/-- The convolution's reciprocal standard deviation. -/
abbrev rRc : FVec Ideal S8192x1 .f32 := (val_main_v37 (F := Ideal) (A1 m c) (A4 m c))
/-- The gradient of the merged branches. -/
abbrev rDm : FVec Ideal S8192x1024 .f32 := (val_main_v122 (F := Ideal) (A0 m c) (A9 m c))
/-- The convolution branch's gate. -/
abbrev rSa : FVec Ideal S8192x1024 .f32 := (val_main_v102 (F := Ideal) (A2 m c) (A3 m c))
/-- The spatial branch's gate. -/
abbrev rSb : FVec Ideal S8192x1024 .f32 := (val_main_v115 (F := Ideal) (A2 m c) (A3 m c))
/-- The gradient of the convolution branch's output. -/
abbrev rDya : FVec Ideal S8192x1024 .f32 := (val_main_v129 (F := Ideal) (A0 m c) (A2 m c) (A3 m c) (A9 m c))
/-- The gradient of the spatial branch's output. -/
abbrev rDyb : FVec Ideal S8192x1024 .f32 := (val_main_v123 (F := Ideal) (A0 m c) (A2 m c) (A3 m c) (A9 m c))
/-- The gradient of the convolution branch's activation. -/
abbrev rDc3 : FVec Ideal S8192x1024 .f32 := (val_main_v135 (F := Ideal) (A0 m c) (A2 m c) (A3 m c) (A9 m c))
/-- The gradient of the gated value. -/
abbrev rDgt : FVec Ideal S8192x1024 .f32 := (val_main_v173 (F := Ideal) (A0 m c) (A2 m c) (A3 m c) (A9 m c))
/-- The gradient of the mixed value. -/
abbrev rDmx : FVec Ideal S8192x1024 .f32 := (val_main_v174 (F := Ideal) (A0 m c) (A2 m c) (A3 m c) (A9 m c))
/-- The gradient of the gating half. -/
abbrev rDu : FVec Ideal S8192x1024 .f32 := (val_main_v175 (F := Ideal) (A0 m c) (A2 m c) (A3 m c) (A6 m c) (A7 m c) (A8 m c) (A9 m c))
/-- The gradient of the normalised half. -/
abbrev rDvn : FVec Ideal S8192x1024 .f32 := (val_main_v185 (F := Ideal) (A0 m c) (A2 m c) (A3 m c) (A7 m c) (A9 m c))
/-- The normalised half, scaled and shifted. -/
abbrev rVn : FVec Ideal S8192x1024 .f32 := (val_main_v83 (F := Ideal) (A2 m c) (A6 m c))
/-- The normalised half. -/
abbrev rVh : FVec Ideal S8192x1024 .f32 := (val_main_v77 (F := Ideal) (A2 m c))
/-- The half's reciprocal standard deviation. -/
abbrev rRv : FVec Ideal S8192x1 .f32 := (val_main_v72 (F := Ideal) (A2 m c))
/-- The half's variance, with its constant. -/
abbrev rVv : FVec Ideal S8192x1 .f32 := (val_main_v71 (F := Ideal) (A2 m c))
/-- The half less its mean. -/
abbrev rVc : FVec Ideal S8192x1024 .f32 := (val_main_v69 (F := Ideal) (A2 m c))
/-- The gradient of the convolution branch's gate. -/
abbrev rGa : FVec Ideal S8192x1024 .f32 := (val_main_v131 (F := Ideal) (A0 m c) (A1 m c) (A2 m c) (A3 m c) (A4 m c) (A5 m c) (A9 m c))
/-- The gradient of the spatial branch's gate. -/
abbrev rGb : FVec Ideal S8192x1024 .f32 := (val_main_v125 (F := Ideal) (A0 m c) (A2 m c) (A3 m c) (A6 m c) (A7 m c) (A8 m c) (A9 m c))
/-- The activation's argument. -/
abbrev rC2 : FVec Ideal S8192x1024 .f32 := (val_main_v48 (F := Ideal) (A1 m c) (A4 m c) (A5 m c))
/-- The activation's sigmoid. -/
abbrev rSg : FVec Ideal S8192x1024 .f32 := (val_main_v49_2 (F := Ideal) (A1 m c) (A4 m c) (A5 m c))
/-- The gradient of the activation's argument. -/
abbrev rDc2 : FVec Ideal S8192x1024 .f32 := (val_main_v136 (F := Ideal) (A0 m c) (A1 m c) (A2 m c) (A3 m c) (A4 m c) (A5 m c) (A9 m c))
/-- The gradient of the convolution. -/
abbrev rDc1 : FVec Ideal S8192x1024 .f32 := (val_main_v169 (F := Ideal) (A0 m c) (A1 m c) (A2 m c) (A3 m c) (A4 m c) (A5 m c) (A9 m c))
/-- The gradient of the spatial half. -/
abbrev rDv : FVec Ideal S8192x1024 .f32 := (val_main_v218 (F := Ideal) (A0 m c) (A2 m c) (A3 m c) (A6 m c) (A7 m c) (A9 m c))
/-- The convolution less its mean. -/
abbrev rCc : FVec Ideal S8192x1024 .f32 := (val_main_v34 (F := Ideal) (A1 m c) (A4 m c))
/-- The convolution's variance, with its constant. -/
abbrev rCv : FVec Ideal S8192x1 .f32 := (val_main_v36 (F := Ideal) (A1 m c) (A4 m c))
/-- The spatial half. -/
abbrev rUn : FVec Ideal S8192x1024 .f32 := (val_main_v8 (F := Ideal) (A2 m c))
/-- The gradient of the merged branches, entry by entry. -/
theorem rDm_at (i : Fin 8192) (j : Fin 1024) :
    rDm m c (ix2 i j) = ∑ x : Fin 1024, A0 m c (ix2 i x) * A9 m c (ix3 2 j x) := by
  unfold rDm
  pointwise [val_main_v122, val_main_v5, val_main_v4]

/-- The convolution branch's gate, entry by entry. -/
theorem rSa_at (i : Fin 8192) (j : Fin 1024) :
    rSa m c (ix2 i j) = Ideal.div 1 (1 + Ideal.exp (-(A2 m c (ix2 i ⟨4096 + j.val, by omega⟩) + A3 m c (ix1 ⟨j.val, by omega⟩)))) := by
  unfold rSa
  pointwise [val_main_v102, val_main_v101, val_main_v100, val_main_v99, val_main_v98, val_main_v97, val_main_v96, val_main_v95, val_main_v94, val_main_v11, val_main_v9, val_main_v6, val_main_cst_13, val_main_cst_14]
  simp only [show 2048 + (2048 + j.val) = 4096 + j.val by omega]

/-- The spatial branch's gate, entry by entry. -/
theorem rSb_at (i : Fin 8192) (j : Fin 1024) :
    rSb m c (ix2 i j) = Ideal.div 1 (1 + Ideal.exp (-(A2 m c (ix2 i ⟨5120 + j.val, by omega⟩) + A3 m c (ix1 ⟨1024 + j.val, by omega⟩)))) := by
  unfold rSb
  pointwise [val_main_v115, val_main_v114, val_main_v113, val_main_v112, val_main_v111, val_main_v110, val_main_v109, val_main_v108, val_main_v107, val_main_v12, val_main_v10, val_main_v6, val_main_cst_16, val_main_cst_17]
  simp only [show 2048 + (3072 + j.val) = 5120 + j.val by omega]

/-- The gradient of the convolution branch's output, entry by entry. -/
theorem rDya_at (i : Fin 8192) (j : Fin 1024) :
    rDya m c (ix2 i j) = rSa m c (ix2 i j) * rDm m c (ix2 i j) := by
  unfold rDya
  pointwise [val_main_v129]

/-- The gradient of the spatial branch's output, entry by entry. -/
theorem rDyb_at (i : Fin 8192) (j : Fin 1024) :
    rDyb m c (ix2 i j) = rSb m c (ix2 i j) * rDm m c (ix2 i j) := by
  unfold rDyb
  pointwise [val_main_v123]

/-- The gradient of the convolution branch's activation, entry by entry. -/
theorem rDc3_at (i : Fin 8192) (j : Fin 1024) :
    rDc3 m c (ix2 i j) = ∑ x : Fin 1024, rDya m c (ix2 i x) * A9 m c (ix3 0 j x) := by
  unfold rDc3
  pointwise [val_main_v135, val_main_v1, val_main_v0]

/-- The gradient of the gated value, entry by entry. -/
theorem rDgt_at (i : Fin 8192) (j : Fin 1024) :
    rDgt m c (ix2 i j) = ∑ x : Fin 1024, rDyb m c (ix2 i x) * A9 m c (ix3 1 j x) := by
  unfold rDgt
  pointwise [val_main_v173, val_main_v3, val_main_v2]

/-- The gradient of the mixed value, entry by entry. -/
theorem rDmx_at (i : Fin 8192) (j : Fin 1024) :
    rDmx m c (ix2 i j) = A2 m c (ix2 i ⟨2048 + j.val, by omega⟩) * rDgt m c (ix2 i j) := by
  unfold rDmx
  pointwise [val_main_v174, val_main_v7, val_main_v6]

/-- The gradient of the gating half, entry by entry. -/
theorem rDu_at (i : Fin 8192) (j : Fin 1024) :
    rDu m c (ix2 i j) = rDgt m c (ix2 i j) * rMix m c (ix2 i j) := by
  unfold rDu
  pointwise [val_main_v175]

/-- The gradient of the normalised half, entry by entry. -/
theorem rDvn_at (i : Fin 8192) (j : Fin 1024) :
    rDvn m c (ix2 i j) = ∑ x : Fin 128, rDmx m c (ix2 ⟨i.val / 128 * 128 + x.val, by omega⟩ j) * A7 m c (ix3 ⟨j.val / 128, by omega⟩ x ⟨i.val % 128, by omega⟩) := by
  unfold rDvn
  pointwise [val_main_v185, val_main_v183, val_main_v182, val_main_v181, val_main_v176]

/-- The normalised half, scaled and shifted, entry by entry. -/
theorem rVn_at (i : Fin 8192) (j : Fin 1024) :
    rVn m c (ix2 i j) = rVh m c (ix2 i j) * A6 m c (ix2 0 j) + A6 m c (ix2 1 j) := by
  unfold rVn
  pointwise [val_main_v83, val_main_v80, val_main_v82, val_main_v81, val_main_v79, val_main_v78, val_main_v54, val_main_v53, val_main_v52, val_main_v51]

/-- The spatial half, entry by entry. -/
theorem rUn_at (i : Fin 8192) (j : Fin 1024) :
    rUn m c (ix2 i j) = A2 m c (ix2 i ⟨3072 + j.val, by omega⟩) := by
  unfold rUn
  pointwise [val_main_v8, val_main_v6]
  simp only [show 2048 + (1024 + j.val) = 3072 + j.val by omega]

/-- The half less its mean, entry by entry. -/
theorem rVc_at (i : Fin 8192) (j : Fin 1024) :
    rVc m c (ix2 i j) = rUn m c (ix2 i j) - Ideal.div (∑ x : Fin 1024, rUn m c (ix2 i x)) (Ideal.ofBits FTy.f32 0x44800000#32) := by
  unfold rVc
  pointwise [val_main_v69, val_main_v68, val_main_v67, val_main_v66, val_main_v65, val_main_v64, val_main_v61, val_main_v60, val_main_v59, val_main_v58, val_main_v57, val_main_v56, val_main_v55, val_main_cst_6, val_main_cst_7, val_main_cst_8, val_main_cst_9, val_main_cst_10]

/-- The half's variance, with its constant, entry by entry. -/
theorem rVv_at (i : Fin 8192) :
    rVv m c (ix2 i 0) = Ideal.div (∑ x : Fin 1024, rVc m c (ix2 i x) * rVc m c (ix2 i x)) (Ideal.ofBits FTy.f32 0x44800000#32) + (Ideal.ofBits FTy.f32 0x358637BD#32) := by
  unfold rVv
  pointwise [val_main_v71, val_main_v70, val_main_v69, val_main_v68, val_main_v67, val_main_v66, val_main_v65, val_main_v64, val_main_v61, val_main_v60, val_main_v59, val_main_v58, val_main_v57, val_main_v56, val_main_v55, val_main_cst_6, val_main_cst_7, val_main_cst_8, val_main_cst_9, val_main_cst_10, val_main_cst_11]

/-- The half's reciprocal standard deviation, entry by entry. -/
theorem rRv_at (i : Fin 8192) :
    rRv m c (ix2 i 0) = Ideal.rsqrt (rVv m c (ix2 i 0)) := by
  unfold rRv
  pointwise [val_main_v72]

/-- The normalised half, entry by entry. -/
theorem rVh_at (i : Fin 8192) (j : Fin 1024) :
    rVh m c (ix2 i j) = rVc m c (ix2 i j) * rRv m c (ix2 i 0) := by
  unfold rVh
  pointwise [val_main_v77, val_main_v76]

/-- The gradient of the convolution branch's gate, entry by entry. -/
theorem rGa_at (i : Fin 8192) (j : Fin 1024) :
    rGa m c (ix2 i j) = rDm m c (ix2 i j) * rYa m c (ix2 i j) * (rSa m c (ix2 i j) * (1 - rSa m c (ix2 i j))) := by
  unfold rGa
  pointwise [val_main_v131, val_main_v130, val_main_v106, val_main_v105, val_main_v104, val_main_v103, val_main_cst_15]

/-- The gradient of the spatial branch's gate, entry by entry. -/
theorem rGb_at (i : Fin 8192) (j : Fin 1024) :
    rGb m c (ix2 i j) = rDm m c (ix2 i j) * rYb m c (ix2 i j) * (rSb m c (ix2 i j) * (1 - rSb m c (ix2 i j))) := by
  unfold rGb
  pointwise [val_main_v125, val_main_v124, val_main_v119, val_main_v118, val_main_v117, val_main_v116, val_main_cst_18]

/-- The convolution less its mean, entry by entry. -/
theorem rCc_at (i : Fin 8192) (j : Fin 1024) :
    rCc m c (ix2 i j) = (A1 m c (ix2 i j) + A4 m c (ix1 j)) - Ideal.div (∑ x : Fin 1024, (A1 m c (ix2 i x) + A4 m c (ix1 x))) (Ideal.ofBits FTy.f32 0x44800000#32) := by
  unfold rCc
  pointwise [val_main_v34, val_main_v33, val_main_v32, val_main_v31, val_main_v30, val_main_v29, val_main_v26, val_main_v25, val_main_v24, val_main_v23, val_main_v22, val_main_v21, val_main_v20, val_main_v19, val_main_v18, val_main_v17, val_main_cst, val_main_cst_0, val_main_cst_1, val_main_cst_2, val_main_cst_3]

/-- The convolution's variance, with its constant, entry by entry. -/
theorem rCv_at (i : Fin 8192) :
    rCv m c (ix2 i 0) = Ideal.div (∑ x : Fin 1024, rCc m c (ix2 i x) * rCc m c (ix2 i x)) (Ideal.ofBits FTy.f32 0x44800000#32) + (Ideal.ofBits FTy.f32 0x358637BD#32) := by
  unfold rCv
  pointwise [val_main_v36, val_main_v35, val_main_v34, val_main_v33, val_main_v32, val_main_v31, val_main_v30, val_main_v29, val_main_v26, val_main_v25, val_main_v24, val_main_v23, val_main_v22, val_main_v21, val_main_v20, val_main_v19, val_main_v18, val_main_v17, val_main_cst, val_main_cst_0, val_main_cst_1, val_main_cst_2, val_main_cst_3, val_main_cst_4]

/-- The convolution's reciprocal standard deviation, entry by entry. -/
theorem rRc_at (i : Fin 8192) :
    rRc m c (ix2 i 0) = Ideal.rsqrt (rCv m c (ix2 i 0)) := by
  unfold rRc
  pointwise [val_main_v37]

/-- The normalised convolution, entry by entry. -/
theorem rC1h_at (i : Fin 8192) (j : Fin 1024) :
    rC1h m c (ix2 i j) = rCc m c (ix2 i j) * rRc m c (ix2 i 0) := by
  unfold rC1h
  pointwise [val_main_v42, val_main_v41]

/-- The activation's argument, entry by entry. -/
theorem rC2_at (i : Fin 8192) (j : Fin 1024) :
    rC2 m c (ix2 i j) = rC1h m c (ix2 i j) * A5 m c (ix2 0 j) + A5 m c (ix2 1 j) := by
  unfold rC2
  pointwise [val_main_v48, val_main_v47, val_main_v46, val_main_v45, val_main_v44, val_main_v43, val_main_v16, val_main_v15, val_main_v14, val_main_v13]

/-- The activation's sigmoid, entry by entry. -/
theorem rSg_at (i : Fin 8192) (j : Fin 1024) :
    rSg m c (ix2 i j) = Ideal.div 1 (1 + Ideal.exp (-(rC2 m c (ix2 i j)))) := by
  unfold rSg
  pointwise [val_main_v49_2, val_main_call0_v4, val_main_call0_v3, val_main_call0_v2, val_main_call0_v1, val_main_call0_v0, val_main_call0_cst, val_main_call0_cst_0]

/-- The gradient of the activation's argument, entry by entry. -/
theorem rDc2_at (i : Fin 8192) (j : Fin 1024) :
    rDc2 m c (ix2 i j) = rDc3 m c (ix2 i j) * rSg m c (ix2 i j) + rC2 m c (ix2 i j) * rDc3 m c (ix2 i j) * (rSg m c (ix2 i j) * (1 - rSg m c (ix2 i j))) := by
  unfold rDc2
  pointwise [val_main_v136, val_main_call1_v1, val_main_call1_v2, val_main_call1_v0, val_main_v49_1, val_main_call0_v7, val_main_call0_v6, val_main_call0_cst_1]

/-- Twice the centred array of `Dv`. -/
theorem rDv_two_at (i : Fin 8192) (j : Fin 1024) :
    ((val_main_v63 (F := Ideal) (A2 m c)) : FVec Ideal S8192x1024 .f32) (ix2 i j) = (Ideal.ofBits FTy.f32 0x40000000#32) * rVc m c (ix2 i j) := by
  pointwise [val_main_v63, val_main_v62, val_main_cst_8, val_main_v60, val_main_v59, val_main_v69, val_main_v68, val_main_v67, val_main_v66, val_main_v65, val_main_v64, val_main_v61, val_main_v58, val_main_v57, val_main_v56, val_main_v55, val_main_cst_6, val_main_cst_7, val_main_cst_9, val_main_cst_10, rVc]

/-- The variance's derivative in `Dv`. -/
theorem rDv_half_at (i : Fin 8192) :
    ((val_main_v75 (F := Ideal) (A2 m c)) : FVec Ideal S8192x1 .f32) (ix2 i 0) = (Ideal.ofBits FTy.f32 0xBF000000#32) * Ideal.div (rRv m c (ix2 i 0)) (rVv m c (ix2 i 0)) := by
  pointwise [val_main_v75, val_main_v74, val_main_v73, val_main_cst_12]

/-- The gradient of the spatial half, entry by entry. -/
theorem rDv_at (i : Fin 8192) (j : Fin 1024) :
    rDv m c (ix2 i j) = (rDvn m c (ix2 i j) * A6 m c (ix2 0 j)) * rRv m c (ix2 i 0) + (Ideal.div ((∑ x : Fin 1024, rVc m c (ix2 i x) * (rDvn m c (ix2 i x) * A6 m c (ix2 0 x))) * ((Ideal.ofBits FTy.f32 0xBF000000#32) * Ideal.div (rRv m c (ix2 i 0)) (rVv m c (ix2 i 0)))) (Ideal.ofBits FTy.f32 0x44800000#32)) * ((Ideal.ofBits FTy.f32 0x40000000#32) * rVc m c (ix2 i j))
      + Ideal.div ((∑ x : Fin 1024, -((rDvn m c (ix2 i x) * A6 m c (ix2 0 x)) * rRv m c (ix2 i 0))) + ∑ x : Fin 1024, -((Ideal.div ((∑ x : Fin 1024, rVc m c (ix2 i x) * (rDvn m c (ix2 i x) * A6 m c (ix2 0 x))) * ((Ideal.ofBits FTy.f32 0xBF000000#32) * Ideal.div (rRv m c (ix2 i 0)) (rVv m c (ix2 i 0)))) (Ideal.ofBits FTy.f32 0x44800000#32)) * ((Ideal.ofBits FTy.f32 0x40000000#32) * rVc m c (ix2 i x)))) (Ideal.ofBits FTy.f32 0x44800000#32) := by
  unfold rDv
  pointwise [val_main_v218, val_main_v217, val_main_v216, val_main_v215, val_main_v214, val_main_v213, val_main_v212, val_main_v211, val_main_v210, val_main_v209, val_main_v208, val_main_v207, val_main_v206, val_main_v205, val_main_v204, val_main_v203, val_main_v202, val_main_v201, val_main_v200, val_main_v199, val_main_v198, val_main_v197, val_main_v196, val_main_v195, val_main_v193, val_main_v192, val_main_v78, val_main_v52, val_main_v51, val_main_cst_43, val_main_cst_44, val_main_cst_45, val_main_cst_46, val_main_cst_47, val_main_cst_48, val_main_cst_42, val_main_cst_41]
  simp only [Finset.univ_unique, Fin.default_eq_zero, Fin.isValue, Finset.sum_singleton, rDv_two_at, rDv_half_at]

/-- Twice the centred array of `Dc1`. -/
theorem rDc1_two_at (i : Fin 8192) (j : Fin 1024) :
    ((val_main_v28 (F := Ideal) (A1 m c) (A4 m c)) : FVec Ideal S8192x1024 .f32) (ix2 i j) = (Ideal.ofBits FTy.f32 0x40000000#32) * rCc m c (ix2 i j) := by
  pointwise [val_main_v28, val_main_v27, val_main_cst_2, val_main_v25, val_main_v24, val_main_v34, val_main_v33, val_main_v32, val_main_v31, val_main_v30, val_main_v29, val_main_v26, val_main_v23, val_main_v22, val_main_v21, val_main_v20, val_main_v19, val_main_v18, val_main_v17, val_main_cst, val_main_cst_0, val_main_cst_1, val_main_cst_3, rCc]

/-- The variance's derivative in `Dc1`. -/
theorem rDc1_half_at (i : Fin 8192) :
    ((val_main_v40 (F := Ideal) (A1 m c) (A4 m c)) : FVec Ideal S8192x1 .f32) (ix2 i 0) = (Ideal.ofBits FTy.f32 0xBF000000#32) * Ideal.div (rRc m c (ix2 i 0)) (rCv m c (ix2 i 0)) := by
  pointwise [val_main_v40, val_main_v39, val_main_v38, val_main_cst_5]

/-- The gradient of the convolution, entry by entry. -/
theorem rDc1_at (i : Fin 8192) (j : Fin 1024) :
    rDc1 m c (ix2 i j) = (rDc2 m c (ix2 i j) * A5 m c (ix2 0 j)) * rRc m c (ix2 i 0) + (Ideal.div ((∑ x : Fin 1024, rCc m c (ix2 i x) * (rDc2 m c (ix2 i x) * A5 m c (ix2 0 x))) * ((Ideal.ofBits FTy.f32 0xBF000000#32) * Ideal.div (rRc m c (ix2 i 0)) (rCv m c (ix2 i 0)))) (Ideal.ofBits FTy.f32 0x44800000#32)) * ((Ideal.ofBits FTy.f32 0x40000000#32) * rCc m c (ix2 i j))
      + Ideal.div ((∑ x : Fin 1024, -((rDc2 m c (ix2 i x) * A5 m c (ix2 0 x)) * rRc m c (ix2 i 0))) + ∑ x : Fin 1024, -((Ideal.div ((∑ x : Fin 1024, rCc m c (ix2 i x) * (rDc2 m c (ix2 i x) * A5 m c (ix2 0 x))) * ((Ideal.ofBits FTy.f32 0xBF000000#32) * Ideal.div (rRc m c (ix2 i 0)) (rCv m c (ix2 i 0)))) (Ideal.ofBits FTy.f32 0x44800000#32)) * ((Ideal.ofBits FTy.f32 0x40000000#32) * rCc m c (ix2 i x)))) (Ideal.ofBits FTy.f32 0x44800000#32) := by
  unfold rDc1
  pointwise [val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149, val_main_v148, val_main_v147, val_main_v146, val_main_v144, val_main_v143, val_main_v43, val_main_v14, val_main_v13, val_main_cst_27, val_main_cst_28, val_main_cst_29, val_main_cst_30, val_main_cst_31, val_main_cst_32, val_main_cst_33]
  simp only [Finset.univ_unique, Fin.default_eq_zero, Fin.isValue, Finset.sum_singleton, rDc1_two_at, rDc1_half_at]

end Cert.KernelIdeal.Hand

end
-- ==== Proof.KerPt.lean ====
/-
  What a grid point computes, entry by entry, in the blocks it reads.
-/
module

public import proofs.«01_k».proof.Proof.Vals
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

/-- The constant the variances add. -/
abbrev lnEps : EReal := Ideal.ofBits FTy.f32 0x358637BD#32
/-- The number of columns as the kernel's constant. -/
abbrev lnN : EReal := Ideal.ofBits FTy.f32 0x44800000#32

/-- Two positions of a matrix are the same where their coordinates are. -/
theorem ix2_ext {a b : ℕ} {i i' : Fin a} {j j' : Fin b} (h : i.val = i'.val) (k : j.val = j'.val) : ix2 i j = ix2 i' j' := by
  rw [Fin.ext h, Fin.ext k]

/-- Two positions of a stack of matrices are the same where their coordinates are. -/
theorem ix3_ext {a b d : ℕ} {i i' : Fin a} {j j' : Fin b} {k k' : Fin d} (h : i.val = i'.val) (l : j.val = j'.val)
    (n : k.val = k'.val) : ix3 i j k = ix3 i' j' k' := by
  rw [Fin.ext h, Fin.ext l, Fin.ext n]

variable (X : Ins Ideal)

/-- The gradient of the activation's argument. -/
def Ins.dc2 : FVec Ideal S256x1024 .f32 :=
  k0_pay31 X.dc3 (k0_pay29 X.x6 X.x13 X.x14) (k0_pay30 X.x6 X.x13 X.x14)

/-- The gradient of the merged branches. -/
theorem dme_at (i : Fin 256) (j : Fin 1024) :
    X.dme (ix2 i j) = ∑ x : Fin 1024, X.x0 (ix2 i x) * X.x17 (ix3 ⟨j.val / 256, by omega⟩ ⟨j.val % 256, by omega⟩ x) := by
  pointwise [Ins.dme, k0_pay18]
/-- The convolution branch's gate. -/
theorem sA_at (i : Fin 256) (j : Fin 1024) :
    X.sA (ix2 i j) = Ideal.div 1 (1 + Ideal.exp (0 - (X.x2 (ix2 i ⟨j.val, by omega⟩) + X.x12 (ix2 0 ⟨j.val, by omega⟩)))) := by
  pointwise [Ins.sA, k0_pay19]
/-- One plus the exponential of the spatial branch's gate. -/
theorem sB_at (i : Fin 256) (j : Fin 1024) :
    X.sB (ix2 i j) = 1 + Ideal.exp (0 - (X.x2 (ix2 i ⟨1024 + j.val, by omega⟩) + X.x12 (ix2 0 ⟨1024 + j.val, by omega⟩))) := by
  pointwise [Ins.sB, k0_pay20]
/-- The gradient of the convolution branch's activation. -/
theorem dc3_at (i : Fin 256) (j : Fin 1024) :
    X.dc3 (ix2 i j) = ∑ x : Fin 1024, X.dme (ix2 i x) * X.sA (ix2 i x) * X.x15 (ix3 ⟨j.val / 256, by omega⟩ ⟨j.val % 256, by omega⟩ x) := by
  pointwise [Ins.dc3, k0_pay25, k0_pay23]
/-- The gradient of the gated value. -/
theorem dgt_at (i : Fin 256) (j : Fin 1024) :
    X.dgt (ix2 i j) = ∑ x : Fin 1024, X.dme (ix2 i x) * Ideal.div 1 (X.sB (ix2 i x)) * X.x16 (ix3 ⟨j.val / 256, by omega⟩ ⟨j.val % 256, by omega⟩ x) := by
  pointwise [Ins.dgt, k0_pay26, k0_pay24, k0_pay22, k0_pay21]
/-- The gradient of the mixed value. -/
theorem dmx_at (i : Fin 256) (j : Fin 1024) :
    X.dmx (ix2 i j) = X.dgt (ix2 i j) * X.x1 (ix2 i ⟨j.val, by omega⟩) := by
  pointwise [Ins.dmx, k0_pay43]
/-- The spatial half, normalised. -/
theorem vh_at (i : Fin 256) (j : Fin 1024) :
    X.vh (ix2 i j) = (X.x1 (ix2 i ⟨1024 + j.val, by omega⟩) - Ideal.div (∑ x : Fin 1024, X.x1 (ix2 i ⟨1024 + x.val, by omega⟩)) lnN) * Ideal.rsqrt (Ideal.div (∑ y : Fin 1024, (X.x1 (ix2 i ⟨1024 + y.val, by omega⟩) - Ideal.div (∑ x : Fin 1024, X.x1 (ix2 i ⟨1024 + x.val, by omega⟩)) lnN) * (X.x1 (ix2 i ⟨1024 + y.val, by omega⟩) - Ideal.div (∑ x : Fin 1024, X.x1 (ix2 i ⟨1024 + x.val, by omega⟩)) lnN)) lnN + lnEps) := by
  pointwise [Ins.vh, k0_pay46, k0_pay45, k0_pay44]
/-- The spatial half, normalised, scaled and shifted. -/
theorem vn_at (i : Fin 256) (j : Fin 1024) :
    X.vn (ix2 i j) = X.vh (ix2 i j) * X.x8 (ix2 0 j) + X.x9 (ix2 0 j) := by
  pointwise [Ins.vn, k0_pay48, k0_pay47]
/-- The gradient of the convolution branch. -/
theorem o18_at (i : Fin 256) (j : Fin 1024) :
    X.o18 (ix2 i j) = X.dme (ix2 i j) * X.sA (ix2 i j) := by
  pointwise [Ins.o18, k0_pay23]
/-- The gradient of the spatial branch. -/
theorem o19_at (i : Fin 256) (j : Fin 1024) :
    X.o19 (ix2 i j) = X.dme (ix2 i j) * Ideal.div 1 (X.sB (ix2 i j)) := by
  pointwise [Ins.o19, k0_pay24, k0_pay22, k0_pay21]
/-- The gradient of the activation's argument. -/
theorem dc2_at (i : Fin 256) (j : Fin 1024) :
    X.dc2 (ix2 i j) = X.dc3 (ix2 i j) * ((Ideal.div 1 (1 + Ideal.exp (0 - (X.x6 (ix2 i j) * X.x13 (ix2 0 j) + X.x14 (ix2 0 j))))) * (1 + (X.x6 (ix2 i j) * X.x13 (ix2 0 j) + X.x14 (ix2 0 j)) * (1 - (Ideal.div 1 (1 + Ideal.exp (0 - (X.x6 (ix2 i j) * X.x13 (ix2 0 j) + X.x14 (ix2 0 j)))))))) := by
  pointwise [Ins.dc2, k0_pay31, k0_pay29, k0_pay30, k0_pay28, k0_pay27]
/-- The gradient of the convolution. -/
theorem o21_at (i : Fin 256) (j : Fin 1024) :
    X.o21 (ix2 i j) = X.x7 (ix2 i 0) * (X.dc2 (ix2 i j) * X.x13 (ix2 0 j) - Ideal.div (∑ x : Fin 1024, X.dc2 (ix2 i x) * X.x13 (ix2 0 x)) lnN - X.x6 (ix2 i j) * Ideal.div (∑ x : Fin 1024, X.dc2 (ix2 i x) * X.x13 (ix2 0 x) * X.x6 (ix2 i x)) lnN) := by
  pointwise [Ins.o21, Ins.c1h, k0_pay34, Ins.dc2, k0_pay27]
/-- The gradient of the normalised half. -/
theorem dvn_at (i : Fin 256) (j : Fin 1024) :
    X.dvn (ix2 i j) = ∑ x : Fin 128, X.x11 (ix3 ⟨j.val / 128, by omega⟩ ⟨i.val % 128, by omega⟩ x) * X.dmx (ix2 ⟨i.val / 128 * 128 + x.val, by omega⟩ j) := by
  unfold Ins.dvn Ins.dmb
  canon_tiles x h
  all_goals idx_vars x
  all_goals pointwise [k0_pay49, k0_pay47, k0_pay48, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98]
  all_goals refine Finset.sum_congr rfl fun y _ => congrArg₂ (· * ·) (congrArg X.x11 (ix3_ext ?_ ?_ rfl)) (congrArg X.dmx (ix2_ext ?_ ?_))
  all_goals simp only [Fin.coe_ofNat_eq_mod, Nat.reduceMod]
  all_goals omega
/-- The gradient of the spatial half, as the kernel computes it. -/
def Ins.dv (X : Ins Ideal) (i : Fin 256) (j : Fin 1024) : EReal :=
  Ideal.rsqrt (Ideal.div (∑ y : Fin 1024, (X.x1 (ix2 i ⟨1024 + y.val, by omega⟩) - Ideal.div (∑ x : Fin 1024, X.x1 (ix2 i ⟨1024 + x.val, by omega⟩)) lnN) * (X.x1 (ix2 i ⟨1024 + y.val, by omega⟩) - Ideal.div (∑ x : Fin 1024, X.x1 (ix2 i ⟨1024 + x.val, by omega⟩)) lnN)) lnN + lnEps) * ((X.dvn (ix2 i j) * X.x8 (ix2 0 j)) - Ideal.div (∑ x : Fin 1024, (X.dvn (ix2 i x) * X.x8 (ix2 0 x))) lnN - X.vh (ix2 i j) * Ideal.div (∑ x : Fin 1024, (X.dvn (ix2 i x) * X.x8 (ix2 0 x)) * X.vh (ix2 i x)) lnN)
/-- The projection's gradient, the gated half's columns. -/
theorem o20_u (i : Fin 256) (j : Fin 1024) :
    X.o20 (ix2 i ⟨2048 + j.val, by omega⟩) = X.dgt (ix2 i j) * X.x5 (ix2 i j) := by
  unfold Ins.o20
  rw [View.canon_cons_of_not_mem _ _ (Rect.not_mem_set_of_axis _ _ 1 3072 1024 rfl rfl rfl (Or.inl (by show 2048 + j.val < 3072; omega)))]
  have e : (ix2 i ⟨2048 + j.val, by omega⟩ : S256x6144.Idx) = (Rect.unit (s := S256x6144) ![0, 2048] S256x1024.size inb_S256x6144_S256x1024_0_2048).emb (ix2 i j) := by
    funext a; fin_cases a
    · exact Fin.ext (by show i.val = 0 + 1 * i.val; omega)
    · exact Fin.ext (by show 2048 + j.val = 2048 + 1 * j.val; omega)
  rw [e, View.canon_cons_emb]
  pointwise [Ins.dv, k0_pay98, k0_pay45, k0_pay44, k0_pay42, k0_pay39, k0_pay37, k0_pay22, k0_pay21, k0_pay38, k0_pay36]
/-- The projection's gradient, the spatial half's columns. -/
theorem o20_v (i : Fin 256) (j : Fin 1024) :
    X.o20 (ix2 i ⟨3072 + j.val, by omega⟩) = X.dv i j := by
  unfold Ins.o20
  have e : (ix2 i ⟨3072 + j.val, by omega⟩ : S256x6144.Idx) = (Rect.unit (s := S256x6144) ![0, 3072] S256x1024.size inb_S256x6144_S256x1024_0_3072).emb (ix2 i j) := by
    funext a; fin_cases a
    · exact Fin.ext (by show i.val = 0 + 1 * i.val; omega)
    · exact Fin.ext (by show 3072 + j.val = 3072 + 1 * j.val; omega)
  rw [e, View.canon_cons_emb]
  pointwise [Ins.dv, k0_pay98, k0_pay45, k0_pay44, k0_pay42, k0_pay39, k0_pay37, k0_pay22, k0_pay21, k0_pay38, k0_pay36]
/-- The projection's gradient, the convolution branch's gate's columns. -/
theorem o20_a (i : Fin 256) (j : Fin 1024) :
    X.o20 (ix2 i ⟨4096 + j.val, by omega⟩) = X.dme (ix2 i j) * X.x3 (ix2 i j) * (X.sA (ix2 i j) * (1 - X.sA (ix2 i j))) := by
  unfold Ins.o20
  rw [View.canon_cons_of_not_mem _ _ (Rect.not_mem_set_of_axis _ _ 1 3072 1024 rfl rfl rfl (Or.inr (by show 3072 + 1024 ≤ 4096 + j.val; omega)))]
  rw [View.canon_cons_of_not_mem _ _ (Rect.not_mem_set_of_axis _ _ 1 2048 1024 rfl rfl rfl (Or.inr (by show 2048 + 1024 ≤ 4096 + j.val; omega)))]
  rw [View.canon_cons_of_not_mem _ _ (Rect.not_mem_set_of_axis _ _ 1 5120 1024 rfl rfl rfl (Or.inl (by show 4096 + j.val < 5120; omega)))]
  have e : (ix2 i ⟨4096 + j.val, by omega⟩ : S256x6144.Idx) = (Rect.unit (s := S256x6144) ![0, 4096] S256x1024.size inb_S256x6144_S256x1024_0_4096).emb (ix2 i j) := by
    funext a; fin_cases a
    · exact Fin.ext (by show i.val = 0 + 1 * i.val; omega)
    · exact Fin.ext (by show 4096 + j.val = 4096 + 1 * j.val; omega)
  rw [e, View.canon_cons_emb]
  pointwise [Ins.dv, k0_pay98, k0_pay45, k0_pay44, k0_pay42, k0_pay39, k0_pay37, k0_pay22, k0_pay21, k0_pay38, k0_pay36]
/-- The projection's gradient, the spatial branch's gate's columns. -/
theorem o20_b (i : Fin 256) (j : Fin 1024) :
    X.o20 (ix2 i ⟨5120 + j.val, by omega⟩) = X.dme (ix2 i j) * X.x4 (ix2 i j) * (Ideal.div 1 (X.sB (ix2 i j)) * (1 - Ideal.div 1 (X.sB (ix2 i j)))) := by
  unfold Ins.o20
  rw [View.canon_cons_of_not_mem _ _ (Rect.not_mem_set_of_axis _ _ 1 3072 1024 rfl rfl rfl (Or.inr (by show 3072 + 1024 ≤ 5120 + j.val; omega)))]
  rw [View.canon_cons_of_not_mem _ _ (Rect.not_mem_set_of_axis _ _ 1 2048 1024 rfl rfl rfl (Or.inr (by show 2048 + 1024 ≤ 5120 + j.val; omega)))]
  have e : (ix2 i ⟨5120 + j.val, by omega⟩ : S256x6144.Idx) = (Rect.unit (s := S256x6144) ![0, 5120] S256x1024.size inb_S256x6144_S256x1024_0_5120).emb (ix2 i j) := by
    funext a; fin_cases a
    · exact Fin.ext (by show i.val = 0 + 1 * i.val; omega)
    · exact Fin.ext (by show 5120 + j.val = 5120 + 1 * j.val; omega)
  rw [e, View.canon_cons_emb]
  pointwise [Ins.dv, k0_pay98, k0_pay45, k0_pay44, k0_pay42, k0_pay39, k0_pay37, k0_pay22, k0_pay21, k0_pay38, k0_pay36]
/-- The gate bias's sum, the convolution branch's half. -/
theorem n22_a (p : Vec Ideal S1x2048 .f32) (j : Fin 1024) :
    X.n22 p (ix2 0 ⟨j.val, by omega⟩) = p (ix2 0 ⟨j.val, by omega⟩) + ∑ x : Fin 256, X.dme (ix2 x j) * X.x3 (ix2 x j) * (X.sA (ix2 x j) * (1 - X.sA (ix2 x j))) := by
  unfold Ins.n22
  canon_tiles x h
  all_goals idx_vars x
  all_goals first
    | (exfalso; omega)
    | (obtain rfl : j = x1 := Fin.ext (by omega)
       pointwise [k0_pay41, k0_pay40, k0_pay37, k0_pay22, k0_pay21, k0_pay38, k0_pay36])
/-- The gate bias's sum, the spatial branch's half. -/
theorem n22_b (p : Vec Ideal S1x2048 .f32) (j : Fin 1024) :
    X.n22 p (ix2 0 ⟨1024 + j.val, by omega⟩) = p (ix2 0 ⟨1024 + j.val, by omega⟩) + ∑ x : Fin 256, X.dme (ix2 x j) * X.x4 (ix2 x j) * (Ideal.div 1 (X.sB (ix2 x j)) * (1 - Ideal.div 1 (X.sB (ix2 x j)))) := by
  unfold Ins.n22
  canon_tiles x h
  all_goals idx_vars x
  all_goals first
    | (exfalso; omega)
    | (obtain rfl : j = x1 := Fin.ext (by omega)
       pointwise [k0_pay41, k0_pay40, k0_pay37, k0_pay22, k0_pay21, k0_pay38, k0_pay36])
/-- The spatial weights' sum. -/
theorem n26_at (s : Vec Ideal S8x128x128 .f32) (g : Fin 8) (p q : Fin 128) :
    X.n26 s (ix3 g p q) = s (ix3 g p q) + ((∑ x : Fin 128, X.dmx (ix2 ⟨p.val, by omega⟩ ⟨128 * g.val + x.val, by omega⟩) * X.vn (ix2 ⟨q.val, by omega⟩ ⟨128 * g.val + x.val, by omega⟩))
      + ∑ x : Fin 128, X.dmx (ix2 ⟨128 + p.val, by omega⟩ ⟨128 * g.val + x.val, by omega⟩) * X.vn (ix2 ⟨128 + q.val, by omega⟩ ⟨128 * g.val + x.val, by omega⟩)) := by
  unfold Ins.n26 Ins.dmb
  canon_tiles x h
  all_goals idx_vars x
  all_goals obtain rfl : p = x1 := Fin.ext (by omega)
  all_goals obtain rfl : q = x2 := Fin.ext (by omega)
  case piece7 =>
    obtain rfl : g = 0 := Fin.ext (show g.val = 0 by omega)
    pointwise [k0_pay49, k0_pay47, k0_pay48, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, vn_at]
  case piece6 =>
    obtain rfl : g = 1 := Fin.ext (show g.val = 1 by omega)
    pointwise [k0_pay49, k0_pay47, k0_pay48, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, vn_at]
  case piece5 =>
    obtain rfl : g = 2 := Fin.ext (show g.val = 2 by omega)
    pointwise [k0_pay49, k0_pay47, k0_pay48, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, vn_at]
  case piece4 =>
    obtain rfl : g = 3 := Fin.ext (show g.val = 3 by omega)
    pointwise [k0_pay49, k0_pay47, k0_pay48, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, vn_at]
  case piece3 =>
    obtain rfl : g = 4 := Fin.ext (show g.val = 4 by omega)
    pointwise [k0_pay49, k0_pay47, k0_pay48, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, vn_at]
  case piece2 =>
    obtain rfl : g = 5 := Fin.ext (show g.val = 5 by omega)
    pointwise [k0_pay49, k0_pay47, k0_pay48, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, vn_at]
  case piece1 =>
    obtain rfl : g = 6 := Fin.ext (show g.val = 6 by omega)
    pointwise [k0_pay49, k0_pay47, k0_pay48, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, vn_at]
  case piece0 =>
    obtain rfl : g = 7 := Fin.ext (show g.val = 7 by omega)
    pointwise [k0_pay49, k0_pay47, k0_pay48, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, vn_at]

/-- The spatial bias's gradient, from its sum. -/
theorem o25_at (s : Vec Ideal S128x1024 .f32) (j : Fin 1024) :
    o25 s (ix2 0 j) = ∑ x : Fin 128, s (ix2 ⟨j.val % 128, by omega⟩ ⟨j.val / 128 * 128 + x.val, by omega⟩) := by
  unfold o25
  canon_tiles x h
  all_goals idx_vars x
  all_goals pointwise [k0_pay1, k0_pay2, k0_pay3, k0_pay4, k0_pay5, k0_pay6, k0_pay7, k0_pay8, k0_pay9]
  all_goals (refine Finset.sum_congr rfl fun y _ => congrArg s (congrArg₂ ix2 (Fin.ext ?_) (Fin.ext ?_)) <;> dsimp only <;> omega)
/-- The inner gain's sum. -/
theorem n23_at (p : Vec Ideal S1x1024 .f32) (j : Fin 1024) :
    X.n23 p (ix2 0 j) = p (ix2 0 j) + ∑ x : Fin 256, X.dvn (ix2 x j) * X.vh (ix2 x j) := by
  pointwise [Ins.n23, k0_pay96]
/-- The inner shift's sum. -/
theorem n24_at (p : Vec Ideal S1x1024 .f32) (j : Fin 1024) :
    X.n24 p (ix2 0 j) = p (ix2 0 j) + ∑ x : Fin 256, X.dvn (ix2 x j) := by
  pointwise [Ins.n24, k0_pay97]
/-- The convolution gain's sum. -/
theorem n27_at (p : Vec Ideal S1x1024 .f32) (j : Fin 1024) :
    X.n27 p (ix2 0 j) = p (ix2 0 j) + ∑ x : Fin 256, X.dc2 (ix2 x j) * X.x6 (ix2 x j) := by
  pointwise [Ins.n27, k0_pay32, Ins.dc2, Ins.c1h, k0_pay27]
/-- The convolution shift's sum. -/
theorem n28_at (p : Vec Ideal S1x1024 .f32) (j : Fin 1024) :
    X.n28 p (ix2 0 j) = p (ix2 0 j) + ∑ x : Fin 256, X.dc2 (ix2 x j) := by
  pointwise [Ins.n28, k0_pay33, Ins.dc2]
/-- The convolution bias's sum. -/
theorem n29_at (p : Vec Ideal S1x1024 .f32) (j : Fin 1024) :
    X.n29 p (ix2 0 j) = p (ix2 0 j) + ∑ x : Fin 256, X.o21 (ix2 x j) := by
  pointwise [Ins.n29, k0_pay35]
/-- The spatial bias's sum, before a group's channels are added up. -/
theorem ns1_at (s : Vec Ideal S128x1024 .f32) (i : Fin 128) (j : Fin 1024) :
    X.ns1 s (ix2 i j) = s (ix2 i j) + (X.dmx (ix2 ⟨i.val, by omega⟩ j) + X.dmx (ix2 ⟨128 + i.val, by omega⟩ j)) := by
  pointwise [Ins.ns1, k0_pay50]

end Cert.KernelIdeal.Hand

end
-- ==== Proof.Real.lean ====
/-
  Real numbers among the extended ones: the two backward formulas of the layer norm, and the derivative of the activation.
-/
module

public import Idealize.ShloMosaic.Lib.Pipeline.ValueKit

@[expose] public section

noncomputable section

namespace Cert.KernelIdeal.Hand

open Idealize.ShloMosaic

/-- A number that is not infinite. -/
def IsR (x : EReal) : Prop := ∃ r : ℝ, x = r

theorem IsR.add {x y : EReal} : IsR x → IsR y → IsR (x + y) := by
  rintro ⟨a, rfl⟩ ⟨b, rfl⟩; exact ⟨a + b, (EReal.coe_add a b).symm⟩
theorem IsR.sub {x y : EReal} : IsR x → IsR y → IsR (x - y) := by
  rintro ⟨a, rfl⟩ ⟨b, rfl⟩; exact ⟨a - b, (EReal.coe_sub a b).symm⟩
theorem IsR.mul {x y : EReal} : IsR x → IsR y → IsR (x * y) := by
  rintro ⟨a, rfl⟩ ⟨b, rfl⟩; exact ⟨a * b, (EReal.coe_mul a b).symm⟩
theorem IsR.neg {x : EReal} : IsR x → IsR (-x) := by
  rintro ⟨a, rfl⟩; exact ⟨-a, (EReal.coe_neg a).symm⟩

/-- The sum of real numbers is the real sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem IsR.sum {ι : Type*} {s : Finset ι} {f : ι → EReal} (h : ∀ i, IsR (f i)) : IsR (∑ i ∈ s, f i) := by
  choose g hg using h
  exact ⟨∑ i ∈ s, g i, by rw [← coe_sum]; exact Finset.sum_congr rfl fun i _ => hg i⟩

/-- The number of columns. -/
theorem ofBits_N : Ideal.ofBits FTy.f32 0x44800000#32 = ((1024 : ℝ) : EReal) := by
  simp [Ideal.ofBits, Ideal.ieee, -EReal.coe_mul]; norm_num
/-- Two. -/
theorem ofBits_two : Ideal.ofBits FTy.f32 0x40000000#32 = ((2 : ℝ) : EReal) := by
  simp [Ideal.ofBits, Ideal.ieee, -EReal.coe_mul]; norm_num
/-- Minus a half. -/
theorem ofBits_half : Ideal.ofBits FTy.f32 0xBF000000#32 = ((-(1 / 2) : ℝ) : EReal) := by
  simp [Ideal.ofBits, Ideal.ieee, -EReal.coe_mul]; norm_num
/-- The constant the variances add is positive. -/
theorem ofBits_eps : ∃ e : ℝ, 0 < e ∧ Ideal.ofBits FTy.f32 0x358637BD#32 = (e : EReal) := by
  refine ⟨_, ?_, by simp [Ideal.ofBits, Ideal.ieee, -EReal.coe_mul]; rfl⟩
  norm_num

/-- The quotient by the number of columns. -/
theorem div_N (x : ℝ) : Ideal.div (x : EReal) (Ideal.ofBits FTy.f32 0x44800000#32) = ((x / 1024 : ℝ) : EReal) := by
  rw [ofBits_N, Ideal.div_coe (by norm_num), ← EReal.coe_mul]; congr 1; ring

/-- The sigmoid of a real number is one. -/
theorem sig_real (x : ℝ) : IsR (Ideal.div 1 (1 + Ideal.exp (-(x : EReal)))) := by
  rw [← EReal.coe_neg, Ideal.exp_coe, ← EReal.coe_one, ← EReal.coe_add,
    Ideal.div_coe (by have := Real.exp_pos (-x); linarith), ← EReal.coe_mul]
  exact ⟨_, rfl⟩

theorem IsR.sig {x : EReal} : IsR x → IsR (Ideal.div 1 (1 + Ideal.exp (-x))) := by
  rintro ⟨a, rfl⟩; exact sig_real a

/-- The activation's derivative, factored and multiplied out. -/
theorem act_deriv {d s z : EReal} (hd : IsR d) (hs : IsR s) (hz : IsR z) :
    d * (s * (1 + z * (1 - s))) = d * s + z * d * (s * (1 - s)) := by
  obtain ⟨d, rfl⟩ := hd; obtain ⟨s, rfl⟩ := hs; obtain ⟨z, rfl⟩ := hz
  simp only [← EReal.coe_one, ← EReal.coe_sub, ← EReal.coe_mul, ← EReal.coe_add]
  congr 1; ring

/-- A row less its mean. -/
def cent (u : Fin 1024 → EReal) (j : Fin 1024) : EReal := u j - Ideal.div (∑ x : Fin 1024, u x) (Ideal.ofBits FTy.f32 0x44800000#32)
/-- The row's variance, with the constant. -/
def vare (u : Fin 1024 → EReal) : EReal :=
  Ideal.div (∑ x : Fin 1024, cent u x * cent u x) (Ideal.ofBits FTy.f32 0x44800000#32) + Ideal.ofBits FTy.f32 0x358637BD#32

/-- A real row, less its mean. -/
theorem cent_coe (u : Fin 1024 → ℝ) (j : Fin 1024) :
    cent (fun x => (u x : EReal)) j = ((u j - (∑ x, u x) / 1024 : ℝ) : EReal) := by
  unfold cent; rw [coe_sum, div_N, EReal.coe_sub]

/-- A real row's variance is real and positive. -/
theorem vare_pos (u : Fin 1024 → ℝ) : ∃ v : ℝ, 0 < v ∧ vare (fun x => (u x : EReal)) = v := by
  obtain ⟨e, he, h⟩ := ofBits_eps
  unfold vare
  simp only [cent_coe, ← EReal.coe_mul]
  rw [coe_sum, div_N, h, ← EReal.coe_add]
  refine ⟨_, ?_, rfl⟩
  have : 0 ≤ ∑ x, (u x - (∑ x, u x) / 1024) * (u x - (∑ x, u x) / 1024) := Finset.sum_nonneg fun x _ => mul_self_nonneg _
  positivity

/-- The reciprocal square root of a real row's variance is real, and its square inverts the variance. -/
theorem rs_real (u : Fin 1024 → ℝ) : ∃ v r : ℝ, 0 < v ∧ r * r * v = 1 ∧ vare (fun x => (u x : EReal)) = v
    ∧ Ideal.rsqrt (vare (fun x => (u x : EReal))) = r := by
  obtain ⟨v, hv, h⟩ := vare_pos u
  refine ⟨v, (Real.sqrt v)⁻¹, hv, ?_, h, ?_⟩
  · rw [← mul_inv, Real.mul_self_sqrt hv.le, inv_mul_cancel₀ hv.ne']
  · rw [h, Ideal.rsqrt_coe, if_neg (not_lt.2 hv.le), if_neg hv.ne']

/-- The layer norm's backward pass: the derivative of each step, added up, is the closed form. -/
theorem ln_back {u h : Fin 1024 → EReal} (hu : ∀ x, IsR (u x)) (hh : ∀ x, IsR (h x)) (j : Fin 1024) :
    h j * Ideal.rsqrt (vare u)
      + Ideal.div ((∑ x : Fin 1024, cent u x * h x) * (Ideal.ofBits FTy.f32 0xBF000000#32 * Ideal.div (Ideal.rsqrt (vare u)) (vare u))) (Ideal.ofBits FTy.f32 0x44800000#32) * (Ideal.ofBits FTy.f32 0x40000000#32 * cent u j)
      + Ideal.div ((∑ x : Fin 1024, -(h x * Ideal.rsqrt (vare u))) + ∑ x : Fin 1024, -(Ideal.div ((∑ x : Fin 1024, cent u x * h x) * (Ideal.ofBits FTy.f32 0xBF000000#32 * Ideal.div (Ideal.rsqrt (vare u)) (vare u))) (Ideal.ofBits FTy.f32 0x44800000#32) * (Ideal.ofBits FTy.f32 0x40000000#32 * cent u x))) (Ideal.ofBits FTy.f32 0x44800000#32)
    = Ideal.rsqrt (vare u) * (h j - Ideal.div (∑ x : Fin 1024, h x) (Ideal.ofBits FTy.f32 0x44800000#32)
        - (cent u j * Ideal.rsqrt (vare u)) * Ideal.div (∑ x : Fin 1024, h x * (cent u x * Ideal.rsqrt (vare u))) (Ideal.ofBits FTy.f32 0x44800000#32)) := by
  choose u' hu' using hu
  choose h' hh' using hh
  obtain rfl : u = fun x => (u' x : EReal) := funext hu'
  obtain rfl : h = fun x => (h' x : EReal) := funext hh'
  obtain ⟨v, r, hv, hr, ev, er⟩ := rs_real u'
  rw [er, ev]
  have c0 : ∑ x, (u' x - (∑ x, u' x) / 1024) = 0 := by
    rw [Finset.sum_sub_distrib, Finset.sum_const, Finset.card_univ, Fintype.card_fin, nsmul_eq_mul]; ring
  simp only [cent_coe]
  generalize hc : (fun x => u' x - (∑ x, u' x) / 1024) = c
  have hc' : ∀ x, u' x - (∑ x, u' x) / 1024 = c x := fun x => congrFun hc x
  simp only [hc'] at c0 ⊢
  rw [ofBits_two, ofBits_half, Ideal.div_coe hv.ne']
  simp only [← EReal.coe_mul, ← EReal.coe_neg, coe_sum, ← EReal.coe_add, div_N, ← EReal.coe_sub]
  congr 1
  have hv' : 1 / v = r * r := by field_simp; linarith
  rw [hv']
  have e1 : ∑ x, -(h' x * r) = -(∑ x, h' x) * r := by rw [Finset.sum_neg_distrib, ← Finset.sum_mul]; ring
  have e2 : ∀ k : ℝ, ∑ x, -(k * (2 * c x)) = 0 := by
    intro k
    rw [Finset.sum_neg_distrib, ← Finset.mul_sum, ← Finset.mul_sum, c0]; ring
  have e3 : ∑ x, h' x * (c x * r) = (∑ x, c x * h' x) * r := by
    rw [Finset.sum_mul]; exact Finset.sum_congr rfl fun x _ => by ring
  rw [e1, e2, e3]
  ring

/-- The closed form is real. -/
theorem ln_isR {u h : Fin 1024 → EReal} (hu : ∀ x, IsR (u x)) : (∀ j, IsR (cent u j)) ∧ IsR (Ideal.rsqrt (vare u)) := by
  choose u' hu' using hu
  obtain rfl : u = fun x => (u' x : EReal) := funext hu'
  obtain ⟨v, r, hv, hr, ev, er⟩ := rs_real u'
  exact ⟨fun j => ⟨_, cent_coe u' j⟩, r, er⟩

end Cert.KernelIdeal.Hand

end
-- ==== Proof.Stages.lean ====
/-
  At every grid point, what the kernel computes for a token is what the reference holds for it.
-/
module

public import proofs.«01_k».proof.Proof.Reads
public import proofs.«01_k».proof.Proof.Refs
public import proofs.«01_k».proof.Proof.KerPt
public import proofs.«01_k».proof.Proof.Real
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.ReferenceIdeal.Read

/-- Every entry of every argument is a real number. -/
structure ArgsR (m : (ℓ : Loc nD τ sig) → Buf (Elt Ideal) ℓ) (c : Dev nD) : Prop where
  a0 : ∀ i, IsR (A0 m c i)
  a1 : ∀ i, IsR (A1 m c i)
  a2 : ∀ i, IsR (A2 m c i)
  a3 : ∀ i, IsR (A3 m c i)
  a4 : ∀ i, IsR (A4 m c i)
  a5 : ∀ i, IsR (A5 m c i)
  a6 : ∀ i, IsR (A6 m c i)
  a7 : ∀ i, IsR (A7 m c i)
  a9 : ∀ i, IsR (A9 m c i)

section Points

variable (m : (ℓ : Loc nD τ sig) → Buf (Elt Ideal) ℓ) (c : Dev nD) (t : Fin cfg0.N) (i : Fin 256) (j : Fin 1024)

/-- A row of the stacked weights, found again from its tile and its place there. -/
theorem A9_row (s : Fin 3) (h h' h'') (x : Fin 1024) :
    A9 m c (ix3 s ⟨256 * (⟨j.val / 256, h⟩ : Fin 4).val + (⟨j.val % 256, h'⟩ : Fin 256).val, h''⟩ x) = A9 m c (ix3 s j x) :=
  congrArg (A9 m c) (ix3_ext rfl (by show 256 * (j.val / 256) + j.val % 256 = j.val; omega) rfl)

/-- The gradient of the merged branches. -/
theorem s_dme :
    (ins m c t).dme (ix2 i j) = rDm m c (ix2 (row t i) j) := by
  rw [dme_at, rDm_at]
  refine Finset.sum_congr rfl fun x _ => ?_
  rw [x0_at, x17_at, A9_row]

/-- The convolution branch's gate. -/
theorem s_sA :
    (ins m c t).sA (ix2 i j) = rSa m c (ix2 (row t i) j) := by
  rw [sA_at, rSa_at, x2_at, x12_at, zero_sub]

/-- The spatial branch's gate. -/
theorem s_sB :
    Ideal.div 1 ((ins m c t).sB (ix2 i j)) = rSb m c (ix2 (row t i) j) := by
  rw [sB_at, rSb_at, x2_at, x12_at, zero_sub]
  have e : 4096 + (1024 + j.val) = 5120 + j.val := by omega
  simp only [e]

/-- The gradient of the convolution branch. -/
theorem s_o18 :
    (ins m c t).o18 (ix2 i j) = rDya m c (ix2 (row t i) j) := by
  rw [o18_at, s_dme, s_sA, rDya_at, mul_comm]

/-- The gradient of the spatial branch. -/
theorem s_o19 :
    (ins m c t).o19 (ix2 i j) = rDyb m c (ix2 (row t i) j) := by
  rw [o19_at, s_dme, s_sB, rDyb_at, mul_comm]

/-- The gradient of the convolution branch's activation. -/
theorem s_dc3 :
    (ins m c t).dc3 (ix2 i j) = rDc3 m c (ix2 (row t i) j) := by
  rw [dc3_at, rDc3_at]
  refine Finset.sum_congr rfl fun x _ => ?_
  rw [← o18_at, s_o18, x15_at, A9_row]

/-- The gradient of the gated value. -/
theorem s_dgt :
    (ins m c t).dgt (ix2 i j) = rDgt m c (ix2 (row t i) j) := by
  rw [dgt_at, rDgt_at]
  refine Finset.sum_congr rfl fun x _ => ?_
  rw [← o19_at, s_o19, x16_at, A9_row]

/-- The gradient of the mixed value. -/
theorem s_dmx :
    (ins m c t).dmx (ix2 i j) = rDmx m c (ix2 (row t i) j) := by
  rw [dmx_at, s_dgt, x1_at, rDmx_at, mul_comm]

/-- The spatial half. -/
theorem s_un :
    (ins m c t).x1 (ix2 i ⟨1024 + j.val, by omega⟩) = rUn m c (ix2 (row t i) j) := by
  rw [x1_at, rUn_at]
  have e : 2048 + (1024 + j.val) = 3072 + j.val := by omega
  simp only [e]

/-- The spatial half less its mean. -/
theorem rVc_cent (p : Fin 8192) : rVc m c (ix2 p j) = cent (fun x => rUn m c (ix2 p x)) j := rVc_at m c p j
/-- The spatial half's variance, with its constant. -/
theorem rVv_vare (p : Fin 8192) : rVv m c (ix2 p 0) = vare (fun x => rUn m c (ix2 p x)) := by
  rw [rVv_at]; simp only [rVc_cent]; rfl
/-- The spatial half's reciprocal standard deviation. -/
theorem s_rv :
    Ideal.rsqrt (Ideal.div (∑ y : Fin 1024, ((ins m c t).x1 (ix2 i ⟨1024 + y.val, by omega⟩) - Ideal.div (∑ x : Fin 1024, (ins m c t).x1 (ix2 i ⟨1024 + x.val, by omega⟩)) lnN) * ((ins m c t).x1 (ix2 i ⟨1024 + y.val, by omega⟩) - Ideal.div (∑ x : Fin 1024, (ins m c t).x1 (ix2 i ⟨1024 + x.val, by omega⟩)) lnN)) lnN + lnEps) = rRv m c (ix2 (row t i) 0) := by
  simp only [s_un]
  rw [rRv_at, rVv_vare]; rfl

/-- The convolution less its mean. -/
theorem rCc_cent (p : Fin 8192) : rCc m c (ix2 p j) = cent (fun x => A1 m c (ix2 p x) + A4 m c (ix1 x)) j := rCc_at m c p j
/-- The convolution's variance, with its constant. -/
theorem rCv_vare (p : Fin 8192) : rCv m c (ix2 p 0) = vare (fun x => A1 m c (ix2 p x) + A4 m c (ix1 x)) := by
  rw [rCv_at]; simp only [rCc_cent]; rfl

/-- The spatial half, normalised. -/
theorem s_vh :
    (ins m c t).vh (ix2 i j) = rVh m c (ix2 (row t i) j) := by
  rw [vh_at, s_rv, rVh_at, rVc_cent]
  simp only [s_un]
  rfl

/-- The spatial half, normalised, scaled and shifted. -/
theorem s_vn :
    (ins m c t).vn (ix2 i j) = rVn m c (ix2 (row t i) j) := by
  rw [vn_at, s_vh, x8_at, x9_at, rVn_at]

/-- The gradient of the normalised half. -/
theorem s_dvn :
    (ins m c t).dvn (ix2 i j) = rDvn m c (ix2 (row t i) j) := by
  rw [dvn_at, rDvn_at]
  refine Finset.sum_congr rfl fun x _ => ?_
  rw [s_dmx, x11_at, mul_comm]
  refine congrArg₂ (· * ·) (congrArg (rDmx m c) (ix2_ext ?_ rfl)) (congrArg (A7 m c) (ix3_ext rfl rfl ?_))
  · show 256 * t.val + (i.val / 128 * 128 + x.val) = (256 * t.val + i.val) / 128 * 128 + x.val
    omega
  · show i.val % 128 = (256 * t.val + i.val) % 128
    omega

/-- The gated half's gradient. -/
theorem s_u :
    (ins m c t).o20 (ix2 i ⟨2048 + j.val, by omega⟩) = rDu m c (ix2 (row t i) j) := by
  rw [o20_u, s_dgt, x5_at, rDu_at]

/-- The gradient of the convolution branch's gate. -/
theorem s_ga :
    (ins m c t).dme (ix2 i j) * (ins m c t).x3 (ix2 i j) * ((ins m c t).sA (ix2 i j) * (1 - (ins m c t).sA (ix2 i j))) = rGa m c (ix2 (row t i) j) := by
  rw [s_dme, s_sA, x3_at, rGa_at]

/-- The gradient of the spatial branch's gate. -/
theorem s_gb :
    (ins m c t).dme (ix2 i j) * (ins m c t).x4 (ix2 i j) * (Ideal.div 1 ((ins m c t).sB (ix2 i j)) * (1 - Ideal.div 1 ((ins m c t).sB (ix2 i j)))) = rGb m c (ix2 (row t i) j) := by
  rw [s_dme, s_sB, x4_at, rGb_at]

/-- The activation's argument. -/
theorem s_c2 :
    (ins m c t).x6 (ix2 i j) * (ins m c t).x13 (ix2 0 j) + (ins m c t).x14 (ix2 0 j) = rC2 m c (ix2 (row t i) j) := by
  rw [x6_at, x13_at, x14_at, rC2_at]

end Points

section Reals

variable {m : (ℓ : Loc nD τ sig) → Buf (Elt Ideal) ℓ} {c : Dev nD} (hR : ArgsR m c) (p : Fin 8192) (j : Fin 1024)
include hR

theorem isR_Dm : IsR (rDm m c (ix2 p j)) := by
  rw [rDm_at]; exact IsR.sum fun x => (hR.a0 _).mul (hR.a9 _)
theorem isR_Sa : IsR (rSa m c (ix2 p j)) := by
  rw [rSa_at]; exact ((hR.a2 _).add (hR.a3 _)).sig
theorem isR_Sb : IsR (rSb m c (ix2 p j)) := by
  rw [rSb_at]; exact ((hR.a2 _).add (hR.a3 _)).sig
theorem isR_Dc3 : IsR (rDc3 m c (ix2 p j)) := by
  rw [rDc3_at]; refine IsR.sum fun x => IsR.mul ?_ (hR.a9 _)
  rw [rDya_at]; exact (isR_Sa hR p x).mul (isR_Dm hR p x)
theorem isR_Dgt : IsR (rDgt m c (ix2 p j)) := by
  rw [rDgt_at]; refine IsR.sum fun x => IsR.mul ?_ (hR.a9 _)
  rw [rDyb_at]; exact (isR_Sb hR p x).mul (isR_Dm hR p x)
theorem isR_Dvn : IsR (rDvn m c (ix2 p j)) := by
  rw [rDvn_at]; refine IsR.sum fun x => IsR.mul ?_ (hR.a7 _)
  rw [rDmx_at]; exact (hR.a2 _).mul (isR_Dgt hR _ j)
theorem isR_Un : IsR (rUn m c (ix2 p j)) := by
  rw [rUn_at]; exact hR.a2 _
theorem isR_C2 : IsR (rC2 m c (ix2 p j)) := by
  have h := ln_isR (u := fun x => A1 m c (ix2 p x) + A4 m c (ix1 x)) (h := fun _ => 0) fun x => (hR.a1 _).add (hR.a4 _)
  rw [rC2_at, rC1h_at, rCc_cent, rRc_at, rCv_vare]
  exact (((h.1 j).mul h.2).mul (hR.a5 _)).add (hR.a5 _)
theorem isR_Dc2 : IsR (rDc2 m c (ix2 p j)) := by
  have one : IsR (1 : EReal) := ⟨1, EReal.coe_one.symm⟩
  have h2 := isR_C2 hR p j
  have hs : IsR (rSg m c (ix2 p j)) := by rw [rSg_at]; exact h2.sig
  have h3 := isR_Dc3 hR p j
  rw [rDc2_at]
  exact (h3.mul hs).add ((h2.mul h3).mul (hs.mul (one.sub hs)))

variable (t : Fin cfg0.N) (i : Fin 256)

/-- The gradient of the activation's argument. -/
theorem s_dc2 : (ins m c t).dc2 (ix2 i j) = rDc2 m c (ix2 (row t i) j) := by
  have h2 := isR_C2 hR (row t i) j
  have hs : IsR (rSg m c (ix2 (row t i) j)) := by rw [rSg_at]; exact h2.sig
  rw [dc2_at, s_c2, s_dc3, zero_sub, ← rSg_at, rDc2_at]
  exact act_deriv (isR_Dc3 hR _ j) hs h2

/-- The gradient of the convolution. -/
theorem s_o21 : (ins m c t).o21 (ix2 i j) = rDc1 m c (ix2 (row t i) j) := by
  rw [o21_at, rDc1_at]
  simp only [s_dc2 hR, x13_at, x6_at, x7_at]
  simp only [show ∀ x, val_main_v42 (F := Ideal) (A1 m c) (A4 m c) (ix2 (row t i) x) = rC1h m c (ix2 (row t i) x) from fun _ => rfl,
    show val_main_v37 (F := Ideal) (A1 m c) (A4 m c) (ix2 (row t i) 0) = rRc m c (ix2 (row t i) 0) from rfl, rC1h_at, rCc_cent, rRc_at, rCv_vare]
  exact (ln_back (fun x => (hR.a1 _).add (hR.a4 _)) (fun x => (isR_Dc2 hR (row t i) x).mul (hR.a5 _)) j).symm

/-- The gradient of the spatial half. -/
theorem s_v : (ins m c t).o20 (ix2 i ⟨3072 + j.val, by omega⟩) = rDv m c (ix2 (row t i) j) := by
  rw [o20_v, Ins.dv, s_rv, rDv_at]
  simp only [s_dvn, x8_at, s_vh, rVh_at, rVc_cent, rRv_at, rVv_vare]
  exact (ln_back (fun x => isR_Un hR (row t i) x) (fun x => (isR_Dvn hR (row t i) x).mul (hR.a6 _)) j).symm

end Reals

end Cert.KernelIdeal.Hand

end
-- ==== Proof.Sums.lean ====
/-
  The sums that the grid carries: after the last point each holds the sum over all 8192 tokens.
-/
module

public import proofs.«01_k».proof.Proof.Stages

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.ReferenceIdeal.Read

variable (m : (ℓ : Loc nD τ sig) → Buf (Elt Ideal) ℓ) (c : Dev nD)

/-- A quantity that begins at zero and that each point raises by `g` is, after point `n`, the sum of `g` over the points up to `n`. -/
theorem st_sum (f : Sums Ideal → EReal) (g : Fin cfg0.N → EReal) (hz : f Sums.zero = 0)
    (hs : ∀ t s, f ((ins m c t).step s) = f s + g t) :
    ∀ n (h : n < cfg0.N), f (st m c n h) = ∑ k : Fin (n + 1), g ⟨k.val, lt_of_lt_of_le k.isLt h⟩
  | 0, h => by
    show f ((ins m c ⟨0, h⟩).step Sums.zero) = _
    rw [hs, hz, zero_add, Fin.sum_univ_one]; rfl
  | n + 1, h => by
    show f ((ins m c ⟨n + 1, h⟩).step (st m c n (Nat.lt_of_succ_lt h))) = _
    rw [hs, st_sum f g hz hs n]
    exact (Fin.sum_univ_castSucc fun k : Fin (n + 2) => g ⟨k.val, lt_of_lt_of_le k.isLt h⟩).symm

/-- The point that a number below 32 names. -/
def pt (n : Fin 32) : Fin cfg0.N := ⟨n.val, lt_of_lt_of_eq n.isLt N_0.symm⟩

/-- After the last point, the sum over all 32. -/
theorem st_last (f : Sums Ideal → EReal) (g : Fin cfg0.N → EReal) (hz : f Sums.zero = 0)
    (hs : ∀ t s, f ((ins m c t).step s) = f s + g t) (t : Fin cfg0.N) (ht : t.val % 32 = 31) :
    f (st m c t.val t.isLt) = ∑ k : Fin 32, g (pt k) := by
  have hN : t.val < 32 := lt_of_lt_of_eq t.isLt N_0
  obtain ⟨n, hn⟩ := t
  have hn' : n = 31 := by dsimp only at ht hN; omega
  subst hn'
  rw [st_sum m c f g hz hs]; rfl

/-- A sum over the points of a sum over a point's rows is the sum over all rows. -/
theorem sum_rows (G : Fin 8192 → EReal) : ∑ k : Fin 32, ∑ i : Fin 256, G (row (pt k) i) = ∑ p : Fin 8192, G p := by
  rw [Fin.sum_univ_tiles 32 256 rfl G]
  refine Finset.sum_congr rfl fun k _ => Finset.sum_congr rfl fun i _ => congrArg G (Fin.ext ?_)
  show 256 * k.val + i.val = k.val * 256 + i.val
  omega

/-- A sum over the points of the terms of a point's two chunks is the sum over all chunks. -/
theorem sum_chunks (G : Fin 64 → EReal) :
    ∑ k : Fin 32, (G ⟨2 * k.val, by omega⟩ + G ⟨2 * k.val + 1, by omega⟩) = ∑ ch : Fin 64, G ch := by
  rw [Fin.sum_univ_tiles 32 2 rfl G]
  refine Finset.sum_congr rfl fun k _ => ?_
  rw [Fin.sum_univ_two]
  refine congrArg₂ (· + ·) (congrArg G (Fin.ext ?_)) (congrArg G (Fin.ext ?_))
  · show 2 * k.val = k.val * 2 + 0; omega
  · show 2 * k.val + 1 = k.val * 2 + 1; omega

section Last

variable (t : Fin cfg0.N) (ht : t.val % 32 = 31) (j : Fin 1024)
include ht

/-- The gate bias's first half: the convolution branch. -/
theorem k22a : (st m c t.val t.isLt).a22 (ix2 0 ⟨j.val, by omega⟩) = ∑ p : Fin 8192, rGa m c (ix2 (p) j) := by
  rw [st_last m c (fun s => s.a22 (ix2 0 ⟨j.val, by omega⟩)) (fun t => ∑ x : Fin 256, rGa m c (ix2 (row t x) j)) (by show (k0_pay10 (F := Ideal)) (ix2 0 ⟨j.val, by omega⟩) = 0; pointwise [k0_pay10]) (fun t s => ?_) t ht]
  · exact sum_rows fun p => rGa m c (ix2 (p) j)
  · dsimp only [Ins.step]
    rw [n22_a]
    refine congrArg (s.a22 (ix2 0 ⟨j.val, by omega⟩) + ·) (Finset.sum_congr rfl fun x _ => ?_)
    exact s_ga m c t x j

/-- The gate bias's second half: the spatial branch. -/
theorem k22b : (st m c t.val t.isLt).a22 (ix2 0 ⟨1024 + j.val, by omega⟩) = ∑ p : Fin 8192, rGb m c (ix2 (p) j) := by
  rw [st_last m c (fun s => s.a22 (ix2 0 ⟨1024 + j.val, by omega⟩)) (fun t => ∑ x : Fin 256, rGb m c (ix2 (row t x) j)) (by show (k0_pay10 (F := Ideal)) (ix2 0 ⟨1024 + j.val, by omega⟩) = 0; pointwise [k0_pay10]) (fun t s => ?_) t ht]
  · exact sum_rows fun p => rGb m c (ix2 (p) j)
  · dsimp only [Ins.step]
    rw [n22_b]
    refine congrArg (s.a22 (ix2 0 ⟨1024 + j.val, by omega⟩) + ·) (Finset.sum_congr rfl fun x _ => ?_)
    exact s_gb m c t x j

/-- The inner gain. -/
theorem k23 : (st m c t.val t.isLt).a23 (ix2 0 j) = ∑ p : Fin 8192, rDvn m c (ix2 (p) j) * rVh m c (ix2 (p) j) := by
  rw [st_last m c (fun s => s.a23 (ix2 0 j)) (fun t => ∑ x : Fin 256, rDvn m c (ix2 (row t x) j) * rVh m c (ix2 (row t x) j)) (by show (k0_pay11 (F := Ideal)) (ix2 0 j) = 0; pointwise [k0_pay11]) (fun t s => ?_) t ht]
  · exact sum_rows fun p => rDvn m c (ix2 (p) j) * rVh m c (ix2 (p) j)
  · dsimp only [Ins.step]
    rw [n23_at]
    refine congrArg (s.a23 (ix2 0 j) + ·) (Finset.sum_congr rfl fun x _ => ?_)
    rw [s_dvn, s_vh]

/-- The inner shift. -/
theorem k24 : (st m c t.val t.isLt).a24 (ix2 0 j) = ∑ p : Fin 8192, rDvn m c (ix2 (p) j) := by
  rw [st_last m c (fun s => s.a24 (ix2 0 j)) (fun t => ∑ x : Fin 256, rDvn m c (ix2 (row t x) j)) (by show (k0_pay12 (F := Ideal)) (ix2 0 j) = 0; pointwise [k0_pay12]) (fun t s => ?_) t ht]
  · exact sum_rows fun p => rDvn m c (ix2 (p) j)
  · dsimp only [Ins.step]
    rw [n24_at]
    refine congrArg (s.a24 (ix2 0 j) + ·) (Finset.sum_congr rfl fun x _ => ?_)
    rw [s_dvn]

/-- The convolution's gain. -/
theorem k27 (hR : ArgsR m c) : (st m c t.val t.isLt).a27 (ix2 0 j) = ∑ p : Fin 8192, rDc2 m c (ix2 (p) j) * rC1h m c (ix2 (p) j) := by
  rw [st_last m c (fun s => s.a27 (ix2 0 j)) (fun t => ∑ x : Fin 256, rDc2 m c (ix2 (row t x) j) * rC1h m c (ix2 (row t x) j)) (by show (k0_pay15 (F := Ideal)) (ix2 0 j) = 0; pointwise [k0_pay15]) (fun t s => ?_) t ht]
  · exact sum_rows fun p => rDc2 m c (ix2 (p) j) * rC1h m c (ix2 (p) j)
  · dsimp only [Ins.step]
    rw [n27_at]
    refine congrArg (s.a27 (ix2 0 j) + ·) (Finset.sum_congr rfl fun x _ => ?_)
    rw [s_dc2 hR, x6_at]

/-- The convolution's shift. -/
theorem k28 (hR : ArgsR m c) : (st m c t.val t.isLt).a28 (ix2 0 j) = ∑ p : Fin 8192, rDc2 m c (ix2 (p) j) := by
  rw [st_last m c (fun s => s.a28 (ix2 0 j)) (fun t => ∑ x : Fin 256, rDc2 m c (ix2 (row t x) j)) (by show (k0_pay16 (F := Ideal)) (ix2 0 j) = 0; pointwise [k0_pay16]) (fun t s => ?_) t ht]
  · exact sum_rows fun p => rDc2 m c (ix2 (p) j)
  · dsimp only [Ins.step]
    rw [n28_at]
    refine congrArg (s.a28 (ix2 0 j) + ·) (Finset.sum_congr rfl fun x _ => ?_)
    rw [s_dc2 hR]

/-- The convolution's bias. -/
theorem k29 (hR : ArgsR m c) : (st m c t.val t.isLt).a29 (ix2 0 j) = ∑ p : Fin 8192, rDc1 m c (ix2 (p) j) := by
  rw [st_last m c (fun s => s.a29 (ix2 0 j)) (fun t => ∑ x : Fin 256, rDc1 m c (ix2 (row t x) j)) (by show (k0_pay17 (F := Ideal)) (ix2 0 j) = 0; pointwise [k0_pay17]) (fun t s => ?_) t ht]
  · exact sum_rows fun p => rDc1 m c (ix2 (p) j)
  · dsimp only [Ins.step]
    rw [n29_at]
    refine congrArg (s.a29 (ix2 0 j) + ·) (Finset.sum_congr rfl fun x _ => ?_)
    rw [s_o21 hR]

/-- The mixing weights: over all chunks, the products summed over a group's channels. -/
theorem k26 (g : Fin 8) (p q : Fin 128) : (st m c t.val t.isLt).a26 (ix3 g p q)
    = ∑ ch : Fin 64, ∑ x : Fin 128, rDmx m c (ix2 ⟨ch.val * 128 + p.val, by omega⟩ ⟨g.val * 128 + x.val, by omega⟩) * rVn m c (ix2 ⟨ch.val * 128 + q.val, by omega⟩ ⟨g.val * 128 + x.val, by omega⟩) := by
  rw [st_last m c (fun s => s.a26 (ix3 g p q)) (fun t => (∑ x : Fin 128, rDmx m c (ix2 (row t ⟨p.val, by omega⟩) ⟨128 * g.val + x.val, by omega⟩) * rVn m c (ix2 (row t ⟨q.val, by omega⟩) ⟨128 * g.val + x.val, by omega⟩))
      + ∑ x : Fin 128, rDmx m c (ix2 (row t ⟨128 + p.val, by omega⟩) ⟨128 * g.val + x.val, by omega⟩) * rVn m c (ix2 (row t ⟨128 + q.val, by omega⟩) ⟨128 * g.val + x.val, by omega⟩))
    (by show (k0_pay13 (F := Ideal)) (ix3 g p q) = 0; pointwise [k0_pay13]) (fun t s => ?_) t ht]
  · rw [← sum_chunks]
    refine Finset.sum_congr rfl fun k _ => congrArg₂ (· + ·) (Finset.sum_congr rfl fun x _ => congrArg₂ (· * ·) ?_ ?_) (Finset.sum_congr rfl fun x _ => congrArg₂ (· * ·) ?_ ?_)
    all_goals exact congrArg _ (ix2_ext (by simp only [row, pt]; omega) (by simp only []; omega))
  · dsimp only [Ins.step]
    rw [n26_at]
    simp only [s_dmx, s_vn]

/-- The spatial bias before a group's channels are added up. -/
theorem ks1 (i : Fin 128) : (st m c t.val t.isLt).s1 (ix2 i j)
    = ∑ ch : Fin 64, rDmx m c (ix2 ⟨ch.val * 128 + i.val, by omega⟩ j) := by
  rw [st_last m c (fun s => s.s1 (ix2 i j)) (fun t => rDmx m c (ix2 (row t ⟨i.val, by omega⟩) j) + rDmx m c (ix2 (row t ⟨128 + i.val, by omega⟩) j))
    (by show (k0_pay14 (F := Ideal)) (ix2 i j) = 0; pointwise [k0_pay14]) (fun t s => ?_) t ht]
  · rw [← sum_chunks]
    refine Finset.sum_congr rfl fun k _ => congrArg₂ (· + ·) ?_ ?_
    all_goals exact congrArg _ (ix2_ext (by simp only [row, pt]; omega) rfl)
  · dsimp only [Ins.step]
    rw [ns1_at]
    simp only [s_dmx]

/-- The spatial bias. -/
theorem k25 : o25 (st m c t.val t.isLt).s1 (ix2 0 j)
    = ∑ x : Fin 128, ∑ ch : Fin 64, rDmx m c (ix2 ⟨ch.val * 128 + j.val % 128, by omega⟩ ⟨j.val / 128 * 128 + x.val, by omega⟩) := by
  rw [o25_at]
  exact Finset.sum_congr rfl fun x _ => ks1 m c t ht _ _

end Last

end Cert.KernelIdeal.Hand

end
-- ==== Proof.Results.lean ====
/-
  The reference's results, entry by entry.
-/
module

public import proofs.«01_k».proof.Proof.Refs
public import proofs.«01_k».proof.Proof.KerPt
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.ReferenceIdeal.Read

variable (m : (ℓ : Loc nD τ sig) → Buf (Elt Ideal) ℓ) (c : Dev nD)

/-- The host's sum over the first and the last of four axes, read at an entry: both axes summed one after the other. -/
theorem reduce_outer {n0 n1 n2 n3 : Nat} (h : (⟨4, ![n0, n1, n2, n3]⟩ : Shape).ReducesTo [0, 3] ⟨2, ![n1, n2]⟩)
    (v : (⟨4, ![n0, n1, n2, n3]⟩ : Shape).Idx → EReal) (init : EReal) (p : Fin n1) (g : Fin n2) :
    Ideal.hostReduceAdd h v init (ix2 p g) = init + ∑ a : Fin n0, ∑ x : Fin n3, v (ix4 a p g x) := by
  have key : ∀ i : (⟨4, ![n0, n1, n2, n3]⟩ : Shape).Idx, h.drop i = ix2 p g ↔ i 1 = p ∧ i 2 = g := by
    intro i
    constructor
    · intro e
      exact ⟨Fin.ext (congrArg Fin.val (congrFun e 0)), Fin.ext (congrArg Fin.val (congrFun e 1))⟩
    · rintro ⟨e1, e2⟩
      funext a
      match a with
      | ⟨0, _⟩ => exact Fin.ext (congrArg Fin.val e1)
      | ⟨1, _⟩ => exact Fin.ext (congrArg Fin.val e2)
  show init + ∑ i ∈ Finset.univ.filter (fun i => h.drop i = ix2 p g), v i = _
  refine congrArg (init + ·) ?_
  rw [← Fintype.sum_prod_type' (fun (a : Fin n0) (x : Fin n3) => v (ix4 a p g x))]
  refine Finset.sum_bij' (fun i _ => ((i 0, i 3) : Fin n0 × Fin n3)) (fun k _ => ix4 k.1 p g k.2) (fun _ _ => Finset.mem_univ _) ?_ ?_ ?_ ?_
  · intro k _
    exact Finset.mem_filter.mpr ⟨Finset.mem_univ _, (key _).mpr ⟨rfl, rfl⟩⟩
  · intro i hi
    obtain ⟨e1, e2⟩ := (key i).mp (Finset.mem_filter.mp hi).2
    funext a
    match a with
    | ⟨0, _⟩ => rfl
    | ⟨1, _⟩ => exact e1.symm
    | ⟨2, _⟩ => exact e2.symm
    | ⟨3, _⟩ => rfl
  · intro k _; rfl
  · intro i hi
    obtain ⟨e1, e2⟩ := (key i).mp (Finset.mem_filter.mp hi).2
    refine congrArg v ?_
    funext a
    match a with
    | ⟨0, _⟩ => rfl
    | ⟨1, _⟩ => exact e1
    | ⟨2, _⟩ => exact e2
    | ⟨3, _⟩ => rfl

/-- Result 0: the gradient of the convolution branch's output. -/
abbrev rO0 := (val_main_v221 (F := Ideal) (A0 m c) (A2 m c) (A3 m c) (A9 m c))
/-- Result 1: the gradient of the spatial branch's output. -/
abbrev rO1 := (val_main_v222 (F := Ideal) (A0 m c) (A2 m c) (A3 m c) (A9 m c))
/-- Result 2: the gradient of the projections. -/
abbrev rO2 := (val_main_v223 (F := Ideal) (A0 m c) (A1 m c) (A2 m c) (A3 m c) (A4 m c) (A5 m c) (A6 m c) (A7 m c) (A8 m c) (A9 m c))
/-- Result 3: the gradient of the convolution. -/
abbrev rO3 := (val_main_v169 (F := Ideal) (A0 m c) (A1 m c) (A2 m c) (A3 m c) (A4 m c) (A5 m c) (A9 m c))
/-- Result 4: the gradient of the gate biases. -/
abbrev rO4 := (val_main_v225 (F := Ideal) (A0 m c) (A1 m c) (A2 m c) (A3 m c) (A4 m c) (A5 m c) (A6 m c) (A7 m c) (A8 m c) (A9 m c))
/-- Result 5: the gradient of the inner gain. -/
abbrev rO5 := (val_main_v226 (F := Ideal) (A0 m c) (A2 m c) (A3 m c) (A7 m c) (A9 m c))
/-- Result 6: the gradient of the inner shift. -/
abbrev rO6 := (val_main_v227 (F := Ideal) (A0 m c) (A2 m c) (A3 m c) (A7 m c) (A9 m c))
/-- Result 7: the gradient of the spatial bias. -/
abbrev rO7 := (val_main_v228 (F := Ideal) (A0 m c) (A2 m c) (A3 m c) (A9 m c))
/-- Result 8: the gradient of the mixing weights. -/
abbrev rO8 := (val_main_v184 (F := Ideal) (A0 m c) (A2 m c) (A3 m c) (A6 m c) (A9 m c))
/-- Result 9: the gradient of the convolution's gain. -/
abbrev rO9 := (val_main_v229 (F := Ideal) (A0 m c) (A1 m c) (A2 m c) (A3 m c) (A4 m c) (A5 m c) (A9 m c))
/-- Result 10: the gradient of the convolution's shift. -/
abbrev rO10 := (val_main_v230 (F := Ideal) (A0 m c) (A1 m c) (A2 m c) (A3 m c) (A4 m c) (A5 m c) (A9 m c))
/-- Result 11: the gradient of the convolution's bias. -/
abbrev rO11 := (val_main_v231 (F := Ideal) (A0 m c) (A1 m c) (A2 m c) (A3 m c) (A4 m c) (A5 m c) (A9 m c))
/-- The first result's entries. -/
theorem rO0_at (i : Fin 8192) (j : Fin 1024) : rO0 m c (ix2 i j) = rDya m c (ix2 i j) := by
  unfold rO0
  pointwise [val_main_v221]

/-- The second result's entries. -/
theorem rO1_at (i : Fin 8192) (j : Fin 1024) : rO1 m c (ix2 i j) = rDyb m c (ix2 i j) := by
  unfold rO1
  pointwise [val_main_v222]

/-- A quarter of the projections' gradient. -/
theorem rO2_at_u (i : Fin 8192) (j : Fin 1024) : rO2 m c (ix2 i ⟨2048 + j.val, by omega⟩) = rDu m c (ix2 i j) := by
  unfold rO2
  pointwise [val_main_v223, val_main_v220]

/-- A quarter of the projections' gradient. -/
theorem rO2_at_v (i : Fin 8192) (j : Fin 1024) : rO2 m c (ix2 i ⟨3072 + j.val, by omega⟩) = rDv m c (ix2 i j) := by
  unfold rO2
  pointwise [val_main_v223, val_main_v220]
  rw [dif_neg (by omega), dif_neg (by omega), dif_pos (by omega)]
  exact congrArg _ (ix2_ext rfl (by simp only []; omega))

/-- A quarter of the projections' gradient. -/
theorem rO2_at_a (i : Fin 8192) (j : Fin 1024) : rO2 m c (ix2 i ⟨4096 + j.val, by omega⟩) = rGa m c (ix2 i j) := by
  unfold rO2
  pointwise [val_main_v223, val_main_v220]
  rw [dif_neg (by omega), dif_neg (by omega), dif_neg (by omega), dif_pos (by omega)]
  exact congrArg _ (ix2_ext rfl (by simp only []; omega))

/-- A quarter of the projections' gradient. -/
theorem rO2_at_b (i : Fin 8192) (j : Fin 1024) : rO2 m c (ix2 i ⟨5120 + j.val, by omega⟩) = rGb m c (ix2 i j) := by
  unfold rO2
  pointwise [val_main_v223, val_main_v220]
  rw [dif_neg (by omega), dif_neg (by omega), dif_neg (by omega), dif_neg (by omega)]
  exact congrArg _ (ix2_ext rfl (by simp only []; omega))

/-- The gate biases' first half. -/
theorem rO4_at_a (j : Fin 1024) : rO4 m c (ix2 0 ⟨j.val, by omega⟩) = ∑ p : Fin 8192, rGa m c (ix2 p j) := by
  unfold rO4
  pointwise [val_main_v225, val_main_v224, val_main_v134, val_main_v133, val_main_v132, val_main_cst_21, val_main_cst_22]
  simp only [Finset.univ_unique, Fin.default_eq_zero, Fin.isValue, Finset.sum_singleton]

/-- The gate biases' second half. -/
theorem rO4_at_b (j : Fin 1024) : rO4 m c (ix2 0 ⟨1024 + j.val, by omega⟩) = ∑ p : Fin 8192, rGb m c (ix2 p j) := by
  unfold rO4
  pointwise [val_main_v225, val_main_v224, val_main_v128, val_main_v127, val_main_v126, val_main_cst_19, val_main_cst_20]
  simp only [Finset.univ_unique, Fin.default_eq_zero, Fin.isValue, Finset.sum_singleton]

/-- The inner gain's gradient. -/
theorem rO5_at (j : Fin 1024) : rO5 m c (ix2 0 j) = ∑ p : Fin 8192, rDvn m c (ix2 p j) * rVh m c (ix2 p j) := by
  unfold rO5
  pointwise [val_main_v226, val_main_v194, val_main_cst_41, val_main_v191, val_main_v190, val_main_cst_40, val_main_v189]
  simp only [Finset.univ_unique, Fin.default_eq_zero, Fin.isValue, Finset.sum_singleton]
  exact Finset.sum_congr rfl fun p _ => mul_comm _ _

/-- The inner shift's gradient. -/
theorem rO6_at (j : Fin 1024) : rO6 m c (ix2 0 j) = ∑ p : Fin 8192, rDvn m c (ix2 p j) := by
  unfold rO6
  pointwise [val_main_v227, val_main_v188, val_main_v187, val_main_v186, val_main_cst_38, val_main_cst_39]
  simp only [Finset.univ_unique, Fin.default_eq_zero, Fin.isValue, Finset.sum_singleton]

/-- The mixing weights' gradient. -/
theorem rO8_at (g : Fin 8) (p q : Fin 128) : rO8 m c (ix3 g p q) = ∑ ch : Fin 64, ∑ x : Fin 128, rDmx m c (ix2 ⟨ch.val * 128 + p.val, by omega⟩ ⟨g.val * 128 + x.val, by omega⟩) * rVn m c (ix2 ⟨ch.val * 128 + q.val, by omega⟩ ⟨g.val * 128 + x.val, by omega⟩) := by
  unfold rO8
  pointwise [val_main_v184, val_main_v181, val_main_v176, val_main_v84]

/-- The convolution gain's gradient. -/
theorem rO9_at (j : Fin 1024) : rO9 m c (ix2 0 j) = ∑ p : Fin 8192, rDc2 m c (ix2 p j) * rC1h m c (ix2 p j) := by
  unfold rO9
  pointwise [val_main_v229, val_main_v145, val_main_v142, val_main_v141, val_main_v140, val_main_cst_25, val_main_cst_26]
  simp only [Finset.univ_unique, Fin.default_eq_zero, Fin.isValue, Finset.sum_singleton]
  exact Finset.sum_congr rfl fun p _ => mul_comm _ _

/-- The convolution shift's gradient. -/
theorem rO10_at (j : Fin 1024) : rO10 m c (ix2 0 j) = ∑ p : Fin 8192, rDc2 m c (ix2 p j) := by
  unfold rO10
  pointwise [val_main_v230, val_main_v139, val_main_v138, val_main_v137, val_main_cst_23, val_main_cst_24]
  simp only [Finset.univ_unique, Fin.default_eq_zero, Fin.isValue, Finset.sum_singleton]

/-- The convolution bias's gradient. -/
theorem rO11_at (j : Fin 1024) : rO11 m c (ix2 0 j) = ∑ p : Fin 8192, rDc1 m c (ix2 p j) := by
  unfold rO11
  pointwise [val_main_v231, val_main_v172, val_main_v171, val_main_v170, val_main_cst_34, val_main_cst_35]
  simp only [Finset.univ_unique, Fin.default_eq_zero, Fin.isValue, Finset.sum_singleton]

/-- The spatial bias's gradient. -/
theorem rO7_at (j : Fin 1024) : rO7 m c (ix2 0 j) = ∑ x : Fin 128, ∑ ch : Fin 64, rDmx m c (ix2 ⟨ch.val * 128 + j.val % 128, by omega⟩ ⟨j.val / 128 * 128 + x.val, by omega⟩) := by
  unfold rO7
  pointwise [val_main_v228, val_main_v180, val_main_v179, val_main_cst_37]
  rw [reduce_outer, zero_add]
  simp only [Finset.univ_unique, Fin.default_eq_zero, Fin.isValue, Finset.sum_singleton]
  pointwise [val_main_v178, val_main_v177, val_main_cst_36]
  rw [reduce_outer, zero_add, Finset.sum_comm]
  pointwise [val_main_v176]

end Cert.KernelIdeal.Hand

end
-- ==== Proof.Final.lean ====
/-
  The arrays that the kernel leaves, each equal to the reference's result.
-/
module

public import proofs.«01_k».proof.Proof.Sums
public import proofs.«01_k».proof.Proof.Results
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.ReferenceIdeal.Read

variable (m : (ℓ : Loc nD τ sig) → Buf (Elt Ideal) ℓ) (c : Dev nD)

/-- A point that writes back a sum is the last one. -/
theorem last_of_flush {w : Fin 30} (h : 22 ≤ w.val) (t : Fin cfg0.N) (hf : (cfg0.win w).flush t = true) : t.val % 32 = 31 := by
  revert w t
  decide +kernel

/-- Where each output's block lies, at every point. -/
theorem idxOut : ∀ t : Fin cfg0.N, win0_18.index t = ![t.val, 0] ∧ win0_19.index t = ![t.val, 0] ∧ win0_20.index t = ![t.val, 0]
    ∧ win0_21.index t = ![t.val, 0] ∧ win0_22.index t = ![0, 0] ∧ win0_23.index t = ![0, 0] ∧ win0_24.index t = ![0, 0]
    ∧ win0_25.index t = ![0, 0] ∧ win0_26.index t = ![0, 0, 0] ∧ win0_27.index t = ![0, 0] ∧ win0_28.index t = ![0, 0] ∧ win0_29.index t = ![0, 0] :=
  (by decide +kernel : ∀ t : Fin grid0.N, _)

/-- The written columns of the projections' gradient. -/
theorem s20 (hR : ArgsR m c) (t : Fin cfg0.N) (i : Fin 256) (l : Fin 6144) (hl : 2048 ≤ l.val) :
    (ins m c t).o20 (ix2 i l) = rO2 m c (ix2 (row t i) l) := by
  have H : ∀ (off : ℕ) (ho : off + 1024 ≤ 6144), (∀ j : Fin 1024, (ins m c t).o20 (ix2 i ⟨off + j.val, by omega⟩) = rO2 m c (ix2 (row t i) ⟨off + j.val, by omega⟩)) →
      off ≤ l.val → l.val < off + 1024 → (ins m c t).o20 (ix2 i l) = rO2 m c (ix2 (row t i) l) := by
    intro off ho h h1 h2
    have e : l = ⟨off + (⟨l.val - off, by omega⟩ : Fin 1024).val, by simp only []; omega⟩ := Fin.ext (by simp only []; omega)
    rw [e]; exact h _
  by_cases h1 : l.val < 3072
  · exact H 2048 (by omega) (fun j => (s_u m c t i j).trans (rO2_at_u m c _ j).symm) hl h1
  by_cases h2 : l.val < 4096
  · exact H 3072 (by omega) (fun j => by rw [s_v hR, rO2_at_v]) (by omega) h2
  by_cases h3 : l.val < 5120
  · exact H 4096 (by omega) (fun j => by rw [o20_a, s_ga, rO2_at_a]) (by omega) h3
  · exact H 5120 (by omega) (fun j => by rw [o20_b, s_gb, rO2_at_b]) (by omega) (by omega)

/-- Result 0. -/
theorem arr18 : (dats m 0 c).arrAt 18 cfg0.N = rO0 m c := by
  refine (dats m 0 c).arrAt_eq_of_covers 18 _ (by decide +kernel) (fun t hf y => ?_)
  rw [after0_18]
  idx_vars y
  blk_simp
  refine Eq.trans (b := rO0 m c (ix2 (row t y0) y1)) ?_ (by blk_ext [row, idxOut t])
  rw [s_o18, rO0_at]
/-- Result 1. -/
theorem arr19 : (dats m 0 c).arrAt 19 cfg0.N = rO1 m c := by
  refine (dats m 0 c).arrAt_eq_of_covers 19 _ (by decide +kernel) (fun t hf y => ?_)
  rw [after0_19]
  idx_vars y
  blk_simp
  refine Eq.trans (b := rO1 m c (ix2 (row t y0) y1)) ?_ (by blk_ext [row, idxOut t])
  rw [s_o19, rO1_at]
/-- Result 3. -/
theorem arr21 (hR : ArgsR m c) : (dats m 0 c).arrAt 21 cfg0.N = rO3 m c := by
  refine (dats m 0 c).arrAt_eq_of_covers 21 _ (by decide +kernel) (fun t hf y => ?_)
  rw [after0_21]
  idx_vars y
  blk_simp
  refine Eq.trans (b := rO3 m c (ix2 (row t y0) y1)) ?_ (by blk_ext [row, idxOut t])
  rw [s_o21 hR]
/-- Result 4. -/
theorem arr22 : (dats m 0 c).arrAt 22 cfg0.N = rO4 m c := by
  refine (dats m 0 c).arrAt_eq_of_covers 22 _ (by decide +kernel) (fun t hf y => ?_)
  have hl := last_of_flush (w := 22) (by decide) t hf
  rw [after0_22]
  idx_vars y
  blk_simp
  have h0 : y0 = 0 := Subsingleton.elim _ _
  subst h0
  refine Eq.trans (b := rO4 m c (ix2 0 y1)) ?_ (by blk_ext [row, idxOut t])
  by_cases h : y1.val < 1024
  · have e : y1 = ⟨(⟨y1.val, h⟩ : Fin 1024).val, by simp only []; omega⟩ := rfl
    rw [e, k22a m c t hl, rO4_at_a]
  · have e : y1 = ⟨1024 + (⟨y1.val - 1024, by omega⟩ : Fin 1024).val, by simp only []; omega⟩ := Fin.ext (by simp only []; omega)
    rw [e, k22b m c t hl, rO4_at_b]
/-- Result 5. -/
theorem arr23 : (dats m 0 c).arrAt 23 cfg0.N = rO5 m c := by
  refine (dats m 0 c).arrAt_eq_of_covers 23 _ (by decide +kernel) (fun t hf y => ?_)
  have hl := last_of_flush (w := 23) (by decide) t hf
  rw [after0_23]
  idx_vars y
  blk_simp
  have h0 : y0 = 0 := Subsingleton.elim _ _
  subst h0
  refine Eq.trans (b := rO5 m c (ix2 0 y1)) ?_ (by blk_ext [row, idxOut t])
  rw [k23 m c t hl, rO5_at]
/-- Result 6. -/
theorem arr24 : (dats m 0 c).arrAt 24 cfg0.N = rO6 m c := by
  refine (dats m 0 c).arrAt_eq_of_covers 24 _ (by decide +kernel) (fun t hf y => ?_)
  have hl := last_of_flush (w := 24) (by decide) t hf
  rw [after0_24]
  idx_vars y
  blk_simp
  have h0 : y0 = 0 := Subsingleton.elim _ _
  subst h0
  refine Eq.trans (b := rO6 m c (ix2 0 y1)) ?_ (by blk_ext [row, idxOut t])
  rw [k24 m c t hl, rO6_at]
/-- Result 7. -/
theorem arr25 : (dats m 0 c).arrAt 25 cfg0.N = rO7 m c := by
  refine (dats m 0 c).arrAt_eq_of_covers 25 _ (by decide +kernel) (fun t hf y => ?_)
  have hl := last_of_flush (w := 25) (by decide) t hf
  rw [after0_25]
  idx_vars y
  blk_simp
  have h0 : y0 = 0 := Subsingleton.elim _ _
  subst h0
  refine Eq.trans (b := rO7 m c (ix2 0 y1)) ?_ (by blk_ext [row, idxOut t])
  rw [k25 m c t hl, rO7_at]
/-- Result 8. -/
theorem arr26 : (dats m 0 c).arrAt 26 cfg0.N = rO8 m c := by
  refine (dats m 0 c).arrAt_eq_of_covers 26 _ (by decide +kernel) (fun t hf y => ?_)
  have hl := last_of_flush (w := 26) (by decide) t hf
  rw [after0_26]
  idx_vars y
  blk_simp
  refine Eq.trans (b := rO8 m c (ix3 y0 y1 y2)) ?_ (by blk_ext [row, idxOut t])
  rw [k26 m c t hl, rO8_at]
/-- Result 9. -/
theorem arr27 (hR : ArgsR m c) : (dats m 0 c).arrAt 27 cfg0.N = rO9 m c := by
  refine (dats m 0 c).arrAt_eq_of_covers 27 _ (by decide +kernel) (fun t hf y => ?_)
  have hl := last_of_flush (w := 27) (by decide) t hf
  rw [after0_27]
  idx_vars y
  blk_simp
  have h0 : y0 = 0 := Subsingleton.elim _ _
  subst h0
  refine Eq.trans (b := rO9 m c (ix2 0 y1)) ?_ (by blk_ext [row, idxOut t])
  rw [k27 m c t hl _ hR, rO9_at]
/-- Result 10. -/
theorem arr28 (hR : ArgsR m c) : (dats m 0 c).arrAt 28 cfg0.N = rO10 m c := by
  refine (dats m 0 c).arrAt_eq_of_covers 28 _ (by decide +kernel) (fun t hf y => ?_)
  have hl := last_of_flush (w := 28) (by decide) t hf
  rw [after0_28]
  idx_vars y
  blk_simp
  have h0 : y0 = 0 := Subsingleton.elim _ _
  subst h0
  refine Eq.trans (b := rO10 m c (ix2 0 y1)) ?_ (by blk_ext [row, idxOut t])
  rw [k28 m c t hl _ hR, rO10_at]
/-- Result 11. -/
theorem arr29 (hR : ArgsR m c) : (dats m 0 c).arrAt 29 cfg0.N = rO11 m c := by
  refine (dats m 0 c).arrAt_eq_of_covers 29 _ (by decide +kernel) (fun t hf y => ?_)
  have hl := last_of_flush (w := 29) (by decide) t hf
  rw [after0_29]
  idx_vars y
  blk_simp
  have h0 : y0 = 0 := Subsingleton.elim _ _
  subst h0
  refine Eq.trans (b := rO11 m c (ix2 0 y1)) ?_ (by blk_ext [row, idxOut t])
  rw [k29 m c t hl _ hR, rO11_at]
/-- Result 2, in its written columns: of whatever the kernel leaves there, those columns are the reference's. -/
theorem arr20 (hR : ArgsR m c) (after) (h : ∀ u, (cfg0.win 20).flush u = true → (ins m c u).Agrees20 (after 20 u)) (i : S8192x6144.Idx) (hi : 2048 ≤ (i 1 : ℕ)) :
    ((rdats m c).withAfter after).arrAt 20 cfg0.N i = rO2 m c i := by
  revert hi
  refine ((rdats m c).withAfter after).arrAt_forall_of_covers 20 (fun i v => 2048 ≤ (i 1 : ℕ) → v = rO2 m c i) (by decide +kernel) (fun t hf y => ?_) i
  idx_vars y
  blk_simp
  intro hi
  have e : (win0_20.blk t).view.emb (ix2 y0 y1) = ix2 (row t y0) y1 := by blk_ext [row, idxOut t]
  have q : win0_20.index t 1 = 0 := congrFun (idxOut t).2.2.1 1
  rw [q, Nat.zero_mul, Nat.zero_add] at hi
  rw [e]
  exact (h t hf (ix2 y0 y1) hi).trans (s20 m c hR t y0 y1 hi)

/-- The array of an output whose every column is written holds what its points left. -/
theorem exact_of_post {r : PUnit × MemSt nD τ sig (Elt Ideal)} (h : Pipeline.RDat.FramePost (cfgs 0) (rdats m) (V m) r) (c : Dev nD) {w : Fin 30} (hw : loose0 w = false) :
    r.2.mem (((cfgs 0).spec w).arr.view.loc (c.tc : Thread nD τ)) = (dats m 0 c).arrAt w cfg0.N :=
  (dats m 0 c).toR_arrAt w _ _ (((dats m 0 c).toR.override_arrAt (by simp only [hw]) _ _).mp ((h c).1 w))

/-- The kernel's results: each the reference's, the projections' gradient in the columns that the kernel writes. -/
theorem values (ρ : Dev nD → PrngReg) (hR : ∀ c, ArgsR m c) : θ_run (defs (F := Ideal)) (onTc (τ := τ) (main (F := Ideal))) ⟨m, fun _ => 0, ρ⟩ (fun r => ∀ c : Dev nD,
r.2.mem ((c.tc : Thread nD τ).loc main_v103_0) = rO0 m c
      ∧ r.2.mem ((c.tc : Thread nD τ).loc main_v103_1) = rO1 m c
      ∧ (∀ i : S8192x6144.Idx, 2048 ≤ (i 1 : ℕ) → r.2.mem ((c.tc : Thread nD τ).loc main_v103_2) i = rO2 m c i)
      ∧ r.2.mem ((c.tc : Thread nD τ).loc main_v103_3) = rO3 m c
      ∧ r.2.mem ((c.tc : Thread nD τ).loc main_v103_4) = rO4 m c
      ∧ r.2.mem ((c.tc : Thread nD τ).loc main_v103_5) = rO5 m c
      ∧ r.2.mem ((c.tc : Thread nD τ).loc main_v103_6) = rO6 m c
      ∧ r.2.mem ((c.tc : Thread nD τ).loc main_v103_7) = rO7 m c
      ∧ r.2.mem ((c.tc : Thread nD τ).loc main_v103_8) = rO8 m c
      ∧ r.2.mem ((c.tc : Thread nD τ).loc main_v103_9) = rO9 m c
      ∧ r.2.mem ((c.tc : Thread nD τ).loc main_v103_10) = rO10 m c
      ∧ r.2.mem ((c.tc : Thread nD τ).loc main_v103_11) = rO11 m c) := by
  refine (θ_run defs _ _).mono (fun r h c => ?_) (run_main m ρ)
  obtain ⟨after, hL, hA⟩ := Pipeline.RDat.FramePost.exists_exact h c
  refine ⟨(exact_of_post m h c (w := 18) rfl).trans (arr18 m c), (exact_of_post m h c (w := 19) rfl).trans (arr19 m c), fun i hi => (congrFun (hA 20) i).trans (arr20 m c (hR c) after (fun u hu => (dats m 0 c).toRRel_leaves (fgt := loose0) (w := 20) rfl (hL 20 u hu)) i hi), (exact_of_post m h c (w := 21) rfl).trans (arr21 m c (hR c)), (exact_of_post m h c (w := 22) rfl).trans (arr22 m c), (exact_of_post m h c (w := 23) rfl).trans (arr23 m c), (exact_of_post m h c (w := 24) rfl).trans (arr24 m c), (exact_of_post m h c (w := 25) rfl).trans (arr25 m c), (exact_of_post m h c (w := 26) rfl).trans (arr26 m c), (exact_of_post m h c (w := 27) rfl).trans (arr27 m c (hR c)), (exact_of_post m h c (w := 28) rfl).trans (arr28 m c (hR c)), (exact_of_post m h c (w := 29) rfl).trans (arr29 m c (hR c))⟩

end Cert.KernelIdeal.Hand

end
-- ==== Proof.Finite.lean ====
/-
  A conjunction over all entries of "the absolute value is below infinity", read at an entry.
-/
module

public import proofs.«01_k».proof.Proof.Real
public import Idealize.ShloMosaic.Lib.ReduceAll

@[expose] public section

noncomputable section

namespace Cert.KernelIdeal.Hand

open Idealize.ShloMosaic

/-- One entry read out of a conjunction over all entries of "the absolute value is below infinity": the entry is a real number. -/
theorem isR_of_all {s : Shape} {axes : List (Fin s.rank)} (x : FVec Ideal s .f32) (hb : (⟨0, ![]⟩ : Shape).BroadcastsInDim s (![] : Fin 0 → Fin s.rank))
    (h : s.ReducesTo axes ⟨0, ![]⟩) (hu : 0 < (⟨0, ![]⟩ : Shape).numel) (init) (j)
    (e : Host.reduce IntOp.andi (cmpf .olt (Host.absf x) (broadcastInDim s ![] hb (constant (F := Ideal) ⟨0, ![]⟩ .f32 0x7F800000#32))) init h hu j = 1#1) (i : s.Idx) :
    IsR (x i) := by
  have k := Host.reduce_andi_all _ _ _ _ _ e i
  have k2 := broadcastInDim_apply (![] : Fin 0 → Fin s.rank) hb (constant (F := Ideal) ⟨0, ![]⟩ .f32 0x7F800000#32) i (fun a => a.elim0) (fun a => a.elim0)
  unfold cmpf at k
  rw [k2] at k
  have top : Ideal.ofBits FTy.f32 0x7F800000#32 = (⊤ : EReal) := by simp [Ideal.ofBits, Ideal.ieee]
  have k3 : Ideal.cmp .olt (max (x i) (-(x i))) (Ideal.ofBits FTy.f32 0x7F800000#32) = 1#1 := k
  rw [top] at k3
  have k4 : max (x i) (-(x i)) < (⊤ : EReal) := by
    by_contra hn
    simp [Ideal.cmp, hn] at k3
  rw [max_lt_iff] at k4
  refine ⟨(x i).toReal, (EReal.coe_toReal k4.1.ne ?_).symm⟩
  intro hbot
  have := k4.2
  rw [hbot] at this
  exact absurd this (by simp)

end Cert.KernelIdeal.Hand

end
-- ==== Proof.Pre.lean ====
/-
  The precondition and the mask, read at an entry.
-/
module

public import proofs.«01_k».proof.Proof.Stages
public import proofs.«01_k».proof.Proof.Gen.Pre_finite
public import proofs.«01_k».proof.Proof.Gen.On_written
public import proofs.«01_k».proof.Proof.Finite

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

/-- The precondition makes every entry of every argument a real number. -/
theorem argsR (m : (ℓ : Loc nD τ sig) → Buf (Elt Ideal) ℓ) (c : Dev nD)
    (h : (haveI := Cert.Pre_finite.Gen.facts; Cert.Pre_finite.fn (F := Ideal) (A0 m c) (A1 m c) (A2 m c) (A3 m c) (A4 m c) (A5 m c) (A6 m c) (A7 m c) (A8 m c) (A9 m c)) = fun _ => 1#1) :
    ArgsR m c := by
  have e := congrFun h (fun a => a.elim0)
  unfold Cert.Pre_finite.fn Cert.Pre_finite.fn_part1 Cert.Pre_finite.fn_part2 at e
  simp only [andi, IntOp.andi_eq_one] at e
  obtain ⟨⟨⟨⟨⟨⟨⟨⟨⟨e0, e1⟩, e2⟩, e3⟩, e4⟩, e5⟩, e6⟩, e7⟩, e8⟩, e9⟩ := e
  exact ⟨fun i => isR_of_all _ _ _ _ _ _ e0 i, fun i => isR_of_all _ _ _ _ _ _ e1 i, fun i => isR_of_all _ _ _ _ _ _ e2 i,
    fun i => isR_of_all _ _ _ _ _ _ e3 i, fun i => isR_of_all _ _ _ _ _ _ e4 i, fun i => isR_of_all _ _ _ _ _ _ e5 i,
    fun i => isR_of_all _ _ _ _ _ _ e6 i, fun i => isR_of_all _ _ _ _ _ _ e7 i, fun i => isR_of_all _ _ _ _ _ _ e9 i⟩

/-- The mask's third array selects the columns from 2048 on. -/
theorem mask_ge (m : (ℓ : Loc nD τ sig) → Buf (Elt Ideal) ℓ) (c : Dev nD) (i : S8192x6144.Idx)
    (h : (haveI := Cert.On_written.Gen.facts; (Cert.On_written.fn (F := Ideal) (A0 m c) (A1 m c) (A2 m c) (A3 m c) (A4 m c) (A5 m c) (A6 m c) (A7 m c) (A8 m c) (A9 m c)).2.2.1) i = 1#1) :
    2048 ≤ (i 1 : ℕ) := by
  have hi : (i 1 : ℕ) < 6144 := (i 1).isLt
  have k : cmpi .sge (iotaInDim S8192x6144 32 1)
      (broadcastInDim S8192x6144 ![] Cert.On_written.Gen.facts.bcast_S_S8192x6144 (constantI ⟨0, ![]⟩ 32 2048#32)) i = 1#1 := h
  have k2 := broadcastInDim_apply (![] : Fin 0 → Fin S8192x6144.rank) Cert.On_written.Gen.facts.bcast_S_S8192x6144 (constantI ⟨0, ![]⟩ 32 2048#32) i
    (fun a => a.elim0) (fun a => a.elim0)
  unfold cmpi at k
  rw [k2] at k
  by_contra hn
  have k3 : BitVec.ofBool ((2048#32).sle (BitVec.ofNat 32 (i 1 : ℕ))) = 1#1 := k
  have k4 : (2048#32).sle (BitVec.ofNat 32 (i 1 : ℕ)) = false := by
    rw [BitVec.sle_eq_decide, decide_eq_false_iff_not]
    rw [BitVec.toInt_eq_toNat_of_lt (by simp), BitVec.toInt_eq_toNat_of_lt (by rw [BitVec.toNat_ofNat]; omega), BitVec.toNat_ofNat, BitVec.toNat_ofNat]
    omega
  rw [k4] at k3
  exact absurd k3 (by decide)

end Cert.KernelIdeal.Hand

end
-- ==== Proof.Equal.lean ====
/-
  The kernel's results and the reference's are equal: the claim about values, put together.
-/
module

public import proofs.«01_k».proof.Defs
public import proofs.«01_k».proof.Proof.Final
public import proofs.«01_k».proof.Proof.Pre
public import proofs.«01_k».proof.Proof.IdealRun
public import proofs.«01_k».proof.Proof.Gen.ReferenceIdeal
public import proofs.«01_k».proof.Proof.Gen.ReferenceIdeal.Run
public import proofs.«01_k».proof.Proof.Gen.ReferenceIdeal.Read
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.ReferenceIdeal.Read

section
variable (m : (ℓ : Loc nD τ sig) → Buf (Elt Ideal) ℓ) (c : Dev nD)
/-- Result 0 of the reference, over arguments that are the kernel's. -/
theorem same0 {a0 : FVec Ideal S8192x1024 .f32} {a2 : FVec Ideal S8192x6144 .f32} {a3 : FVec Ideal S2048 .f32} {a9 : FVec Ideal S3x1024x1024 .f32}
    (h0 : a0 = A0 m c) (h2 : a2 = A2 m c) (h3 : a3 = A3 m c) (h9 : a9 = A9 m c) :
    val_main_v221 (F := Ideal) a0 a2 a3 a9 = rO0 m c := by
  subst h0 h2 h3 h9; rfl
/-- Result 1 of the reference, over arguments that are the kernel's. -/
theorem same1 {a0 : FVec Ideal S8192x1024 .f32} {a2 : FVec Ideal S8192x6144 .f32} {a3 : FVec Ideal S2048 .f32} {a9 : FVec Ideal S3x1024x1024 .f32}
    (h0 : a0 = A0 m c) (h2 : a2 = A2 m c) (h3 : a3 = A3 m c) (h9 : a9 = A9 m c) :
    val_main_v222 (F := Ideal) a0 a2 a3 a9 = rO1 m c := by
  subst h0 h2 h3 h9; rfl
/-- Result 2 of the reference, over arguments that are the kernel's. -/
theorem same2 {a0 : FVec Ideal S8192x1024 .f32} {a1 : FVec Ideal S8192x1024 .f32} {a2 : FVec Ideal S8192x6144 .f32} {a3 : FVec Ideal S2048 .f32} {a4 : FVec Ideal S1024 .f32} {a5 : FVec Ideal S2x1024 .f32} {a6 : FVec Ideal S2x1024 .f32} {a7 : FVec Ideal S8x128x128 .f32} {a8 : FVec Ideal S8x128 .f32} {a9 : FVec Ideal S3x1024x1024 .f32}
    (h0 : a0 = A0 m c) (h1 : a1 = A1 m c) (h2 : a2 = A2 m c) (h3 : a3 = A3 m c) (h4 : a4 = A4 m c) (h5 : a5 = A5 m c) (h6 : a6 = A6 m c) (h7 : a7 = A7 m c) (h8 : a8 = A8 m c) (h9 : a9 = A9 m c) :
    val_main_v223 (F := Ideal) a0 a1 a2 a3 a4 a5 a6 a7 a8 a9 = rO2 m c := by
  subst h0 h1 h2 h3 h4 h5 h6 h7 h8 h9; rfl
/-- Result 3 of the reference, over arguments that are the kernel's. -/
theorem same3 {a0 : FVec Ideal S8192x1024 .f32} {a1 : FVec Ideal S8192x1024 .f32} {a2 : FVec Ideal S8192x6144 .f32} {a3 : FVec Ideal S2048 .f32} {a4 : FVec Ideal S1024 .f32} {a5 : FVec Ideal S2x1024 .f32} {a9 : FVec Ideal S3x1024x1024 .f32}
    (h0 : a0 = A0 m c) (h1 : a1 = A1 m c) (h2 : a2 = A2 m c) (h3 : a3 = A3 m c) (h4 : a4 = A4 m c) (h5 : a5 = A5 m c) (h9 : a9 = A9 m c) :
    val_main_v169 (F := Ideal) a0 a1 a2 a3 a4 a5 a9 = rO3 m c := by
  subst h0 h1 h2 h3 h4 h5 h9; rfl
/-- Result 4 of the reference, over arguments that are the kernel's. -/
theorem same4 {a0 : FVec Ideal S8192x1024 .f32} {a1 : FVec Ideal S8192x1024 .f32} {a2 : FVec Ideal S8192x6144 .f32} {a3 : FVec Ideal S2048 .f32} {a4 : FVec Ideal S1024 .f32} {a5 : FVec Ideal S2x1024 .f32} {a6 : FVec Ideal S2x1024 .f32} {a7 : FVec Ideal S8x128x128 .f32} {a8 : FVec Ideal S8x128 .f32} {a9 : FVec Ideal S3x1024x1024 .f32}
    (h0 : a0 = A0 m c) (h1 : a1 = A1 m c) (h2 : a2 = A2 m c) (h3 : a3 = A3 m c) (h4 : a4 = A4 m c) (h5 : a5 = A5 m c) (h6 : a6 = A6 m c) (h7 : a7 = A7 m c) (h8 : a8 = A8 m c) (h9 : a9 = A9 m c) :
    val_main_v225 (F := Ideal) a0 a1 a2 a3 a4 a5 a6 a7 a8 a9 = rO4 m c := by
  subst h0 h1 h2 h3 h4 h5 h6 h7 h8 h9; rfl
/-- Result 5 of the reference, over arguments that are the kernel's. -/
theorem same5 {a0 : FVec Ideal S8192x1024 .f32} {a2 : FVec Ideal S8192x6144 .f32} {a3 : FVec Ideal S2048 .f32} {a7 : FVec Ideal S8x128x128 .f32} {a9 : FVec Ideal S3x1024x1024 .f32}
    (h0 : a0 = A0 m c) (h2 : a2 = A2 m c) (h3 : a3 = A3 m c) (h7 : a7 = A7 m c) (h9 : a9 = A9 m c) :
    val_main_v226 (F := Ideal) a0 a2 a3 a7 a9 = rO5 m c := by
  subst h0 h2 h3 h7 h9; rfl
/-- Result 6 of the reference, over arguments that are the kernel's. -/
theorem same6 {a0 : FVec Ideal S8192x1024 .f32} {a2 : FVec Ideal S8192x6144 .f32} {a3 : FVec Ideal S2048 .f32} {a7 : FVec Ideal S8x128x128 .f32} {a9 : FVec Ideal S3x1024x1024 .f32}
    (h0 : a0 = A0 m c) (h2 : a2 = A2 m c) (h3 : a3 = A3 m c) (h7 : a7 = A7 m c) (h9 : a9 = A9 m c) :
    val_main_v227 (F := Ideal) a0 a2 a3 a7 a9 = rO6 m c := by
  subst h0 h2 h3 h7 h9; rfl
/-- Result 7 of the reference, over arguments that are the kernel's. -/
theorem same7 {a0 : FVec Ideal S8192x1024 .f32} {a2 : FVec Ideal S8192x6144 .f32} {a3 : FVec Ideal S2048 .f32} {a9 : FVec Ideal S3x1024x1024 .f32}
    (h0 : a0 = A0 m c) (h2 : a2 = A2 m c) (h3 : a3 = A3 m c) (h9 : a9 = A9 m c) :
    val_main_v228 (F := Ideal) a0 a2 a3 a9 = rO7 m c := by
  subst h0 h2 h3 h9; rfl
/-- Result 8 of the reference, over arguments that are the kernel's. -/
theorem same8 {a0 : FVec Ideal S8192x1024 .f32} {a2 : FVec Ideal S8192x6144 .f32} {a3 : FVec Ideal S2048 .f32} {a6 : FVec Ideal S2x1024 .f32} {a9 : FVec Ideal S3x1024x1024 .f32}
    (h0 : a0 = A0 m c) (h2 : a2 = A2 m c) (h3 : a3 = A3 m c) (h6 : a6 = A6 m c) (h9 : a9 = A9 m c) :
    val_main_v184 (F := Ideal) a0 a2 a3 a6 a9 = rO8 m c := by
  subst h0 h2 h3 h6 h9; rfl
/-- Result 9 of the reference, over arguments that are the kernel's. -/
theorem same9 {a0 : FVec Ideal S8192x1024 .f32} {a1 : FVec Ideal S8192x1024 .f32} {a2 : FVec Ideal S8192x6144 .f32} {a3 : FVec Ideal S2048 .f32} {a4 : FVec Ideal S1024 .f32} {a5 : FVec Ideal S2x1024 .f32} {a9 : FVec Ideal S3x1024x1024 .f32}
    (h0 : a0 = A0 m c) (h1 : a1 = A1 m c) (h2 : a2 = A2 m c) (h3 : a3 = A3 m c) (h4 : a4 = A4 m c) (h5 : a5 = A5 m c) (h9 : a9 = A9 m c) :
    val_main_v229 (F := Ideal) a0 a1 a2 a3 a4 a5 a9 = rO9 m c := by
  subst h0 h1 h2 h3 h4 h5 h9; rfl
/-- Result 10 of the reference, over arguments that are the kernel's. -/
theorem same10 {a0 : FVec Ideal S8192x1024 .f32} {a1 : FVec Ideal S8192x1024 .f32} {a2 : FVec Ideal S8192x6144 .f32} {a3 : FVec Ideal S2048 .f32} {a4 : FVec Ideal S1024 .f32} {a5 : FVec Ideal S2x1024 .f32} {a9 : FVec Ideal S3x1024x1024 .f32}
    (h0 : a0 = A0 m c) (h1 : a1 = A1 m c) (h2 : a2 = A2 m c) (h3 : a3 = A3 m c) (h4 : a4 = A4 m c) (h5 : a5 = A5 m c) (h9 : a9 = A9 m c) :
    val_main_v230 (F := Ideal) a0 a1 a2 a3 a4 a5 a9 = rO10 m c := by
  subst h0 h1 h2 h3 h4 h5 h9; rfl
/-- Result 11 of the reference, over arguments that are the kernel's. -/
theorem same11 {a0 : FVec Ideal S8192x1024 .f32} {a1 : FVec Ideal S8192x1024 .f32} {a2 : FVec Ideal S8192x6144 .f32} {a3 : FVec Ideal S2048 .f32} {a4 : FVec Ideal S1024 .f32} {a5 : FVec Ideal S2x1024 .f32} {a9 : FVec Ideal S3x1024x1024 .f32}
    (h0 : a0 = A0 m c) (h1 : a1 = A1 m c) (h2 : a2 = A2 m c) (h3 : a3 = A3 m c) (h4 : a4 = A4 m c) (h5 : a5 = A5 m c) (h9 : a9 = A9 m c) :
    val_main_v231 (F := Ideal) a0 a1 a2 a3 a4 a5 a9 = rO11 m c := by
  subst h0 h1 h2 h3 h4 h5 h9; rfl
end

/-- The kernel and the reference, started on equal arguments whose entries are real numbers, end with equal results: all of them
whole, but for the gradient of the projections, which is equal at the columns the kernel writes. -/
theorem equal : haveI := Cert.KernelIdeal.Gen.facts; haveI := Cert.ReferenceIdeal.Gen.facts; haveI := Cert.Pre_finite.Gen.facts
    haveI := Cert.On_written.Gen.facts; Cert.algebraic_KernelIdeal_ReferenceIdeal_on_written_pre_finite := by
  intro m g m' g' hpre heq
  have hR : ∀ c, ArgsR m c := fun c => argsR m c (hpre c)
  refine ⟨fun c => rO0 m c, fun c => rO1 m c, fun c => rO2 m c, fun c => rO3 m c, fun c => rO4 m c, fun c => rO5 m c, fun c => rO6 m c, fun c => rO7 m c, fun c => rO8 m c, fun c => rO9 m c, fun c => rO10 m c, fun c => rO11 m c, ?_, ?_⟩
  · refine (θ_run (defs (F := Ideal)) _ _).mono ?_ (θ_run_and (values m g hR) (frame m g))
    rintro r ⟨hv, hf, -⟩ c
    obtain ⟨k0, k1, k2, k3, k4, k5, k6, k7, k8, k9, k10, k11⟩ := hv c
    exact ⟨fun i _ => congrFun k0 i, fun i _ => congrFun k1 i, fun i hi => k2 i (mask_ge m c i hi), fun i _ => congrFun k3 i, fun i _ => congrFun k4 i, fun i _ => congrFun k5 i, fun i _ => congrFun k6 i, fun i _ => congrFun k7 i, fun i _ => congrFun k8 i, fun i _ => congrFun k9 i, fun i _ => congrFun k10 i, fun i _ => congrFun k11 i, hf c⟩
  · refine (θ_run (Cert.ReferenceIdeal.defs (F := Ideal)) _ _).mono ?_ (Cert.ReferenceIdeal.Value.run (F := Ideal) m' g')
    intro r h c
    obtain ⟨e0, e1, e2, e3, e4, e5, e6, e7, e8, e9⟩ := heq c
    obtain ⟨k0, k1, k2, k3, k4, k5, k6, k7, k8, k9, k10, k11, u⟩ := h c
    replace k0 := (k0.trans (val_main_v221_eq (F := Ideal) _)).trans (same0 m c e0 e2 e3 e9)
    replace k1 := (k1.trans (val_main_v222_eq (F := Ideal) _)).trans (same1 m c e0 e2 e3 e9)
    replace k2 := (k2.trans (val_main_v223_eq (F := Ideal) _)).trans (same2 m c e0 e1 e2 e3 e4 e5 e6 e7 e8 e9)
    replace k3 := (k3.trans (val_main_v169_eq (F := Ideal) _)).trans (same3 m c e0 e1 e2 e3 e4 e5 e9)
    replace k4 := (k4.trans (val_main_v225_eq (F := Ideal) _)).trans (same4 m c e0 e1 e2 e3 e4 e5 e6 e7 e8 e9)
    replace k5 := (k5.trans (val_main_v226_eq (F := Ideal) _)).trans (same5 m c e0 e2 e3 e7 e9)
    replace k6 := (k6.trans (val_main_v227_eq (F := Ideal) _)).trans (same6 m c e0 e2 e3 e7 e9)
    replace k7 := (k7.trans (val_main_v228_eq (F := Ideal) _)).trans (same7 m c e0 e2 e3 e9)
    replace k8 := (k8.trans (val_main_v184_eq (F := Ideal) _)).trans (same8 m c e0 e2 e3 e6 e9)
    replace k9 := (k9.trans (val_main_v229_eq (F := Ideal) _)).trans (same9 m c e0 e1 e2 e3 e4 e5 e9)
    replace k10 := (k10.trans (val_main_v230_eq (F := Ideal) _)).trans (same10 m c e0 e1 e2 e3 e4 e5 e9)
    replace k11 := (k11.trans (val_main_v231_eq (F := Ideal) _)).trans (same11 m c e0 e1 e2 e3 e4 e5 e9)
    exact ⟨fun i _ => congrFun k0 i, fun i _ => congrFun k1 i, fun i _ => congrFun k2 i, fun i _ => congrFun k3 i, fun i _ => congrFun k4 i, fun i _ => congrFun k5 i, fun i _ => congrFun k6 i, fun i _ => congrFun k7 i, fun i _ => congrFun k8 i, fun i _ => congrFun k9 i, fun i _ => congrFun k10 i, fun i _ => congrFun k11 i, u⟩

end Cert.KernelIdeal.Hand

end
-- ==== Proof.Gate.lean ====
/-
  The weight gradient of the gate and up products: the kernel walks the tokens in four blocks and adds each block's product into
  an accumulator; the reference contracts all tokens at once.
-/
module

public import proofs.«01_k».proof.Proof.Gen.KernelGateIdeal.Value
public import proofs.«01_k».proof.Proof.Gen.ReferenceGateIdeal.Read
public import proofs.«01_k».proof.Proof.Gen.ReferenceGateIdeal.Run
public import proofs.«01_k».proof.Defs
public import Idealize.ShloMosaic.Lib.Pipeline.ValueKit
public import Idealize.ShloMosaic.Lib.Claim
public import Idealize.ShloMosaic.Lib.Pointwise

@[expose] public section

set_option maxRecDepth 16384

noncomputable section

namespace Cert.KernelGateIdeal.Hand

open Cert.KernelGateIdeal Cert.KernelGateIdeal.Gen Cert.KernelGateIdeal.Value
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

/-- The left factor: the gradient of the pre-activations. -/
abbrev A (c : Dev nD) : FVec Ideal S8192x2816 .bf16 := m ((c : Thread nD τ).loc main_arg0)
/-- The right factor: the layer's input. -/
abbrev B (c : Dev nD) : FVec Ideal S8192x1024 .bf16 := m ((c : Thread nD τ).loc main_arg1)

/-- What point `t` adds to the accumulator: the product of its blocks, contracted over the block's tokens. -/
def term (t : Fin cfg0.N) (i : S1408x1024.Idx) : EReal :=
  ∑ k : Fin 2048, (show EReal from iblk m c 0 t (ix2 k (i 0))) * (show EReal from iblk m c 1 t (ix2 k (i 1)))

/-- The accumulator starts at zero. -/
theorem zero_apply (i : S1408x1024.Idx) : k0_pay1 (F := Ideal) i = 0 := by pointwise [k0_pay1]

/-- One step of the accumulation, entry by entry. -/
theorem step_apply (a : FVec Ideal S2048x1408 .bf16) (s : FVec Ideal S1408x1024 .f32) (b : FVec Ideal S2048x1024 .bf16) (i : S1408x1024.Idx) :
    k0_pay2 (F := Ideal) a s b i = s i + ∑ k : Fin 2048, a (ix2 k (i 0)) * b (ix2 k (i 1)) := by
  idx_vars i
  pointwise [k0_pay2]

/-- Storing the accumulator changes no entry. -/
theorem store_apply (s : FVec Ideal S1408x1024 .f32) (i : S1408x1024.Idx) : k0_pay3 (F := Ideal) s i = s i := by
  pointwise [k0_pay3]

/-- At the first point of a run the accumulator holds the point's product. -/
theorem acc_first (t : Fin cfg0.N) (h : t.val % 4 = 0) (i : S1408x1024.Idx) :
    (outsAt0 m c t.val t.isLt).2 i = 0 + term m c t i := by
  rw [outsAt0_A m c t h (by omega)]
  frame_out
  rw [step_apply, zero_apply]
  rfl

/-- At every later point it holds the previous point's contents and the point's product. -/
theorem acc_next (t : Fin cfg0.N) (h : ¬t.val % 4 = 0) (i : S1408x1024.Idx) :
    (outsAt0 m c t.val t.isLt).2 i = (outsAt0 m c (t.val - 1) (Nat.lt_of_le_of_lt (Nat.sub_le _ _) t.isLt)).2 i + term m c t i := by
  by_cases h1 : t.val % 4 = 3
  · rw [outsAt0_C m c t h h1]
    frame_out
    rw [step_apply]
    exact congrArg (· + term m c t i) (congrFun (Memref.IsWhole.read_unread (Memref.isWhole_whole cc0_scratch0) _) i)
  · rw [outsAt0_B m c t h h1]
    frame_out
    rw [step_apply]
    exact congrArg (· + term m c t i) (congrFun (Memref.IsWhole.read_unread (Memref.isWhole_whole cc0_scratch0) _) i)

/-- At a run's last point the output block is the accumulator. -/
theorem out_last (t : Fin cfg0.N) (h1 : t.val % 4 = 3) (i : S1408x1024.Idx) :
    (outsAt0 m c t.val t.isLt).1 i = (outsAt0 m c t.val t.isLt).2 i := by
  rw [outsAt0_C m c t (by omega) h1]
  frame_out
  rw [store_apply]

/-- The blocks of the two factors, by point. -/
theorem idxIn : ∀ t : Fin cfg0.N, win0_0.index t = ![t.val % 4, t.val / 4] ∧ win0_1.index t = ![t.val % 4, 0] := by
  decide +kernel

/-- The left factor's block at a point: the point's tokens and the run's columns. -/
theorem blkA (t : Fin cfg0.N) (k : Fin 2048) (p : Fin 1408) (hk : 2048 * (t.val % 4) + k.val < 8192) (hp : 1408 * (t.val / 4) + p.val < 2816) :
    iblk m c 0 t (ix2 k p) = A m c (ix2 ⟨2048 * (t.val % 4) + k.val, hk⟩ ⟨1408 * (t.val / 4) + p.val, hp⟩) := by
  refine congrArg (A m c) ?_
  blk_ext [(idxIn t).1]

/-- The right factor's block at a point: the point's tokens. -/
theorem blkB (t : Fin cfg0.N) (k : Fin 2048) (q : Fin 1024) (hk : 2048 * (t.val % 4) + k.val < 8192) :
    iblk m c 1 t (ix2 k q) = B m c (ix2 ⟨2048 * (t.val % 4) + k.val, hk⟩ q) := by
  refine congrArg (B m c) ?_
  blk_ext [(idxIn t).2]

/-- A sum over the run's points of a sum over a point's tokens is the sum over all tokens. -/
theorem sum_tokens (G : Fin 8192 → EReal) :
    ∑ s : Fin 4, ∑ k : Fin 2048, G ⟨2048 * s.val + k.val, by omega⟩ = ∑ p : Fin 8192, G p := by
  rw [Fin.sum_univ_tiles 4 2048 rfl G]
  refine Finset.sum_congr rfl fun s _ => Finset.sum_congr rfl fun k _ => congrArg G (Fin.ext ?_)
  show 2048 * s.val + k.val = s.val * 2048 + k.val
  omega

/-- The contraction of the two factors over all tokens. -/
def prod (c : Dev nD) (i : S2816x1024.Idx) : EReal := ∑ k : Fin 8192, A m c (ix2 k (i 0)) * B m c (ix2 k (i 1))

/-- The result of the run is the contraction over all tokens. -/
theorem result (c : Dev nD) : G2 m c = (prod m c : S2816x1024.Idx → EReal) := by
  funext i
  have h0 : (i 0).val < 2816 := (i 0).isLt
  have h1 : (i 1).val < 1024 := (i 1).isLt
  have hr : run2Of i = (i 0).val / 1408 := by
    show 1 * ((i 0).val / 1408 - 0) + 1 * ((i 1).val / 1024 - 0) = _
    omega
  have hN : pt2Of i < cfg0.N := by
    rw [show cfg0.N = 8 from N_0]
    show 4 * run2Of i + 3 < 8
    rw [hr]; omega
  have hm : pt2Of i % 4 = 3 := by show (4 * run2Of i + 3) % 4 = 3; omega
  have hd : pt2Of i / 4 = (i 0).val / 1408 := by show (4 * run2Of i + 3) / 4 = _; rw [hr]; omega
  unfold G2
  rw [dif_pos hN, ← outsAt0_sweep m c (pt2Of i) hN]
  rw [out_last m c ⟨pt2Of i, hN⟩ hm (loc2Of i)]
  rw [Pipeline.eq_sum_fin_of_reset_step_apply_of_flush (fun n h => (outsAt0 m c n h).2) 4 (fun _ => 0) (term m c)
    (acc_first m c) (acc_next m c) ⟨pt2Of i, hN⟩ hm (loc2Of i), zero_add]
  refine Eq.trans (α := EReal) ?_ (sum_tokens fun k => A m c (ix2 k (i 0)) * B m c (ix2 k (i 1)))
  refine Finset.sum_congr (M := EReal) rfl fun s _ => ?_
  unfold term
  refine Finset.sum_congr rfl fun k _ => ?_
  have hs : (4 * (pt2Of i / 4) + s.val) % 4 = s.val := by omega
  have hq : (4 * (pt2Of i / 4) + s.val) / 4 = (i 0).val / 1408 := by omega
  refine Ideal.mul_congr ?_ ?_
  · refine (blkA m c _ k _ (by dsimp only; omega) (by dsimp only; rw [hq]; show 1408 * ((i 0).val / 1408) + (i 0).val % 1408 < 2816; omega)).trans (congrArg (A m c) ((ix2_inj ..).2 ⟨Fin.ext ?_, Fin.ext ?_⟩))
    · dsimp only; rw [hs]
    · dsimp only; rw [hq]; show 1408 * ((i 0).val / 1408) + (i 0).val % 1408 = (i 0).val; omega
  · refine (blkB m c _ k _ (by dsimp only; omega)).trans (congrArg (B m c) ((ix2_inj ..).2 ⟨Fin.ext ?_, Fin.ext ?_⟩))
    · dsimp only; rw [hs]
    · show (i 1).val % 1024 = (i 1).val; omega

open Cert.ReferenceGateIdeal.Read in
/-- The reference's result is the contraction over all tokens. -/
theorem reference {a : FVec Ideal S8192x2816 .bf16} {b : FVec Ideal S8192x1024 .bf16} (ha : a = A m c) (hb : b = B m c) :
    val_main_v7 (F := Ideal) a b = (prod m c : S2816x1024.Idx → EReal) := by
  subst ha hb
  funext i
  idx_vars i
  pointwise [val_main_v7, val_main_v6, val_main_v5, val_main_v4, val_main_v1, val_main_v0, prod]

/-- The kernel and the reference, started on equal arguments, end with equal results. -/
theorem equal : haveI := Cert.KernelGateIdeal.Gen.facts; haveI := Cert.ReferenceGateIdeal.Gen.facts
    Cert.algebraic_KernelGateIdeal_ReferenceGateIdeal := by
  intro m g m' g' hpre heq
  refine ⟨fun c => (prod m c : S2816x1024.Idx → EReal), ?_, ?_⟩
  · refine (θ_run (defs (F := Ideal)) _ _).mono ?_ (Value.run (F := Ideal) m g)
    intro r h c
    obtain ⟨k, u⟩ := h c
    exact ⟨k.trans (result m c), u⟩
  · refine (θ_run (Cert.ReferenceGateIdeal.defs (F := Ideal)) _ _).mono ?_ (Cert.ReferenceGateIdeal.Value.run (F := Ideal) m' g')
    intro r h c
    obtain ⟨e0, e1⟩ := heq c
    obtain ⟨k, u⟩ := h c
    exact ⟨(k.trans (Cert.ReferenceGateIdeal.Read.val_main_v7_eq (F := Ideal) _ _)).trans (reference m c e0 e1), u⟩

end Cert.KernelGateIdeal.Hand

end
-- ==== Proof.Down.lean ====
/-
  The weight gradient of the down product: the kernel walks the tokens in four blocks and adds each block's product into an accumulator; the
  reference contracts all tokens at once.
-/
module

public import proofs.«01_k».proof.Proof.Gen.KernelDownIdeal.Value
public import proofs.«01_k».proof.Proof.Gen.ReferenceDownIdeal.Read
public import proofs.«01_k».proof.Proof.Gen.ReferenceDownIdeal.Run
public import proofs.«01_k».proof.Defs
public import Idealize.ShloMosaic.Lib.Pipeline.ValueKit
public import Idealize.ShloMosaic.Lib.Claim
public import Idealize.ShloMosaic.Lib.Pointwise

@[expose] public section

set_option maxRecDepth 16384

noncomputable section

namespace Cert.KernelDownIdeal.Hand

open Cert.KernelDownIdeal Cert.KernelDownIdeal.Gen Cert.KernelDownIdeal.Value
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

/-- The left factor: the activations. -/
abbrev A (c : Dev nD) : FVec Ideal S8192x2816 .bf16 := m ((c : Thread nD τ).loc main_arg0)
/-- The right factor: the gradient of the layer's output. -/
abbrev B (c : Dev nD) : FVec Ideal S8192x1024 .f32 := m ((c : Thread nD τ).loc main_arg1)

/-- What point `t` adds to the accumulator: the product of its blocks, contracted over the block's tokens. -/
def term (t : Fin cfg0.N) (i : S1408x1024.Idx) : EReal :=
  ∑ k : Fin 2048, (show EReal from iblk m c 0 t (ix2 k (i 0))) * (show EReal from iblk m c 1 t (ix2 k (i 1)))

/-- The accumulator starts at zero. -/
theorem zero_apply (i : S1408x1024.Idx) : k0_pay1 (F := Ideal) i = 0 := by pointwise [k0_pay1]

/-- One step of the accumulation, entry by entry. -/
theorem step_apply (a : FVec Ideal S2048x1408 .bf16) (s : FVec Ideal S1408x1024 .f32) (b : FVec Ideal S2048x1024 .f32) (i : S1408x1024.Idx) :
    k0_pay2 (F := Ideal) a s b i = s i + ∑ k : Fin 2048, a (ix2 k (i 0)) * b (ix2 k (i 1)) := by
  idx_vars i
  pointwise [k0_pay2]

/-- Storing the accumulator changes no entry. -/
theorem store_apply (s : FVec Ideal S1408x1024 .f32) (i : S1408x1024.Idx) : k0_pay3 (F := Ideal) s i = s i := by

  pointwise [k0_pay3]

/-- At the first point of a run the accumulator holds the point's product. -/
theorem acc_first (t : Fin cfg0.N) (h : t.val % 4 = 0) (i : S1408x1024.Idx) :
    (outsAt0 m c t.val t.isLt).2 i = 0 + term m c t i := by
  rw [outsAt0_A m c t h (by omega)]
  frame_out
  rw [step_apply, zero_apply]
  rfl

/-- At every later point it holds the previous point's contents and the point's product. -/
theorem acc_next (t : Fin cfg0.N) (h : ¬t.val % 4 = 0) (i : S1408x1024.Idx) :
    (outsAt0 m c t.val t.isLt).2 i = (outsAt0 m c (t.val - 1) (Nat.lt_of_le_of_lt (Nat.sub_le _ _) t.isLt)).2 i + term m c t i := by
  by_cases h1 : t.val % 4 = 3
  · rw [outsAt0_C m c t h h1]
    frame_out
    rw [step_apply]
    exact congrArg (· + term m c t i) (congrFun (Memref.IsWhole.read_unread (Memref.isWhole_whole cc0_scratch0) _) i)
  · rw [outsAt0_B m c t h h1]
    frame_out
    rw [step_apply]
    exact congrArg (· + term m c t i) (congrFun (Memref.IsWhole.read_unread (Memref.isWhole_whole cc0_scratch0) _) i)

/-- At a run's last point the output block is the accumulator. -/
theorem out_last (t : Fin cfg0.N) (h1 : t.val % 4 = 3) (i : S1408x1024.Idx) :
    (outsAt0 m c t.val t.isLt).1 i = (outsAt0 m c t.val t.isLt).2 i := by
  rw [outsAt0_C m c t (by omega) h1]
  frame_out
  rw [store_apply]

/-- The blocks of the two factors, by point. -/
theorem idxIn : ∀ t : Fin cfg0.N, win0_0.index t = ![t.val % 4, t.val / 4] ∧ win0_1.index t = ![t.val % 4, 0] := by
  decide +kernel

/-- The left factor's block at a point: the point's tokens and the run's columns. -/
theorem blkA (t : Fin cfg0.N) (k : Fin 2048) (p : Fin 1408) (hk : 2048 * (t.val % 4) + k.val < 8192) (hp : 1408 * (t.val / 4) + p.val < 2816) :
    iblk m c 0 t (ix2 k p) = A m c (ix2 ⟨2048 * (t.val % 4) + k.val, hk⟩ ⟨1408 * (t.val / 4) + p.val, hp⟩) := by
  refine congrArg (A m c) ?_
  blk_ext [(idxIn t).1]

/-- The right factor's block at a point: the point's tokens. -/
theorem blkB (t : Fin cfg0.N) (k : Fin 2048) (q : Fin 1024) (hk : 2048 * (t.val % 4) + k.val < 8192) :
    iblk m c 1 t (ix2 k q) = B m c (ix2 ⟨2048 * (t.val % 4) + k.val, hk⟩ q) := by
  refine congrArg (B m c) ?_
  blk_ext [(idxIn t).2]

/-- A sum over the run's points of a sum over a point's tokens is the sum over all tokens. -/
theorem sum_tokens (G : Fin 8192 → EReal) :
    ∑ s : Fin 4, ∑ k : Fin 2048, G ⟨2048 * s.val + k.val, by omega⟩ = ∑ p : Fin 8192, G p := by
  rw [Fin.sum_univ_tiles 4 2048 rfl G]
  refine Finset.sum_congr rfl fun s _ => Finset.sum_congr rfl fun k _ => congrArg G (Fin.ext ?_)
  show 2048 * s.val + k.val = s.val * 2048 + k.val
  omega

/-- The contraction of the two factors over all tokens. -/
def prod (c : Dev nD) (i : S2816x1024.Idx) : EReal :=
  ∑ k : Fin 8192, A m c (ix2 k (i 0)) * B m c (ix2 k (i 1))

/-- The result of the run is the contraction over all tokens. -/
theorem result (c : Dev nD) : G2 m c = (prod m c : S2816x1024.Idx → EReal) := by
  funext i
  have h0 : (i 0).val < 2816 := (i 0).isLt
  have h1 : (i 1).val < 1024 := (i 1).isLt
  have hr : run2Of i = (i 0).val / 1408 := by
    show 1 * ((i 0).val / 1408 - 0) + 1 * ((i 1).val / 1024 - 0) = _
    omega
  have hN : pt2Of i < cfg0.N := by
    rw [show cfg0.N = 8 from N_0]
    show 4 * run2Of i + 3 < 8
    rw [hr]; omega
  have hm : pt2Of i % 4 = 3 := by show (4 * run2Of i + 3) % 4 = 3; omega
  have hd : pt2Of i / 4 = (i 0).val / 1408 := by show (4 * run2Of i + 3) / 4 = _; rw [hr]; omega
  unfold G2
  rw [dif_pos hN, ← outsAt0_sweep m c (pt2Of i) hN]
  rw [out_last m c ⟨pt2Of i, hN⟩ hm (loc2Of i)]
  rw [Pipeline.eq_sum_fin_of_reset_step_apply_of_flush (fun n h => (outsAt0 m c n h).2) 4 (fun _ => 0) (term m c)
    (acc_first m c) (acc_next m c) ⟨pt2Of i, hN⟩ hm (loc2Of i), zero_add]
  refine Eq.trans (α := EReal) ?_ (sum_tokens fun k => A m c (ix2 k (i 0)) * B m c (ix2 k (i 1)))
  refine Finset.sum_congr (M := EReal) rfl fun s _ => ?_
  unfold term
  refine Finset.sum_congr rfl fun k _ => ?_
  have hs : (4 * (pt2Of i / 4) + s.val) % 4 = s.val := by omega
  have hq : (4 * (pt2Of i / 4) + s.val) / 4 = (i 0).val / 1408 := by omega
  refine Ideal.mul_congr ?_ ?_
  · refine (blkA m c _ k _ (by dsimp only; omega) (by dsimp only; rw [hq]; show 1408 * ((i 0).val / 1408) + (i 0).val % 1408 < 2816; omega)).trans (congrArg (A m c) ((ix2_inj ..).2 ⟨Fin.ext ?_, Fin.ext ?_⟩))
    · dsimp only; rw [hs]
    · dsimp only; rw [hq]; show 1408 * ((i 0).val / 1408) + (i 0).val % 1408 = (i 0).val; omega
  · refine (blkB m c _ k _ (by dsimp only; omega)).trans (congrArg (B m c) ((ix2_inj ..).2 ⟨Fin.ext ?_, Fin.ext ?_⟩))
    · dsimp only; rw [hs]
    · show (i 1).val % 1024 = (i 1).val; omega

open Cert.ReferenceDownIdeal.Read in
/-- The reference's result is the contraction over all tokens. -/
theorem reference {a : FVec Ideal S8192x2816 .bf16} {b : FVec Ideal S8192x1024 .f32} (ha : a = A m c) (hb : b = B m c) :
    val_main_v5 (F := Ideal) a b = (prod m c : S2816x1024.Idx → EReal) := by
  subst ha hb
  funext i
  idx_vars i
  pointwise [val_main_v5, val_main_v4, val_main_v3, val_main_v0, prod]
  exact Finset.sum_congr rfl fun k _ => mul_comm _ _

/-- The kernel and the reference, started on equal arguments, end with equal results. -/
theorem equal : haveI := Cert.KernelDownIdeal.Gen.facts; haveI := Cert.ReferenceDownIdeal.Gen.facts
    Cert.algebraic_KernelDownIdeal_ReferenceDownIdeal := by
  intro m g m' g' hpre heq
  refine ⟨fun c => (prod m c : S2816x1024.Idx → EReal), ?_, ?_⟩
  · refine (θ_run (defs (F := Ideal)) _ _).mono ?_ (Value.run (F := Ideal) m g)
    intro r h c
    obtain ⟨k, u⟩ := h c
    exact ⟨k.trans (result m c), u⟩
  · refine (θ_run (Cert.ReferenceDownIdeal.defs (F := Ideal)) _ _).mono ?_ (Cert.ReferenceDownIdeal.Value.run (F := Ideal) m' g')
    intro r h c
    obtain ⟨e0, e1⟩ := heq c
    obtain ⟨k, u⟩ := h c
    exact ⟨(k.trans (Cert.ReferenceDownIdeal.Read.val_main_v5_eq (F := Ideal) _ _)).trans (reference m c e0 e1), u⟩

end Cert.KernelDownIdeal.Hand

end
-- ==== Proof.Out.lean ====
/-
  The weight gradient of the output projection: the kernel walks the tokens in four blocks and adds each block's product into an accumulator; the
  reference contracts all tokens at once.
-/
module

public import proofs.«01_k».proof.Proof.Gen.KernelOutIdeal.Value
public import proofs.«01_k».proof.Proof.Gen.ReferenceOutIdeal.Read
public import proofs.«01_k».proof.Proof.Gen.ReferenceOutIdeal.Run
public import proofs.«01_k».proof.Defs
public import Idealize.ShloMosaic.Lib.Pipeline.ValueKit
public import Idealize.ShloMosaic.Lib.Claim
public import Idealize.ShloMosaic.Lib.Pointwise

@[expose] public section

set_option maxRecDepth 16384

noncomputable section

namespace Cert.KernelOutIdeal.Hand

open Cert.KernelOutIdeal Cert.KernelOutIdeal.Gen Cert.KernelOutIdeal.Value
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

/-- The left factor: the merged branches. -/
abbrev A (c : Dev nD) : FVec Ideal S8192x1024 .bf16 := m ((c : Thread nD τ).loc main_arg0)
/-- The right factor: the gradient of the residual stream. -/
abbrev B (c : Dev nD) : FVec Ideal S8192x1024 .f32 := m ((c : Thread nD τ).loc main_arg1)

/-- What point `t` adds to the accumulator: the product of its blocks, contracted over the block's tokens. -/
def term (t : Fin cfg0.N) (i : S1024x1024.Idx) : EReal :=
  ∑ k : Fin 2048, (show EReal from iblk m c 0 t (ix2 k (i 0))) * (show EReal from iblk m c 1 t (ix2 k (i 1)))

/-- The accumulator starts at zero. -/
theorem zero_apply (i : S1024x1024.Idx) : k0_pay1 (F := Ideal) i = 0 := by pointwise [k0_pay1]

/-- One step of the accumulation, entry by entry. -/
theorem step_apply (a : FVec Ideal S2048x1024 .bf16) (s : FVec Ideal S1024x1024 .f32) (b : FVec Ideal S2048x1024 .f32) (i : S1024x1024.Idx) :
    k0_pay2 (F := Ideal) a s b i = s i + ∑ k : Fin 2048, a (ix2 k (i 0)) * b (ix2 k (i 1)) := by
  idx_vars i
  pointwise [k0_pay2]

/-- Storing the accumulator changes no entry. -/
theorem store_apply (s : FVec Ideal S1024x1024 .f32) (i : S1024x1024.Idx) : k0_pay3 (F := Ideal) s i = s i := by

  pointwise [k0_pay3]

/-- At the first point of a run the accumulator holds the point's product. -/
theorem acc_first (t : Fin cfg0.N) (h : t.val % 4 = 0) (i : S1024x1024.Idx) :
    (outsAt0 m c t.val t.isLt).2 i = 0 + term m c t i := by
  rw [outsAt0_A m c t h (by omega)]
  frame_out
  rw [step_apply, zero_apply]
  rfl

/-- At every later point it holds the previous point's contents and the point's product. -/
theorem acc_next (t : Fin cfg0.N) (h : ¬t.val % 4 = 0) (i : S1024x1024.Idx) :
    (outsAt0 m c t.val t.isLt).2 i = (outsAt0 m c (t.val - 1) (Nat.lt_of_le_of_lt (Nat.sub_le _ _) t.isLt)).2 i + term m c t i := by
  by_cases h1 : t.val % 4 = 3
  · rw [outsAt0_C m c t h h1]
    frame_out
    rw [step_apply]
    exact congrArg (· + term m c t i) (congrFun (Memref.IsWhole.read_unread (Memref.isWhole_whole cc0_scratch0) _) i)
  · rw [outsAt0_B m c t h h1]
    frame_out
    rw [step_apply]
    exact congrArg (· + term m c t i) (congrFun (Memref.IsWhole.read_unread (Memref.isWhole_whole cc0_scratch0) _) i)

/-- At a run's last point the output block is the accumulator. -/
theorem out_last (t : Fin cfg0.N) (h1 : t.val % 4 = 3) (i : S1024x1024.Idx) :
    (outsAt0 m c t.val t.isLt).1 i = (outsAt0 m c t.val t.isLt).2 i := by
  rw [outsAt0_C m c t (by omega) h1]
  frame_out
  rw [store_apply]

/-- The blocks of the two factors, by point. -/
theorem idxIn : ∀ t : Fin cfg0.N, win0_0.index t = ![t.val % 4, 0] ∧ win0_1.index t = ![t.val % 4, 0] := by
  decide +kernel

/-- The left factor's block at a point: the point's tokens. -/
theorem blkA (t : Fin cfg0.N) (k : Fin 2048) (p : Fin 1024) (hk : 2048 * (t.val % 4) + k.val < 8192) :
    iblk m c 0 t (ix2 k p) = A m c (ix2 ⟨2048 * (t.val % 4) + k.val, hk⟩ p) := by
  refine congrArg (A m c) ?_
  blk_ext [(idxIn t).1]

/-- The right factor's block at a point: the point's tokens. -/
theorem blkB (t : Fin cfg0.N) (k : Fin 2048) (q : Fin 1024) (hk : 2048 * (t.val % 4) + k.val < 8192) :
    iblk m c 1 t (ix2 k q) = B m c (ix2 ⟨2048 * (t.val % 4) + k.val, hk⟩ q) := by
  refine congrArg (B m c) ?_
  blk_ext [(idxIn t).2]

/-- A sum over the run's points of a sum over a point's tokens is the sum over all tokens. -/
theorem sum_tokens (G : Fin 8192 → EReal) :
    ∑ s : Fin 4, ∑ k : Fin 2048, G ⟨2048 * s.val + k.val, by omega⟩ = ∑ p : Fin 8192, G p := by
  rw [Fin.sum_univ_tiles 4 2048 rfl G]
  refine Finset.sum_congr rfl fun s _ => Finset.sum_congr rfl fun k _ => congrArg G (Fin.ext ?_)
  show 2048 * s.val + k.val = s.val * 2048 + k.val
  omega

/-- The contraction of the two factors over all tokens. -/
def prod (c : Dev nD) (i : S1024x1024.Idx) : EReal :=
  ∑ k : Fin 8192, A m c (ix2 k (i 0)) * B m c (ix2 k (i 1))

/-- The result of the run is the contraction over all tokens. -/
theorem result (c : Dev nD) : G2 m c = (prod m c : S1024x1024.Idx → EReal) := by
  funext i
  have h0 : (i 0).val < 1024 := (i 0).isLt
  have h1 : (i 1).val < 1024 := (i 1).isLt
  have hr : run2Of i = (i 0).val / 1024 := by
    show 1 * ((i 0).val / 1024 - 0) + 1 * ((i 1).val / 1024 - 0) = _
    omega
  have hN : pt2Of i < cfg0.N := by
    rw [show cfg0.N = 4 from N_0]
    show 4 * run2Of i + 3 < 4
    rw [hr]; omega
  have hm : pt2Of i % 4 = 3 := by show (4 * run2Of i + 3) % 4 = 3; omega
  have hd : pt2Of i / 4 = (i 0).val / 1024 := by show (4 * run2Of i + 3) / 4 = _; rw [hr]; omega
  unfold G2
  rw [dif_pos hN, ← outsAt0_sweep m c (pt2Of i) hN]
  rw [out_last m c ⟨pt2Of i, hN⟩ hm (loc2Of i)]
  rw [Pipeline.eq_sum_fin_of_reset_step_apply_of_flush (fun n h => (outsAt0 m c n h).2) 4 (fun _ => 0) (term m c)
    (acc_first m c) (acc_next m c) ⟨pt2Of i, hN⟩ hm (loc2Of i), zero_add]
  refine Eq.trans (α := EReal) ?_ (sum_tokens fun k => A m c (ix2 k (i 0)) * B m c (ix2 k (i 1)))
  refine Finset.sum_congr (M := EReal) rfl fun s _ => ?_
  unfold term
  refine Finset.sum_congr rfl fun k _ => ?_
  have hs : (4 * (pt2Of i / 4) + s.val) % 4 = s.val := by omega
  have hq : (4 * (pt2Of i / 4) + s.val) / 4 = (i 0).val / 1024 := by omega
  refine Ideal.mul_congr ?_ ?_
  · refine (blkA m c _ k _ (by dsimp only; omega)).trans (congrArg (A m c) ((ix2_inj ..).2 ⟨Fin.ext ?_, Fin.ext ?_⟩))
    · dsimp only; rw [hs]
    · show (i 0).val % 1024 = (i 0).val; omega
  · refine (blkB m c _ k _ (by dsimp only; omega)).trans (congrArg (B m c) ((ix2_inj ..).2 ⟨Fin.ext ?_, Fin.ext ?_⟩))
    · dsimp only; rw [hs]
    · show (i 1).val % 1024 = (i 1).val; omega

open Cert.ReferenceOutIdeal.Read in
/-- The reference's result is the contraction over all tokens. -/
theorem reference {a : FVec Ideal S8192x1024 .bf16} {b : FVec Ideal S8192x1024 .f32} (ha : a = A m c) (hb : b = B m c) :
    val_main_v5 (F := Ideal) a b = (prod m c : S1024x1024.Idx → EReal) := by
  subst ha hb
  funext i
  idx_vars i
  pointwise [val_main_v5, val_main_v4, val_main_v3, val_main_v0, prod]
  exact Finset.sum_congr rfl fun k _ => mul_comm _ _

/-- The kernel and the reference, started on equal arguments, end with equal results. -/
theorem equal : haveI := Cert.KernelOutIdeal.Gen.facts; haveI := Cert.ReferenceOutIdeal.Gen.facts
    Cert.algebraic_KernelOutIdeal_ReferenceOutIdeal := by
  intro m g m' g' hpre heq
  refine ⟨fun c => (prod m c : S1024x1024.Idx → EReal), ?_, ?_⟩
  · refine (θ_run (defs (F := Ideal)) _ _).mono ?_ (Value.run (F := Ideal) m g)
    intro r h c
    obtain ⟨k, u⟩ := h c
    exact ⟨k.trans (result m c), u⟩
  · refine (θ_run (Cert.ReferenceOutIdeal.defs (F := Ideal)) _ _).mono ?_ (Cert.ReferenceOutIdeal.Value.run (F := Ideal) m' g')
    intro r h c
    obtain ⟨e0, e1⟩ := heq c
    obtain ⟨k, u⟩ := h c
    exact ⟨(k.trans (Cert.ReferenceOutIdeal.Read.val_main_v5_eq (F := Ideal) _ _)).trans (reference m c e0 e1), u⟩

end Cert.KernelOutIdeal.Hand

end
-- ==== Proof.Branch.lean ====
/-
  The weight gradient of a branch's last product: the kernel walks the tokens in four blocks and adds each block's product into an accumulator; the
  reference contracts all tokens at once.
-/
module

public import proofs.«01_k».proof.Proof.Gen.KernelBranchIdeal.Value
public import proofs.«01_k».proof.Proof.Gen.ReferenceBranchIdeal.Read
public import proofs.«01_k».proof.Proof.Gen.ReferenceBranchIdeal.Run
public import proofs.«01_k».proof.Defs
public import Idealize.ShloMosaic.Lib.Pipeline.ValueKit
public import Idealize.ShloMosaic.Lib.Claim
public import Idealize.ShloMosaic.Lib.Pointwise

@[expose] public section

set_option maxRecDepth 16384

noncomputable section

namespace Cert.KernelBranchIdeal.Hand

open Cert.KernelBranchIdeal Cert.KernelBranchIdeal.Gen Cert.KernelBranchIdeal.Value
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

/-- The left factor: the branch before its last product. -/
abbrev A (c : Dev nD) : FVec Ideal S8192x1024 .bf16 := m ((c : Thread nD τ).loc main_arg0)
/-- The right factor: the gradient of the branch's output. -/
abbrev B (c : Dev nD) : FVec Ideal S8192x1024 .bf16 := m ((c : Thread nD τ).loc main_arg1)

/-- What point `t` adds to the accumulator: the product of its blocks, contracted over the block's tokens. -/
def term (t : Fin cfg0.N) (i : S1024x1024.Idx) : EReal :=
  ∑ k : Fin 2048, (show EReal from iblk m c 0 t (ix2 k (i 0))) * (show EReal from iblk m c 1 t (ix2 k (i 1)))

/-- The accumulator starts at zero. -/
theorem zero_apply (i : S1024x1024.Idx) : k0_pay1 (F := Ideal) i = 0 := by pointwise [k0_pay1]

/-- One step of the accumulation, entry by entry. -/
theorem step_apply (a : FVec Ideal S2048x1024 .bf16) (s : FVec Ideal S1024x1024 .f32) (b : FVec Ideal S2048x1024 .bf16) (i : S1024x1024.Idx) :
    k0_pay2 (F := Ideal) a s b i = s i + ∑ k : Fin 2048, a (ix2 k (i 0)) * b (ix2 k (i 1)) := by
  idx_vars i
  pointwise [k0_pay2]

/-- Storing the accumulator changes no entry. -/
theorem store_apply (s : FVec Ideal S1024x1024 .f32) (i : S1024x1024.Idx) : k0_pay3 (F := Ideal) s i = s i := by

  pointwise [k0_pay3]

/-- At the first point of a run the accumulator holds the point's product. -/
theorem acc_first (t : Fin cfg0.N) (h : t.val % 4 = 0) (i : S1024x1024.Idx) :
    (outsAt0 m c t.val t.isLt).2 i = 0 + term m c t i := by
  rw [outsAt0_A m c t h (by omega)]
  frame_out
  rw [step_apply, zero_apply]
  rfl

/-- At every later point it holds the previous point's contents and the point's product. -/
theorem acc_next (t : Fin cfg0.N) (h : ¬t.val % 4 = 0) (i : S1024x1024.Idx) :
    (outsAt0 m c t.val t.isLt).2 i = (outsAt0 m c (t.val - 1) (Nat.lt_of_le_of_lt (Nat.sub_le _ _) t.isLt)).2 i + term m c t i := by
  by_cases h1 : t.val % 4 = 3
  · rw [outsAt0_C m c t h h1]
    frame_out
    rw [step_apply]
    exact congrArg (· + term m c t i) (congrFun (Memref.IsWhole.read_unread (Memref.isWhole_whole cc0_scratch0) _) i)
  · rw [outsAt0_B m c t h h1]
    frame_out
    rw [step_apply]
    exact congrArg (· + term m c t i) (congrFun (Memref.IsWhole.read_unread (Memref.isWhole_whole cc0_scratch0) _) i)

/-- At a run's last point the output block is the accumulator. -/
theorem out_last (t : Fin cfg0.N) (h1 : t.val % 4 = 3) (i : S1024x1024.Idx) :
    (outsAt0 m c t.val t.isLt).1 i = (outsAt0 m c t.val t.isLt).2 i := by
  rw [outsAt0_C m c t (by omega) h1]
  frame_out
  rw [store_apply]

/-- The blocks of the two factors, by point. -/
theorem idxIn : ∀ t : Fin cfg0.N, win0_0.index t = ![t.val % 4, 0] ∧ win0_1.index t = ![t.val % 4, 0] := by
  decide +kernel

/-- The left factor's block at a point: the point's tokens. -/
theorem blkA (t : Fin cfg0.N) (k : Fin 2048) (p : Fin 1024) (hk : 2048 * (t.val % 4) + k.val < 8192) :
    iblk m c 0 t (ix2 k p) = A m c (ix2 ⟨2048 * (t.val % 4) + k.val, hk⟩ p) := by
  refine congrArg (A m c) ?_
  blk_ext [(idxIn t).1]

/-- The right factor's block at a point: the point's tokens. -/
theorem blkB (t : Fin cfg0.N) (k : Fin 2048) (q : Fin 1024) (hk : 2048 * (t.val % 4) + k.val < 8192) :
    iblk m c 1 t (ix2 k q) = B m c (ix2 ⟨2048 * (t.val % 4) + k.val, hk⟩ q) := by
  refine congrArg (B m c) ?_
  blk_ext [(idxIn t).2]

/-- A sum over the run's points of a sum over a point's tokens is the sum over all tokens. -/
theorem sum_tokens (G : Fin 8192 → EReal) :
    ∑ s : Fin 4, ∑ k : Fin 2048, G ⟨2048 * s.val + k.val, by omega⟩ = ∑ p : Fin 8192, G p := by
  rw [Fin.sum_univ_tiles 4 2048 rfl G]
  refine Finset.sum_congr rfl fun s _ => Finset.sum_congr rfl fun k _ => congrArg G (Fin.ext ?_)
  show 2048 * s.val + k.val = s.val * 2048 + k.val
  omega

/-- The contraction of the two factors over all tokens. -/
def prod (c : Dev nD) (i : S1024x1024.Idx) : EReal :=
  ∑ k : Fin 8192, A m c (ix2 k (i 0)) * B m c (ix2 k (i 1))

/-- The result of the run is the contraction over all tokens. -/
theorem result (c : Dev nD) : G2 m c = (prod m c : S1024x1024.Idx → EReal) := by
  funext i
  have h0 : (i 0).val < 1024 := (i 0).isLt
  have h1 : (i 1).val < 1024 := (i 1).isLt
  have hr : run2Of i = (i 0).val / 1024 := by
    show 1 * ((i 0).val / 1024 - 0) + 1 * ((i 1).val / 1024 - 0) = _
    omega
  have hN : pt2Of i < cfg0.N := by
    rw [show cfg0.N = 4 from N_0]
    show 4 * run2Of i + 3 < 4
    rw [hr]; omega
  have hm : pt2Of i % 4 = 3 := by show (4 * run2Of i + 3) % 4 = 3; omega
  have hd : pt2Of i / 4 = (i 0).val / 1024 := by show (4 * run2Of i + 3) / 4 = _; rw [hr]; omega
  unfold G2
  rw [dif_pos hN, ← outsAt0_sweep m c (pt2Of i) hN]
  rw [out_last m c ⟨pt2Of i, hN⟩ hm (loc2Of i)]
  rw [Pipeline.eq_sum_fin_of_reset_step_apply_of_flush (fun n h => (outsAt0 m c n h).2) 4 (fun _ => 0) (term m c)
    (acc_first m c) (acc_next m c) ⟨pt2Of i, hN⟩ hm (loc2Of i), zero_add]
  refine Eq.trans (α := EReal) ?_ (sum_tokens fun k => A m c (ix2 k (i 0)) * B m c (ix2 k (i 1)))
  refine Finset.sum_congr (M := EReal) rfl fun s _ => ?_
  unfold term
  refine Finset.sum_congr rfl fun k _ => ?_
  have hs : (4 * (pt2Of i / 4) + s.val) % 4 = s.val := by omega
  have hq : (4 * (pt2Of i / 4) + s.val) / 4 = (i 0).val / 1024 := by omega
  refine Ideal.mul_congr ?_ ?_
  · refine (blkA m c _ k _ (by dsimp only; omega)).trans (congrArg (A m c) ((ix2_inj ..).2 ⟨Fin.ext ?_, Fin.ext ?_⟩))
    · dsimp only; rw [hs]
    · show (i 0).val % 1024 = (i 0).val; omega
  · refine (blkB m c _ k _ (by dsimp only; omega)).trans (congrArg (B m c) ((ix2_inj ..).2 ⟨Fin.ext ?_, Fin.ext ?_⟩))
    · dsimp only; rw [hs]
    · show (i 1).val % 1024 = (i 1).val; omega

open Cert.ReferenceBranchIdeal.Read in
/-- The reference's result is the contraction over all tokens. -/
theorem reference {a : FVec Ideal S8192x1024 .bf16} {b : FVec Ideal S8192x1024 .bf16} (ha : a = A m c) (hb : b = B m c) :
    val_main_v6 (F := Ideal) a b = (prod m c : S1024x1024.Idx → EReal) := by
  subst ha hb
  funext i
  idx_vars i
  pointwise [val_main_v6, val_main_v5, val_main_v4, val_main_v1, val_main_v0, prod]
  exact Finset.sum_congr rfl fun k _ => mul_comm _ _

/-- The kernel and the reference, started on equal arguments, end with equal results. -/
theorem equal : haveI := Cert.KernelBranchIdeal.Gen.facts; haveI := Cert.ReferenceBranchIdeal.Gen.facts
    Cert.algebraic_KernelBranchIdeal_ReferenceBranchIdeal := by
  intro m g m' g' hpre heq
  refine ⟨fun c => (prod m c : S1024x1024.Idx → EReal), ?_, ?_⟩
  · refine (θ_run (defs (F := Ideal)) _ _).mono ?_ (Value.run (F := Ideal) m g)
    intro r h c
    obtain ⟨k, u⟩ := h c
    exact ⟨k.trans (result m c), u⟩
  · refine (θ_run (Cert.ReferenceBranchIdeal.defs (F := Ideal)) _ _).mono ?_ (Cert.ReferenceBranchIdeal.Value.run (F := Ideal) m' g')
    intro r h c
    obtain ⟨e0, e1⟩ := heq c
    obtain ⟨k, u⟩ := h c
    exact ⟨(k.trans (Cert.ReferenceBranchIdeal.Read.val_main_v6_eq (F := Ideal) _ _)).trans (reference m c e0 e1), u⟩

end Cert.KernelBranchIdeal.Hand

end
-- ==== Proof.In.lean ====
/-
  The weight gradient of the input projection: the kernel walks the tokens in four blocks and adds each block's product into an accumulator; the
  reference contracts all tokens at once.
-/
module

public import proofs.«01_k».proof.Proof.Gen.KernelInIdeal.Value
public import proofs.«01_k».proof.Proof.Gen.ReferenceInIdeal.Read
public import proofs.«01_k».proof.Proof.Gen.ReferenceInIdeal.Run
public import proofs.«01_k».proof.Defs
public import Idealize.ShloMosaic.Lib.Pipeline.ValueKit
public import Idealize.ShloMosaic.Lib.Claim
public import Idealize.ShloMosaic.Lib.Pointwise

@[expose] public section

set_option maxRecDepth 16384

noncomputable section

namespace Cert.KernelInIdeal.Hand

open Cert.KernelInIdeal Cert.KernelInIdeal.Gen Cert.KernelInIdeal.Value
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

/-- The left factor: the layer's normed input. -/
abbrev A (c : Dev nD) : FVec Ideal S8192x1024 .bf16 := m ((c : Thread nD τ).loc main_arg0)
/-- The right factor: the gradient of the projections. -/
abbrev B (c : Dev nD) : FVec Ideal S8192x6144 .bf16 := m ((c : Thread nD τ).loc main_arg1)

/-- What point `t` adds to the accumulator: the product of its blocks, contracted over the block's tokens. -/
def term (t : Fin cfg0.N) (i : S1024x1536.Idx) : EReal :=
  ∑ k : Fin 2048, (show EReal from iblk m c 0 t (ix2 k (i 0))) * (show EReal from iblk m c 1 t (ix2 k (i 1)))

/-- The accumulator starts at zero. -/
theorem zero_apply (i : S1024x1536.Idx) : k0_pay1 (F := Ideal) i = 0 := by pointwise [k0_pay1]

/-- One step of the accumulation, entry by entry. -/
theorem step_apply (a : FVec Ideal S2048x1024 .bf16) (s : FVec Ideal S1024x1536 .f32) (b : FVec Ideal S2048x1536 .bf16) (i : S1024x1536.Idx) :
    k0_pay2 (F := Ideal) a s b i = s i + ∑ k : Fin 2048, a (ix2 k (i 0)) * b (ix2 k (i 1)) := by
  idx_vars i
  pointwise [k0_pay2]

/-- Storing the accumulator changes no entry. -/
theorem store_apply (s : FVec Ideal S1024x1536 .f32) (i : S1x1024x1536.Idx) : k0_pay3 (F := Ideal) s i = s (ix2 (i 1) (i 2)) := by
  idx_vars i
  pointwise [k0_pay3]

/-- At the first point of a run the accumulator holds the point's product. -/
theorem acc_first (t : Fin cfg0.N) (h : t.val % 4 = 0) (i : S1024x1536.Idx) :
    (outsAt0 m c t.val t.isLt).2 i = 0 + term m c t i := by
  rw [outsAt0_A m c t h (by omega)]
  frame_out
  rw [step_apply, zero_apply]
  rfl

/-- At every later point it holds the previous point's contents and the point's product. -/
theorem acc_next (t : Fin cfg0.N) (h : ¬t.val % 4 = 0) (i : S1024x1536.Idx) :
    (outsAt0 m c t.val t.isLt).2 i = (outsAt0 m c (t.val - 1) (Nat.lt_of_le_of_lt (Nat.sub_le _ _) t.isLt)).2 i + term m c t i := by
  by_cases h1 : t.val % 4 = 3
  · rw [outsAt0_C m c t h h1]
    frame_out
    rw [step_apply]
    exact congrArg (· + term m c t i) (congrFun (Memref.IsWhole.read_unread (Memref.isWhole_whole cc0_scratch0) _) i)
  · rw [outsAt0_B m c t h h1]
    frame_out
    rw [step_apply]
    exact congrArg (· + term m c t i) (congrFun (Memref.IsWhole.read_unread (Memref.isWhole_whole cc0_scratch0) _) i)

/-- At a run's last point the output block is the accumulator. -/
theorem out_last (t : Fin cfg0.N) (h1 : t.val % 4 = 3) (i : S1x1024x1536.Idx) :
    (outsAt0 m c t.val t.isLt).1 i = (outsAt0 m c t.val t.isLt).2 (ix2 (i 1) (i 2)) := by
  rw [outsAt0_C m c t (by omega) h1]
  frame_out
  rw [store_apply]

/-- The blocks of the two factors, by point. -/
theorem idxIn : ∀ t : Fin cfg0.N, win0_0.index t = ![t.val % 4, 0] ∧ win0_1.index t = ![t.val % 4, t.val / 4] := by
  decide +kernel

/-- The left factor's block at a point: the point's tokens. -/
theorem blkA (t : Fin cfg0.N) (k : Fin 2048) (p : Fin 1024) (hk : 2048 * (t.val % 4) + k.val < 8192) :
    iblk m c 0 t (ix2 k p) = A m c (ix2 ⟨2048 * (t.val % 4) + k.val, hk⟩ p) := by
  refine congrArg (A m c) ?_
  blk_ext [(idxIn t).1]

/-- The right factor's block at a point: the point's tokens and the run's columns. -/
theorem blkB (t : Fin cfg0.N) (k : Fin 2048) (q : Fin 1536) (hk : 2048 * (t.val % 4) + k.val < 8192) (hq : 1536 * (t.val / 4) + q.val < 6144) :
    iblk m c 1 t (ix2 k q) = B m c (ix2 ⟨2048 * (t.val % 4) + k.val, hk⟩ ⟨1536 * (t.val / 4) + q.val, hq⟩) := by
  refine congrArg (B m c) ?_
  blk_ext [(idxIn t).2]

/-- A sum over the run's points of a sum over a point's tokens is the sum over all tokens. -/
theorem sum_tokens (G : Fin 8192 → EReal) :
    ∑ s : Fin 4, ∑ k : Fin 2048, G ⟨2048 * s.val + k.val, by omega⟩ = ∑ p : Fin 8192, G p := by
  rw [Fin.sum_univ_tiles 4 2048 rfl G]
  refine Finset.sum_congr rfl fun s _ => Finset.sum_congr rfl fun k _ => congrArg G (Fin.ext ?_)
  show 2048 * s.val + k.val = s.val * 2048 + k.val
  omega

/-- The contraction of the two factors over all tokens. -/
def prod (c : Dev nD) (i : S4x1024x1536.Idx) : EReal :=
  ∑ k : Fin 8192, A m c (ix2 k (i 1)) * B m c (ix2 k ⟨1536 * (i 0).val + (i 2).val, by have h0 : (i 0).val < 4 := (i 0).isLt; have h2 : (i 2).val < 1536 := (i 2).isLt; omega⟩)

/-- The result of the run is the contraction over all tokens. -/
theorem result (c : Dev nD) : G2 m c = (prod m c : S4x1024x1536.Idx → EReal) := by
  funext i
  have h0 : (i 0).val < 4 := (i 0).isLt
  have h1 : (i 1).val < 1024 := (i 1).isLt
  have h2 : (i 2).val < 1536 := (i 2).isLt
  have hr : run2Of i = (i 0).val := by
    show 1 * ((i 0).val / 1 - 0) + 1 * ((i 1).val / 1024 - 0) + 1 * ((i 2).val / 1536 - 0) = _
    omega
  have hN : pt2Of i < cfg0.N := by
    rw [show cfg0.N = 16 from N_0]
    show 4 * run2Of i + 3 < 16
    rw [hr]; omega
  have hm : pt2Of i % 4 = 3 := by show (4 * run2Of i + 3) % 4 = 3; omega
  have hd : pt2Of i / 4 = (i 0).val := by show (4 * run2Of i + 3) / 4 = _; rw [hr]; omega
  unfold G2
  rw [dif_pos hN, ← outsAt0_sweep m c (pt2Of i) hN]
  rw [out_last m c ⟨pt2Of i, hN⟩ hm (loc2Of i)]
  rw [Pipeline.eq_sum_fin_of_reset_step_apply_of_flush (fun n h => (outsAt0 m c n h).2) 4 (fun _ => 0) (term m c)
    (acc_first m c) (acc_next m c) ⟨pt2Of i, hN⟩ hm (ix2 ((loc2Of i) 1) ((loc2Of i) 2)), zero_add]
  refine Eq.trans (α := EReal) ?_ (sum_tokens fun k => A m c (ix2 k (i 1)) * B m c (ix2 k ⟨1536 * (i 0).val + (i 2).val, by have h0 : (i 0).val < 4 := (i 0).isLt; have h2 : (i 2).val < 1536 := (i 2).isLt; omega⟩))
  refine Finset.sum_congr (M := EReal) rfl fun s _ => ?_
  unfold term
  refine Finset.sum_congr rfl fun k _ => ?_
  have hs : (4 * (pt2Of i / 4) + s.val) % 4 = s.val := by omega
  have hq : (4 * (pt2Of i / 4) + s.val) / 4 = (i 0).val := by omega
  refine Ideal.mul_congr ?_ ?_
  · refine (blkA m c _ k _ (by dsimp only; omega)).trans (congrArg (A m c) ((ix2_inj ..).2 ⟨Fin.ext ?_, Fin.ext ?_⟩))
    · dsimp only; rw [hs]
    · show (i 1).val % 1024 = (i 1).val; omega
  · refine (blkB m c _ k _ (by dsimp only; omega) (by dsimp only; rw [hq]; show 1536 * (i 0).val + (i 2).val % 1536 < 6144; omega)).trans (congrArg (B m c) ((ix2_inj ..).2 ⟨Fin.ext ?_, Fin.ext ?_⟩))
    · dsimp only; rw [hs]
    · dsimp only; rw [hq]; show 1536 * (i 0).val + (i 2).val % 1536 = 1536 * (i 0).val + (i 2).val; omega

open Cert.ReferenceInIdeal.Read in
/-- The reference's result is the contraction over all tokens. -/
theorem reference {a : FVec Ideal S8192x1024 .bf16} {b : FVec Ideal S8192x6144 .bf16} (ha : a = A m c) (hb : b = B m c) :
    val_main_v8 (F := Ideal) a b = (prod m c : S4x1024x1536.Idx → EReal) := by
  subst ha hb
  funext i
  idx_vars i
  pointwise [val_main_v8, val_main_v7, val_main_v6, val_main_v5, val_main_v4, val_main_v1, val_main_v0, prod]
  refine Finset.sum_congr rfl fun k _ => ?_
  rw [mul_comm]
  exact congrArg₂ (· * ·) (congrArg (A m c) (by blk_ext)) (congrArg (B m c) (by blk_ext))

/-- The kernel and the reference, started on equal arguments, end with equal results. -/
theorem equal : haveI := Cert.KernelInIdeal.Gen.facts; haveI := Cert.ReferenceInIdeal.Gen.facts
    Cert.algebraic_KernelInIdeal_ReferenceInIdeal := by
  intro m g m' g' hpre heq
  refine ⟨fun c => (prod m c : S4x1024x1536.Idx → EReal), ?_, ?_⟩
  · refine (θ_run (defs (F := Ideal)) _ _).mono ?_ (Value.run (F := Ideal) m g)
    intro r h c
    obtain ⟨k, u⟩ := h c
    exact ⟨k.trans (result m c), u⟩
  · refine (θ_run (Cert.ReferenceInIdeal.defs (F := Ideal)) _ _).mono ?_ (Cert.ReferenceInIdeal.Value.run (F := Ideal) m' g')
    intro r h c
    obtain ⟨e0, e1⟩ := heq c
    obtain ⟨k, u⟩ := h c
    exact ⟨(k.trans (Cert.ReferenceInIdeal.Read.val_main_v8_eq (F := Ideal) _ _)).trans (reference m c e0 e1), u⟩

end Cert.KernelInIdeal.Hand

end
-- ==== Proof.Mix.lean ====
/-
  The mixer's input: the normalised rows and their projection. The kernel takes 512 tokens a point and stores the projection in
  twelve column blocks, each a product with a block of the weight; the reference multiplies by the whole weight.
-/
module

public import proofs.«01_k».proof.Proof.Gen.KernelMixIdeal.Value
public import proofs.«01_k».proof.Proof.Gen.ReferenceMixIdeal.Read
public import proofs.«01_k».proof.Proof.Gen.ReferenceMixIdeal.Run
public import proofs.«01_k».proof.Defs
public import Idealize.ShloMosaic.Lib.Pipeline.ValueKit
public import Idealize.ShloMosaic.Lib.Claim
public import Idealize.ShloMosaic.Lib.Pointwise

@[expose] public section

set_option maxRecDepth 16384

noncomputable section

namespace Cert.KernelMixIdeal.Hand

open Cert.KernelMixIdeal Cert.KernelMixIdeal.Gen Cert.KernelMixIdeal.Value
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

/-- The tokens. -/
abbrev X (c : Dev nD) : FVec Ideal S8192x1024 .f32 := m ((c : Thread nD τ).loc main_arg0)
/-- The gain. -/
abbrev G (c : Dev nD) : FVec Ideal S1024 .f32 := m ((c : Thread nD τ).loc main_arg1)
/-- The projection's weight. -/
abbrev W (c : Dev nD) : FVec Ideal S1024x6144 .f32 := m ((c : Thread nD τ).loc main_arg2)

/-- A row normalised by its root mean square and scaled by the gain. -/
def nrm (x g : Fin 1024 → EReal) (k : Fin 1024) : EReal :=
  x k * Ideal.rsqrt (Ideal.div (∑ j : Fin 1024, x j * x j) (Ideal.ofBits .f32 0x44800000#32) + Ideal.ofBits .f32 0x358637BD#32) * g k

/-- The body's normalised row. -/
theorem nrm_apply (x : FVec Ideal S512x1024 .f32) (g : FVec Ideal S1x1024 .f32) (i : Fin 512) (k : Fin 1024) :
    k0_pay5 (F := Ideal) x g (ix2 i k) = nrm (fun k => x (ix2 i k)) (fun k => g (ix2 0 k)) k := by
  pointwise [k0_pay5, nrm]

open Cert.ReferenceMixIdeal.Read in
/-- The reference's normalised row. -/
theorem ref_h (x : FVec Ideal S8192x1024 .f32) (g : FVec Ideal S1024 .f32) (i : Fin 8192) (k : Fin 1024) :
    val_main_v13 (F := Ideal) x g (ix2 i k) = nrm (fun k => x (ix2 i k)) (fun k => g (ix1 k)) k := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, nrm]

open Cert.ReferenceMixIdeal.Read in
/-- The reference's projection. -/
theorem ref_p (x : FVec Ideal S8192x1024 .f32) (g : FVec Ideal S1024 .f32) (w : FVec Ideal S1024x6144 .f32) (i : Fin 8192) (l : Fin 6144) :
    val_main_v15 (F := Ideal) x g w (ix2 i l) = ∑ k : Fin 1024, nrm (fun k => x (ix2 i k)) (fun k => g (ix1 k)) k * w (ix2 k l) := by
  have e : ∀ k, val_main_v12 (F := Ideal) x g (ix2 i k) = nrm (fun k => x (ix2 i k)) (fun k => g (ix1 k)) k := ref_h x g i
  rw [← funext e]
  pointwise [val_main_v15, val_main_v14]

/-- A column block's product. -/
theorem mm_apply (h : FVec Ideal S512x1024 .bf16) (w : FVec Ideal S1x1024x512 .bf16) (i j : Fin 512) :
    k0_pay1 (F := Ideal) h w (ix2 i j) = ∑ k : Fin 1024, h (ix2 i k) * w (ix3 0 k j) := by
  pointwise [k0_pay1]

/-- One column block of the projection: its columns are the weight's. -/
theorem piece (x : FVec Ideal S512x1024 .f32) (g : FVec Ideal S1x1024 .f32) (w : FVec Ideal S4x1024x1536 .bf16) (s o : ℕ)
    (inb : ∀ a, (![s, 0, o] : Fin 3 → ℕ) a + S1x1024x512.size a ≤ S4x1024x1536.size a) (i z z' : Fin 512) (l : Fin 6144)
    (hi : i.val = z.val) (hl : l.val = 1536 * s + o + z'.val) (hs : s < 4) (ho : o ≤ 1024) :
    k0_pay1 (F := Ideal) (k0_pay5 x g) (View.ld w (Rect.unit (s := S4x1024x1536) ![s, 0, o] S1x1024x512.size inb)) (ix2 z z')
      = ∑ k : Fin 1024, nrm (fun k => x (ix2 i k)) (fun k => g (ix2 0 k)) k * w (ix3 ⟨l.val / 1536, by omega⟩ k ⟨l.val % 1536, by omega⟩) := by
  refine (mm_apply (k0_pay5 (F := Ideal) x g) _ z z').trans (Finset.sum_congr rfl fun k _ => ?_)
  rw [nrm_apply, show z = i from Fin.ext hi.symm]
  refine congrArg (nrm (fun k => x (ix2 i k)) (fun k => g (ix2 0 k)) k * ·) ?_
  refine View.ld_unit_apply_of _ _ _ _ _ _ (fun a => ?_)
  match a with
  | ⟨0, _⟩ => show l.val / 1536 = s + 0; omega
  | ⟨1, _⟩ => show k.val = 0 + k.val; omega
  | ⟨2, _⟩ => show l.val % 1536 = o + z'.val; omega

/-- The whole block of tokens is read. -/
theorem ld_x (x : Vec Ideal S512x1024 .f32) : View.ld x r0_0 = x := View.ld_unit_zero (S := S512x1024) (by decide) _ _
/-- The whole gain is read. -/
theorem ld_g (g : Vec Ideal S1x1024 .f32) : View.ld g r0_1 = g := View.ld_unit_zero (S := S1x1024) (by decide) _ _

/-- The projection's block, entry by entry: the columns are the weight's, block after block. -/
theorem out4_apply (x : FVec Ideal S512x1024 .f32) (g : FVec Ideal S1x1024 .f32) (w : FVec Ideal S4x1024x1536 .bf16) (i : Fin 512) (l : Fin 6144) :
    out0_4 (F := Ideal) x g w (ix2 i l) = ∑ k : Fin 1024, nrm (fun k => x (ix2 i k)) (fun k => g (ix2 0 k)) k
      * w (ix3 ⟨l.val / 1536, by omega⟩ k ⟨l.val % 1536, by omega⟩) := by
  unfold out0_4 k0_pay14
  rw [ld_x, ld_g]
  canon_tiles z hz
  · idx_vars z; exact piece x g w 3 1024 _ i z0 z1 l hz0 hz1 (by omega) (by omega)
  · idx_vars z; exact piece x g w 3 512 _ i z0 z1 l hz0 hz1 (by omega) (by omega)
  · idx_vars z; exact piece x g w 3 0 _ i z0 z1 l hz0 hz1 (by omega) (by omega)
  · idx_vars z; exact piece x g w 2 1024 _ i z0 z1 l hz0 hz1 (by omega) (by omega)
  · idx_vars z; exact piece x g w 2 512 _ i z0 z1 l hz0 hz1 (by omega) (by omega)
  · idx_vars z; exact piece x g w 2 0 _ i z0 z1 l hz0 hz1 (by omega) (by omega)
  · idx_vars z; exact piece x g w 1 1024 _ i z0 z1 l hz0 hz1 (by omega) (by omega)
  · idx_vars z; exact piece x g w 1 512 _ i z0 z1 l hz0 hz1 (by omega) (by omega)
  · idx_vars z; exact piece x g w 1 0 _ i z0 z1 l hz0 hz1 (by omega) (by omega)
  · idx_vars z; exact piece x g w 0 1024 _ i z0 z1 l hz0 hz1 (by omega) (by omega)
  · idx_vars z; exact piece x g w 0 512 _ i z0 z1 l hz0 hz1 (by omega) (by omega)
  · idx_vars z; exact piece x g w 0 0 _ i z0 z1 l hz0 (by omega) (by omega) (by omega)

/-- The gain as the kernel reads it. -/
theorem V_g (k : Fin 1024) : (show FVec Ideal S1x1024 .f32 from V m c main_v3) (ix2 0 k) = G m c (ix1 k) := by
  entry_read
  pointwise

/-- The weight as the kernel reads it: four blocks of columns. -/
theorem V_w (s : Fin 4) (k : Fin 1024) (j : Fin 1536) :
    (show FVec Ideal S4x1024x1536 .bf16 from V m c main_v2) (ix3 s k j) = W m c (ix2 k ⟨1536 * s.val + j.val, by omega⟩) := by
  entry_read
  pointwise
  exact congrArg (W m c) ((ix2_inj ..).2 ⟨rfl, Fin.ext (by show s.val * 1536 + j.val = 1536 * s.val + j.val; omega)⟩)

/-- Where the blocks lie, at every point. -/
theorem idx : ∀ t : Fin cfg0.N, win0_0.index t = ![t.val, 0] ∧ win0_1.index t = ![0, 0] ∧ win0_2.index t = ![0, 0, 0]
    ∧ win0_3.index t = ![t.val, 0] ∧ win0_4.index t = ![t.val, 0] := by
  decide +kernel

/-- The token a point's row holds. -/
def row (t : Fin cfg0.N) (i : Fin 512) : Fin 8192 :=
  ⟨512 * t.val + i.val, by have h := t.isLt; have e : cfg0.N = 16 := N_0; omega⟩

/-- The tokens' block at a point. -/
theorem blkX (t : Fin cfg0.N) (i : Fin 512) (k : Fin 1024) : iblk m c 0 t (ix2 i k) = X m c (ix2 (row t i) k) := by
  refine congrArg (X m c) ?_
  blk_ext [row, (idx t).1]

/-- The gain's block at a point: all of it. -/
theorem blkG (t : Fin cfg0.N) (k : Fin 1024) : iblk m c 1 t (ix2 0 k) = G m c (ix1 k) := by
  refine Eq.trans (congrArg (V m c main_v3) ?_) (V_g m c k)
  blk_ext [(idx t).2.1]

/-- The weight's block at a point: all of it. -/
theorem blkW (t : Fin cfg0.N) (s : Fin 4) (k : Fin 1024) (j : Fin 1536) :
    iblk m c 2 t (ix3 s k j) = W m c (ix2 k ⟨1536 * s.val + j.val, by omega⟩) := by
  refine Eq.trans (congrArg (V m c main_v2) ?_) (V_w m c s k j)
  blk_ext [(idx t).2.2.1]

/-- The first result: the normalised rows. -/
theorem arr3 : (dats m 0 c).arrAt 3 cfg0.N = (Cert.ReferenceMixIdeal.Read.val_main_v13 (F := Ideal) (X m c) (G m c) : S8192x1024.Idx → EReal) := by
  refine (dats m 0 c).arrAt_eq_of_covers 3 _ (by decide +kernel) (fun t hf y => ?_)
  rw [after0_3]
  idx_vars y
  blk_simp
  refine Eq.trans (b := Cert.ReferenceMixIdeal.Read.val_main_v13 (F := Ideal) (X m c) (G m c) (ix2 (row t y0) y1)) ?_ (by blk_ext [row, idx t])
  rw [ref_h]
  unfold out0_3
  rw [ld_x, ld_g, View.canon_unit_zero (by decide)]
  refine (nrm_apply _ _ y0 y1).trans ?_
  rw [funext (blkX m c t y0), funext (blkG m c t)]

/-- The second result: the projection. -/
theorem arr4 : (dats m 0 c).arrAt 4 cfg0.N = (Cert.ReferenceMixIdeal.Read.val_main_v15 (F := Ideal) (X m c) (G m c) (W m c) : S8192x6144.Idx → EReal) := by
  refine (dats m 0 c).arrAt_eq_of_covers 4 _ (by decide +kernel) (fun t hf y => ?_)
  rw [after0_4]
  idx_vars y
  blk_simp
  refine Eq.trans (b := Cert.ReferenceMixIdeal.Read.val_main_v15 (F := Ideal) (X m c) (G m c) (W m c) (ix2 (row t y0) y1)) ?_ (by blk_ext [row, idx t])
  rw [ref_p]
  refine (out4_apply _ _ _ y0 y1).trans (Finset.sum_congr rfl fun k _ => ?_)
  refine Ideal.mul_congr ?_ ((blkW m c t _ k _).trans (congrArg (W m c) ((ix2_inj ..).2 ⟨rfl, Fin.ext ?_⟩)))
  · rw [funext (blkX m c t y0), funext (blkG m c t)]
  · show 1536 * (y1.val / 1536) + y1.val % 1536 = y1.val
    omega

/-- The kernel and the reference, started on equal arguments, end with equal results. -/
theorem equal : haveI := Cert.KernelMixIdeal.Gen.facts; haveI := Cert.ReferenceMixIdeal.Gen.facts
    Cert.algebraic_KernelMixIdeal_ReferenceMixIdeal := by
  intro m g m' g' hpre heq
  refine ⟨fun c => (Cert.ReferenceMixIdeal.Read.val_main_v13 (F := Ideal) (X m c) (G m c) : S8192x1024.Idx → EReal),
    fun c => (Cert.ReferenceMixIdeal.Read.val_main_v15 (F := Ideal) (X m c) (G m c) (W m c) : S8192x6144.Idx → EReal), ?_, ?_⟩
  · refine (θ_run (defs (F := Ideal)) _ _).mono ?_ (Value.run_blocks (F := Ideal) m g)
    intro r h c
    obtain ⟨k, k', u⟩ := h c
    exact ⟨k.trans (arr3 m c), k'.trans (arr4 m c), u⟩
  · refine (θ_run (Cert.ReferenceMixIdeal.defs (F := Ideal)) _ _).mono ?_ (Cert.ReferenceMixIdeal.Value.run (F := Ideal) m' g')
    intro r h c
    obtain ⟨e0, e1, e2⟩ := heq c
    obtain ⟨k, k', u⟩ := h c
    rw [show (_ : FVec Ideal S8192x1024 .f32) = X m c from e0, show (_ : FVec Ideal S1024 .f32) = G m c from e1, show (_ : FVec Ideal S1024x6144 .f32) = W m c from e2] at k'
    exact ⟨(k.trans (Cert.ReferenceMixIdeal.Read.val_main_v13_eq (F := Ideal) _ _)).trans (by rw [e0, e1]),
      (k'.trans (Cert.ReferenceMixIdeal.Read.val_main_v15_eq (F := Ideal) _ _ _)).trans (by rfl), u⟩

end Cert.KernelMixIdeal.Hand

end
-- ==== Proof.Rms.lean ====
/-
  The backward formulas of the root-mean-square norm: the derivative of each step, added up, is the closed form. Nothing is
  assumed of the entries: a row whose mean square is infinite gives zero on both sides, and otherwise the reciprocal root is a positive real number.
-/
module

public import proofs.«01_k».proof.Proof.Real

@[expose] public section

noncomputable section

namespace Cert.KernelIdeal.Hand

open Idealize.ShloMosaic

/-- A row's mean square, with the constant. -/
def ms (x : Fin 1024 → EReal) : EReal :=
  Ideal.div (∑ j : Fin 1024, x j * x j) (Ideal.ofBits FTy.f32 0x44800000#32) + Ideal.ofBits FTy.f32 0x358637BD#32
/-- A row's reciprocal root mean square. -/
def rs (x : Fin 1024 → EReal) : EReal := Ideal.rsqrt (ms x)

/-- A square is not negative. -/
theorem sq_nonneg' (x : EReal) : 0 ≤ x * x := by
  rcases le_total 0 x with h | h
  · exact mul_nonneg h h
  · have := mul_nonneg (EReal.neg_nonneg.2 h) (EReal.neg_nonneg.2 h)
    rwa [neg_mul, mul_neg, neg_neg] at this

/-- The mean square is infinite, and its reciprocal root zero, or both are real and positive. -/
theorem ms_cases (x : Fin 1024 → EReal) : (ms x = ⊤ ∧ rs x = 0)
    ∨ ∃ v r : ℝ, 0 < v ∧ 0 < r ∧ r * r * v = 1 ∧ ms x = v ∧ rs x = r := by
  obtain ⟨e, he, h⟩ := ofBits_eps
  have hs : 0 ≤ ∑ j : Fin 1024, x j * x j := Finset.sum_nonneg fun j _ => sq_nonneg' (x j)
  unfold rs ms
  rw [h]
  generalize (∑ j : Fin 1024, x j * x j) = s at hs ⊢
  induction s with
  | bot => exact absurd hs (by simp)
  | top =>
    left
    have : Ideal.div ⊤ (Ideal.ofBits FTy.f32 0x44800000#32) = ⊤ := by
      rw [ofBits_N, Ideal.div_coe (by norm_num)]
      exact EReal.top_mul_coe_of_pos (by norm_num)
    rw [this, EReal.top_add_coe]
    exact ⟨rfl, rfl⟩
  | coe s =>
    right
    rw [div_N, ← EReal.coe_add]
    have hs' : 0 ≤ s := EReal.coe_nonneg.1 hs
    have hv : 0 < s / 1024 + e := by positivity
    refine ⟨_, (Real.sqrt (s / 1024 + e))⁻¹, hv, by have := Real.sqrt_pos.2 hv; positivity, ?_, rfl, ?_⟩
    · rw [← mul_inv, Real.mul_self_sqrt hv.le, inv_mul_cancel₀ hv.ne']
    · rw [Ideal.rsqrt_coe, if_neg (not_lt.2 hv.le), if_neg hv.ne']

/-- A positive real factor goes over a sum of two. -/
theorem pos_mul_add {r : ℝ} (hr : 0 < r) (a b : EReal) : (r : EReal) * (a + b) = r * a + r * b :=
  EReal.left_distrib_of_nonneg_of_ne_top (EReal.coe_nonneg.2 hr.le) (EReal.coe_ne_top r) a b

/-- A positive real factor goes over a sum. -/
theorem sum_mul_pos {r : ℝ} (hr : 0 < r) {n : ℕ} (f : Fin n → EReal) : ∑ k, f k * (r : EReal) = (∑ k, f k) * (r : EReal) := by
  classical
  have : ∀ s : Finset (Fin n), ∑ k ∈ s, f k * (r : EReal) = (∑ k ∈ s, f k) * (r : EReal) := by
    intro s
    induction s using Finset.induction_on with
    | empty => simp
    | insert a s ha ih => rw [Finset.sum_insert ha, Finset.sum_insert ha, ih, mul_comm _ (r : EReal), mul_comm _ (r : EReal), mul_comm _ (r : EReal), pos_mul_add hr]
  exact this _

/-- The norm's backward pass in closed form. -/
def rmsBack (x h : Fin 1024 → EReal) (j : Fin 1024) : EReal :=
  rs x * (h j - (x j * rs x) * Ideal.div (∑ k : Fin 1024, h k * (x k * rs x)) (Ideal.ofBits FTy.f32 0x44800000#32))

/-- The derivative through the mean square. -/
def rmsQ (x h : Fin 1024 → EReal) : EReal :=
  Ideal.div ((∑ k : Fin 1024, x k * h k) * (Ideal.ofBits FTy.f32 0xBF000000#32 * Ideal.div (rs x) (ms x))) (Ideal.ofBits FTy.f32 0x44800000#32)

/-- The norm's backward pass: the derivative of each step, added up, is the closed form. -/
theorem rms_back (x h : Fin 1024 → EReal) (j : Fin 1024) :
    (h j * rs x + x j * rmsQ x h) + rmsQ x h * x j = rmsBack x h j := by
  unfold rmsBack rmsQ
  rcases ms_cases x with ⟨e, e'⟩ | ⟨v, r, hv, hr, hrv, e, e'⟩
  · rw [e, e']
    have z : Ideal.div 0 ⊤ = 0 := by unfold Ideal.div; rw [if_neg (by simp), zero_mul]
    have z' : Ideal.div 0 (Ideal.ofBits FTy.f32 0x44800000#32) = 0 := by
      rw [ofBits_N, Ideal.div_coe (by norm_num), zero_mul]
    rw [z, mul_zero, mul_zero, mul_zero, z', mul_zero, zero_mul, zero_mul, add_zero, add_zero]
  · rw [e, e', ofBits_half, ofBits_N, Ideal.div_coe hv.ne', Ideal.div_coe (by norm_num), Ideal.div_coe (by norm_num)]
    have hs : ∑ k : Fin 1024, h k * (x k * (r : EReal)) = (∑ k : Fin 1024, x k * h k) * (r : EReal) := by
      rw [← sum_mul_pos hr]
      exact Finset.sum_congr rfl fun k _ => by rw [← mul_assoc, mul_comm (h k)]
    rw [hs]
    generalize (∑ k : Fin 1024, x k * h k) = s
    have hq : s * (((-(1 / 2) : ℝ) : EReal) * ((r : EReal) * ((1 / v : ℝ) : EReal))) * ((1 / 1024 : ℝ) : EReal) = s * ((-(r * r * r / 2048) : ℝ) : EReal) := by
      rw [mul_assoc, ← EReal.coe_mul, ← EReal.coe_mul, ← EReal.coe_mul]
      have hv' : 1 / v = r * r := by field_simp; linarith
      rw [hv']
      congr 2
      ring
    rw [hq, sub_eq_add_neg, pos_mul_add hr, mul_comm (r : EReal) (h j), add_assoc]
    congr 1
    have hd : (0 : EReal) ≤ ((r * r * r / 2048 : ℝ) : EReal) := EReal.coe_nonneg.2 (by positivity)
    rw [EReal.coe_neg, mul_neg, mul_neg, neg_mul, mul_neg, mul_comm _ (x j), ← mul_assoc (x j) s,
      ← neg_mul, ← EReal.left_distrib_of_nonneg hd hd, neg_mul, ← EReal.coe_add]
    congr 1
    have e3 : r * r * r / 2048 + r * r * r / 2048 = r * (r * (r * (1 / 1024))) := by ring
    rw [e3, EReal.coe_mul, EReal.coe_mul, EReal.coe_mul]
    ac_rfl

end Cert.KernelIdeal.Hand

end
-- ==== Proof.MixBwd.lean ====
/-
  The mixer input's backward pass. The kernel takes 512 tokens a point, multiplies their cotangents by the transposed weight in twelve
  column blocks, and applies the norm's backward pass in closed form; the gain's gradient is added up point after point. The reference
  takes the derivatives of the forward lines.
-/
module

public import proofs.«01_k».proof.Proof.Gen.KernelMixBwdIdeal.Value
public import proofs.«01_k».proof.Proof.Gen.ReferenceMixBwdIdeal.Read
public import proofs.«01_k».proof.Proof.Gen.ReferenceMixBwdIdeal.Run
public import proofs.«01_k».proof.Defs
public import proofs.«01_k».proof.Proof.Rms
public import Idealize.ShloMosaic.Lib.Pipeline.ValueKit
public import Idealize.ShloMosaic.Lib.Claim
public import Idealize.ShloMosaic.Lib.Pointwise

@[expose] public section

set_option maxRecDepth 16384

noncomputable section

namespace Cert.KernelMixBwdIdeal.Hand

open Cert.KernelMixBwdIdeal Cert.KernelMixBwdIdeal.Gen Cert.KernelMixBwdIdeal.Value
open Idealize.ShloMosaic Idealize.ShloMosaic.TcCoe Idealize.ShloMosaic.Tactic Idealize.SL.Sem
open Idealize.ShloMosaic.Pipeline (Dat)
open Cert.KernelIdeal.Hand (rs ms rmsBack rmsQ rms_back)

variable (m : (ℓ : Loc nD τ sig) → Buf (Elt Ideal) ℓ) (c : Dev nD)

/-- The residual's cotangent. -/
abbrev D1 (c : Dev nD) : FVec Ideal S8192x1024 .f32 := m ((c : Thread nD τ).loc main_arg0)
/-- The projection's cotangent. -/
abbrev P (c : Dev nD) : FVec Ideal S8192x6144 .bf16 := m ((c : Thread nD τ).loc main_arg1)
/-- The tokens. -/
abbrev X (c : Dev nD) : FVec Ideal S8192x1024 .f32 := m ((c : Thread nD τ).loc main_arg2)
/-- The gain. -/
abbrev G (c : Dev nD) : FVec Ideal S1024 .f32 := m ((c : Thread nD τ).loc main_arg3)
/-- The projection's weight. -/
abbrev W (c : Dev nD) : FVec Ideal S1024x6144 .f32 := m ((c : Thread nD τ).loc main_arg4)

/-! ## The body -/

/-- A column block of the cotangent. -/
abbrev cP (p : Vec Ideal S512x6144 .bf16) (o : ℕ) (h : ∀ a, (![0, o] : Fin 2 → ℕ) a + S512x512.size a ≤ S512x6144.size a) : Vec Ideal S512x512 .bf16 :=
  View.ld p (Rect.unit (s := S512x6144) ![0, o] S512x512.size h)
/-- A column block of the weight. -/
abbrev cW (w : Vec Ideal S4x1024x1536 .bf16) (s o : ℕ) (h : ∀ a, (![s, 0, o] : Fin 3 → ℕ) a + S1x1024x512.size a ≤ S4x1024x1536.size a) : Vec Ideal S1x1024x512 .bf16 :=
  View.ld w (Rect.unit (s := S4x1024x1536) ![s, 0, o] S1x1024x512.size h)

/-- The first ten products, added up. -/
def ten (p : FVec Ideal S512x6144 .bf16) (w : FVec Ideal S4x1024x1536 .bf16) : FVec Ideal S512x1024 .f32 :=
  k0_pay4 (k0_pay3 (cP p 0 inb_S512x6144_S512x512_0_0) (cW w 0 0 inb_S4x1024x1536_S1x1024x512_0_0_0)
      (cP p 512 inb_S512x6144_S512x512_0_512) (cW w 0 512 inb_S4x1024x1536_S1x1024x512_0_0_512)
      (cP p 1024 inb_S512x6144_S512x512_0_1024) (cW w 0 1024 inb_S4x1024x1536_S1x1024x512_0_0_1024)
      (cP p 1536 inb_S512x6144_S512x512_0_1536) (cW w 1 0 inb_S4x1024x1536_S1x1024x512_1_0_0))
    (cP p 2048 inb_S512x6144_S512x512_0_2048) (cW w 1 512 inb_S4x1024x1536_S1x1024x512_1_0_512)
    (cP p 2560 inb_S512x6144_S512x512_0_2560) (cW w 1 1024 inb_S4x1024x1536_S1x1024x512_1_0_1024)
    (cP p 3072 inb_S512x6144_S512x512_0_3072) (cW w 2 0 inb_S4x1024x1536_S1x1024x512_2_0_0)
    (cP p 3584 inb_S512x6144_S512x512_0_3584) (cW w 2 512 inb_S4x1024x1536_S1x1024x512_2_0_512)
    (cP p 4096 inb_S512x6144_S512x512_0_4096) (cW w 2 1024 inb_S4x1024x1536_S1x1024x512_2_0_1024)
    (cP p 4608 inb_S512x6144_S512x512_0_4608) (cW w 3 0 inb_S4x1024x1536_S1x1024x512_3_0_0)

/-- The normalised rows' cotangent. -/
def dh (p : FVec Ideal S512x6144 .bf16) (w : FVec Ideal S4x1024x1536 .bf16) : FVec Ideal S512x1024 .f32 :=
  k0_pay5 (ten p w) (cP p 5120 inb_S512x6144_S512x512_0_5120) (cW w 3 512 inb_S4x1024x1536_S1x1024x512_3_0_512)
    (cP p 5632 inb_S512x6144_S512x512_0_5632) (cW w 3 1024 inb_S4x1024x1536_S1x1024x512_3_0_1024)

/-- What the body stores for the tokens' gradient. -/
def stDx (d : FVec Ideal S512x1024 .f32) (p : FVec Ideal S512x6144 .bf16) (x : FVec Ideal S512x1024 .f32) (g : FVec Ideal S1x1024 .f32)
    (w : FVec Ideal S4x1024x1536 .bf16) : FVec Ideal S512x1024 .f32 :=
  k0_pay1 (k0_pay6 x) (k0_pay7 x)
    (k0_pay9 (ten p w) (cP p 5120 inb_S512x6144_S512x512_0_5120) (cW w 3 512 inb_S4x1024x1536_S1x1024x512_3_0_512)
      (cP p 5632 inb_S512x6144_S512x512_0_5632) (cW w 3 1024 inb_S4x1024x1536_S1x1024x512_3_0_1024) g) d
    (k0_pay10 (ten p w) (cP p 5120 inb_S512x6144_S512x512_0_5120) (cW w 3 512 inb_S4x1024x1536_S1x1024x512_3_0_512)
      (cP p 5632 inb_S512x6144_S512x512_0_5632) (cW w 3 1024 inb_S4x1024x1536_S1x1024x512_3_0_1024) x g)

/-- What the body stores for the gain's gradient. -/
def stDg (p : FVec Ideal S512x6144 .bf16) (x : FVec Ideal S512x1024 .f32) (w : FVec Ideal S4x1024x1536 .bf16) (s : FVec Ideal S1x1024 .f32) : FVec Ideal S1x1024 .f32 :=
  k0_pay8 (ten p w) (cP p 5120 inb_S512x6144_S512x512_0_5120) (cW w 3 512 inb_S4x1024x1536_S1x1024x512_3_0_512)
    (cP p 5632 inb_S512x6144_S512x512_0_5632) (cW w 3 1024 inb_S4x1024x1536_S1x1024x512_3_0_1024) x s

/-- After every point the first output's block is what the body stores. -/
theorem out_dx (t : Fin cfg0.N) : (outsAt0 m c t.val t.isLt).1 = stDx (iblk m c 0 t) (iblk m c 1 t) (iblk m c 2 t) (iblk m c 3 t) (iblk m c 4 t) := by
  by_cases h : t.val % 16 = 0
  · rw [outsAt0_A m c t h]
    frame_out
    rfl
  · rw [outsAt0_B m c t h]
    frame_out
    rfl

/-- At the first point the sum begins at zero. -/
theorem out_dg_first (t : Fin cfg0.N) (h : t.val % 16 = 0) :
    (outsAt0 m c t.val t.isLt).2 = stDg (iblk m c 1 t) (iblk m c 2 t) (iblk m c 4 t) (k0_pay2 (F := Ideal)) := by
  rw [outsAt0_A m c t h]
  frame_out
  rfl

/-- At every later point the sum goes on from the previous point's. -/
theorem out_dg_next (t : Fin cfg0.N) (h : ¬t.val % 16 = 0) :
    (outsAt0 m c t.val t.isLt).2 = stDg (iblk m c 1 t) (iblk m c 2 t) (iblk m c 4 t) (outsAt0 m c (t.val - 1) (Nat.lt_of_le_of_lt (Nat.sub_le _ _) t.isLt)).2 := by
  rw [outsAt0_B m c t h]
  frame_out
  rfl

/-- One column's term of the cotangent's product with the weight. -/
def term (p : FVec Ideal S512x6144 .bf16) (w : FVec Ideal S4x1024x1536 .bf16) (i : Fin 512) (d : Fin 1024) (l : Fin 6144) : EReal :=
  p (ix2 i l) * w (ix3 ⟨l.val / 1536, by omega⟩ d ⟨l.val % 1536, by omega⟩)

/-- A column block's product is the sum of the terms of its columns. -/
theorem block (p : FVec Ideal S512x6144 .bf16) (w : FVec Ideal S4x1024x1536 .bf16) (i : Fin 512) (d : Fin 1024) (n s o o' : ℕ) (h) (h')
    (ho : o' = 1536 * s + o) (hn : o' = 512 * n) (hs : s < 4) (hlt : o ≤ 1024) :
    ∑ k : Fin 512, cP p o' h (ix2 i k) * cW w s o h' (ix3 0 d k) = ∑ k : Fin 512, term p w i d ⟨n * 512 + k.val, by omega⟩ := by
  refine Finset.sum_congr rfl fun k _ => ?_
  unfold term
  refine Ideal.mul_congr (View.ld_unit_apply_of _ _ _ _ _ _ (fun a => ?_)) (View.ld_unit_apply_of _ _ _ _ _ _ (fun a => ?_))
  · match a with
    | ⟨0, _⟩ => show i.val = 0 + i.val; omega
    | ⟨1, _⟩ => show n * 512 + k.val = o' + k.val; omega
  · match a with
    | ⟨0, _⟩ => show (n * 512 + k.val) / 1536 = s + 0; omega
    | ⟨1, _⟩ => show d.val = 0 + d.val; omega
    | ⟨2, _⟩ => show (n * 512 + k.val) % 1536 = o + k.val; omega

/-- A sum of twelve terms, in the order of the additions. -/
theorem sum12 (f : Fin 12 → EReal) : ∑ k, f k = f 0 + f 1 + f 2 + f 3 + f 4 + f 5 + f 6 + f 7 + f 8 + f 9 + f 10 + f 11 := by
  simp only [Fin.sum_univ_castSucc, Finset.univ_eq_empty, Finset.sum_empty, zero_add]
  rfl

/-- The twelve products, added up one after the other. -/
theorem pays (a0 : FVec Ideal S512x512 .bf16) (b0 : FVec Ideal S1x1024x512 .bf16) (a1 : FVec Ideal S512x512 .bf16) (b1 : FVec Ideal S1x1024x512 .bf16) (a2 : FVec Ideal S512x512 .bf16) (b2 : FVec Ideal S1x1024x512 .bf16)
    (a3 : FVec Ideal S512x512 .bf16) (b3 : FVec Ideal S1x1024x512 .bf16) (a4 : FVec Ideal S512x512 .bf16) (b4 : FVec Ideal S1x1024x512 .bf16) (a5 : FVec Ideal S512x512 .bf16) (b5 : FVec Ideal S1x1024x512 .bf16)
    (a6 : FVec Ideal S512x512 .bf16) (b6 : FVec Ideal S1x1024x512 .bf16) (a7 : FVec Ideal S512x512 .bf16) (b7 : FVec Ideal S1x1024x512 .bf16) (a8 : FVec Ideal S512x512 .bf16) (b8 : FVec Ideal S1x1024x512 .bf16)
    (a9 : FVec Ideal S512x512 .bf16) (b9 : FVec Ideal S1x1024x512 .bf16) (a10 : FVec Ideal S512x512 .bf16) (b10 : FVec Ideal S1x1024x512 .bf16) (a11 : FVec Ideal S512x512 .bf16) (b11 : FVec Ideal S1x1024x512 .bf16)
    (i : Fin 512) (d : Fin 1024) :
    k0_pay5 (F := Ideal) (k0_pay4 (k0_pay3 a0 b0 a1 b1 a2 b2 a3 b3) a4 b4 a5 b5 a6 b6 a7 b7 a8 b8 a9 b9) a10 b10 a11 b11 (ix2 i d)
      = (∑ k : Fin 512, a0 (ix2 i k) * b0 (ix3 0 d k)) + (∑ k : Fin 512, a1 (ix2 i k) * b1 (ix3 0 d k)) + (∑ k : Fin 512, a2 (ix2 i k) * b2 (ix3 0 d k)) + (∑ k : Fin 512, a3 (ix2 i k) * b3 (ix3 0 d k)) + (∑ k : Fin 512, a4 (ix2 i k) * b4 (ix3 0 d k)) + (∑ k : Fin 512, a5 (ix2 i k) * b5 (ix3 0 d k)) + (∑ k : Fin 512, a6 (ix2 i k) * b6 (ix3 0 d k)) + (∑ k : Fin 512, a7 (ix2 i k) * b7 (ix3 0 d k)) + (∑ k : Fin 512, a8 (ix2 i k) * b8 (ix3 0 d k)) + (∑ k : Fin 512, a9 (ix2 i k) * b9 (ix3 0 d k)) + (∑ k : Fin 512, a10 (ix2 i k) * b10 (ix3 0 d k)) + (∑ k : Fin 512, a11 (ix2 i k) * b11 (ix3 0 d k)) := by
  pointwise [k0_pay5, k0_pay4, k0_pay3]

/-- The normalised rows' cotangent, entry by entry: the product with the transposed weight. -/
theorem dh_apply (p : FVec Ideal S512x6144 .bf16) (w : FVec Ideal S4x1024x1536 .bf16) (i : Fin 512) (d : Fin 1024) :
    dh p w (ix2 i d) = ∑ l : Fin 6144, term p w i d l := by
  have e : dh p w (ix2 i d) = (∑ k : Fin 512, cP p 0 inb_S512x6144_S512x512_0_0 (ix2 i k) * cW w 0 0 inb_S4x1024x1536_S1x1024x512_0_0_0 (ix3 0 d k))
      + (∑ k : Fin 512, cP p 512 inb_S512x6144_S512x512_0_512 (ix2 i k) * cW w 0 512 inb_S4x1024x1536_S1x1024x512_0_0_512 (ix3 0 d k))
      + (∑ k : Fin 512, cP p 1024 inb_S512x6144_S512x512_0_1024 (ix2 i k) * cW w 0 1024 inb_S4x1024x1536_S1x1024x512_0_0_1024 (ix3 0 d k))
      + (∑ k : Fin 512, cP p 1536 inb_S512x6144_S512x512_0_1536 (ix2 i k) * cW w 1 0 inb_S4x1024x1536_S1x1024x512_1_0_0 (ix3 0 d k))
      + (∑ k : Fin 512, cP p 2048 inb_S512x6144_S512x512_0_2048 (ix2 i k) * cW w 1 512 inb_S4x1024x1536_S1x1024x512_1_0_512 (ix3 0 d k))
      + (∑ k : Fin 512, cP p 2560 inb_S512x6144_S512x512_0_2560 (ix2 i k) * cW w 1 1024 inb_S4x1024x1536_S1x1024x512_1_0_1024 (ix3 0 d k))
      + (∑ k : Fin 512, cP p 3072 inb_S512x6144_S512x512_0_3072 (ix2 i k) * cW w 2 0 inb_S4x1024x1536_S1x1024x512_2_0_0 (ix3 0 d k))
      + (∑ k : Fin 512, cP p 3584 inb_S512x6144_S512x512_0_3584 (ix2 i k) * cW w 2 512 inb_S4x1024x1536_S1x1024x512_2_0_512 (ix3 0 d k))
      + (∑ k : Fin 512, cP p 4096 inb_S512x6144_S512x512_0_4096 (ix2 i k) * cW w 2 1024 inb_S4x1024x1536_S1x1024x512_2_0_1024 (ix3 0 d k))
      + (∑ k : Fin 512, cP p 4608 inb_S512x6144_S512x512_0_4608 (ix2 i k) * cW w 3 0 inb_S4x1024x1536_S1x1024x512_3_0_0 (ix3 0 d k))
      + (∑ k : Fin 512, cP p 5120 inb_S512x6144_S512x512_0_5120 (ix2 i k) * cW w 3 512 inb_S4x1024x1536_S1x1024x512_3_0_512 (ix3 0 d k))
      + (∑ k : Fin 512, cP p 5632 inb_S512x6144_S512x512_0_5632 (ix2 i k) * cW w 3 1024 inb_S4x1024x1536_S1x1024x512_3_0_1024 (ix3 0 d k)) := by
    unfold dh ten
    exact pays _ _ _ _ _ _ _ _ _ _ _ _ _ _ _ _ _ _ _ _ _ _ _ _ i d
  rw [e, Fin.sum_univ_tiles 12 512 rfl (term p w i d), sum12,
    block p w i d 0 0 0 0 _ _ rfl rfl (by omega) (by omega), block p w i d 1 0 512 512 _ _ rfl rfl (by omega) (by omega),
    block p w i d 2 0 1024 1024 _ _ rfl rfl (by omega) (by omega), block p w i d 3 1 0 1536 _ _ rfl rfl (by omega) (by omega),
    block p w i d 4 1 512 2048 _ _ rfl rfl (by omega) (by omega), block p w i d 5 1 1024 2560 _ _ rfl rfl (by omega) (by omega),
    block p w i d 6 2 0 3072 _ _ rfl rfl (by omega) (by omega), block p w i d 7 2 512 3584 _ _ rfl rfl (by omega) (by omega),
    block p w i d 8 2 1024 4096 _ _ rfl rfl (by omega) (by omega), block p w i d 9 3 0 4608 _ _ rfl rfl (by omega) (by omega),
    block p w i d 10 3 512 5120 _ _ rfl rfl (by omega) (by omega), block p w i d 11 3 1024 5632 _ _ rfl rfl (by omega) (by omega)]
  rfl

/-- The tokens' gradient, entry by entry: the residual's cotangent and the norm's backward pass in closed form. -/
theorem stDx_apply (d : FVec Ideal S512x1024 .f32) (p : FVec Ideal S512x6144 .bf16) (x : FVec Ideal S512x1024 .f32) (g : FVec Ideal S1x1024 .f32)
    (w : FVec Ideal S4x1024x1536 .bf16) (i : Fin 512) (j : Fin 1024) :
    stDx d p x g w (ix2 i j) = d (ix2 i j) + rmsBack (fun k => x (ix2 i k)) (fun k => dh p w (ix2 i k) * g (ix2 0 k)) j := by
  unfold dh
  pointwise [stDx, k0_pay1, k0_pay6, k0_pay7, k0_pay9, k0_pay10, rmsBack, rs, ms]

/-- The gain's gradient, entry by entry: the sum so far and the point's tokens. -/
theorem stDg_apply (p : FVec Ideal S512x6144 .bf16) (x : FVec Ideal S512x1024 .f32) (w : FVec Ideal S4x1024x1536 .bf16) (s : FVec Ideal S1x1024 .f32) (j : Fin 1024) :
    stDg p x w s (ix2 0 j) = s (ix2 0 j) + ∑ i : Fin 512, dh p w (ix2 i j) * (x (ix2 i j) * rs (fun k => x (ix2 i k))) := by
  unfold dh
  pointwise [stDg, k0_pay8, k0_pay6, k0_pay7, rs, ms]

/-! ## The reference -/

/-- The normalised rows' cotangent: the product of the projection's cotangent with the transposed weight. -/
def rDh (p : FVec Ideal S8192x6144 .bf16) (w : FVec Ideal S1024x6144 .f32) (i : Fin 8192) (d : Fin 1024) : EReal :=
  ∑ l : Fin 6144, p (ix2 i l) * w (ix2 d l)

section Reference
open Cert.ReferenceMixBwdIdeal.Read

variable (d : FVec Ideal S8192x1024 .f32) (p : FVec Ideal S8192x6144 .bf16) (x : FVec Ideal S8192x1024 .f32) (g : FVec Ideal S1024 .f32)
  (w : FVec Ideal S1024x6144 .f32)

/-- The reference's cotangent of the normalised rows. -/
theorem ref_dh (i : Fin 8192) (j : Fin 1024) : val_main_v18 (F := Ideal) p w (ix2 i j) = rDh p w i j := by
  pointwise [val_main_v18, val_main_v17, rDh]

/-- The reference's mean square. -/
theorem ref_ms (i : Fin 8192) : val_main_v6 (F := Ideal) x (ix2 i 0) = ms (fun k => x (ix2 i k)) := by
  pointwise [val_main_v6, val_main_v5, val_main_v4, val_main_v3, val_main_v2, val_main_v1, val_main_v0, val_main_cst, val_main_cst_0,
    val_main_cst_1, ms]

/-- The reference's reciprocal root mean square. -/
theorem ref_rs (i : Fin 8192) : val_main_v7 (F := Ideal) x (ix2 i 0) = rs (fun k => x (ix2 i k)) := by
  unfold rs
  rw [← ref_ms]
  pointwise [val_main_v7]

/-- The reference's derivative through the mean square. -/
theorem ref_q (i : Fin 8192) : val_main_v33 (F := Ideal) p x g w (ix1 i) = rmsQ (fun k => x (ix2 i k)) (fun k => rDh p w i k * g (ix1 k)) := by
  unfold rmsQ
  rw [← ref_ms, ← ref_rs]
  simp only [← ref_dh]
  pointwise [val_main_v33, val_main_v32, val_main_v31, val_main_v30, val_main_v27, val_main_v26, val_main_v25, val_main_v23, val_main_v22,
    val_main_v13, val_main_v10, val_main_v9, val_main_v8, val_main_cst_2, val_main_cst_5, val_main_cst_6, val_main_cst_7]
  exact Fin.sum_univ_one _

/-- The reference's first result. -/
theorem ref_dx (i : Fin 8192) (j : Fin 1024) :
    val_main_v39 (F := Ideal) d p x g w (ix2 i j) = d (ix2 i j) + rmsBack (fun k => x (ix2 i k)) (fun k => rDh p w i k * g (ix1 k)) j := by
  rw [← rms_back, ← ref_q, ← ref_rs, ← ref_dh]
  pointwise [val_main_v39, val_main_v38, val_main_v37, val_main_v36, val_main_v35, val_main_v34, val_main_v29, val_main_v28, val_main_v23,
    val_main_v22, val_main_v13]

/-- The reference's second result. -/
theorem ref_dg (j : Fin 1024) :
    val_main_v40 (F := Ideal) p x w (ix2 0 j) = ∑ i : Fin 8192, rDh p w i j * (x (ix2 i j) * rs (fun k => x (ix2 i k))) := by
  simp only [← ref_rs, ← ref_dh]
  pointwise [val_main_v40, val_main_v24, val_main_v21, val_main_v20, val_main_v19, val_main_v12, val_main_v11, val_main_cst_3, val_main_cst_4]
  refine (Fin.sum_univ_one _).trans ?_
  refine Finset.sum_congr rfl fun i _ => ?_
  exact mul_comm _ _

end Reference

/-! ## The blocks -/

/-- The gain as the kernel reads it. -/
theorem V_g (k : Fin 1024) : (show FVec Ideal S1x1024 .f32 from V m c main_v3) (ix2 0 k) = G m c (ix1 k) := by
  entry_read
  pointwise

/-- The weight as the kernel reads it: four blocks of columns. -/
theorem V_w (s : Fin 4) (k : Fin 1024) (j : Fin 1536) :
    (show FVec Ideal S4x1024x1536 .bf16 from V m c main_v2) (ix3 s k j) = W m c (ix2 k ⟨1536 * s.val + j.val, by omega⟩) := by
  entry_read
  pointwise
  exact congrArg (W m c) ((ix2_inj ..).2 ⟨rfl, Fin.ext (by show s.val * 1536 + j.val = 1536 * s.val + j.val; omega)⟩)

/-- Where the blocks lie, at every point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0, 0] ∧ win0_5.index t = ![t.val, 0] ∧ win0_6.index t = ![0, 0] := by
  decide +kernel

/-- The token a point's row holds. -/
def row (t : Fin cfg0.N) (i : Fin 512) : Fin 8192 :=
  ⟨512 * t.val + i.val, by have h := t.isLt; have e : cfg0.N = 16 := N_0; omega⟩

/-- The residual's block at a point. -/
theorem blkD (t : Fin cfg0.N) (i : Fin 512) (k : Fin 1024) : iblk m c 0 t (ix2 i k) = D1 m c (ix2 (row t i) k) := by
  refine congrArg (D1 m c) ?_
  blk_ext [row, (idx t).1]

/-- The cotangent's block at a point. -/
theorem blkP (t : Fin cfg0.N) (i : Fin 512) (l : Fin 6144) : iblk m c 1 t (ix2 i l) = P m c (ix2 (row t i) l) := by
  refine congrArg (P m c) ?_
  blk_ext [row, (idx t).2.1]

/-- The tokens' block at a point. -/
theorem blkX (t : Fin cfg0.N) (i : Fin 512) (k : Fin 1024) : iblk m c 2 t (ix2 i k) = X m c (ix2 (row t i) k) := by
  refine congrArg (X m c) ?_
  blk_ext [row, (idx t).2.2.1]

/-- The gain's block at a point: all of it. -/
theorem blkG (t : Fin cfg0.N) (k : Fin 1024) : iblk m c 3 t (ix2 0 k) = G m c (ix1 k) := by
  refine Eq.trans (congrArg (V m c main_v3) ?_) (V_g m c k)
  blk_ext [(idx t).2.2.2.1]

/-- The weight's block at a point: all of it. -/
theorem blkW (t : Fin cfg0.N) (s : Fin 4) (k : Fin 1024) (j : Fin 1536) :
    iblk m c 4 t (ix3 s k j) = W m c (ix2 k ⟨1536 * s.val + j.val, by omega⟩) := by
  refine Eq.trans (congrArg (V m c main_v2) ?_) (V_w m c s k j)
  blk_ext [(idx t).2.2.2.2.1]

/-- The normalised rows' cotangent at a point is the reference's at the point's tokens. -/
theorem dh_row (t : Fin cfg0.N) (i : Fin 512) (d : Fin 1024) : dh (iblk m c 1 t) (iblk m c 4 t) (ix2 i d) = rDh (P m c) (W m c) (row t i) d := by
  rw [dh_apply]
  refine Finset.sum_congr rfl fun l _ => ?_
  unfold term
  refine Ideal.mul_congr (blkP m c t i l) ((blkW m c t _ d _).trans (congrArg (W m c) ((ix2_inj ..).2 ⟨rfl, Fin.ext ?_⟩)))
  show 1536 * (l.val / 1536) + l.val % 1536 = l.val
  omega

/-- The first result: the tokens' gradient. -/
theorem arr5 : (dats m 0 c).arrAt 5 cfg0.N = (Cert.ReferenceMixBwdIdeal.Read.val_main_v39 (F := Ideal) (D1 m c) (P m c) (X m c) (G m c) (W m c) : S8192x1024.Idx → EReal) := by
  refine (dats m 0 c).arrAt_eq_of_covers 5 _ (by decide +kernel) (fun t hf y => ?_)
  rw [after0_5, out_dx]
  idx_vars y
  blk_simp
  refine Eq.trans (b := Cert.ReferenceMixBwdIdeal.Read.val_main_v39 (F := Ideal) (D1 m c) (P m c) (X m c) (G m c) (W m c) (ix2 (row t y0) y1)) ?_ (by blk_ext [row, idx t])
  rw [ref_dx]
  refine (stDx_apply _ _ _ _ _ y0 y1).trans ?_
  refine congrArg₂ (α := EReal) (· + ·) (blkD m c t y0 y1) ?_
  rw [funext (blkX m c t y0), funext (fun k => Ideal.mul_congr (dh_row m c t y0 k) (blkG m c t k))]

/-- What a point adds to the gain's gradient. -/
def rise (t : Fin cfg0.N) (i : S1x1024.Idx) : EReal :=
  ∑ k : Fin 512, rDh (P m c) (W m c) (row t k) (i 1) * (X m c (ix2 (row t k) (i 1)) * rs (fun l => X m c (ix2 (row t k) l)))

/-- A point raises the gain's gradient by its tokens' terms. -/
theorem stDg_row (t : Fin cfg0.N) (s : FVec Ideal S1x1024 .f32) (i : S1x1024.Idx) :
    stDg (iblk m c 1 t) (iblk m c 2 t) (iblk m c 4 t) s i = s i + rise m c t i := by
  idx_vars i
  have h0 : i0 = 0 := Subsingleton.elim _ _
  subst h0
  refine (stDg_apply _ _ _ s i1).trans (congrArg (s (ix2 0 i1) + ·) (Finset.sum_congr rfl fun k _ => ?_))
  refine Ideal.mul_congr (dh_row m c t k i1) (Ideal.mul_congr (blkX m c t k i1) ?_)
  rw [funext (blkX m c t k)]

/-- At the first point the sum is the point's terms. -/
theorem acc_first (t : Fin cfg0.N) (h : t.val % 16 = 0) (i : S1x1024.Idx) : (outsAt0 m c t.val t.isLt).2 i = (0 : EReal) + rise m c t i := by
  rw [out_dg_first m c t h]
  refine (stDg_row m c t _ i).trans (congrArg (· + rise m c t i) ?_)
  idx_vars i
  pointwise [k0_pay2]

/-- At every later point the sum is the previous point's and the point's terms. -/
theorem acc_next (t : Fin cfg0.N) (h : ¬t.val % 16 = 0) (i : S1x1024.Idx) :
    (outsAt0 m c t.val t.isLt).2 i = (outsAt0 m c (t.val - 1) (Nat.lt_of_le_of_lt (Nat.sub_le _ _) t.isLt)).2 i + rise m c t i := by
  rw [out_dg_next m c t h]
  exact stDg_row m c t _ i

/-- A sum over the points of a sum over a point's tokens is the sum over all tokens. -/
theorem sum_tokens (H : Fin 8192 → EReal) (f : Fin 16 → Fin cfg0.N) (hf : ∀ s, (f s).val = s.val) :
    ∑ s : Fin 16, ∑ k : Fin 512, H (row (f s) k) = ∑ p : Fin 8192, H p := by
  rw [Fin.sum_univ_tiles 16 512 rfl H]
  refine Finset.sum_congr rfl fun s _ => Finset.sum_congr rfl fun k _ => congrArg H (Fin.ext ?_)
  show 512 * (f s).val + k.val = s.val * 512 + k.val
  rw [hf]; omega

/-- The second result: the gain's gradient. -/
theorem arr6 : (dats m 0 c).arrAt 6 cfg0.N = (Cert.ReferenceMixBwdIdeal.Read.val_main_v40 (F := Ideal) (P m c) (X m c) (W m c) : S1x1024.Idx → EReal) := by
  refine (dats m 0 c).arrAt_eq_of_covers 6 _ (by decide +kernel) (fun t hf y => ?_)
  have hl := (flush0_6 t).mp hf
  rw [after0_6]
  idx_vars y
  blk_simp
  have h0 : y0 = 0 := Subsingleton.elim _ _
  subst h0
  refine Eq.trans (b := Cert.ReferenceMixBwdIdeal.Read.val_main_v40 (F := Ideal) (P m c) (X m c) (W m c) (ix2 0 y1)) ?_ (by blk_ext [row, idx t])
  rw [ref_dg]
  refine (Pipeline.eq_sum_fin_of_reset_step_apply_of_flush (fun n h => (outsAt0 m c n h).2) 16 (fun _ => (0 : EReal)) (rise m c)
    (acc_first m c) (acc_next m c) t hl (ix2 0 y1)).trans ((zero_add _).trans ?_)
  refine sum_tokens (fun i => rDh (P m c) (W m c) i y1 * (X m c (ix2 i y1) * rs (fun k => X m c (ix2 i k)))) _ (fun s => ?_)
  have h := t.isLt
  have e : cfg0.N = 16 := N_0
  show 16 * (t.val / 16) + s.val = s.val
  omega

/-- The kernel and the reference, started on equal arguments, end with equal results. -/
theorem equal : haveI := Cert.KernelMixBwdIdeal.Gen.facts; haveI := Cert.ReferenceMixBwdIdeal.Gen.facts
    Cert.algebraic_KernelMixBwdIdeal_ReferenceMixBwdIdeal := by
  intro m g m' g' hpre heq
  refine ⟨fun c => (Cert.ReferenceMixBwdIdeal.Read.val_main_v39 (F := Ideal) (D1 m c) (P m c) (X m c) (G m c) (W m c) : S8192x1024.Idx → EReal),
    fun c => (Cert.ReferenceMixBwdIdeal.Read.val_main_v40 (F := Ideal) (P m c) (X m c) (W m c) : S1x1024.Idx → EReal), ?_, ?_⟩
  · refine (θ_run (defs (F := Ideal)) _ _).mono ?_ (Value.run_blocks (F := Ideal) m g)
    intro r h c
    obtain ⟨k, k', u⟩ := h c
    exact ⟨k.trans (arr5 m c), k'.trans (arr6 m c), u⟩
  · refine (θ_run (Cert.ReferenceMixBwdIdeal.defs (F := Ideal)) _ _).mono ?_ (Cert.ReferenceMixBwdIdeal.Value.run (F := Ideal) m' g')
    intro r h c
    obtain ⟨e0, e1, e2, e3, e4⟩ := heq c
    obtain ⟨k, k', u⟩ := h c
    refine ⟨(k.trans (Cert.ReferenceMixBwdIdeal.Read.val_main_v39_eq (F := Ideal) _ _)).trans (by rw [e0, e1, e2, e3, e4]), ?_, u⟩
    rw [show (_ : FVec Ideal S8192x6144 .bf16) = P m c from e1, show (_ : FVec Ideal S8192x1024 .f32) = X m c from e2,
      show (_ : FVec Ideal S1024x6144 .f32) = W m c from e4] at k'
    exact k'.trans (Cert.ReferenceMixBwdIdeal.Read.val_main_v40_eq (F := Ideal) _ _ _)

end Cert.KernelMixBwdIdeal.Hand

end
-- ==== Proof.FfnBwd.lean ====
/-
  The gated unit's backward pass. The kernel takes 256 tokens a point and goes over the hidden columns in five blocks of 512 and one of
  256: each block's cotangent is multiplied by the activation's derivative, stored, and multiplied by the two transposed weights; then the
  norm's backward pass is applied in closed form, and the gain's gradient is added up point after point. The reference takes the
  derivatives of the forward lines.
-/
module

public import proofs.«01_k».proof.Proof.Gen.KernelFfnBwdIdeal.Value
public import proofs.«01_k».proof.Proof.Gen.ReferenceFfnBwdIdeal.Read
public import proofs.«01_k».proof.Proof.Gen.ReferenceFfnBwdIdeal.Run
public import proofs.«01_k».proof.Defs
public import proofs.«01_k».proof.Proof.Rms
public import proofs.«01_k».proof.Proof.Finite
public import proofs.«01_k».proof.Proof.Gen.Pre_finite_ffn
public import Idealize.ShloMosaic.Lib.Pipeline.ValueKit
public import Idealize.ShloMosaic.Lib.Claim
public import Idealize.ShloMosaic.Lib.Pointwise

@[expose] public section

set_option maxRecDepth 16384

noncomputable section

namespace Cert.KernelFfnBwdIdeal.Hand

open Cert.KernelFfnBwdIdeal Cert.KernelFfnBwdIdeal.Gen Cert.KernelFfnBwdIdeal.Value
open Idealize.ShloMosaic Idealize.ShloMosaic.TcCoe Idealize.ShloMosaic.Tactic Idealize.SL.Sem
open Idealize.ShloMosaic.Pipeline (Dat)

open Cert.KernelIdeal.Hand (rs ms rmsBack rmsQ rms_back IsR act_deriv ms_cases isR_of_all)

variable (m : (ℓ : Loc nD τ sig) → Buf (Elt Ideal) ℓ) (c : Dev nD)

/-- The residual's cotangent. -/
abbrev D2 (c : Dev nD) : FVec Ideal S8192x1024 .f32 := m ((c : Thread nD τ).loc main_arg0)
/-- The tokens. -/
abbrev X (c : Dev nD) : FVec Ideal S8192x1024 .f32 := m ((c : Thread nD τ).loc main_arg1)
/-- The gain. -/
abbrev G (c : Dev nD) : FVec Ideal S1024 .f32 := m ((c : Thread nD τ).loc main_arg2)
/-- The gate's weight. -/
abbrev Wg (c : Dev nD) : FVec Ideal S1024x2816 .f32 := m ((c : Thread nD τ).loc main_arg3)
/-- The other factor's weight. -/
abbrev Wu (c : Dev nD) : FVec Ideal S1024x2816 .f32 := m ((c : Thread nD τ).loc main_arg4)
/-- The output's weight. -/
abbrev Wd (c : Dev nD) : FVec Ideal S2816x1024 .f32 := m ((c : Thread nD τ).loc main_arg5)

/-! ## The body -/

/-- A block of 512 hidden columns. -/
abbrev cA (a : Vec Ideal S256x2816 .bf16) (o : ℕ) (h : ∀ k, (![0, o] : Fin 2 → ℕ) k + S256x512.size k ≤ S256x2816.size k) : Vec Ideal S256x512 .bf16 :=
  View.ld a (Rect.unit (s := S256x2816) ![0, o] S256x512.size h)
/-- A block of 512 rows of a weight. -/
abbrev cW (w : Vec Ideal S2816x1024 .bf16) (o : ℕ) (h : ∀ k, (![o, 0] : Fin 2 → ℕ) k + S512x1024.size k ≤ S2816x1024.size k) : Vec Ideal S512x1024 .bf16 :=
  View.ld w (Rect.unit (s := S2816x1024) ![o, 0] S512x1024.size h)
/-- The last 256 hidden columns. -/
abbrev lA (a : Vec Ideal S256x2816 .bf16) : Vec Ideal S256x256 .bf16 :=
  View.ld a (Rect.unit (s := S256x2816) ![0, 2560] S256x256.size inb_S256x2816_S256x256_0_2560)
/-- The last 256 rows of a weight. -/
abbrev lW (w : Vec Ideal S2816x1024 .bf16) : Vec Ideal S256x1024 .bf16 :=
  View.ld w (Rect.unit (s := S2816x1024) ![2560, 0] S256x1024.size inb_S2816x1024_S256x1024_2560_0)

/-- The last block's cotangent of the second factor. -/
def lastUp (d : FVec Ideal S256x1024 .f32) (gt : FVec Ideal S256x2816 .bf16) (wd : FVec Ideal S2816x1024 .bf16) : FVec Ideal S256x256 .bf16 :=
  k0_pay45 (k0_pay35 (k0_pay3 d) (lW wd)) (lA gt)
/-- The last block's cotangent of the gate. -/
def lastGt (d : FVec Ideal S256x1024 .f32) (gt up : FVec Ideal S256x2816 .bf16) (wd : FVec Ideal S2816x1024 .bf16) : FVec Ideal S256x256 .bf16 :=
  k0_pay48 (k0_pay44 (lA gt)) (k0_pay46 (k0_pay35 (k0_pay3 d) (lW wd)) (lA up)) (k0_pay47 (lA gt))

section Body
variable (d : FVec Ideal S256x1024 .f32) (gt up : FVec Ideal S256x2816 .bf16) (wg wu wd : FVec Ideal S2816x1024 .bf16)
  (x : FVec Ideal S256x1024 .f32) (g : FVec Ideal S1x1024 .f32)

/-- What the body stores for the gate's cotangent. -/
def stGt : Vec Ideal S256x2816 .bf16 :=
  View.canon [⟨Rect.unit (s := S256x2816) ![0, 2560] S256x256.size inb_S256x2816_S256x256_0_2560, lastGt d gt up wd⟩,
    ⟨Rect.unit (s := S256x2816) ![0, 2048] S256x512.size inb_S256x2816_S256x512_0_2048, k0_pay10 d (cW wd 2048 inb_S2816x1024_S512x1024_2048_0) (cA gt 2048 inb_S256x2816_S256x512_0_2048) (cA up 2048 inb_S256x2816_S256x512_0_2048)⟩,
    ⟨Rect.unit (s := S256x2816) ![0, 1536] S256x512.size inb_S256x2816_S256x512_0_1536, k0_pay10 d (cW wd 1536 inb_S2816x1024_S512x1024_1536_0) (cA gt 1536 inb_S256x2816_S256x512_0_1536) (cA up 1536 inb_S256x2816_S256x512_0_1536)⟩,
    ⟨Rect.unit (s := S256x2816) ![0, 1024] S256x512.size inb_S256x2816_S256x512_0_1024, k0_pay10 d (cW wd 1024 inb_S2816x1024_S512x1024_1024_0) (cA gt 1024 inb_S256x2816_S256x512_0_1024) (cA up 1024 inb_S256x2816_S256x512_0_1024)⟩,
    ⟨Rect.unit (s := S256x2816) ![0, 512] S256x512.size inb_S256x2816_S256x512_0_512, k0_pay10 d (cW wd 512 inb_S2816x1024_S512x1024_512_0) (cA gt 512 inb_S256x2816_S256x512_0_512) (cA up 512 inb_S256x2816_S256x512_0_512)⟩,
    ⟨Rect.unit (s := S256x2816) ![0, 0] S256x512.size inb_S256x2816_S256x512_0_0, k0_pay10 d (cW wd 0 inb_S2816x1024_S512x1024_0_0) (cA gt 0 inb_S256x2816_S256x512_0_0) (cA up 0 inb_S256x2816_S256x512_0_0)⟩]

/-- What the body stores for the second factor's cotangent. -/
def stUp : Vec Ideal S256x2816 .bf16 :=
  View.canon [⟨Rect.unit (s := S256x2816) ![0, 2560] S256x256.size inb_S256x2816_S256x256_0_2560, lastUp d gt wd⟩,
    ⟨Rect.unit (s := S256x2816) ![0, 2048] S256x512.size inb_S256x2816_S256x512_0_2048, k0_pay9 d (cW wd 2048 inb_S2816x1024_S512x1024_2048_0) (cA gt 2048 inb_S256x2816_S256x512_0_2048)⟩,
    ⟨Rect.unit (s := S256x2816) ![0, 1536] S256x512.size inb_S256x2816_S256x512_0_1536, k0_pay9 d (cW wd 1536 inb_S2816x1024_S512x1024_1536_0) (cA gt 1536 inb_S256x2816_S256x512_0_1536)⟩,
    ⟨Rect.unit (s := S256x2816) ![0, 1024] S256x512.size inb_S256x2816_S256x512_0_1024, k0_pay9 d (cW wd 1024 inb_S2816x1024_S512x1024_1024_0) (cA gt 1024 inb_S256x2816_S256x512_0_1024)⟩,
    ⟨Rect.unit (s := S256x2816) ![0, 512] S256x512.size inb_S256x2816_S256x512_0_512, k0_pay9 d (cW wd 512 inb_S2816x1024_S512x1024_512_0) (cA gt 512 inb_S256x2816_S256x512_0_512)⟩,
    ⟨Rect.unit (s := S256x2816) ![0, 0] S256x512.size inb_S256x2816_S256x512_0_0, k0_pay9 d (cW wd 0 inb_S2816x1024_S512x1024_0_0) (cA gt 0 inb_S256x2816_S256x512_0_0)⟩]

/-- The first five blocks' products with the two weights, added up. -/
def five : FVec Ideal S256x1024 .f32 :=
  k0_pay11 (k0_pay11 (k0_pay11 (k0_pay11 (k0_pay11 (k0_pay4 (F := Ideal))
    (k0_pay9 d (cW wd 0 inb_S2816x1024_S512x1024_0_0) (cA gt 0 inb_S256x2816_S256x512_0_0))
    (k0_pay10 d (cW wd 0 inb_S2816x1024_S512x1024_0_0) (cA gt 0 inb_S256x2816_S256x512_0_0) (cA up 0 inb_S256x2816_S256x512_0_0))
    (cW wg 0 inb_S2816x1024_S512x1024_0_0) (cW wu 0 inb_S2816x1024_S512x1024_0_0))
    (k0_pay9 d (cW wd 512 inb_S2816x1024_S512x1024_512_0) (cA gt 512 inb_S256x2816_S256x512_0_512))
    (k0_pay10 d (cW wd 512 inb_S2816x1024_S512x1024_512_0) (cA gt 512 inb_S256x2816_S256x512_0_512) (cA up 512 inb_S256x2816_S256x512_0_512))
    (cW wg 512 inb_S2816x1024_S512x1024_512_0) (cW wu 512 inb_S2816x1024_S512x1024_512_0))
    (k0_pay9 d (cW wd 1024 inb_S2816x1024_S512x1024_1024_0) (cA gt 1024 inb_S256x2816_S256x512_0_1024))
    (k0_pay10 d (cW wd 1024 inb_S2816x1024_S512x1024_1024_0) (cA gt 1024 inb_S256x2816_S256x512_0_1024) (cA up 1024 inb_S256x2816_S256x512_0_1024))
    (cW wg 1024 inb_S2816x1024_S512x1024_1024_0) (cW wu 1024 inb_S2816x1024_S512x1024_1024_0))
    (k0_pay9 d (cW wd 1536 inb_S2816x1024_S512x1024_1536_0) (cA gt 1536 inb_S256x2816_S256x512_0_1536))
    (k0_pay10 d (cW wd 1536 inb_S2816x1024_S512x1024_1536_0) (cA gt 1536 inb_S256x2816_S256x512_0_1536) (cA up 1536 inb_S256x2816_S256x512_0_1536))
    (cW wg 1536 inb_S2816x1024_S512x1024_1536_0) (cW wu 1536 inb_S2816x1024_S512x1024_1536_0))
    (k0_pay9 d (cW wd 2048 inb_S2816x1024_S512x1024_2048_0) (cA gt 2048 inb_S256x2816_S256x512_0_2048))
    (k0_pay10 d (cW wd 2048 inb_S2816x1024_S512x1024_2048_0) (cA gt 2048 inb_S256x2816_S256x512_0_2048) (cA up 2048 inb_S256x2816_S256x512_0_2048))
    (cW wg 2048 inb_S2816x1024_S512x1024_2048_0) (cW wu 2048 inb_S2816x1024_S512x1024_2048_0)

/-- The normalised rows' cotangent. -/
def dh : FVec Ideal S256x1024 .f32 :=
  k0_pay49 (five d gt up wg wu wd) (k0_pay44 (lA gt)) (k0_pay45 (k0_pay35 (k0_pay3 d) (lW wd)) (lA gt))
    (k0_pay46 (k0_pay35 (k0_pay3 d) (lW wd)) (lA up)) (k0_pay47 (lA gt)) (lW wg) (lW wu)

/-- What the body stores for the tokens' gradient. -/
def stDx : FVec Ideal S256x1024 .f32 :=
  k0_pay1 d (k0_pay50 x) (k0_pay51 x)
    (k0_pay53 (five d gt up wg wu wd) (k0_pay44 (lA gt)) (k0_pay45 (k0_pay35 (k0_pay3 d) (lW wd)) (lA gt))
      (k0_pay46 (k0_pay35 (k0_pay3 d) (lW wd)) (lA up)) (k0_pay47 (lA gt)) (lW wg) (lW wu) g)

/-- What the body stores for the gain's gradient. -/
def stDg (s : FVec Ideal S1x1024 .f32) : FVec Ideal S1x1024 .f32 :=
  k0_pay52 (five d gt up wg wu wd) (k0_pay44 (lA gt)) (k0_pay45 (k0_pay35 (k0_pay3 d) (lW wd)) (lA gt))
    (k0_pay46 (k0_pay35 (k0_pay3 d) (lW wd)) (lA up)) (k0_pay47 (lA gt)) (lW wg) (lW wu) x s

section Names
variable (s : FVec Ideal S256x1024 .f32) (w a b : FVec Ideal S512x1024 .bf16) (u v : FVec Ideal S256x512 .bf16)

/-- The second block's cotangents and sums are named apart; they are the first's formulas. -/
theorem n15 : k0_pay15 (F := Ideal) (k0_pay6 d w) u = k0_pay9 d w u := rfl
theorem n17 : k0_pay17 (F := Ideal) (k0_pay16 (k0_pay6 d w) u v) = k0_pay10 d w u v := rfl
theorem n18 : k0_pay18 (F := Ideal) s (k0_pay15 (k0_pay6 d w) u) (k0_pay16 (k0_pay6 d w) u v) a b = k0_pay11 s (k0_pay9 d w u) (k0_pay10 d w u v) a b := rfl
/-- So are the third's. -/
theorem n22 : k0_pay22 (F := Ideal) (k0_pay12 (k0_pay3 d) w) u = k0_pay9 d w u := rfl
theorem n25 : k0_pay25 (F := Ideal) (k0_pay21 u) (k0_pay23 (k0_pay12 (k0_pay3 d) w) v) (k0_pay24 u) = k0_pay10 d w u v := rfl
theorem n26 : k0_pay26 (F := Ideal) s (k0_pay21 u) (k0_pay22 (k0_pay12 (k0_pay3 d) w) u) (k0_pay23 (k0_pay12 (k0_pay3 d) w) v) (k0_pay24 u) a b
    = k0_pay11 s (k0_pay9 d w u) (k0_pay10 d w u v) a b := rfl
/-- So are the fourth's. -/
theorem n30 : k0_pay30 (F := Ideal) (k0_pay19 (k0_pay3 d) w) u = k0_pay9 d w u := rfl
theorem n33 : k0_pay33 (F := Ideal) (k0_pay29 u) (k0_pay31 (k0_pay19 (k0_pay3 d) w) v) (k0_pay32 u) (FloatOps.ofBits FTy.f32 1065353216#32) = k0_pay10 d w u v := rfl
theorem n34 : k0_pay34 (F := Ideal) s (k0_pay29 u) (k0_pay30 (k0_pay19 (k0_pay3 d) w) u) (k0_pay31 (k0_pay19 (k0_pay3 d) w) v) (k0_pay32 u)
    (FloatOps.ofBits FTy.f32 1065353216#32) a b = k0_pay11 s (k0_pay9 d w u) (k0_pay10 d w u v) a b := rfl
/-- So are the fifth's. -/
theorem n38 : k0_pay38 (F := Ideal) (k0_pay27 (k0_pay3 d) w) u = k0_pay9 d w u := rfl
theorem n41 : k0_pay41 (F := Ideal) (k0_pay36 u) (k0_pay37 u) (k0_pay39 (k0_pay27 (k0_pay3 d) w) v) (k0_pay40 u) = k0_pay10 d w u v := rfl
theorem n42 : k0_pay42 (F := Ideal) s (k0_pay36 u) (k0_pay37 u) (k0_pay38 (k0_pay27 (k0_pay3 d) w) u) (k0_pay39 (k0_pay27 (k0_pay3 d) w) v) (k0_pay40 u) a b
    = k0_pay11 s (k0_pay9 d w u) (k0_pay10 d w u v) a b := rfl
end Names

/-- After every point the first output's block is what the body stores. -/
theorem out_dx (t : Fin cfg0.N) : (outsAt0 m c t.val t.isLt).1
    = stDx (iblk m c 0 t) (iblk m c 2 t) (iblk m c 3 t) (iblk m c 5 t) (iblk m c 6 t) (iblk m c 7 t) (iblk m c 1 t) (iblk m c 4 t) := by
  by_cases h : t.val % 32 = 0
  · rw [outsAt0_A m c t h]
    frame_out
    rw [n42, n34, n26, n18]
    rfl
  · rw [outsAt0_B m c t h]
    frame_out
    rw [n42, n34, n26, n18]
    rfl

/-- So is the second's. -/
theorem out_gt (t : Fin cfg0.N) : (outsAt0 m c t.val t.isLt).2.1 = stGt (iblk m c 0 t) (iblk m c 2 t) (iblk m c 3 t) (iblk m c 7 t) := by
  by_cases h : t.val % 32 = 0
  · rw [outsAt0_A m c t h]
    frame_out
    rw [n41, n33, n25, n17]
    rfl
  · rw [outsAt0_B m c t h]
    frame_out
    rw [n41, n33, n25, n17]
    rfl

/-- And the third's. -/
theorem out_up (t : Fin cfg0.N) : (outsAt0 m c t.val t.isLt).2.2.1 = stUp (iblk m c 0 t) (iblk m c 2 t) (iblk m c 7 t) := by
  by_cases h : t.val % 32 = 0
  · rw [outsAt0_A m c t h]
    frame_out
    rw [n38, n30, n22, n15]
    rfl
  · rw [outsAt0_B m c t h]
    frame_out
    rw [n38, n30, n22, n15]
    rfl

/-- At the first point the gain's sum begins at zero. -/
theorem out_dg_first (t : Fin cfg0.N) (h : t.val % 32 = 0) : (outsAt0 m c t.val t.isLt).2.2.2
    = stDg (iblk m c 0 t) (iblk m c 2 t) (iblk m c 3 t) (iblk m c 5 t) (iblk m c 6 t) (iblk m c 7 t) (iblk m c 1 t) (k0_pay2 (F := Ideal)) := by
  rw [outsAt0_A m c t h]
  frame_out
  rw [n42, n34, n26, n18]
  rfl

/-- At every later point it goes on from the previous point's. -/
theorem out_dg_next (t : Fin cfg0.N) (h : ¬t.val % 32 = 0) : (outsAt0 m c t.val t.isLt).2.2.2
    = stDg (iblk m c 0 t) (iblk m c 2 t) (iblk m c 3 t) (iblk m c 5 t) (iblk m c 6 t) (iblk m c 7 t) (iblk m c 1 t)
        (outsAt0 m c (t.val - 1) (Nat.lt_of_le_of_lt (Nat.sub_le _ _) t.isLt)).2.2.2 := by
  rw [outsAt0_B m c t h]
  frame_out
  rw [n42, n34, n26, n18]
  rfl

/-! ## The body's values -/

/-- The logistic function. -/
def sg (z : EReal) : EReal := Ideal.div 1 (1 + Ideal.exp (-z))

/-- The hidden cotangent at a token's column: the residual's row against the column's weights. -/
def act (d : Fin 1024 → EReal) (w : Fin 1024 → EReal) : EReal := ∑ k : Fin 1024, d k * w k
/-- The second factor's cotangent, from the hidden one and the gate. -/
def upE (a z : EReal) : EReal := a * (z * sg z)
/-- The gate's cotangent, from the hidden one, the gate and the second factor. -/
def gtE (a z u : EReal) : EReal := a * u * (sg z * (1 + z * (1 - sg z)))

/-- A block's cotangent of the second factor, entry by entry. -/
theorem pay9_apply (w : FVec Ideal S512x1024 .bf16) (u : FVec Ideal S256x512 .bf16) (i : Fin 256) (z : Fin 512) :
    k0_pay9 (F := Ideal) d w u (ix2 i z) = upE (act (fun k => d (ix2 i k)) (fun k => w (ix2 z k))) (u (ix2 i z)) := by
  pointwise [k0_pay9, k0_pay3, k0_pay5, k0_pay6, k0_pay7, k0_pay8, upE, act, sg]
  rw [zero_sub]
/-- A block's cotangent of the gate, entry by entry. -/
theorem pay10_apply (w : FVec Ideal S512x1024 .bf16) (u v : FVec Ideal S256x512 .bf16) (i : Fin 256) (z : Fin 512) :
    k0_pay10 (F := Ideal) d w u v (ix2 i z) = gtE (act (fun k => d (ix2 i k)) (fun k => w (ix2 z k))) (u (ix2 i z)) (v (ix2 i z)) := by
  pointwise [k0_pay10, k0_pay3, k0_pay5, k0_pay6, k0_pay7, k0_pay8, gtE, act, sg]
  rw [zero_sub]
/-- The last block's cotangent of the second factor, entry by entry. -/
theorem pay45_apply (w : FVec Ideal S256x1024 .bf16) (u : FVec Ideal S256x256 .bf16) (i z : Fin 256) :
    k0_pay45 (F := Ideal) (k0_pay35 (k0_pay3 d) w) u (ix2 i z) = upE (act (fun k => d (ix2 i k)) (fun k => w (ix2 z k))) (u (ix2 i z)) := by
  pointwise [k0_pay45, k0_pay35, k0_pay43, k0_pay44, k0_pay3, upE, act, sg]
  rw [zero_sub]
/-- The last block's cotangent of the gate, entry by entry. -/
theorem pay48_apply (w : FVec Ideal S256x1024 .bf16) (u v : FVec Ideal S256x256 .bf16) (i z : Fin 256) :
    k0_pay48 (F := Ideal) (k0_pay44 u) (k0_pay46 (k0_pay35 (k0_pay3 d) w) v) (k0_pay47 u) (ix2 i z)
      = gtE (act (fun k => d (ix2 i k)) (fun k => w (ix2 z k))) (u (ix2 i z)) (v (ix2 i z)) := by
  pointwise [k0_pay48, k0_pay47, k0_pay46, k0_pay35, k0_pay43, k0_pay44, k0_pay3, gtE, act, sg]
  rw [zero_sub]

/-- The second factor's cotangent at a token and a hidden column. -/
def vUp (i : Fin 256) (l : Fin 2816) : EReal := upE (act (fun k => d (ix2 i k)) (fun k => wd (ix2 l k))) (gt (ix2 i l))
/-- The gate's. -/
def vGt (i : Fin 256) (l : Fin 2816) : EReal := gtE (act (fun k => d (ix2 i k)) (fun k => wd (ix2 l k))) (gt (ix2 i l)) (up (ix2 i l))

/-- A block of hidden columns, read. -/
theorem cA_apply (a : FVec Ideal S256x2816 .bf16) (o : ℕ) (h) (i : Fin 256) (z : Fin 512) (l : Fin 2816) (hl : l.val = o + z.val) :
    cA a o h (ix2 i z) = a (ix2 i l) := by
  refine View.ld_unit_apply_of _ _ _ _ _ _ (fun k => ?_)
  match k with
  | ⟨0, _⟩ => show i.val = 0 + i.val; omega
  | ⟨1, _⟩ => show l.val = o + z.val; omega
/-- A block of a weight's rows, read. -/
theorem cW_apply (w : FVec Ideal S2816x1024 .bf16) (o : ℕ) (h) (z : Fin 512) (k : Fin 1024) (l : Fin 2816) (hl : l.val = o + z.val) :
    cW w o h (ix2 z k) = w (ix2 l k) := by
  refine View.ld_unit_apply_of _ _ _ _ _ _ (fun a => ?_)
  match a with
  | ⟨0, _⟩ => show l.val = o + z.val; omega
  | ⟨1, _⟩ => show k.val = 0 + k.val; omega
/-- The last hidden columns, read. -/
theorem lA_apply (a : FVec Ideal S256x2816 .bf16) (i z : Fin 256) (l : Fin 2816) (hl : l.val = 2560 + z.val) : lA a (ix2 i z) = a (ix2 i l) := by
  refine View.ld_unit_apply_of _ _ _ _ _ _ (fun k => ?_)
  match k with
  | ⟨0, _⟩ => show i.val = 0 + i.val; omega
  | ⟨1, _⟩ => show l.val = 2560 + z.val; omega
/-- A weight's last rows, read. -/
theorem lW_apply (w : FVec Ideal S2816x1024 .bf16) (z : Fin 256) (k : Fin 1024) (l : Fin 2816) (hl : l.val = 2560 + z.val) : lW w (ix2 z k) = w (ix2 l k) := by
  refine View.ld_unit_apply_of _ _ _ _ _ _ (fun a => ?_)
  match a with
  | ⟨0, _⟩ => show l.val = 2560 + z.val; omega
  | ⟨1, _⟩ => show k.val = 0 + k.val; omega

/-- A block's columns of the second factor's cotangent. -/
theorem up_at (o : ℕ) (h) (h') (i : Fin 256) (z : Fin 512) (l : Fin 2816) (hl : l.val = o + z.val) :
    k0_pay9 (F := Ideal) d (cW wd o h) (cA gt o h') (ix2 i z) = vUp d gt wd i l := by
  rw [pay9_apply, cA_apply gt o h' i z l hl, funext (fun k => cW_apply wd o h z k l hl)]
  rfl
/-- A block's columns of the gate's cotangent. -/
theorem gt_at (o : ℕ) (h) (h') (i : Fin 256) (z : Fin 512) (l : Fin 2816) (hl : l.val = o + z.val) :
    k0_pay10 (F := Ideal) d (cW wd o h) (cA gt o h') (cA up o h') (ix2 i z) = vGt d gt up wd i l := by
  rw [pay10_apply, cA_apply gt o h' i z l hl, cA_apply up o h' i z l hl, funext (fun k => cW_apply wd o h z k l hl)]
  rfl
/-- The last columns of the second factor's cotangent. -/
theorem up_last (i z : Fin 256) (l : Fin 2816) (hl : l.val = 2560 + z.val) : lastUp d gt wd (ix2 i z) = vUp d gt wd i l := by
  unfold lastUp
  rw [pay45_apply, lA_apply gt i z l hl, funext (fun k => lW_apply wd z k l hl)]
  rfl
/-- The last columns of the gate's cotangent. -/
theorem gt_last (i z : Fin 256) (l : Fin 2816) (hl : l.val = 2560 + z.val) : lastGt d gt up wd (ix2 i z) = vGt d gt up wd i l := by
  unfold lastGt
  rw [pay48_apply, lA_apply gt i z l hl, lA_apply up i z l hl, funext (fun k => lW_apply wd z k l hl)]
  rfl

/-- The stored cotangent of the gate, entry by entry. -/
theorem stGt_apply (i : Fin 256) (l : Fin 2816) : stGt d gt up wd (ix2 i l) = vGt d gt up wd i l := by
  unfold stGt
  canon_tiles z hz using View.cover_of_tiledBy _ ![256, 256] (by sl_kernel_rfl) _
  · idx_vars z; rw [show i = z0 from Fin.ext hz0]; exact gt_last d gt up wd z0 z1 l hz1
  · idx_vars z; rw [show i = z0 from Fin.ext hz0]; exact gt_at d gt up wd 2048 _ _ z0 z1 l hz1
  · idx_vars z; rw [show i = z0 from Fin.ext hz0]; exact gt_at d gt up wd 1536 _ _ z0 z1 l hz1
  · idx_vars z; rw [show i = z0 from Fin.ext hz0]; exact gt_at d gt up wd 1024 _ _ z0 z1 l hz1
  · idx_vars z; rw [show i = z0 from Fin.ext hz0]; exact gt_at d gt up wd 512 _ _ z0 z1 l hz1
  · idx_vars z; rw [show i = z0 from Fin.ext hz0]; exact gt_at d gt up wd 0 _ _ z0 z1 l (by omega)

/-- The stored cotangent of the second factor, entry by entry. -/
theorem stUp_apply (i : Fin 256) (l : Fin 2816) : stUp d gt wd (ix2 i l) = vUp d gt wd i l := by
  unfold stUp
  canon_tiles z hz using View.cover_of_tiledBy _ ![256, 256] (by sl_kernel_rfl) _
  · idx_vars z; rw [show i = z0 from Fin.ext hz0]; exact up_last d gt wd z0 z1 l hz1
  · idx_vars z; rw [show i = z0 from Fin.ext hz0]; exact up_at d gt wd 2048 _ _ z0 z1 l hz1
  · idx_vars z; rw [show i = z0 from Fin.ext hz0]; exact up_at d gt wd 1536 _ _ z0 z1 l hz1
  · idx_vars z; rw [show i = z0 from Fin.ext hz0]; exact up_at d gt wd 1024 _ _ z0 z1 l hz1
  · idx_vars z; rw [show i = z0 from Fin.ext hz0]; exact up_at d gt wd 512 _ _ z0 z1 l hz1
  · idx_vars z; rw [show i = z0 from Fin.ext hz0]; exact up_at d gt wd 0 _ _ z0 z1 l (by omega)

/-- A block adds its two products. -/
theorem pay11_apply (s : FVec Ideal S256x1024 .f32) (u v : FVec Ideal S256x512 .bf16) (a b : FVec Ideal S512x1024 .bf16) (i : Fin 256) (j : Fin 1024) :
    k0_pay11 (F := Ideal) s u v a b (ix2 i j) = s (ix2 i j) + (∑ k : Fin 512, v (ix2 i k) * a (ix2 k j)) + ∑ k : Fin 512, u (ix2 i k) * b (ix2 k j) := by
  pointwise [k0_pay11]
/-- So does the last block. -/
theorem pay49_apply (s : FVec Ideal S256x1024 .f32) (p q : FVec Ideal S256x256 .f32) (r : FVec Ideal S256x256 .f32) (u : FVec Ideal S256x256 .bf16) (a b : FVec Ideal S256x1024 .bf16) (i : Fin 256) (j : Fin 1024) :
    k0_pay49 (F := Ideal) s p u q r a b (ix2 i j)
      = s (ix2 i j) + (∑ k : Fin 256, k0_pay48 (F := Ideal) p q r (ix2 i k) * a (ix2 k j)) + ∑ k : Fin 256, u (ix2 i k) * b (ix2 k j) := by
  pointwise [k0_pay49, k0_pay48]

/-- One hidden column's term of the gate's product. -/
def tG (i : Fin 256) (j : Fin 1024) (l : Fin 2816) : EReal := vGt d gt up wd i l * wg (ix2 l j)
/-- One hidden column's term of the second factor's product. -/
def tU (i : Fin 256) (j : Fin 1024) (l : Fin 2816) : EReal := vUp d gt wd i l * wu (ix2 l j)

/-- A block's product with the gate's weight. -/
theorem sumG (o : ℕ) (h) (h') (i : Fin 256) (j : Fin 1024) (ho : o ≤ 2304) :
    ∑ k : Fin 512, k0_pay10 (F := Ideal) d (cW wd o h) (cA gt o h') (cA up o h') (ix2 i k) * cW wg o h (ix2 k j)
      = ∑ k : Fin 512, tG d gt up wg wd i j ⟨o + k.val, by omega⟩ :=
  Finset.sum_congr rfl fun k _ => Ideal.mul_congr (gt_at d gt up wd o h h' i k _ rfl) (cW_apply wg o h k j _ rfl)
/-- A block's product with the second factor's weight. -/
theorem sumU (o : ℕ) (h) (h') (i : Fin 256) (j : Fin 1024) (ho : o ≤ 2304) :
    ∑ k : Fin 512, k0_pay9 (F := Ideal) d (cW wd o h) (cA gt o h') (ix2 i k) * cW wu o h (ix2 k j)
      = ∑ k : Fin 512, tU d gt wu wd i j ⟨o + k.val, by omega⟩ :=
  Finset.sum_congr rfl fun k _ => Ideal.mul_congr (up_at d gt wd o h h' i k _ rfl) (cW_apply wu o h k j _ rfl)

/-- A sum of five terms, in the order of the additions. -/
theorem sum5 (f : Fin 5 → EReal) : ∑ k, f k = f 0 + f 1 + f 2 + f 3 + f 4 := by
  simp only [Fin.sum_univ_castSucc, Finset.univ_eq_empty, Finset.sum_empty, zero_add]
  rfl

/-- The sum over the hidden columns, block after block. -/
theorem sum_hidden (T : Fin 2816 → EReal) : ∑ l, T l = (∑ k : Fin 512, T ⟨0 + k.val, by omega⟩) + (∑ k : Fin 512, T ⟨512 + k.val, by omega⟩)
    + (∑ k : Fin 512, T ⟨1024 + k.val, by omega⟩) + (∑ k : Fin 512, T ⟨1536 + k.val, by omega⟩) + (∑ k : Fin 512, T ⟨2048 + k.val, by omega⟩)
    + ∑ k : Fin 256, T ⟨2560 + k.val, by omega⟩ := by
  refine (Fin.sum_univ_add (a := 2560) (b := 256) T).trans ?_
  refine congrArg₂ (α := EReal) (· + ·) ?_ (Finset.sum_congr rfl fun k _ => congrArg T (Fin.ext rfl))
  rw [Fin.sum_univ_tiles 5 512 rfl (fun x : Fin 2560 => T (Fin.castAdd 256 x))]
  refine (sum5 _).trans ?_
  rfl

/-- The normalised rows' cotangent, entry by entry: the two products with the transposed weights. -/
theorem dh_apply (i : Fin 256) (j : Fin 1024) :
    dh d gt up wg wu wd (ix2 i j) = (∑ l : Fin 2816, tU d gt wu wd i j l) + ∑ l : Fin 2816, tG d gt up wg wd i j l := by
  have eG : ∑ k : Fin 256, lastGt d gt up wd (ix2 i k) * lW wg (ix2 k j) = ∑ k : Fin 256, tG d gt up wg wd i j ⟨2560 + k.val, by omega⟩ :=
    Finset.sum_congr rfl fun k _ => Ideal.mul_congr (gt_last d gt up wd i k _ rfl) (lW_apply wg k j _ rfl)
  have eU : ∑ k : Fin 256, lastUp d gt wd (ix2 i k) * lW wu (ix2 k j) = ∑ k : Fin 256, tU d gt wu wd i j ⟨2560 + k.val, by omega⟩ :=
    Finset.sum_congr rfl fun k _ => Ideal.mul_congr (up_last d gt wd i k _ rfl) (lW_apply wu k j _ rfl)
  unfold lastGt at eG
  unfold lastUp at eU
  have z : k0_pay4 (F := Ideal) (ix2 i j) = 0 := by pointwise [k0_pay4]
  unfold dh five
  rw [pay49_apply, pay11_apply, pay11_apply, pay11_apply, pay11_apply, pay11_apply, eG, eU, z,
    sumG _ _ _ _ _ 0 _ _ _ _ (by omega), sumG _ _ _ _ _ 512 _ _ _ _ (by omega), sumG _ _ _ _ _ 1024 _ _ _ _ (by omega),
    sumG _ _ _ _ _ 1536 _ _ _ _ (by omega), sumG _ _ _ _ _ 2048 _ _ _ _ (by omega),
    sumU _ _ _ _ 0 _ _ _ _ (by omega), sumU _ _ _ _ 512 _ _ _ _ (by omega), sumU _ _ _ _ 1024 _ _ _ _ (by omega),
    sumU _ _ _ _ 1536 _ _ _ _ (by omega), sumU _ _ _ _ 2048 _ _ _ _ (by omega), sum_hidden (tU d gt wu wd i j), sum_hidden (tG d gt up wg wd i j), zero_add]
  abel

/-- The tokens' gradient, entry by entry: the residual's cotangent and the norm's backward pass in closed form. -/
theorem stDx_apply (i : Fin 256) (j : Fin 1024) :
    stDx d gt up wg wu wd x g (ix2 i j) = d (ix2 i j) + rmsBack (fun k => x (ix2 i k)) (fun k => dh d gt up wg wu wd (ix2 i k) * g (ix2 0 k)) j := by
  unfold stDx dh
  pointwise [k0_pay1, k0_pay50, k0_pay51, k0_pay53, rmsBack, rs, ms]

/-- The gain's gradient, entry by entry: the sum so far and the point's tokens. -/
theorem stDg_apply (s : FVec Ideal S1x1024 .f32) (j : Fin 1024) :
    stDg d gt up wg wu wd x s (ix2 0 j)
      = s (ix2 0 j) + ∑ i : Fin 256, dh d gt up wg wu wd (ix2 i j) * (x (ix2 i j) * rs (fun k => x (ix2 i k))) := by
  unfold stDg dh
  pointwise [k0_pay52, k0_pay50, k0_pay51, rs, ms]

end Body

/-! ## The reference -/

/-- The reciprocal root mean square of a real row is real. -/
theorem isR_rs (x : Fin 1024 → EReal) : IsR (rs x) := by
  rcases ms_cases x with ⟨-, h⟩ | ⟨v, r, -, -, -, -, h⟩
  · exact ⟨0, h.trans EReal.coe_zero.symm⟩
  · exact ⟨r, h⟩

section Reference
open Cert.ReferenceFfnBwdIdeal.Read

variable (y0 y1 : FVec Ideal S8192x1024 .f32) (y2 : FVec Ideal S1024 .f32) (y3 y4 : FVec Ideal S1024x2816 .f32) (y5 : FVec Ideal S2816x1024 .f32)

/-- The reference's hidden cotangent. -/
theorem ref_act (i : Fin 8192) (l : Fin 2816) : val_main_v21 (F := Ideal) y0 y5 (ix2 i l) = act (fun k => y0 (ix2 i k)) (fun k => y5 (ix2 l k)) := by
  pointwise [val_main_v21, act]

/-- The reference's cotangent of the second factor. -/
theorem ref_up (i : Fin 8192) (l : Fin 2816) : val_main_v22 (F := Ideal) y0 y1 y2 y3 y5 (ix2 i l)
    = upE (act (fun k => y0 (ix2 i k)) (fun k => y5 (ix2 l k))) (val_main_v16 (F := Ideal) y1 y2 y3 (ix2 i l)) := by
  rw [← ref_act]
  pointwise [val_main_v22, val_main_v18_0, val_main_v18_2, val_main_call0_v0, val_main_call0_v1, val_main_call0_v2, val_main_call0_v3,
    val_main_call0_v4, val_main_call0_cst, val_main_call0_cst_0, upE, sg]
  exact mul_comm _ _

/-- The reference's cotangent of the gate: equal to the kernel's where the hidden cotangent, the gate and the second factor are real. -/
theorem ref_gt (i : Fin 8192) (l : Fin 2816) (ha : IsR (act (fun k => y0 (ix2 i k)) (fun k => y5 (ix2 l k))))
    (hz : IsR (val_main_v16 (F := Ideal) y1 y2 y3 (ix2 i l))) (hu : IsR (val_main_v17 (F := Ideal) y1 y2 y4 (ix2 i l))) :
    val_main_v24 (F := Ideal) y0 y1 y2 y3 y4 y5 (ix2 i l)
      = gtE (act (fun k => y0 (ix2 i k)) (fun k => y5 (ix2 l k))) (val_main_v16 (F := Ideal) y1 y2 y3 (ix2 i l)) (val_main_v17 (F := Ideal) y1 y2 y4 (ix2 i l)) := by
  refine Eq.trans ?_ (act_deriv (ha.mul hu) (IsR.sig hz) hz).symm
  rw [← ref_act]
  pointwise [val_main_v24, val_main_v23, val_main_call1_v0, val_main_call1_v1, val_main_call1_v2, val_main_v18_1, val_main_v18_2, val_main_call0_v0,
    val_main_call0_v1, val_main_call0_v2, val_main_call0_v3, val_main_call0_v4, val_main_call0_v6, val_main_call0_v7, val_main_call0_cst,
    val_main_call0_cst_0, val_main_call0_cst_1]

/-- The reference's cotangent of the normalised rows. -/
theorem ref_dh (i : Fin 8192) (j : Fin 1024) : val_main_v27 (F := Ideal) y0 y1 y2 y3 y4 y5 (ix2 i j)
    = (∑ l : Fin 2816, val_main_v22 (F := Ideal) y0 y1 y2 y3 y5 (ix2 i l) * y4 (ix2 j l))
      + ∑ l : Fin 2816, val_main_v24 (F := Ideal) y0 y1 y2 y3 y4 y5 (ix2 i l) * y3 (ix2 j l) := by
  pointwise [val_main_v27, val_main_v26, val_main_v25]

/-- The reference's mean square. -/
theorem ref_ms (i : Fin 8192) : val_main_v6 (F := Ideal) y1 (ix2 i 0) = ms (fun k => y1 (ix2 i k)) := by
  pointwise [val_main_v6, val_main_v5, val_main_v4, val_main_v3, val_main_v2, val_main_v1, val_main_v0, val_main_cst, val_main_cst_0,
    val_main_cst_1, ms]

/-- The reference's reciprocal root mean square. -/
theorem ref_rs (i : Fin 8192) : val_main_v7 (F := Ideal) y1 (ix2 i 0) = rs (fun k => y1 (ix2 i k)) := by
  unfold rs
  rw [← ref_ms]
  pointwise [val_main_v7]

/-- The reference's derivative through the mean square. -/
theorem ref_q (i : Fin 8192) : val_main_v42 (F := Ideal) y0 y1 y2 y3 y4 y5 (ix1 i)
    = rmsQ (fun k => y1 (ix2 i k)) (fun k => val_main_v27 (F := Ideal) y0 y1 y2 y3 y4 y5 (ix2 i k) * y2 (ix1 k)) := by
  unfold rmsQ
  rw [← ref_ms, ← ref_rs]
  pointwise [val_main_v42, val_main_v41, val_main_v40, val_main_v39, val_main_v36, val_main_v35, val_main_v34, val_main_v32, val_main_v31,
    val_main_v13, val_main_v10, val_main_v9, val_main_v8, val_main_cst_2, val_main_cst_5, val_main_cst_6, val_main_cst_7]
  exact Fin.sum_univ_one _

/-- The reference's first result. -/
theorem ref_dx (i : Fin 8192) (j : Fin 1024) : val_main_v48 (F := Ideal) y0 y1 y2 y3 y4 y5 (ix2 i j)
    = y0 (ix2 i j) + rmsBack (fun k => y1 (ix2 i k)) (fun k => val_main_v27 (F := Ideal) y0 y1 y2 y3 y4 y5 (ix2 i k) * y2 (ix1 k)) j := by
  rw [← rms_back, ← ref_q, ← ref_rs]
  pointwise [val_main_v48, val_main_v47, val_main_v46, val_main_v45, val_main_v44, val_main_v43, val_main_v38, val_main_v37, val_main_v32,
    val_main_v31, val_main_v13]

/-- The reference's last result. -/
theorem ref_dg (j : Fin 1024) : val_main_v51 (F := Ideal) y0 y1 y2 y3 y4 y5 (ix2 0 j)
    = ∑ i : Fin 8192, val_main_v27 (F := Ideal) y0 y1 y2 y3 y4 y5 (ix2 i j) * (y1 (ix2 i j) * rs (fun k => y1 (ix2 i k))) := by
  simp only [← ref_rs]
  pointwise [val_main_v51, val_main_v33, val_main_v30, val_main_v29, val_main_v28, val_main_v12, val_main_v11, val_main_cst_3, val_main_cst_4]
  refine (Fin.sum_univ_one _).trans ?_
  refine Finset.sum_congr rfl fun i _ => ?_
  exact mul_comm _ _

/-- The normalised rows, scaled, are real when the tokens and the gain are. -/
theorem isR_h (h1 : ∀ i, IsR (y1 i)) (h2 : ∀ i, IsR (y2 i)) (i : Fin 8192) (k : Fin 1024) : IsR (val_main_v15 (F := Ideal) y1 y2 (ix2 i k)) := by
  have e : val_main_v15 (F := Ideal) y1 y2 (ix2 i k) = y1 (ix2 i k) * rs (fun k => y1 (ix2 i k)) * y2 (ix1 k) := by
    rw [← ref_rs]
    pointwise [val_main_v15, val_main_v14, val_main_v13, val_main_v12, val_main_v11]
  rw [e]
  exact ((h1 _).mul (isR_rs _)).mul (h2 _)

/-- So is the gate. -/
theorem isR_gt (h1 : ∀ i, IsR (y1 i)) (h2 : ∀ i, IsR (y2 i)) (h3 : ∀ i, IsR (y3 i)) (i : Fin 8192) (l : Fin 2816) :
    IsR (val_main_v16 (F := Ideal) y1 y2 y3 (ix2 i l)) := by
  have e : val_main_v16 (F := Ideal) y1 y2 y3 (ix2 i l) = ∑ k : Fin 1024, val_main_v15 (F := Ideal) y1 y2 (ix2 i k) * y3 (ix2 k l) := by
    pointwise [val_main_v16]
  rw [e]
  exact IsR.sum fun k => (isR_h y1 y2 h1 h2 i k).mul (h3 _)

/-- So is the second factor. -/
theorem isR_up (h1 : ∀ i, IsR (y1 i)) (h2 : ∀ i, IsR (y2 i)) (h4 : ∀ i, IsR (y4 i)) (i : Fin 8192) (l : Fin 2816) :
    IsR (val_main_v17 (F := Ideal) y1 y2 y4 (ix2 i l)) := by
  have e : val_main_v17 (F := Ideal) y1 y2 y4 (ix2 i l) = ∑ k : Fin 1024, val_main_v15 (F := Ideal) y1 y2 (ix2 i k) * y4 (ix2 k l) := by
    pointwise [val_main_v17]
  rw [e]
  exact IsR.sum fun k => (isR_h y1 y2 h1 h2 i k).mul (h4 _)

end Reference

/-- Every entry of every argument is a real number. -/
structure ArgsR (c : Dev nD) : Prop where
  d : ∀ i, IsR (D2 m c i)
  x : ∀ i, IsR (X m c i)
  g : ∀ i, IsR (G m c i)
  wg : ∀ i, IsR (Wg m c i)
  wu : ∀ i, IsR (Wu m c i)
  wd : ∀ i, IsR (Wd m c i)

/-- The precondition says so. -/
theorem argsR (h : (haveI := Cert.Pre_finite_ffn.Gen.facts; Cert.Pre_finite_ffn.fn (F := Ideal) (D2 m c) (X m c) (G m c) (Wg m c) (Wu m c) (Wd m c)) = fun _ => 1#1) :
    ArgsR m c := by
  have e := congrFun h (fun a => a.elim0)
  unfold Cert.Pre_finite_ffn.fn Cert.Pre_finite_ffn.fn_part1 at e
  simp only [andi, IntOp.andi_eq_one] at e
  obtain ⟨⟨⟨⟨⟨e0, e1⟩, e2⟩, e3⟩, e4⟩, e5⟩ := e
  exact ⟨fun i => isR_of_all _ _ _ _ _ _ e0 i, fun i => isR_of_all _ _ _ _ _ _ e1 i, fun i => isR_of_all _ _ _ _ _ _ e2 i,
    fun i => isR_of_all _ _ _ _ _ _ e3 i, fun i => isR_of_all _ _ _ _ _ _ e4 i, fun i => isR_of_all _ _ _ _ _ _ e5 i⟩

/-! ## The blocks -/

/-- The gate, which the host multiplies out: the reference's. -/
theorem V_gt : V m c main_v19 = (Cert.ReferenceFfnBwdIdeal.Read.val_main_v16 (F := Ideal) (X m c) (G m c) (Wg m c) : S8192x2816.Idx → EReal) := by
  entry_read; rfl
/-- The second factor: the reference's. -/
theorem V_up : V m c main_v20 = (Cert.ReferenceFfnBwdIdeal.Read.val_main_v17 (F := Ideal) (X m c) (G m c) (Wu m c) : S8192x2816.Idx → EReal) := by
  entry_read; rfl
/-- The gain as the kernel reads it. -/
theorem V_g (k : Fin 1024) : (show FVec Ideal S1x1024 .f32 from V m c main_v21) (ix2 0 k) = G m c (ix1 k) := by
  entry_read
  pointwise
/-- The gate's weight as the kernel reads it: transposed. -/
theorem V_wg (l : Fin 2816) (k : Fin 1024) : (show FVec Ideal S2816x1024 .bf16 from V m c main_v16) (ix2 l k) = Wg m c (ix2 k l) := by
  entry_read
  pointwise
/-- The second factor's weight as the kernel reads it: transposed. -/
theorem V_wu (l : Fin 2816) (k : Fin 1024) : (show FVec Ideal S2816x1024 .bf16 from V m c main_v18) (ix2 l k) = Wu m c (ix2 k l) := by
  entry_read
  pointwise
/-- The output's weight as the kernel reads it. -/
theorem V_wd (l : Fin 2816) (k : Fin 1024) : (show FVec Ideal S2816x1024 .bf16 from V m c main_v22) (ix2 l k) = Wd m c (ix2 l k) := by
  entry_read
  pointwise

/-- Where the blocks lie, at every point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] ∧ win0_11.index t = ![0, 0] := by
  decide +kernel

/-- The token a point's row holds. -/
def row (t : Fin cfg0.N) (i : Fin 256) : Fin 8192 :=
  ⟨256 * t.val + i.val, by have h := t.isLt; have e : cfg0.N = 32 := N_0; omega⟩

/-- The residual's block at a point. -/
theorem blkD (t : Fin cfg0.N) (i : Fin 256) (k : Fin 1024) : iblk m c 0 t (ix2 i k) = D2 m c (ix2 (row t i) k) := by
  refine congrArg (D2 m c) ?_
  blk_ext [row, (idx t).1]
/-- The tokens' block at a point. -/
theorem blkX (t : Fin cfg0.N) (i : Fin 256) (k : Fin 1024) : iblk m c 1 t (ix2 i k) = X m c (ix2 (row t i) k) := by
  refine congrArg (X m c) ?_
  blk_ext [row, (idx t).2.1]
/-- The gate's block at a point. -/
theorem blkGt (t : Fin cfg0.N) (i : Fin 256) (l : Fin 2816) :
    iblk m c 2 t (ix2 i l) = Cert.ReferenceFfnBwdIdeal.Read.val_main_v16 (F := Ideal) (X m c) (G m c) (Wg m c) (ix2 (row t i) l) := by
  refine Eq.trans (congrArg (V m c main_v19) ?_) (congrFun (V_gt m c) (ix2 (row t i) l))
  blk_ext [row, (idx t).2.2.1]
/-- The second factor's block at a point. -/
theorem blkUp (t : Fin cfg0.N) (i : Fin 256) (l : Fin 2816) :
    iblk m c 3 t (ix2 i l) = Cert.ReferenceFfnBwdIdeal.Read.val_main_v17 (F := Ideal) (X m c) (G m c) (Wu m c) (ix2 (row t i) l) := by
  refine Eq.trans (congrArg (V m c main_v20) ?_) (congrFun (V_up m c) (ix2 (row t i) l))
  blk_ext [row, (idx t).2.2.2.1]
/-- The gain's block at a point: all of it. -/
theorem blkG (t : Fin cfg0.N) (k : Fin 1024) : iblk m c 4 t (ix2 0 k) = G m c (ix1 k) := by
  refine Eq.trans (congrArg (V m c main_v21) ?_) (V_g m c k)
  blk_ext [(idx t).2.2.2.2.1]
/-- The gate's weight at a point: all of it. -/
theorem blkWg (t : Fin cfg0.N) (l : Fin 2816) (k : Fin 1024) : iblk m c 5 t (ix2 l k) = Wg m c (ix2 k l) := by
  refine Eq.trans (congrArg (V m c main_v16) ?_) (V_wg m c l k)
  blk_ext [(idx t).2.2.2.2.2.1]
/-- The second factor's weight at a point: all of it. -/
theorem blkWu (t : Fin cfg0.N) (l : Fin 2816) (k : Fin 1024) : iblk m c 6 t (ix2 l k) = Wu m c (ix2 k l) := by
  refine Eq.trans (congrArg (V m c main_v18) ?_) (V_wu m c l k)
  blk_ext [(idx t).2.2.2.2.2.2.1]
/-- The output's weight at a point: all of it. -/
theorem blkWd (t : Fin cfg0.N) (l : Fin 2816) (k : Fin 1024) : iblk m c 7 t (ix2 l k) = Wd m c (ix2 l k) := by
  refine Eq.trans (congrArg (V m c main_v22) ?_) (V_wd m c l k)
  blk_ext [(idx t).2.2.2.2.2.2.2.1]

/-- The reference's first result. -/
abbrev R0 (c : Dev nD) := Cert.ReferenceFfnBwdIdeal.Read.val_main_v48 (F := Ideal) (D2 m c) (X m c) (G m c) (Wg m c) (Wu m c) (Wd m c)
/-- Its second. -/
abbrev R1 (c : Dev nD) := Cert.ReferenceFfnBwdIdeal.Read.val_main_v49 (F := Ideal) (D2 m c) (X m c) (G m c) (Wg m c) (Wu m c) (Wd m c)
/-- Its third. -/
abbrev R2 (c : Dev nD) := Cert.ReferenceFfnBwdIdeal.Read.val_main_v50 (F := Ideal) (D2 m c) (X m c) (G m c) (Wg m c) (Wd m c)
/-- Its fourth. -/
abbrev R3 (c : Dev nD) := Cert.ReferenceFfnBwdIdeal.Read.val_main_v51 (F := Ideal) (D2 m c) (X m c) (G m c) (Wg m c) (Wu m c) (Wd m c)
/-- The reference's cotangent of the second factor, before it is narrowed. -/
abbrev rUp (c : Dev nD) := Cert.ReferenceFfnBwdIdeal.Read.val_main_v22 (F := Ideal) (D2 m c) (X m c) (G m c) (Wg m c) (Wd m c)
/-- The gate's. -/
abbrev rGt (c : Dev nD) := Cert.ReferenceFfnBwdIdeal.Read.val_main_v24 (F := Ideal) (D2 m c) (X m c) (G m c) (Wg m c) (Wu m c) (Wd m c)
/-- The normalised rows'. -/
abbrev rDh (c : Dev nD) := Cert.ReferenceFfnBwdIdeal.Read.val_main_v27 (F := Ideal) (D2 m c) (X m c) (G m c) (Wg m c) (Wu m c) (Wd m c)

/-- The second factor's cotangent at a point is the reference's at the point's tokens. -/
theorem up_row (t : Fin cfg0.N) (i : Fin 256) (l : Fin 2816) : vUp (iblk m c 0 t) (iblk m c 2 t) (iblk m c 7 t) i l = rUp m c (ix2 (row t i) l) := by
  unfold rUp vUp
  rw [ref_up, funext (blkD m c t i), funext (blkWd m c t l), blkGt]

variable (hR : ArgsR m c)
include hR

/-- So is the gate's. -/
theorem gt_row (t : Fin cfg0.N) (i : Fin 256) (l : Fin 2816) :
    vGt (iblk m c 0 t) (iblk m c 2 t) (iblk m c 3 t) (iblk m c 7 t) i l = rGt m c (ix2 (row t i) l) := by
  unfold rGt vGt
  rw [ref_gt _ _ _ _ _ _ _ _ (IsR.sum fun k => (hR.d _).mul (hR.wd _)) (isR_gt _ _ _ hR.x hR.g hR.wg _ _) (isR_up _ _ _ hR.x hR.g hR.wu _ _),
    funext (blkD m c t i), funext (blkWd m c t l), blkGt, blkUp]

/-- So is the normalised rows'. -/
theorem dh_row (t : Fin cfg0.N) (i : Fin 256) (j : Fin 1024) :
    dh (iblk m c 0 t) (iblk m c 2 t) (iblk m c 3 t) (iblk m c 5 t) (iblk m c 6 t) (iblk m c 7 t) (ix2 i j) = rDh m c (ix2 (row t i) j) := by
  unfold rDh
  rw [dh_apply, ref_dh]
  refine congrArg₂ (α := EReal) (· + ·) (Finset.sum_congr rfl fun l _ => ?_) (Finset.sum_congr rfl fun l _ => ?_)
  · exact Ideal.mul_congr (up_row m c t i l) (blkWu m c t l j)
  · exact Ideal.mul_congr (gt_row m c hR t i l) (blkWg m c t l j)

/-- The first result: the tokens' gradient. -/
theorem arr8 : (dats m 0 c).arrAt 8 cfg0.N = (R0 m c : S8192x1024.Idx → EReal) := by
  refine (dats m 0 c).arrAt_eq_of_covers 8 _ (by decide +kernel) (fun t hf y => ?_)
  rw [after0_8, out_dx]
  idx_vars y
  blk_simp
  refine Eq.trans (b := R0 m c (ix2 (row t y0) y1)) ?_ (by blk_ext [row, idx t])
  unfold R0
  rw [ref_dx]
  refine (stDx_apply _ _ _ _ _ _ _ _ y0 y1).trans ?_
  refine congrArg₂ (α := EReal) (· + ·) (blkD m c t y0 y1) ?_
  rw [funext (blkX m c t y0), funext (fun k => Ideal.mul_congr (dh_row m c hR t y0 k) (blkG m c t k))]

/-- The second result: the gate's cotangent. -/
theorem arr9 : (dats m 0 c).arrAt 9 cfg0.N = (R1 m c : S8192x2816.Idx → EReal) := by
  refine (dats m 0 c).arrAt_eq_of_covers 9 _ (by decide +kernel) (fun t hf y => ?_)
  rw [after0_9, out_gt]
  idx_vars y
  blk_simp
  refine Eq.trans (b := rGt m c (ix2 (row t y0) y1)) ?_ (by unfold R1 Cert.ReferenceFfnBwdIdeal.Read.val_main_v49; blk_ext [row, idx t])
  exact (stGt_apply _ _ _ _ y0 y1).trans (gt_row m c hR t y0 y1)

omit hR in
/-- The third result: the second factor's cotangent. -/
theorem arr10 : (dats m 0 c).arrAt 10 cfg0.N = (R2 m c : S8192x2816.Idx → EReal) := by
  refine (dats m 0 c).arrAt_eq_of_covers 10 _ (by decide +kernel) (fun t hf y => ?_)
  rw [after0_10, out_up]
  idx_vars y
  blk_simp
  refine Eq.trans (b := rUp m c (ix2 (row t y0) y1)) ?_ (by unfold R2 Cert.ReferenceFfnBwdIdeal.Read.val_main_v50; blk_ext [row, idx t])
  exact (stUp_apply _ _ _ y0 y1).trans (up_row m c t y0 y1)

omit hR in
/-- What a point adds to the gain's gradient. -/
def rise (t : Fin cfg0.N) (i : S1x1024.Idx) : EReal :=
  ∑ k : Fin 256, rDh m c (ix2 (row t k) (i 1)) * (X m c (ix2 (row t k) (i 1)) * rs (fun l => X m c (ix2 (row t k) l)))

/-- A point raises the gain's gradient by its tokens' terms. -/
theorem stDg_row (t : Fin cfg0.N) (s : FVec Ideal S1x1024 .f32) (i : S1x1024.Idx) :
    stDg (iblk m c 0 t) (iblk m c 2 t) (iblk m c 3 t) (iblk m c 5 t) (iblk m c 6 t) (iblk m c 7 t) (iblk m c 1 t) s i = s i + rise m c t i := by
  idx_vars i
  have h0 : i0 = 0 := Subsingleton.elim _ _
  subst h0
  refine (stDg_apply _ _ _ _ _ _ _ s i1).trans (congrArg (s (ix2 0 i1) + ·) (Finset.sum_congr rfl fun k _ => ?_))
  refine Ideal.mul_congr (dh_row m c hR t k i1) (Ideal.mul_congr (blkX m c t k i1) ?_)
  rw [funext (blkX m c t k)]

/-- At the first point the sum is the point's terms. -/
theorem acc_first (t : Fin cfg0.N) (h : t.val % 32 = 0) (i : S1x1024.Idx) : (outsAt0 m c t.val t.isLt).2.2.2 i = (0 : EReal) + rise m c t i := by
  rw [out_dg_first m c t h]
  refine (stDg_row m c hR t _ i).trans (congrArg (· + rise m c t i) ?_)
  idx_vars i
  pointwise [k0_pay2]

/-- At every later point the sum is the previous point's and the point's terms. -/
theorem acc_next (t : Fin cfg0.N) (h : ¬t.val % 32 = 0) (i : S1x1024.Idx) :
    (outsAt0 m c t.val t.isLt).2.2.2 i = (outsAt0 m c (t.val - 1) (Nat.lt_of_le_of_lt (Nat.sub_le _ _) t.isLt)).2.2.2 i + rise m c t i := by
  rw [out_dg_next m c t h]
  exact stDg_row m c hR t _ i

omit hR in
/-- A sum over the points of a sum over a point's tokens is the sum over all tokens. -/
theorem sum_tokens (H : Fin 8192 → EReal) (f : Fin 32 → Fin cfg0.N) (hf : ∀ s, (f s).val = s.val) :
    ∑ s : Fin 32, ∑ k : Fin 256, H (row (f s) k) = ∑ p : Fin 8192, H p := by
  rw [Fin.sum_univ_tiles 32 256 rfl H]
  refine Finset.sum_congr rfl fun s _ => Finset.sum_congr rfl fun k _ => congrArg H (Fin.ext ?_)
  show 256 * (f s).val + k.val = s.val * 256 + k.val
  rw [hf]; omega

/-- The fourth result: the gain's gradient. -/
theorem arr11 : (dats m 0 c).arrAt 11 cfg0.N = (R3 m c : S1x1024.Idx → EReal) := by
  refine (dats m 0 c).arrAt_eq_of_covers 11 _ (by decide +kernel) (fun t hf y => ?_)
  have hl := (flush0_11 t).mp hf
  rw [after0_11]
  idx_vars y
  blk_simp
  have h0 : y0 = 0 := Subsingleton.elim _ _
  subst h0
  refine Eq.trans (b := R3 m c (ix2 0 y1)) ?_ (by blk_ext [row, idx t])
  unfold R3
  rw [ref_dg]
  refine (Pipeline.eq_sum_fin_of_reset_step_apply_of_flush (fun n h => (outsAt0 m c n h).2.2.2) 32 (fun _ => (0 : EReal)) (rise m c)
    (acc_first m c hR) (acc_next m c hR) t hl (ix2 0 y1)).trans ((zero_add _).trans ?_)
  refine sum_tokens (fun i => rDh m c (ix2 i y1) * (X m c (ix2 i y1) * rs (fun k => X m c (ix2 i k)))) _ (fun s => ?_)
  have h := t.isLt
  have e : cfg0.N = 32 := N_0
  show 32 * (t.val / 32) + s.val = s.val
  omega

omit hR in
/-- The kernel and the reference, started on equal arguments whose entries are real numbers, end with equal results. -/
theorem equal : haveI := Cert.KernelFfnBwdIdeal.Gen.facts; haveI := Cert.ReferenceFfnBwdIdeal.Gen.facts; haveI := Cert.Pre_finite_ffn.Gen.facts
    Cert.algebraic_KernelFfnBwdIdeal_ReferenceFfnBwdIdeal_pre_finite_ffn := by
  intro m g m' g' hpre heq
  have hR : ∀ c, ArgsR m c := fun c => argsR m c (hpre c)
  refine ⟨fun c => (R0 m c : S8192x1024.Idx → EReal), fun c => (R1 m c : S8192x2816.Idx → EReal), fun c => (R2 m c : S8192x2816.Idx → EReal),
    fun c => (R3 m c : S1x1024.Idx → EReal), ?_, ?_⟩
  · refine (θ_run (defs (F := Ideal)) _ _).mono ?_ (Value.run_blocks (F := Ideal) m g)
    intro r h c
    obtain ⟨k0, k1, k2, k3, u⟩ := h c
    exact ⟨k0.trans (arr8 m c (hR c)), k1.trans (arr9 m c (hR c)), k2.trans (arr10 m c), k3.trans (arr11 m c (hR c)), u⟩
  · refine (θ_run (Cert.ReferenceFfnBwdIdeal.defs (F := Ideal)) _ _).mono ?_ (Cert.ReferenceFfnBwdIdeal.Value.run (F := Ideal) m' g')
    intro r h c
    obtain ⟨e0, e1, e2, e3, e4, e5⟩ := heq c
    obtain ⟨k0, k1, k2, k3, u⟩ := h c
    refine ⟨(k0.trans (Cert.ReferenceFfnBwdIdeal.Read.val_main_v48_eq (F := Ideal) _ _)).trans (by rw [e0, e1, e2, e3, e4, e5]),
      (k1.trans (Cert.ReferenceFfnBwdIdeal.Read.val_main_v49_eq (F := Ideal) _ _)).trans (by rw [e0, e1, e2, e3, e4, e5]), ?_,
      (k3.trans (Cert.ReferenceFfnBwdIdeal.Read.val_main_v51_eq (F := Ideal) _ _)).trans (by rw [e0, e1, e2, e3, e4, e5]), u⟩
    rw [show (_ : FVec Ideal S8192x1024 .f32) = D2 m c from e0, show (_ : FVec Ideal S8192x1024 .f32) = X m c from e1,
      show (_ : FVec Ideal S1024 .f32) = G m c from e2, show (_ : FVec Ideal S1024x2816 .f32) = Wg m c from e3,
      show (_ : FVec Ideal S2816x1024 .f32) = Wd m c from e5] at k2
    exact k2.trans (Cert.ReferenceFfnBwdIdeal.Read.val_main_v50_eq (F := Ideal) _ _ _ _ _)

end Cert.KernelFfnBwdIdeal.Hand

end
-- ==== Proof.Ffn.lean ====
/-
  The forward pass of the spatial branch, the merge and the gated unit. The kernel takes 256 tokens a point: it normalises one half of
  the projection, mixes it inside chunks of 128 tokens group by group, gates it, multiplies it by the branch's weight, merges the two
  branches, multiplies by the output's weight and adds the tokens; the sum's normalised rows then go through the gated unit, whose hidden
  columns are taken in five blocks of 512 and one of 256. The reference is the same layers' mathematics on all tokens at once.
-/
module

public import proofs.«01_k».proof.Proof.Gen.KernelFfnIdeal.Value
public import proofs.«01_k».proof.Proof.Gen.ReferenceFfnIdeal.Read
public import proofs.«01_k».proof.Proof.Gen.ReferenceFfnIdeal.Run
public import proofs.«01_k».proof.Defs
public import proofs.«01_k».proof.Proof.Vals
public import proofs.«01_k».proof.Proof.Mix
public import proofs.«01_k».proof.Proof.FfnBwd
public import Idealize.ShloMosaic.Lib.Pipeline.ValueKit
public import Idealize.ShloMosaic.Lib.Claim
public import Idealize.ShloMosaic.Lib.Pointwise

@[expose] public section

set_option maxRecDepth 16384
set_option maxHeartbeats 400000

noncomputable section

namespace Cert.KernelFfnIdeal.Hand

open Cert.KernelFfnIdeal Cert.KernelFfnIdeal.Gen Cert.KernelFfnIdeal.Value
open Idealize.ShloMosaic Idealize.ShloMosaic.TcCoe Idealize.ShloMosaic.Tactic Idealize.SL.Sem
open Idealize.ShloMosaic.Pipeline (Dat)
open Cert.KernelIdeal.Hand (readCov_whole2)
open Cert.KernelMixIdeal.Hand (nrm)
open Cert.KernelFfnBwdIdeal.Hand (sg sum_hidden)

variable (m : (ℓ : Loc nD τ sig) → Buf (Elt Ideal) ℓ) (c : Dev nD)

/-! ## The body -/

/-- What the body reads at a point. -/
structure In where
  pu : FVec Ideal S256x2048 .bf16
  pg : FVec Ideal S256x2048 .bf16
  ya : FVec Ideal S256x1024 .bf16
  x : FVec Ideal S256x1024 .f32
  lg : FVec Ideal S1x1024 .f32
  lb : FVec Ideal S1x1024 .f32
  ws : FVec Ideal S8x128x128 .bf16
  bs : FVec Ideal S128x1024 .f32
  gb : FVec Ideal S1x2048 .f32
  so : FVec Ideal S4x256x1024 .bf16
  wo : FVec Ideal S4x256x1024 .bf16
  gf : FVec Ideal S1x1024 .f32
  wg : FVec Ideal S2816x1024 .bf16
  wu : FVec Ideal S2816x1024 .bf16
  wd : FVec Ideal S2816x1024 .bf16

namespace In
variable (I : In)

/-- The first half of a point's columns. -/
abbrev lo (a : Vec Ideal S256x2048 .bf16) : Vec Ideal S256x1024 .bf16 :=
  View.ld a (Rect.unit (s := S256x2048) ![0, 0] S256x1024.size inb_S256x2048_S256x1024_0_0)
/-- The second half. -/
abbrev hi (a : Vec Ideal S256x2048 .bf16) : Vec Ideal S256x1024 .bf16 :=
  View.ld a (Rect.unit (s := S256x2048) ![0, 1024] S256x1024.size inb_S256x2048_S256x1024_0_1024)
/-- The first half of the gates' bias. -/
abbrev gbl : Vec Ideal S1x1024 .f32 := View.ld I.gb (Rect.unit (s := S1x2048) ![0, 0] S1x1024.size inb_S1x2048_S1x1024_0_0)
/-- The second half. -/
abbrev gbh : Vec Ideal S1x1024 .f32 := View.ld I.gb (Rect.unit (s := S1x2048) ![0, 1024] S1x1024.size inb_S1x2048_S1x1024_0_1024)
/-- One group's mixing weights. -/
abbrev w (o : Fin 3 → ℕ) (h : ∀ k, o k + S1x128x128.size k ≤ S8x128x128.size k) : Vec Ideal S1x128x128 .bf16 :=
  View.ld I.ws (Rect.unit (s := S8x128x128) o S1x128x128.size h)
/-- One group's bias. -/
abbrev b (o : ℕ) (h : ∀ k, (![0, o] : Fin 2 → ℕ) k + S128x128.size k ≤ S128x1024.size k) : Vec Ideal S128x128 .f32 :=
  View.ld I.bs (Rect.unit (s := S128x1024) ![0, o] S128x128.size h)
/-- A block of 512 rows of a weight. -/
abbrev cW (w : Vec Ideal S2816x1024 .bf16) (o : ℕ) (h : ∀ k, (![o, 0] : Fin 2 → ℕ) k + S512x1024.size k ≤ S2816x1024.size k) : Vec Ideal S512x1024 .bf16 :=
  View.ld w (Rect.unit (s := S2816x1024) ![o, 0] S512x1024.size h)
/-- The last 256 rows of a weight. -/
abbrev lW (w : Vec Ideal S2816x1024 .bf16) : Vec Ideal S256x1024 .bf16 :=
  View.ld w (Rect.unit (s := S2816x1024) ![2560, 0] S256x1024.size inb_S2816x1024_S256x1024_2560_0)

/-- The half that is mixed. -/
abbrev pv : Vec Ideal S256x1024 .bf16 := hi I.pu
/-- The half that is mixed, normalised. -/
def vn : FVec Ideal S256x1024 .bf16 := k0_pay3 I.pv I.lg I.lb

/-- The mixed value: two chunks of tokens for each of the eight groups. -/
def mix : Vec Ideal S256x1024 .f32 := View.canon ([
    ⟨Rect.unit ![128, 896] S128x128.size inb_S256x1024_S128x128_128_896, k0_pay34 (k0_pay31 I.vn (I.w ![7, 0, 0] inb_S8x128x128_S1x128x128_7_0_0)) (I.b 896 inb_S128x1024_S128x128_0_896)⟩,
    ⟨Rect.unit ![0, 896] S128x128.size inb_S256x1024_S128x128_0_896, k0_pay33 (k0_pay32 I.vn (I.w ![7, 0, 0] inb_S8x128x128_S1x128x128_7_0_0) (I.b 896 inb_S128x1024_S128x128_0_896))⟩,
    ⟨Rect.unit ![128, 768] S128x128.size inb_S256x1024_S128x128_128_768, k0_pay30 I.vn (I.w ![6, 0, 0] inb_S8x128x128_S1x128x128_6_0_0) (I.b 768 inb_S128x1024_S128x128_0_768)⟩,
    ⟨Rect.unit ![0, 768] S128x128.size inb_S256x1024_S128x128_0_768, k0_pay29 I.vn (I.w ![6, 0, 0] inb_S8x128x128_S1x128x128_6_0_0) (I.b 768 inb_S128x1024_S128x128_0_768)⟩,
    ⟨Rect.unit ![128, 640] S128x128.size inb_S256x1024_S128x128_128_640, k0_pay27 (k0_pay25 I.vn (I.w ![5, 0, 0] inb_S8x128x128_S1x128x128_5_0_0)) (k0_pay26 (I.b 640 inb_S128x1024_S128x128_0_640))⟩,
    ⟨Rect.unit ![0, 640] S128x128.size inb_S256x1024_S128x128_0_640, k0_pay24 I.vn (I.w ![5, 0, 0] inb_S8x128x128_S1x128x128_5_0_0) (I.b 640 inb_S128x1024_S128x128_0_640)⟩,
    ⟨Rect.unit ![128, 512] S128x128.size inb_S256x1024_S128x128_128_512, k0_pay22 I.vn (k0_pay19 I.vn) (I.w ![4, 0, 0] inb_S8x128x128_S1x128x128_4_0_0) (I.b 512 inb_S128x1024_S128x128_0_512)⟩,
    ⟨Rect.unit ![0, 512] S128x128.size inb_S256x1024_S128x128_0_512, k0_pay21 I.vn (k0_pay19 I.vn) (I.w ![4, 0, 0] inb_S8x128x128_S1x128x128_4_0_0) (I.b 512 inb_S128x1024_S128x128_0_512)⟩,
    ⟨Rect.unit ![128, 384] S128x128.size inb_S256x1024_S128x128_128_384, k0_pay18 I.vn (I.w ![3, 0, 0] inb_S8x128x128_S1x128x128_3_0_0) (I.b 384 inb_S128x1024_S128x128_0_384)⟩,
    ⟨Rect.unit ![0, 384] S128x128.size inb_S256x1024_S128x128_0_384, k0_pay17 I.vn (I.w ![3, 0, 0] inb_S8x128x128_S1x128x128_3_0_0) (I.b 384 inb_S128x1024_S128x128_0_384)⟩,
    ⟨Rect.unit ![128, 256] S128x128.size inb_S256x1024_S128x128_128_256, k0_pay15 (k0_pay11 I.vn) (k0_pay12 (I.w ![2, 0, 0] inb_S8x128x128_S1x128x128_2_0_0)) (constant S128x256 FTy.f32 0#32) (I.b 256 inb_S128x1024_S128x128_0_256)⟩,
    ⟨Rect.unit ![0, 256] S128x128.size inb_S256x1024_S128x128_0_256, k0_pay14 (k0_pay11 I.vn) (k0_pay12 (I.w ![2, 0, 0] inb_S8x128x128_S1x128x128_2_0_0)) (constant S128x256 FTy.f32 0#32) (I.b 256 inb_S128x1024_S128x128_0_256)⟩,
    ⟨Rect.unit ![128, 128] S128x128.size inb_S256x1024_S128x128_128_128, k0_pay10 I.vn (I.w ![1, 0, 0] inb_S8x128x128_S1x128x128_1_0_0) (I.b 128 inb_S128x1024_S128x128_0_128)⟩,
    ⟨Rect.unit ![0, 128] S128x128.size inb_S256x1024_S128x128_0_128, k0_pay9 I.vn (I.w ![1, 0, 0] inb_S8x128x128_S1x128x128_1_0_0) (I.b 128 inb_S128x1024_S128x128_0_128)⟩,
    ⟨Rect.unit ![128, 0] S128x128.size inb_S256x1024_S128x128_128_0, k0_pay7 (k0_pay4 I.pv I.lg I.lb (I.w ![0, 0, 0] inb_S8x128x128_S1x128x128_0_0_0)) (I.b 0 inb_S128x1024_S128x128_0_0)⟩,
    ⟨Rect.unit ![0, 0] S128x128.size inb_S256x1024_S128x128_0_0, k0_pay6 (k0_pay5 I.pv I.lg I.lb (I.w ![0, 0, 0] inb_S8x128x128_S1x128x128_0_0_0) (I.b 0 inb_S128x1024_S128x128_0_0))⟩] : List (View.Piece (Elt Ideal) S256x1024 .f32))

/-- The gated value. -/
def gated : FVec Ideal S256x1024 .bf16 := k0_pay36 (k0_pay2 (lo I.pu)) I.mix
/-- The branch's output. -/
def yb : FVec Ideal S256x1024 .f32 := k0_pay37 (k0_pay2 (lo I.pu)) I.mix I.so
/-- The merged branches. -/
def merged : FVec Ideal S256x1024 .bf16 :=
  k0_pay40 I.yb (k0_pay39 (lo I.pg) I.gbl) (FloatOps.ofBits FTy.f32 1065353216#32) (hi I.pg) I.gbh I.ya
/-- The tokens after the merge. -/
def x1 : FVec Ideal S256x1024 .f32 :=
  k0_pay41 I.yb (k0_pay39 (lo I.pg) I.gbl) (FloatOps.ofBits FTy.f32 1065353216#32) (hi I.pg) I.gbh I.ya I.x I.wo
/-- Their mean square and the small constant. -/
def ms1 : FVec Ideal S256x1 .f32 :=
  k0_pay42 I.yb (k0_pay39 (lo I.pg) I.gbl) (FloatOps.ofBits FTy.f32 1065353216#32) (hi I.pg) I.gbh I.ya I.x I.wo
/-- Their normalised rows. -/
def h2 : FVec Ideal S256x1024 .bf16 := k0_pay43 I.x1 I.ms1 I.gf

/-- A block of the gate's columns, or of the other factor's. -/
def hid (w : Vec Ideal S2816x1024 .bf16) (o : ℕ) (h : ∀ k, (![o, 0] : Fin 2 → ℕ) k + S512x1024.size k ≤ S2816x1024.size k) : FVec Ideal S256x512 .f32 :=
  k0_pay52 I.h2 (cW w o h)
/-- The last block of them. -/
def hidL (w : Vec Ideal S2816x1024 .bf16) : FVec Ideal S256x256 .f32 := k0_pay70 I.h2 (lW w)

/-- What the body stores for the gate, or for the other factor. -/
def stH (w : Vec Ideal S2816x1024 .bf16) : Vec Ideal S256x2816 .bf16 := View.canon ([
    ⟨Rect.unit ![0, 2560] S256x256.size inb_S256x2816_S256x256_0_2560, k0_pay77 (I.hidL w)⟩,
    ⟨Rect.unit ![0, 2048] S256x512.size inb_S256x2816_S256x512_0_2048, k0_pay54 (I.hid w 2048 inb_S2816x1024_S512x1024_2048_0)⟩,
    ⟨Rect.unit ![0, 1536] S256x512.size inb_S256x2816_S256x512_0_1536, k0_pay54 (I.hid w 1536 inb_S2816x1024_S512x1024_1536_0)⟩,
    ⟨Rect.unit ![0, 1024] S256x512.size inb_S256x2816_S256x512_0_1024, k0_pay54 (I.hid w 1024 inb_S2816x1024_S512x1024_1024_0)⟩,
    ⟨Rect.unit ![0, 512] S256x512.size inb_S256x2816_S256x512_0_512, k0_pay54 (I.hid w 512 inb_S2816x1024_S512x1024_512_0)⟩,
    ⟨Rect.unit ![0, 0] S256x512.size inb_S256x2816_S256x512_0_0, k0_pay54 (I.hid w 0 inb_S2816x1024_S512x1024_0_0)⟩] : List (View.Piece (Elt Ideal) S256x2816 .bf16))
/-- A block of the unit's columns. -/
def ac (o : ℕ) (h : ∀ k, (![o, 0] : Fin 2 → ℕ) k + S512x1024.size k ≤ S2816x1024.size k) : FVec Ideal S256x512 .bf16 :=
  k0_pay56 (I.hid I.wg o h) (I.hid I.wu o h)
/-- What the body stores for the unit's columns. -/
def stA : Vec Ideal S256x2816 .bf16 := View.canon ([
    ⟨Rect.unit ![0, 2560] S256x256.size inb_S256x2816_S256x256_0_2560, k0_pay79 (I.hidL I.wg) (I.hidL I.wu)⟩,
    ⟨Rect.unit ![0, 2048] S256x512.size inb_S256x2816_S256x512_0_2048, I.ac 2048 inb_S2816x1024_S512x1024_2048_0⟩,
    ⟨Rect.unit ![0, 1536] S256x512.size inb_S256x2816_S256x512_0_1536, I.ac 1536 inb_S2816x1024_S512x1024_1536_0⟩,
    ⟨Rect.unit ![0, 1024] S256x512.size inb_S256x2816_S256x512_0_1024, I.ac 1024 inb_S2816x1024_S512x1024_1024_0⟩,
    ⟨Rect.unit ![0, 512] S256x512.size inb_S256x2816_S256x512_0_512, I.ac 512 inb_S2816x1024_S512x1024_512_0⟩,
    ⟨Rect.unit ![0, 0] S256x512.size inb_S256x2816_S256x512_0_0, I.ac 0 inb_S2816x1024_S512x1024_0_0⟩] : List (View.Piece (Elt Ideal) S256x2816 .bf16))
/-- A block's product with the last weight, added. -/
def step (s : FVec Ideal S256x1024 .f32) (o : ℕ) (h : ∀ k, (![o, 0] : Fin 2 → ℕ) k + S512x1024.size k ≤ S2816x1024.size k) : FVec Ideal S256x1024 .f32 :=
  k0_pay63 (I.hid I.wg o h) (I.hid I.wu o h) s (cW I.wd o h)
/-- The tokens after the unit. -/
def x2 : FVec Ideal S256x1024 .f32 :=
  k0_pay1 (I.step (I.step (I.step (I.step (I.step I.x1 0 inb_S2816x1024_S512x1024_0_0) 512 inb_S2816x1024_S512x1024_512_0)
    1024 inb_S2816x1024_S512x1024_1024_0) 1536 inb_S2816x1024_S512x1024_1536_0) 2048 inb_S2816x1024_S512x1024_2048_0)
    (k0_pay80 (I.hidL I.wg) (I.hidL I.wu) (lW I.wd))

end In

/-- What the body reads at a point: the windows' blocks. -/
def ins (t : Fin cfg0.N) : In :=
  ⟨iblk m c 0 t, iblk m c 1 t, iblk m c 2 t, iblk m c 3 t, iblk m c 4 t, iblk m c 5 t, iblk m c 6 t, iblk m c 7 t, iblk m c 8 t, iblk m c 9 t,
    iblk m c 10 t, iblk m c 11 t, iblk m c 12 t, iblk m c 13 t, iblk m c 14 t⟩

section Names
variable (x s : FVec Ideal S256x1024 .f32) (v : FVec Ideal S256x1 .f32) (f : FVec Ideal S1x1024 .f32) (h : FVec Ideal S256x1024 .bf16)
  (a b : FVec Ideal S512x1024 .bf16) (a' : FVec Ideal S256x1024 .bf16) (p q : FVec Ideal S256x512 .f32) (r : FVec Ideal S256x256 .f32)

/-- A block's product, what is stored for it, and the unit's columns have several names each. -/
theorem n44 : k0_pay44 (F := Ideal) x v f a = k0_pay52 (k0_pay43 x v f) a := rfl
/-- Another name. -/
theorem n45 : k0_pay45 (F := Ideal) x v f a = k0_pay52 (k0_pay43 x v f) a := rfl
/-- Another name. -/
theorem n46 : k0_pay46 (F := Ideal) x v f a = k0_pay52 (k0_pay43 x v f) a := rfl
/-- Another name. -/
theorem n47 : k0_pay47 (F := Ideal) x v f a = k0_pay52 (k0_pay43 x v f) a := rfl
/-- Another name. -/
theorem n53 : k0_pay53 (F := Ideal) h a = k0_pay52 h a := rfl
/-- Another name. -/
theorem n58 : k0_pay58 (F := Ideal) h a = k0_pay52 h a := rfl
/-- Another name. -/
theorem n59 : k0_pay59 (F := Ideal) h a = k0_pay52 h a := rfl
/-- Another name. -/
theorem n64 : k0_pay64 (F := Ideal) h a = k0_pay52 h a := rfl
/-- Another name. -/
theorem n65 : k0_pay65 (F := Ideal) h a = k0_pay52 h a := rfl
/-- Another name. -/
theorem n71 : k0_pay71 (F := Ideal) h a' = k0_pay70 h a' := rfl
/-- Another name. -/
theorem n48 : k0_pay48 (F := Ideal) x v f a = k0_pay54 (k0_pay52 (k0_pay43 x v f) a) := rfl
/-- Another name. -/
theorem n49 : k0_pay49 (F := Ideal) x v f a = k0_pay54 (k0_pay52 (k0_pay43 x v f) a) := rfl
/-- Another name. -/
theorem n55 : k0_pay55 (F := Ideal) p = k0_pay54 p := rfl
/-- Another name. -/
theorem n60 : k0_pay60 (F := Ideal) p = k0_pay54 p := rfl
/-- Another name. -/
theorem n61 : k0_pay61 (F := Ideal) p = k0_pay54 p := rfl
/-- Another name. -/
theorem n67 : k0_pay67 (F := Ideal) p = k0_pay54 p := rfl
/-- Another name. -/
theorem n72 : k0_pay72 (F := Ideal) p = k0_pay54 p := rfl
/-- Another name. -/
theorem n73 : k0_pay73 (F := Ideal) p = k0_pay54 p := rfl
/-- Another name. -/
theorem n66 : k0_pay66 (F := Ideal) h a = k0_pay54 (k0_pay52 h a) := rfl
/-- Another name. -/
theorem n78 : k0_pay78 (F := Ideal) r = k0_pay77 r := rfl
/-- Another name. -/
theorem n51 : k0_pay51 (F := Ideal) (k0_pay50 x v f a b) = k0_pay56 (k0_pay52 (k0_pay43 x v f) a) (k0_pay52 (k0_pay43 x v f) b) := rfl
/-- Another name. -/
theorem n62 : k0_pay62 (F := Ideal) p q = k0_pay56 p q := rfl
/-- Another name. -/
theorem n68 : k0_pay68 (F := Ideal) p q = k0_pay56 p q := rfl
/-- Another name. -/
theorem n75 : k0_pay75 (F := Ideal) p q (k0_pay74 p) (FloatOps.ofBits FTy.f32 1065353216#32) = k0_pay56 p q := rfl
/-- The first two blocks' sum. -/
theorem n57 (d e : FVec Ideal S512x1024 .bf16) : k0_pay57 (F := Ideal) x p q (k0_pay50 x v f a b) d e
    = k0_pay63 p q (k0_pay63 (k0_pay52 (k0_pay43 x v f) a) (k0_pay52 (k0_pay43 x v f) b) x d) e := rfl
/-- A later block's sum. -/
theorem n69 : k0_pay69 (F := Ideal) p q s a = k0_pay63 p q s a := rfl
/-- Another name. -/
theorem n76 : k0_pay76 (F := Ideal) p q s (k0_pay74 p) (FloatOps.ofBits FTy.f32 1065353216#32) a = k0_pay63 p q s a := rfl
end Names

/-- The first output: the mixed value. -/
theorem out_mixed (t : Fin cfg0.N) : (outsAt0 m c t).1 = k0_pay35 (ins m c t).mix := by
  unfold outsAt0
  frame_out
  rw [readCov_whole2]
  simp only [In.mix, In.vn, In.pv, In.lo, In.hi, In.w, In.b, ins]
/-- The second: the gated value. -/
theorem out_gated (t : Fin cfg0.N) : (outsAt0 m c t).2.1 = (ins m c t).gated := by
  unfold outsAt0
  frame_out
  rw [readCov_whole2]
  simp only [In.gated, In.mix, In.vn, In.pv, In.lo, In.hi, In.w, In.b, ins]
/-- The third: the branch's output. -/
theorem out_yb (t : Fin cfg0.N) : (outsAt0 m c t).2.2.1 = k0_pay38 (k0_pay2 (In.lo (ins m c t).pu)) (ins m c t).mix (ins m c t).so := by
  unfold outsAt0
  frame_out
  rw [readCov_whole2]
  simp only [In.mix, In.vn, In.pv, In.lo, In.hi, In.w, In.b, ins]
/-- The fourth: the merged branches. -/
theorem out_merged (t : Fin cfg0.N) : (outsAt0 m c t).2.2.2.1 = (ins m c t).merged := by
  unfold outsAt0
  frame_out
  rw [readCov_whole2]
  simp only [In.merged, In.yb, In.gbl, In.gbh, In.mix, In.vn, In.pv, In.lo, In.hi, In.w, In.b, ins]
/-- The fifth: the tokens after the merge. -/
theorem out_x1 (t : Fin cfg0.N) : (outsAt0 m c t).2.2.2.2.1 = (ins m c t).x1 := by
  unfold outsAt0
  frame_out
  rw [readCov_whole2]
  simp only [In.x1, In.yb, In.gbl, In.gbh, In.mix, In.vn, In.pv, In.lo, In.hi, In.w, In.b, ins]
/-- The sixth: their normalised rows. -/
theorem out_h2 (t : Fin cfg0.N) : (outsAt0 m c t).2.2.2.2.2.1 = (ins m c t).h2 := by
  unfold outsAt0
  frame_out
  rw [readCov_whole2]
  simp only [In.h2, In.ms1, In.x1, In.yb, In.gbl, In.gbh, In.mix, In.vn, In.pv, In.lo, In.hi, In.w, In.b, ins]
/-- The seventh: the gate. -/
theorem out_gt (t : Fin cfg0.N) : (outsAt0 m c t).2.2.2.2.2.2.1 = (ins m c t).stH (ins m c t).wg := by
  unfold outsAt0
  frame_out
  rw [readCov_whole2]
  simp only [In.stH, n48, n49, n55, n60, n61, n67, n72, n73, n66, n78, n44, n45, n46, n47, n53, n58, n59, n64, n65, n71, In.hid, In.hidL, In.cW, In.lW, In.h2, In.ms1, In.x1, In.yb, In.gbl, In.gbh, In.mix, In.vn, In.pv, In.lo, In.hi, In.w, In.b, ins]
/-- The eighth: the other factor. -/
theorem out_up (t : Fin cfg0.N) : (outsAt0 m c t).2.2.2.2.2.2.2.1 = (ins m c t).stH (ins m c t).wu := by
  unfold outsAt0
  frame_out
  rw [readCov_whole2]
  simp only [In.stH, n48, n49, n55, n60, n61, n67, n72, n73, n66, n78, n44, n45, n46, n47, n53, n58, n59, n64, n65, n71, In.hid, In.hidL, In.cW, In.lW, In.h2, In.ms1, In.x1, In.yb, In.gbl, In.gbh, In.mix, In.vn, In.pv, In.lo, In.hi, In.w, In.b, ins]
/-- The ninth: the unit's columns. -/
theorem out_act (t : Fin cfg0.N) : (outsAt0 m c t).2.2.2.2.2.2.2.2.1 = (ins m c t).stA := by
  unfold outsAt0
  frame_out
  rw [readCov_whole2]
  simp only [In.stA, In.ac, n51, n62, n68, n75, n44, n45, n46, n47, n53, n58, n59, n64, n65, n71, In.hid, In.hidL, In.cW, In.lW, In.h2, In.ms1, In.x1, In.yb, In.gbl, In.gbh, In.mix, In.vn, In.pv, In.lo, In.hi, In.w, In.b, ins]
/-- The tenth: the tokens after the unit. -/
theorem out_x2 (t : Fin cfg0.N) : (outsAt0 m c t).2.2.2.2.2.2.2.2.2 = (ins m c t).x2 := by
  unfold outsAt0
  frame_out
  rw [readCov_whole2]
  simp only [In.x2, In.step, n57, n69, n76, n44, n45, n46, n47, n53, n58, n59, n64, n65, n71, In.hid, In.hidL, In.cW, In.lW, In.h2, In.ms1, In.x1, In.yb, In.gbl, In.gbh, In.mix, In.vn, In.pv, In.lo, In.hi, In.w, In.b, ins]

/-! ## The body's values -/

/-- A row's mean. -/
def mu (v : Fin 1024 → EReal) : EReal := Ideal.div (∑ j, v j) (Ideal.ofBits FTy.f32 0x44800000#32)
/-- A row's layer norm, scaled and shifted. -/
def lnE (v g b : Fin 1024 → EReal) (k : Fin 1024) : EReal :=
  (v k - mu v) * Ideal.rsqrt (Ideal.div (∑ j, (v j - mu v) * (v j - mu v)) (Ideal.ofBits FTy.f32 0x44800000#32) + Ideal.ofBits FTy.f32 0x358637BD#32) * g k + b k
/-- A gate: the logistic function of a column and its bias. -/
def gt (p b : EReal) : EReal := sg (p + b)

namespace In
variable (I : In)

/-- The first half, read. -/
theorem lo_apply (a : Vec Ideal S256x2048 .bf16) (i : Fin 256) (k : Fin 1024) : lo a (ix2 i k) = a (ix2 i ⟨k.val, by omega⟩) := by
  refine View.ld_unit_apply_of _ _ _ _ _ _ (fun x => ?_)
  match x with
  | ⟨0, _⟩ => show i.val = 0 + i.val; omega
  | ⟨1, _⟩ => show k.val = 0 + k.val; omega
/-- The second half, read. -/
theorem hi_apply (a : Vec Ideal S256x2048 .bf16) (i : Fin 256) (k : Fin 1024) : hi a (ix2 i k) = a (ix2 i ⟨1024 + k.val, by omega⟩) := by
  refine View.ld_unit_apply_of _ _ _ _ _ _ (fun x => ?_)
  match x with
  | ⟨0, _⟩ => show i.val = 0 + i.val; omega
  | ⟨1, _⟩ => rfl
/-- The bias's first half, read. -/
theorem gbl_apply (k : Fin 1024) : I.gbl (ix2 0 k) = I.gb (ix2 0 ⟨k.val, by omega⟩) := by
  refine View.ld_unit_apply_of _ _ _ _ _ _ (fun x => ?_)
  match x with
  | ⟨0, _⟩ => rfl
  | ⟨1, _⟩ => show k.val = 0 + k.val; omega
/-- The bias's second half, read. -/
theorem gbh_apply (k : Fin 1024) : I.gbh (ix2 0 k) = I.gb (ix2 0 ⟨1024 + k.val, by omega⟩) := by
  refine View.ld_unit_apply_of _ _ _ _ _ _ (fun x => ?_)
  match x with
  | ⟨0, _⟩ => rfl
  | ⟨1, _⟩ => rfl
/-- A group's weights, read. -/
theorem w_apply (g : ℕ) (h) (hg : g < 8) (i p : Fin 128) : I.w ![g, 0, 0] h (ix3 0 i p) = I.ws (ix3 ⟨g, hg⟩ i p) := by
  refine View.ld_unit_apply_of _ _ _ _ _ _ (fun x => ?_)
  match x with
  | ⟨0, _⟩ => rfl
  | ⟨1, _⟩ => show i.val = 0 + i.val; omega
  | ⟨2, _⟩ => show p.val = 0 + p.val; omega
/-- A group's bias, read. -/
theorem b_apply (o : ℕ) (h) (i k : Fin 128) (j : Fin 1024) (hj : j.val = o + k.val) : I.b o h (ix2 i k) = I.bs (ix2 i j) := by
  refine View.ld_unit_apply_of _ _ _ _ _ _ (fun x => ?_)
  match x with
  | ⟨0, _⟩ => show i.val = 0 + i.val; omega
  | ⟨1, _⟩ => show j.val = o + k.val; omega

/-- The half that is mixed, entry by entry. -/
theorem vn_apply (i : Fin 256) (k : Fin 1024) :
    I.vn (ix2 i k) = lnE (fun j => I.pv (ix2 i j)) (fun j => I.lg (ix2 0 j)) (fun j => I.lb (ix2 0 j)) k := by
  unfold vn
  generalize I.pv = p
  pointwise [k0_pay3, lnE, mu]

/-- One position of a chunk's mix: the chunk's tokens against the group's weights, and the bias. -/
def mixE (i : Fin 256) (j : Fin 1024) : EReal :=
  (∑ p : Fin 128, I.ws (ix3 ⟨j.val / 128, by omega⟩ ⟨i.val % 128, by omega⟩ p) * I.vn (ix2 ⟨i.val / 128 * 128 + p.val, by omega⟩ j))
    + I.bs (ix2 ⟨i.val % 128, by omega⟩ j)

/-- A chunk's mix in one group. -/
theorem mixE_of (cc g o r : ℕ) (h) (h') (hg : g < 8) (ho : o = g * 128) (hr : r = cc * 128) (hc : cc < 2) (i : Fin 256) (j : Fin 1024) (x y : Fin 128) (hi : i.val = r + x.val)
    (hj : j.val = o + y.val) :
    (∑ p : Fin 128, I.w ![g, 0, 0] h (ix3 0 x p) * I.vn (ix2 ⟨r + p.val, by omega⟩ ⟨o + y.val, by omega⟩)) + I.b o h' (ix2 x y) = I.mixE i j := by
  unfold mixE
  refine congrArg₂ (α := EReal) (· + ·) (Finset.sum_congr rfl fun p _ => Ideal.mul_congr ?_ (congrArg I.vn ?_)) ?_
  · refine (w_apply I g h hg x p).trans (congrArg I.ws ?_)
    rw [show (⟨g, hg⟩ : Fin 8) = ⟨j.val / 128, by omega⟩ from Fin.ext (by show g = j.val / 128; omega),
      show x = ⟨i.val % 128, by omega⟩ from Fin.ext (by show x.val = i.val % 128; omega)]
  · rw [show (⟨r + p.val, by omega⟩ : Fin 256) = ⟨i.val / 128 * 128 + p.val, by omega⟩ from Fin.ext (by show r + p.val = i.val / 128 * 128 + p.val; omega),
      show (⟨o + y.val, by omega⟩ : Fin 1024) = j from Fin.ext hj.symm]
  · rw [b_apply I o h' x y j hj, show x = ⟨i.val % 128, by omega⟩ from Fin.ext (by show x.val = i.val % 128; omega)]

section Mix
variable (v : FVec Ideal S256x1024 .bf16) (w : Vec Ideal S1x128x128 .bf16) (b : Vec Ideal S128x128 .f32) (x y : Fin 128)

/-- The mix of one chunk of rows by one group's weights. -/
def mx (r o : ℕ) (hr : r ≤ 128) (ho : o ≤ 896) : EReal :=
  (∑ p : Fin 128, w (ix3 0 x p) * v (ix2 ⟨r + p.val, by omega⟩ ⟨o + y.val, by omega⟩)) + b (ix2 x y)

/-- The first group's first chunk. -/
theorem m00 (p : FVec Ideal S256x1024 .bf16) (g h : FVec Ideal S1x1024 .f32) :
    k0_pay6 (F := Ideal) (k0_pay5 p g h w b) (ix2 x y) = mx (k0_pay3 (F := Ideal) p g h) w b x y 0 0 (by omega) (by omega) := by
  unfold k0_pay5 k0_pay4
  generalize k0_pay3 (F := Ideal) p g h = v
  pointwise [k0_pay6, mx]
/-- Its second chunk. -/
theorem m01 (p : FVec Ideal S256x1024 .bf16) (g h : FVec Ideal S1x1024 .f32) :
    k0_pay7 (F := Ideal) (k0_pay4 p g h w) b (ix2 x y) = mx (k0_pay3 (F := Ideal) p g h) w b x y 128 0 (by omega) (by omega) := by
  unfold k0_pay4
  generalize k0_pay3 (F := Ideal) p g h = v
  pointwise [k0_pay7, mx]
/-- The second group's first chunk. -/
theorem m10 : k0_pay9 (F := Ideal) v w b (ix2 x y) = mx v w b x y 0 128 (by omega) (by omega) := by pointwise [k0_pay9, k0_pay8, mx]
/-- Its second chunk. -/
theorem m11 : k0_pay10 (F := Ideal) v w b (ix2 x y) = mx v w b x y 128 128 (by omega) (by omega) := by pointwise [k0_pay10, k0_pay8, mx]
/-- The third group's first chunk. -/
theorem m20 : k0_pay14 (F := Ideal) (k0_pay11 v) (k0_pay12 w) (constant S128x256 FTy.f32 0#32) b (ix2 x y) = mx v w b x y 0 256 (by omega) (by omega) := by pointwise [k0_pay14, k0_pay13, k0_pay12, k0_pay11, mx]
/-- Its second chunk. -/
theorem m21 : k0_pay15 (F := Ideal) (k0_pay11 v) (k0_pay12 w) (constant S128x256 FTy.f32 0#32) b (ix2 x y) = mx v w b x y 128 256 (by omega) (by omega) := by pointwise [k0_pay15, k0_pay13, k0_pay12, k0_pay11, mx]
/-- The fourth group's first chunk. -/
theorem m30 : k0_pay17 (F := Ideal) v w b (ix2 x y) = mx v w b x y 0 384 (by omega) (by omega) := by pointwise [k0_pay17, k0_pay16, mx]
/-- Its second chunk. -/
theorem m31 : k0_pay18 (F := Ideal) v w b (ix2 x y) = mx v w b x y 128 384 (by omega) (by omega) := by pointwise [k0_pay18, k0_pay16, mx]
/-- The fifth group's first chunk. -/
theorem m40 : k0_pay21 (F := Ideal) v (k0_pay19 v) w b (ix2 x y) = mx v w b x y 0 512 (by omega) (by omega) := by pointwise [k0_pay21, k0_pay20, k0_pay19, mx]
/-- Its second chunk. -/
theorem m41 : k0_pay22 (F := Ideal) v (k0_pay19 v) w b (ix2 x y) = mx v w b x y 128 512 (by omega) (by omega) := by pointwise [k0_pay22, k0_pay20, k0_pay19, mx]
/-- The sixth group's first chunk. -/
theorem m50 : k0_pay24 (F := Ideal) v w b (ix2 x y) = mx v w b x y 0 640 (by omega) (by omega) := by pointwise [k0_pay24, k0_pay23, mx]
/-- Its second chunk. -/
theorem m51 : k0_pay27 (F := Ideal) (k0_pay25 v w) (k0_pay26 b) (ix2 x y) = mx v w b x y 128 640 (by omega) (by omega) := by pointwise [k0_pay27, k0_pay26, k0_pay25, k0_pay23, mx]
/-- The seventh group's first chunk. -/
theorem m60 : k0_pay29 (F := Ideal) v w b (ix2 x y) = mx v w b x y 0 768 (by omega) (by omega) := by pointwise [k0_pay29, k0_pay28, mx]
/-- Its second chunk. -/
theorem m61 : k0_pay30 (F := Ideal) v w b (ix2 x y) = mx v w b x y 128 768 (by omega) (by omega) := by pointwise [k0_pay30, k0_pay28, mx]
/-- The eighth group's first chunk. -/
theorem m70 : k0_pay33 (F := Ideal) (k0_pay32 v w b) (ix2 x y) = mx v w b x y 0 896 (by omega) (by omega) := by pointwise [k0_pay33, k0_pay32, k0_pay31, mx]
/-- Its second chunk. -/
theorem m71 : k0_pay34 (F := Ideal) (k0_pay31 v w) b (ix2 x y) = mx v w b x y 128 896 (by omega) (by omega) := by pointwise [k0_pay34, k0_pay31, mx]
end Mix

/-- The mixed value, entry by entry. -/
theorem mix_apply (i : Fin 256) (j : Fin 1024) : I.mix (ix2 i j) = I.mixE i j := by
  unfold mix
  canon_tiles z hz
  · idx_vars z; exact (m71 _ _ _ _ _).trans (mixE_of I 1 7 896 128 _ _ (by omega) rfl rfl (by omega) i j z0 z1 (by omega) (by omega))
  · idx_vars z; exact (m70 _ _ _ _ _).trans (mixE_of I 0 7 896 0 _ _ (by omega) rfl rfl (by omega) i j z0 z1 (by omega) (by omega))
  · idx_vars z; exact (m61 _ _ _ _ _).trans (mixE_of I 1 6 768 128 _ _ (by omega) rfl rfl (by omega) i j z0 z1 (by omega) (by omega))
  · idx_vars z; exact (m60 _ _ _ _ _).trans (mixE_of I 0 6 768 0 _ _ (by omega) rfl rfl (by omega) i j z0 z1 (by omega) (by omega))
  · idx_vars z; exact (m51 _ _ _ _ _).trans (mixE_of I 1 5 640 128 _ _ (by omega) rfl rfl (by omega) i j z0 z1 (by omega) (by omega))
  · idx_vars z; exact (m50 _ _ _ _ _).trans (mixE_of I 0 5 640 0 _ _ (by omega) rfl rfl (by omega) i j z0 z1 (by omega) (by omega))
  · idx_vars z; exact (m41 _ _ _ _ _).trans (mixE_of I 1 4 512 128 _ _ (by omega) rfl rfl (by omega) i j z0 z1 (by omega) (by omega))
  · idx_vars z; exact (m40 _ _ _ _ _).trans (mixE_of I 0 4 512 0 _ _ (by omega) rfl rfl (by omega) i j z0 z1 (by omega) (by omega))
  · idx_vars z; exact (m31 _ _ _ _ _).trans (mixE_of I 1 3 384 128 _ _ (by omega) rfl rfl (by omega) i j z0 z1 (by omega) (by omega))
  · idx_vars z; exact (m30 _ _ _ _ _).trans (mixE_of I 0 3 384 0 _ _ (by omega) rfl rfl (by omega) i j z0 z1 (by omega) (by omega))
  · idx_vars z; exact (m21 _ _ _ _ _).trans (mixE_of I 1 2 256 128 _ _ (by omega) rfl rfl (by omega) i j z0 z1 (by omega) (by omega))
  · idx_vars z; exact (m20 _ _ _ _ _).trans (mixE_of I 0 2 256 0 _ _ (by omega) rfl rfl (by omega) i j z0 z1 (by omega) (by omega))
  · idx_vars z; exact (m11 _ _ _ _ _).trans (mixE_of I 1 1 128 128 _ _ (by omega) rfl rfl (by omega) i j z0 z1 (by omega) (by omega))
  · idx_vars z; exact (m10 _ _ _ _ _).trans (mixE_of I 0 1 128 0 _ _ (by omega) rfl rfl (by omega) i j z0 z1 (by omega) (by omega))
  · idx_vars z; exact (m01 _ _ _ _ _ _ _).trans (mixE_of I 1 0 0 128 _ _ (by omega) rfl rfl (by omega) i j z0 z1 (by omega) (by omega))
  · idx_vars z; exact (m00 _ _ _ _ _ _ _).trans (mixE_of I 0 0 0 0 _ _ (by omega) rfl rfl (by omega) i j z0 z1 (by omega) (by omega))

/-- The gated value, entry by entry. -/
theorem gated_apply (i : Fin 256) (j : Fin 1024) : I.gated (ix2 i j) = lo I.pu (ix2 i j) * I.mixE i j := by
  rw [← mix_apply]
  unfold gated
  generalize lo I.pu = u
  generalize I.mix = v
  pointwise [k0_pay36, k0_pay2]

section Rows
variable (u v : FVec Ideal S256x1024 .f32) (p q r : FVec Ideal S256x1024 .bf16) (a b : FVec Ideal S1x1024 .f32) (w w' : FVec Ideal S4x256x1024 .bf16)
  (i : Fin 256) (j : Fin 1024)

/-- A product with a weight that comes in four parts. -/
theorem pay37_apply : k0_pay37 (F := Ideal) u v w (ix2 i j)
    = ∑ k : Fin 1024, k0_pay36 (F := Ideal) u v (ix2 i k) * w (ix3 ⟨k.val / 256, by omega⟩ ⟨k.val % 256, by omega⟩ j) := by
  unfold k0_pay37
  generalize k0_pay36 (F := Ideal) u v = f
  pointwise
/-- The merge of two rows. -/
theorem pay40_apply : k0_pay40 (F := Ideal) u (k0_pay39 p a) (FloatOps.ofBits FTy.f32 1065353216#32) q b r (ix2 i j)
    = gt (p (ix2 i j)) (a (ix2 0 j)) * r (ix2 i j) + gt (q (ix2 i j)) (b (ix2 0 j)) * u (ix2 i j) := by
  pointwise [k0_pay40, k0_pay39, gt, sg]
  rw [zero_sub, zero_sub]
/-- The tokens after the merge, from any merged rows. -/
theorem pay41_apply (d : FVec Ideal S256x1024 .f32) : k0_pay41 (F := Ideal) u d (FloatOps.ofBits FTy.f32 1065353216#32) q b r v w (ix2 i j)
    = v (ix2 i j) + ∑ k : Fin 1024, k0_pay40 (F := Ideal) u d (FloatOps.ofBits FTy.f32 1065353216#32) q b r (ix2 i k) * w (ix3 ⟨k.val / 256, by omega⟩ ⟨k.val % 256, by omega⟩ j) := by
  unfold k0_pay41
  generalize k0_pay40 (F := Ideal) u d (FloatOps.ofBits FTy.f32 1065353216#32) q b r = f
  pointwise
/-- Their mean square and the small constant. -/
theorem pay42_apply (d : FVec Ideal S256x1024 .f32) : k0_pay42 (F := Ideal) u d (FloatOps.ofBits FTy.f32 1065353216#32) q b r v w (ix2 i 0)
    = Ideal.div (∑ k, k0_pay41 (F := Ideal) u d (FloatOps.ofBits FTy.f32 1065353216#32) q b r v w (ix2 i k) * k0_pay41 (F := Ideal) u d (FloatOps.ofBits FTy.f32 1065353216#32) q b r v w (ix2 i k)) (Ideal.ofBits FTy.f32 0x44800000#32)
      + Ideal.ofBits FTy.f32 0x358637BD#32 := by
  unfold k0_pay42
  generalize k0_pay41 (F := Ideal) u d (FloatOps.ofBits FTy.f32 1065353216#32) q b r v w = f
  pointwise
/-- A normalised row. -/
theorem pay43_apply (s : FVec Ideal S256x1 .f32) : k0_pay43 (F := Ideal) u s a (ix2 i j) = u (ix2 i j) * Ideal.rsqrt (s (ix2 i 0)) * a (ix2 0 j) := by
  pointwise [k0_pay43]
end Rows

/-- The branch's output, entry by entry: the gated value against the weight. -/
theorem yb_apply (i : Fin 256) (j : Fin 1024) :
    I.yb (ix2 i j) = ∑ k : Fin 1024, I.gated (ix2 i k) * I.so (ix3 ⟨k.val / 256, by omega⟩ ⟨k.val % 256, by omega⟩ j) :=
  pay37_apply (k0_pay2 (F := Ideal) (lo I.pu)) I.mix I.so i j
/-- The merged branches, entry by entry. -/
theorem merged_apply (i : Fin 256) (j : Fin 1024) :
    I.merged (ix2 i j) = gt (lo I.pg (ix2 i j)) (I.gbl (ix2 0 j)) * I.ya (ix2 i j) + gt (hi I.pg (ix2 i j)) (I.gbh (ix2 0 j)) * I.yb (ix2 i j) :=
  pay40_apply I.yb (lo I.pg) (hi I.pg) I.ya I.gbl I.gbh i j
/-- The tokens after the merge, entry by entry. -/
theorem x1_apply (i : Fin 256) (j : Fin 1024) :
    I.x1 (ix2 i j) = I.x (ix2 i j) + ∑ k : Fin 1024, I.merged (ix2 i k) * I.wo (ix3 ⟨k.val / 256, by omega⟩ ⟨k.val % 256, by omega⟩ j) :=
  pay41_apply I.yb I.x (hi I.pg) I.ya I.gbh I.wo i j (k0_pay39 (F := Ideal) (lo I.pg) I.gbl)
/-- Their normalised rows, entry by entry. -/
theorem h2_apply (i : Fin 256) (j : Fin 1024) : I.h2 (ix2 i j) = nrm (fun k => I.x1 (ix2 i k)) (fun k => I.gf (ix2 0 k)) j := by
  unfold h2
  rw [pay43_apply]
  unfold ms1
  rw [pay42_apply]
  rfl

/-- A block of a weight's rows, read. -/
theorem cW_apply (w : FVec Ideal S2816x1024 .bf16) (o : ℕ) (h) (z : Fin 512) (k : Fin 1024) (l : Fin 2816) (hl : l.val = o + z.val) :
    cW w o h (ix2 z k) = w (ix2 l k) := by
  refine View.ld_unit_apply_of _ _ _ _ _ _ (fun a => ?_)
  match a with
  | ⟨0, _⟩ => show l.val = o + z.val; omega
  | ⟨1, _⟩ => show k.val = 0 + k.val; omega
/-- A weight's last rows, read. -/
theorem lW_apply (w : FVec Ideal S2816x1024 .bf16) (z : Fin 256) (k : Fin 1024) (l : Fin 2816) (hl : l.val = 2560 + z.val) : lW w (ix2 z k) = w (ix2 l k) := by
  refine View.ld_unit_apply_of _ _ _ _ _ _ (fun a => ?_)
  match a with
  | ⟨0, _⟩ => show l.val = 2560 + z.val; omega
  | ⟨1, _⟩ => show k.val = 0 + k.val; omega

/-- A hidden column of one of the two products. -/
def hE (w : FVec Ideal S2816x1024 .bf16) (i : Fin 256) (l : Fin 2816) : EReal := ∑ k : Fin 1024, I.h2 (ix2 i k) * w (ix2 l k)
/-- A column of the unit: one product through its own logistic function, times the other. -/
def acE (i : Fin 256) (l : Fin 2816) : EReal := I.hE I.wg i l * sg (I.hE I.wg i l) * I.hE I.wu i l
/-- One hidden column's term of the last product. -/
def tE (i : Fin 256) (j : Fin 1024) (l : Fin 2816) : EReal := I.acE i l * I.wd (ix2 l j)

section Hidden
variable (x s : FVec Ideal S256x1024 .f32) (h : FVec Ideal S256x1024 .bf16) (a : FVec Ideal S512x1024 .bf16) (b : FVec Ideal S256x1024 .bf16)
  (p q : FVec Ideal S256x512 .f32) (p' q' : FVec Ideal S256x256 .f32) (i : Fin 256) (j : Fin 1024)

/-- A block's product, entry by entry. -/
theorem pay52_apply (z : Fin 512) : k0_pay52 (F := Ideal) h a (ix2 i z) = ∑ k : Fin 1024, h (ix2 i k) * a (ix2 z k) := by
  pointwise [k0_pay52]
/-- The last block's. -/
theorem pay70_apply (z : Fin 256) : k0_pay70 (F := Ideal) h b (ix2 i z) = ∑ k : Fin 1024, h (ix2 i k) * b (ix2 z k) := by
  pointwise [k0_pay70]
/-- A block of the unit's columns, entry by entry. -/
theorem pay56_apply (z : Fin 512) : k0_pay56 (F := Ideal) p q (ix2 i z) = p (ix2 i z) * sg (p (ix2 i z)) * q (ix2 i z) := by
  pointwise [k0_pay56, sg]
  rw [zero_sub]
/-- The last block of them. -/
theorem pay79_apply (z : Fin 256) : k0_pay79 (F := Ideal) p' q' (ix2 i z) = p' (ix2 i z) * sg (p' (ix2 i z)) * q' (ix2 i z) := by
  pointwise [k0_pay79, sg]
  rw [zero_sub]
/-- A block adds its product with the last weight. -/
theorem pay63_apply : k0_pay63 (F := Ideal) p q s a (ix2 i j) = s (ix2 i j) + ∑ k : Fin 512, k0_pay56 (F := Ideal) p q (ix2 i k) * a (ix2 k j) := by
  change addf s (matmul dot_S256x512_S512x1024_S256x1024_1_0_0_1_n_n none (k0_pay56 (F := Ideal) p q) (shapeCast S512x1024 a _) _) (ix2 i j) = _
  generalize k0_pay56 (F := Ideal) p q = f
  pointwise
/-- So does the last one. -/
theorem pay1_apply : k0_pay1 (F := Ideal) s (k0_pay80 p' q' b) (ix2 i j) = s (ix2 i j) + ∑ k : Fin 256, k0_pay79 (F := Ideal) p' q' (ix2 i k) * b (ix2 k j) := by
  unfold k0_pay80
  generalize k0_pay79 (F := Ideal) p' q' = f
  pointwise [k0_pay1]
end Hidden

/-- A block of a product, at its hidden columns. -/
theorem hid_apply (w : FVec Ideal S2816x1024 .bf16) (o : ℕ) (h) (i : Fin 256) (z : Fin 512) (l : Fin 2816) (hl : l.val = o + z.val) :
    I.hid w o h (ix2 i z) = I.hE w i l := by
  unfold hid hE
  rw [pay52_apply]
  exact Finset.sum_congr rfl fun k _ => Ideal.mul_congr rfl (cW_apply w o h z k l hl)
/-- The last block, at its hidden columns. -/
theorem hidL_apply (w : FVec Ideal S2816x1024 .bf16) (i z : Fin 256) (l : Fin 2816) (hl : l.val = 2560 + z.val) : I.hidL w (ix2 i z) = I.hE w i l := by
  unfold hidL hE
  rw [pay70_apply]
  exact Finset.sum_congr rfl fun k _ => Ideal.mul_congr rfl (lW_apply w z k l hl)
/-- A block of the unit's columns, at its hidden columns. -/
theorem ac_apply (o : ℕ) (h) (i : Fin 256) (z : Fin 512) (l : Fin 2816) (hl : l.val = o + z.val) : I.ac o h (ix2 i z) = I.acE i l := by
  unfold ac acE
  rw [pay56_apply, hid_apply I _ o h i z l hl, hid_apply I _ o h i z l hl]
/-- The last block of them. -/
theorem acL_apply (i z : Fin 256) (l : Fin 2816) (hl : l.val = 2560 + z.val) : k0_pay79 (F := Ideal) (I.hidL I.wg) (I.hidL I.wu) (ix2 i z) = I.acE i l := by
  unfold acE
  rw [pay79_apply, hidL_apply I _ i z l hl, hidL_apply I _ i z l hl]

/-- What is stored for a product, entry by entry. -/
theorem stH_apply (w : FVec Ideal S2816x1024 .bf16) (i : Fin 256) (l : Fin 2816) : I.stH w (ix2 i l) = I.hE w i l := by
  unfold stH
  canon_tiles z hz using View.cover_of_tiledBy _ ![256, 256] (by sl_kernel_rfl) _
  · idx_vars z; rw [show i = z0 from Fin.ext hz0]; exact hidL_apply I w z0 z1 l hz1
  · idx_vars z; rw [show i = z0 from Fin.ext hz0]; exact hid_apply I w 2048 _ z0 z1 l hz1
  · idx_vars z; rw [show i = z0 from Fin.ext hz0]; exact hid_apply I w 1536 _ z0 z1 l hz1
  · idx_vars z; rw [show i = z0 from Fin.ext hz0]; exact hid_apply I w 1024 _ z0 z1 l hz1
  · idx_vars z; rw [show i = z0 from Fin.ext hz0]; exact hid_apply I w 512 _ z0 z1 l hz1
  · idx_vars z; rw [show i = z0 from Fin.ext hz0]; exact hid_apply I w 0 _ z0 z1 l (by omega)
/-- What is stored for the unit's columns, entry by entry. -/
theorem stA_apply (i : Fin 256) (l : Fin 2816) : I.stA (ix2 i l) = I.acE i l := by
  unfold stA
  canon_tiles z hz using View.cover_of_tiledBy _ ![256, 256] (by sl_kernel_rfl) _
  · idx_vars z; rw [show i = z0 from Fin.ext hz0]; exact acL_apply I z0 z1 l hz1
  · idx_vars z; rw [show i = z0 from Fin.ext hz0]; exact ac_apply I 2048 _ z0 z1 l hz1
  · idx_vars z; rw [show i = z0 from Fin.ext hz0]; exact ac_apply I 1536 _ z0 z1 l hz1
  · idx_vars z; rw [show i = z0 from Fin.ext hz0]; exact ac_apply I 1024 _ z0 z1 l hz1
  · idx_vars z; rw [show i = z0 from Fin.ext hz0]; exact ac_apply I 512 _ z0 z1 l hz1
  · idx_vars z; rw [show i = z0 from Fin.ext hz0]; exact ac_apply I 0 _ z0 z1 l (by omega)

/-- A block's sum, at its hidden columns. -/
theorem step_apply (s : FVec Ideal S256x1024 .f32) (o : ℕ) (h) (ho : o ≤ 2304) (i : Fin 256) (j : Fin 1024) :
    I.step s o h (ix2 i j) = s (ix2 i j) + ∑ k : Fin 512, I.tE i j ⟨o + k.val, by omega⟩ := by
  unfold step
  rw [pay63_apply]
  exact congrArg (α := EReal) (s (ix2 i j) + ·) (Finset.sum_congr rfl fun k _ => Ideal.mul_congr (ac_apply I o h i k _ rfl) (cW_apply I.wd o h k j _ rfl))
/-- The tokens after the unit, entry by entry. -/
theorem x2_apply (i : Fin 256) (j : Fin 1024) : I.x2 (ix2 i j) = I.x1 (ix2 i j) + ∑ l : Fin 2816, I.tE i j l := by
  have e : ∑ k : Fin 256, k0_pay79 (F := Ideal) (I.hidL I.wg) (I.hidL I.wu) (ix2 i k) * lW I.wd (ix2 k j) = ∑ k : Fin 256, I.tE i j ⟨2560 + k.val, by omega⟩ :=
    Finset.sum_congr rfl fun k _ => Ideal.mul_congr (acL_apply I i k _ rfl) (lW_apply I.wd k j _ rfl)
  unfold x2
  rw [pay1_apply, e, step_apply _ _ _ _ (by omega), step_apply _ _ _ _ (by omega), step_apply _ _ _ _ (by omega), step_apply _ _ _ _ (by omega),
    step_apply _ _ _ _ (by omega), sum_hidden (I.tE i j)]
  simp only [add_assoc]

end In

/-! ## The reference -/

section Reference
open Cert.ReferenceFfnIdeal.Read

variable (y0 : FVec Ideal S8192x6144 .bf16) (y1 : FVec Ideal S8192x1024 .bf16) (y2 : FVec Ideal S8192x1024 .f32) (y3 : FVec Ideal S2x1024 .f32)
  (y4 : FVec Ideal S8x128x128 .f32) (y5 : FVec Ideal S8x128 .f32) (y6 : FVec Ideal S2048 .f32) (y7 : FVec Ideal S3x1024x1024 .f32)
  (y8 : FVec Ideal S1024 .f32) (y9 y10 : FVec Ideal S1024x2816 .f32) (y11 : FVec Ideal S2816x1024 .f32)

/-- The reference's half that is mixed. -/
theorem ref_v (i : Fin 8192) (k : Fin 1024) : val_main_v3 (F := Ideal) y0 (ix2 i k) = y0 (ix2 i ⟨3072 + k.val, by omega⟩) := by
  pointwise [val_main_v3, val_main_v1, val_main_v0]; blk_ext
/-- Its mean. -/
theorem ref_mu (i : Fin 8192) : val_main_v15 (F := Ideal) y0 (ix2 i 0) = mu (fun k => y0 (ix2 i ⟨3072 + k.val, by omega⟩)) := by
  rw [← funext (ref_v y0 i)]
  unfold val_main_v15 val_main_v13 val_main_v12
  generalize val_main_v3 (F := Ideal) y0 = v
  pointwise [val_main_v14, val_main_cst, val_main_cst_0, mu]
/-- The half that is mixed, normalised. -/
theorem ref_vn (i : Fin 8192) (k : Fin 1024) : val_main_v35 (F := Ideal) y0 y3 (ix2 i k)
    = lnE (fun k => y0 (ix2 i ⟨3072 + k.val, by omega⟩)) (fun j => y3 (ix2 0 j)) (fun j => y3 (ix2 1 j)) k := by
  unfold lnE
  rw [← ref_mu]
  simp only [← ref_v]
  unfold val_main_v35 val_main_v32 val_main_v29 val_main_v28 val_main_v27 val_main_v26 val_main_v24 val_main_v23 val_main_v22 val_main_v20 val_main_v19 val_main_v18 val_main_v17 val_main_v16
  generalize val_main_v15 (F := Ideal) y0 = u
  generalize val_main_v3 (F := Ideal) y0 = v
  pointwise [val_main_v34, val_main_v33, val_main_v31, val_main_v30, val_main_v11, val_main_v10, val_main_v9, val_main_v8, val_main_cst_1, val_main_cst_2,
    val_main_cst_3, val_main_v21, val_main_v25]
/-- The mixed value: each chunk of 128 tokens against its group's weights, and the bias. -/
theorem ref_mix (i : Fin 8192) (j : Fin 1024) : val_main_v43 (F := Ideal) y0 y3 y4 y5 (ix2 i j)
    = (∑ p : Fin 128, y4 (ix3 ⟨j.val / 128, by omega⟩ ⟨i.val % 128, by omega⟩ p) * val_main_v35 (F := Ideal) y0 y3 (ix2 ⟨i.val / 128 * 128 + p.val, by omega⟩ j))
      + y5 (ix2 ⟨j.val / 128, by omega⟩ ⟨i.val % 128, by omega⟩) := by
  unfold val_main_v43 val_main_v42 val_main_v38 val_main_v37 val_main_v36
  generalize val_main_v35 (F := Ideal) y0 y3 = v
  pointwise [val_main_v41, val_main_v40, val_main_v39]
/-- The gated value. -/
theorem ref_gated (i : Fin 8192) (j : Fin 1024) : val_main_v44 (F := Ideal) y0 y3 y4 y5 (ix2 i j)
    = y0 (ix2 i ⟨2048 + j.val, by omega⟩) * val_main_v43 (F := Ideal) y0 y3 y4 y5 (ix2 i j) := by
  unfold val_main_v44
  generalize val_main_v43 (F := Ideal) y0 y3 y4 y5 = v
  pointwise [val_main_v2, val_main_v1, val_main_v0]
/-- The branch's output. -/
theorem ref_yb (i : Fin 8192) (j : Fin 1024) : val_main_v47 (F := Ideal) y0 y3 y4 y5 y7 (ix2 i j)
    = ∑ k : Fin 1024, val_main_v44 (F := Ideal) y0 y3 y4 y5 (ix2 i k) * y7 (ix3 1 k j) := by
  unfold val_main_v47
  generalize val_main_v44 (F := Ideal) y0 y3 y4 y5 = v
  pointwise [val_main_v46, val_main_v45]
/-- The merged branches. -/
theorem ref_merged (i : Fin 8192) (j : Fin 1024) : val_main_v69 (F := Ideal) y0 y1 y3 y4 y5 y6 y7 (ix2 i j)
    = gt (y0 (ix2 i ⟨4096 + j.val, by omega⟩)) (y6 (ix1 ⟨j.val, by omega⟩)) * y1 (ix2 i j)
      + gt (y0 (ix2 i ⟨5120 + j.val, by omega⟩)) (y6 (ix1 ⟨1024 + j.val, by omega⟩)) * val_main_v47 (F := Ideal) y0 y3 y4 y5 y7 (ix2 i j) := by
  unfold val_main_v69 val_main_v68
  generalize val_main_v47 (F := Ideal) y0 y3 y4 y5 y7 = v
  pointwise [val_main_v67, val_main_v66, val_main_v65, val_main_v64, val_main_v63, val_main_v62, val_main_v61, val_main_v60, val_main_v59, val_main_v58, val_main_v57,
    val_main_v56, val_main_v55, val_main_v54, val_main_v53, val_main_v52, val_main_v51, val_main_v50, val_main_v49, val_main_v48, val_main_v7, val_main_v6,
    val_main_v5, val_main_v4, val_main_v1, val_main_v0, val_main_cst_4, val_main_cst_5, val_main_cst_6, val_main_cst_7, gt, sg]
  simp only [← Nat.add_assoc, Nat.reduceAdd]
/-- The tokens after the merge. -/
theorem ref_x1 (i : Fin 8192) (j : Fin 1024) : val_main_v73 (F := Ideal) y0 y1 y2 y3 y4 y5 y6 y7 (ix2 i j)
    = y2 (ix2 i j) + ∑ k : Fin 1024, val_main_v69 (F := Ideal) y0 y1 y3 y4 y5 y6 y7 (ix2 i k) * y7 (ix3 2 k j) := by
  unfold val_main_v73 val_main_v72
  generalize val_main_v69 (F := Ideal) y0 y1 y3 y4 y5 y6 y7 = v
  pointwise [val_main_v71, val_main_v70]
/-- Their normalised rows. -/
theorem ref_h2 (i : Fin 8192) (j : Fin 1024) : val_main_v86 (F := Ideal) y0 y1 y2 y3 y4 y5 y6 y7 y8 (ix2 i j)
    = nrm (fun k => val_main_v73 (F := Ideal) y0 y1 y2 y3 y4 y5 y6 y7 (ix2 i k)) (fun k => y8 (ix1 k)) j := by
  unfold val_main_v86 val_main_v83 val_main_v82 val_main_v81 val_main_v80 val_main_v78 val_main_v76 val_main_v75 val_main_v74
  generalize val_main_v73 (F := Ideal) y0 y1 y2 y3 y4 y5 y6 y7 = v
  pointwise [val_main_v77, val_main_v79, val_main_v84, val_main_v85, val_main_cst_8, val_main_cst_9, val_main_cst_10, nrm]
/-- The gate. -/
theorem ref_gt (i : Fin 8192) (l : Fin 2816) : val_main_v87 (F := Ideal) y0 y1 y2 y3 y4 y5 y6 y7 y8 y9 (ix2 i l)
    = ∑ k : Fin 1024, val_main_v86 (F := Ideal) y0 y1 y2 y3 y4 y5 y6 y7 y8 (ix2 i k) * y9 (ix2 k l) := by
  unfold val_main_v87
  generalize val_main_v86 (F := Ideal) y0 y1 y2 y3 y4 y5 y6 y7 y8 = v
  pointwise
/-- The other factor. -/
theorem ref_up (i : Fin 8192) (l : Fin 2816) : val_main_v88 (F := Ideal) y0 y1 y2 y3 y4 y5 y6 y7 y8 y10 (ix2 i l)
    = ∑ k : Fin 1024, val_main_v86 (F := Ideal) y0 y1 y2 y3 y4 y5 y6 y7 y8 (ix2 i k) * y10 (ix2 k l) := by
  unfold val_main_v88
  generalize val_main_v86 (F := Ideal) y0 y1 y2 y3 y4 y5 y6 y7 y8 = v
  pointwise
/-- The unit's columns. -/
theorem ref_act (i : Fin 8192) (l : Fin 2816) : val_main_v90 (F := Ideal) y0 y1 y2 y3 y4 y5 y6 y7 y8 y9 y10 (ix2 i l)
    = val_main_v87 (F := Ideal) y0 y1 y2 y3 y4 y5 y6 y7 y8 y9 (ix2 i l) * sg (val_main_v87 (F := Ideal) y0 y1 y2 y3 y4 y5 y6 y7 y8 y9 (ix2 i l))
      * val_main_v88 (F := Ideal) y0 y1 y2 y3 y4 y5 y6 y7 y8 y10 (ix2 i l) := by
  unfold val_main_v90 val_main_v89 val_main_call0_v5 val_main_call0_v3 val_main_call0_v1 val_main_call0_v0
  generalize val_main_v88 (F := Ideal) y0 y1 y2 y3 y4 y5 y6 y7 y8 y10 = u
  generalize val_main_v87 (F := Ideal) y0 y1 y2 y3 y4 y5 y6 y7 y8 y9 = v
  pointwise [val_main_call0_v2, val_main_call0_v4, val_main_call0_cst, val_main_call0_cst_0, sg]
/-- The tokens after the unit. -/
theorem ref_x2 (i : Fin 8192) (j : Fin 1024) : val_main_v92 (F := Ideal) y0 y1 y2 y3 y4 y5 y6 y7 y8 y9 y10 y11 (ix2 i j)
    = val_main_v73 (F := Ideal) y0 y1 y2 y3 y4 y5 y6 y7 (ix2 i j)
      + ∑ l : Fin 2816, val_main_v90 (F := Ideal) y0 y1 y2 y3 y4 y5 y6 y7 y8 y9 y10 (ix2 i l) * y11 (ix2 l j) := by
  unfold val_main_v92 val_main_v91
  generalize val_main_v90 (F := Ideal) y0 y1 y2 y3 y4 y5 y6 y7 y8 y9 y10 = v
  generalize val_main_v73 (F := Ideal) y0 y1 y2 y3 y4 y5 y6 y7 = u
  pointwise
end Reference

/-! ## The blocks -/

/-- Argument 0: the projection. -/
abbrev A0 (c : Dev nD) : FVec Ideal S8192x6144 .bf16 := m ((c.tc : Thread nD τ).loc main_arg0)
/-- Argument 1: the other branch's output. -/
abbrev A1 (c : Dev nD) : FVec Ideal S8192x1024 .bf16 := m ((c.tc : Thread nD τ).loc main_arg1)
/-- Argument 2: the tokens. -/
abbrev A2 (c : Dev nD) : FVec Ideal S8192x1024 .f32 := m ((c.tc : Thread nD τ).loc main_arg2)
/-- Argument 3: the layer norm's gain and shift. -/
abbrev A3 (c : Dev nD) : FVec Ideal S2x1024 .f32 := m ((c.tc : Thread nD τ).loc main_arg3)
/-- Argument 4: the mixing weights. -/
abbrev A4 (c : Dev nD) : FVec Ideal S8x128x128 .f32 := m ((c.tc : Thread nD τ).loc main_arg4)
/-- Argument 5: their bias. -/
abbrev A5 (c : Dev nD) : FVec Ideal S8x128 .f32 := m ((c.tc : Thread nD τ).loc main_arg5)
/-- Argument 6: the gates' bias. -/
abbrev A6 (c : Dev nD) : FVec Ideal S2048 .f32 := m ((c.tc : Thread nD τ).loc main_arg6)
/-- Argument 7: the square weights. -/
abbrev A7 (c : Dev nD) : FVec Ideal S3x1024x1024 .f32 := m ((c.tc : Thread nD τ).loc main_arg7)
/-- Argument 8: the norm's gain. -/
abbrev A8 (c : Dev nD) : FVec Ideal S1024 .f32 := m ((c.tc : Thread nD τ).loc main_arg8)
/-- Argument 9: the gate's weight. -/
abbrev A9 (c : Dev nD) : FVec Ideal S1024x2816 .f32 := m ((c.tc : Thread nD τ).loc main_arg9)
/-- Argument 10: the other factor's weight. -/
abbrev A10 (c : Dev nD) : FVec Ideal S1024x2816 .f32 := m ((c.tc : Thread nD τ).loc main_arg10)
/-- Argument 11: the last weight. -/
abbrev A11 (c : Dev nD) : FVec Ideal S2816x1024 .f32 := m ((c.tc : Thread nD τ).loc main_arg11)
/-- The layer norm's gain, as the kernel reads it. -/
theorem V_lg (k : Fin 1024) : (show FVec Ideal S1x1024 .f32 from V m c main_v10) (ix2 0 k) = A3 m c (ix2 0 k) := by
  entry_read; pointwise
/-- Its shift. -/
theorem V_lb (k : Fin 1024) : (show FVec Ideal S1x1024 .f32 from V m c main_v13) (ix2 0 k) = A3 m c (ix2 1 k) := by
  entry_read; pointwise
/-- The mixing weights. -/
theorem V_ws (g : Fin 8) (i p : Fin 128) : (show FVec Ideal S8x128x128 .bf16 from V m c main_v0) (ix3 g i p) = A4 m c (ix3 g i p) := by
  entry_read; pointwise
/-- Their bias: each group's, at all of its columns. -/
theorem V_bs (i : Fin 128) (j : Fin 1024) : (show FVec Ideal S128x1024 .f32 from V m c main_v3) (ix2 i j) = A5 m c (ix2 ⟨j.val / 128, by omega⟩ i) := by
  entry_read; pointwise
/-- The gates' bias. -/
theorem V_gb (k : Fin 2048) : (show FVec Ideal S1x2048 .f32 from V m c main_v14) (ix2 0 k) = A6 m c (ix1 k) := by
  entry_read; pointwise
/-- The square weights: four parts, in each one weight's rows under another's. -/
theorem V_sq (s : Fin 4) (n : Fin 3) (r : Fin 256) (j : Fin 1024) : (show FVec Ideal S4x768x1024 .bf16 from V m c main_v18) (ix3 s ⟨n.val * 256 + r.val, by omega⟩ j) = A7 m c (ix3 n ⟨256 * s.val + r.val, by omega⟩ j) := by
  entry_read; pointwise
  refine congrArg (A7 m c) ?_
  blk_ext
/-- The norm's gain. -/
theorem V_gf (k : Fin 1024) : (show FVec Ideal S1x1024 .f32 from V m c main_v19) (ix2 0 k) = A8 m c (ix1 k) := by
  entry_read; pointwise
/-- The gate's weight: transposed. -/
theorem V_wg (l : Fin 2816) (k : Fin 1024) : (show FVec Ideal S2816x1024 .bf16 from V m c main_v5) (ix2 l k) = A9 m c (ix2 k l) := by
  entry_read; pointwise
/-- The other factor's weight: transposed. -/
theorem V_wu (l : Fin 2816) (k : Fin 1024) : (show FVec Ideal S2816x1024 .bf16 from V m c main_v7) (ix2 l k) = A10 m c (ix2 k l) := by
  entry_read; pointwise
/-- The last weight. -/
theorem V_wd (l : Fin 2816) (k : Fin 1024) : (show FVec Ideal S2816x1024 .bf16 from V m c main_v20) (ix2 l k) = A11 m c (ix2 l k) := by
  entry_read; pointwise

/-- Where the blocks lie, at every point. -/
theorem idx : ∀ t : Fin cfg0.N, win0_0.index t = ![t.val, 1] ∧ win0_1.index t = ![t.val, 2] ∧ win0_2.index t = ![t.val, 0] ∧ win0_3.index t = ![t.val, 0]
    ∧ win0_4.index t = ![0, 0] ∧ win0_5.index t = ![0, 0] ∧ win0_6.index t = ![0, 0, 0] ∧ win0_7.index t = ![0, 0] ∧ win0_8.index t = ![0, 0]
    ∧ win0_9.index t = ![0, 1, 0] ∧ win0_10.index t = ![0, 2, 0] ∧ win0_11.index t = ![0, 0] ∧ win0_12.index t = ![0, 0] ∧ win0_13.index t = ![0, 0]
    ∧ win0_14.index t = ![0, 0] := by
  decide +kernel
/-- Where the results' blocks lie. -/
theorem idx' : ∀ t : Fin cfg0.N, win0_15.index t = ![t.val, 0] ∧ win0_16.index t = ![t.val, 0] ∧ win0_17.index t = ![t.val, 0] ∧ win0_18.index t = ![t.val, 0]
    ∧ win0_19.index t = ![t.val, 0] ∧ win0_20.index t = ![t.val, 0] ∧ win0_21.index t = ![t.val, 0] ∧ win0_22.index t = ![t.val, 0]
    ∧ win0_23.index t = ![t.val, 0] ∧ win0_24.index t = ![t.val, 0] := by
  decide +kernel

/-- The token a point's row holds. -/
def row (t : Fin cfg0.N) (i : Fin 256) : Fin 8192 :=
  ⟨256 * t.val + i.val, by have h := t.isLt; have e : cfg0.N = 32 := N_0; omega⟩

variable (t : Fin cfg0.N) (i : Fin 256)

/-- The columns a point gates and mixes. -/
theorem b_pu (k : Fin 2048) : (ins m c t).pu (ix2 i k) = A0 m c (ix2 (row t i) ⟨2048 + k.val, by omega⟩) := by
  refine congrArg (A0 m c) ?_
  blk_ext [row, (idx t).1]
/-- The gates' columns. -/
theorem b_pg (k : Fin 2048) : (ins m c t).pg (ix2 i k) = A0 m c (ix2 (row t i) ⟨4096 + k.val, by omega⟩) := by
  refine congrArg (A0 m c) ?_
  blk_ext [row, (idx t).2.1]
/-- The other branch's rows. -/
theorem b_ya (k : Fin 1024) : (ins m c t).ya (ix2 i k) = A1 m c (ix2 (row t i) k) := by
  refine congrArg (A1 m c) ?_
  blk_ext [row, (idx t).2.2.1]
/-- The tokens. -/
theorem b_x (k : Fin 1024) : (ins m c t).x (ix2 i k) = A2 m c (ix2 (row t i) k) := by
  refine congrArg (A2 m c) ?_
  blk_ext [row, (idx t).2.2.2.1]
/-- The layer norm's gain. -/
theorem b_lg (k : Fin 1024) : (ins m c t).lg (ix2 0 k) = A3 m c (ix2 0 k) := by
  refine Eq.trans (congrArg (V m c main_v10) ?_) (V_lg m c k)
  blk_ext [(idx t).2.2.2.2.1]
/-- Its shift. -/
theorem b_lb (k : Fin 1024) : (ins m c t).lb (ix2 0 k) = A3 m c (ix2 1 k) := by
  refine Eq.trans (congrArg (V m c main_v13) ?_) (V_lb m c k)
  blk_ext [(idx t).2.2.2.2.2.1]
/-- The mixing weights. -/
theorem b_ws (g : Fin 8) (a p : Fin 128) : (ins m c t).ws (ix3 g a p) = A4 m c (ix3 g a p) := by
  refine Eq.trans (congrArg (V m c main_v0) ?_) (V_ws m c g a p)
  blk_ext [(idx t).2.2.2.2.2.2.1]
/-- Their bias. -/
theorem b_bs (a : Fin 128) (j : Fin 1024) : (ins m c t).bs (ix2 a j) = A5 m c (ix2 ⟨j.val / 128, by omega⟩ a) := by
  refine Eq.trans (congrArg (V m c main_v3) ?_) (V_bs m c a j)
  blk_ext [(idx t).2.2.2.2.2.2.2.1]
/-- The gates' bias. -/
theorem b_gb (k : Fin 2048) : (ins m c t).gb (ix2 0 k) = A6 m c (ix1 k) := by
  refine Eq.trans (congrArg (V m c main_v14) ?_) (V_gb m c k)
  blk_ext [(idx t).2.2.2.2.2.2.2.2.1]
/-- The branch's weight. -/
theorem b_so (k j : Fin 1024) : (ins m c t).so (ix3 ⟨k.val / 256, by omega⟩ ⟨k.val % 256, by omega⟩ j) = A7 m c (ix3 1 k j) := by
  refine Eq.trans (congrArg (V m c main_v18) ?_) ((V_sq m c ⟨k.val / 256, by omega⟩ 1 ⟨k.val % 256, by omega⟩ j).trans (congrArg (A7 m c) ?_))
  · blk_ext [(idx t).2.2.2.2.2.2.2.2.2.1]
  · blk_ext
/-- The output's weight. -/
theorem b_wo (k j : Fin 1024) : (ins m c t).wo (ix3 ⟨k.val / 256, by omega⟩ ⟨k.val % 256, by omega⟩ j) = A7 m c (ix3 2 k j) := by
  refine Eq.trans (congrArg (V m c main_v18) ?_) ((V_sq m c ⟨k.val / 256, by omega⟩ 2 ⟨k.val % 256, by omega⟩ j).trans (congrArg (A7 m c) ?_))
  · blk_ext [(idx t).2.2.2.2.2.2.2.2.2.2.1]
  · blk_ext
/-- The norm's gain. -/
theorem b_gf (k : Fin 1024) : (ins m c t).gf (ix2 0 k) = A8 m c (ix1 k) := by
  refine Eq.trans (congrArg (V m c main_v19) ?_) (V_gf m c k)
  blk_ext [(idx t).2.2.2.2.2.2.2.2.2.2.2.1]
/-- The gate's weight. -/
theorem b_wg (l : Fin 2816) (k : Fin 1024) : (ins m c t).wg (ix2 l k) = A9 m c (ix2 k l) := by
  refine Eq.trans (congrArg (V m c main_v5) ?_) (V_wg m c l k)
  blk_ext [(idx t).2.2.2.2.2.2.2.2.2.2.2.2.1]
/-- The other factor's weight. -/
theorem b_wu (l : Fin 2816) (k : Fin 1024) : (ins m c t).wu (ix2 l k) = A10 m c (ix2 k l) := by
  refine Eq.trans (congrArg (V m c main_v7) ?_) (V_wu m c l k)
  blk_ext [(idx t).2.2.2.2.2.2.2.2.2.2.2.2.2.1]
/-- The last weight. -/
theorem b_wd (l : Fin 2816) (k : Fin 1024) : (ins m c t).wd (ix2 l k) = A11 m c (ix2 l k) := by
  refine Eq.trans (congrArg (V m c main_v20) ?_) (V_wd m c l k)
  blk_ext [(idx t).2.2.2.2.2.2.2.2.2.2.2.2.2.2]

/-! ## A point's rows are the reference's -/

open Cert.ReferenceFfnIdeal.Read

/-- The reference: the normalised half. -/
abbrev r_vn := val_main_v35 (F := Ideal) (A0 m c) (A3 m c)
/-- The reference: the mixed value. -/
abbrev r_mix := val_main_v43 (F := Ideal) (A0 m c) (A3 m c) (A4 m c) (A5 m c)
/-- The reference: the gated value. -/
abbrev r_gated := val_main_v44 (F := Ideal) (A0 m c) (A3 m c) (A4 m c) (A5 m c)
/-- The reference: the branch's output. -/
abbrev r_yb := val_main_v47 (F := Ideal) (A0 m c) (A3 m c) (A4 m c) (A5 m c) (A7 m c)
/-- The reference: the merged branches. -/
abbrev r_merged := val_main_v69 (F := Ideal) (A0 m c) (A1 m c) (A3 m c) (A4 m c) (A5 m c) (A6 m c) (A7 m c)
/-- The reference: the tokens after the merge. -/
abbrev r_x1 := val_main_v73 (F := Ideal) (A0 m c) (A1 m c) (A2 m c) (A3 m c) (A4 m c) (A5 m c) (A6 m c) (A7 m c)
/-- The reference: their normalised rows. -/
abbrev r_h2 := val_main_v86 (F := Ideal) (A0 m c) (A1 m c) (A2 m c) (A3 m c) (A4 m c) (A5 m c) (A6 m c) (A7 m c) (A8 m c)
/-- The reference: the gate. -/
abbrev r_gt := val_main_v87 (F := Ideal) (A0 m c) (A1 m c) (A2 m c) (A3 m c) (A4 m c) (A5 m c) (A6 m c) (A7 m c) (A8 m c) (A9 m c)
/-- The reference: the other factor. -/
abbrev r_up := val_main_v88 (F := Ideal) (A0 m c) (A1 m c) (A2 m c) (A3 m c) (A4 m c) (A5 m c) (A6 m c) (A7 m c) (A8 m c) (A10 m c)
/-- The reference: the unit's columns. -/
abbrev r_act := val_main_v90 (F := Ideal) (A0 m c) (A1 m c) (A2 m c) (A3 m c) (A4 m c) (A5 m c) (A6 m c) (A7 m c) (A8 m c) (A9 m c) (A10 m c)
/-- The reference: the tokens after the unit. -/
abbrev r_x2 := val_main_v92 (F := Ideal) (A0 m c) (A1 m c) (A2 m c) (A3 m c) (A4 m c) (A5 m c) (A6 m c) (A7 m c) (A8 m c) (A9 m c) (A10 m c) (A11 m c)

/-- The half that is mixed: the reference's columns. -/
theorem pv_row (k : Fin 1024) : (ins m c t).pv (ix2 i k) = A0 m c (ix2 (row t i) ⟨3072 + k.val, by omega⟩) :=
  (In.hi_apply _ i k).trans ((b_pu m c t i _).trans (congrArg (A0 m c) (by blk_ext)))
/-- Normalised, it is the reference's. -/
theorem vn_row (k : Fin 1024) : (ins m c t).vn (ix2 i k) = r_vn m c (ix2 (row t i) k) := by
  unfold r_vn
  rw [In.vn_apply, ref_vn, funext (pv_row m c t i), funext (b_lg m c t), funext (b_lb m c t)]
/-- The mixed value is the reference's: a point's tokens are whole chunks. -/
theorem mix_row (j : Fin 1024) : (ins m c t).mixE i j = r_mix m c (ix2 (row t i) j) := by
  unfold r_mix In.mixE
  rw [ref_mix, b_bs]
  have hm : (row t i).val % 128 = i.val % 128 := by show (256 * t.val + i.val) % 128 = i.val % 128; omega
  have hd : (row t i).val / 128 * 128 = 256 * t.val + i.val / 128 * 128 := by show (256 * t.val + i.val) / 128 * 128 = _; omega
  refine congrArg₂ (α := EReal) (· + ·) (Finset.sum_congr rfl fun p _ => Ideal.mul_congr ((b_ws m c t _ _ p).trans (congrArg (A4 m c) ?_)) ((vn_row m c t _ j).trans (congrArg (r_vn m c) ?_)))
    (congrArg (A5 m c) ?_)
  · blk_ext [hm]
  · blk_ext [hd, row]
  · blk_ext [hm]
/-- So is the gated value. -/
theorem gated_row (j : Fin 1024) : (ins m c t).gated (ix2 i j) = r_gated m c (ix2 (row t i) j) := by
  unfold r_gated
  rw [In.gated_apply, ref_gated, In.lo_apply, b_pu, mix_row]
/-- The branch's output. -/
theorem yb_row (j : Fin 1024) : (ins m c t).yb (ix2 i j) = r_yb m c (ix2 (row t i) j) := by
  unfold r_yb
  rw [In.yb_apply, ref_yb]
  exact Finset.sum_congr rfl fun k _ => Ideal.mul_congr (gated_row m c t i k) (b_so m c t k j)
/-- The merged branches. -/
theorem merged_row (j : Fin 1024) : (ins m c t).merged (ix2 i j) = r_merged m c (ix2 (row t i) j) := by
  unfold r_merged
  rw [In.merged_apply, ref_merged, In.lo_apply, In.hi_apply, In.gbl_apply, In.gbh_apply, b_pg, b_pg, b_gb, b_gb, b_ya, yb_row]
  simp only [← Nat.add_assoc, Nat.reduceAdd]
/-- The tokens after the merge. -/
theorem x1_row (j : Fin 1024) : (ins m c t).x1 (ix2 i j) = r_x1 m c (ix2 (row t i) j) := by
  unfold r_x1
  rw [In.x1_apply, ref_x1]
  exact congrArg₂ (α := EReal) (· + ·) (b_x m c t i j) (Finset.sum_congr rfl fun k _ => Ideal.mul_congr (merged_row m c t i k) (b_wo m c t k j))
/-- Their normalised rows. -/
theorem h2_row (j : Fin 1024) : (ins m c t).h2 (ix2 i j) = r_h2 m c (ix2 (row t i) j) := by
  unfold r_h2
  rw [In.h2_apply, ref_h2, funext (x1_row m c t i), funext (b_gf m c t)]
/-- The gate. -/
theorem gt_row (l : Fin 2816) : (ins m c t).hE (ins m c t).wg i l = r_gt m c (ix2 (row t i) l) := by
  unfold r_gt In.hE
  rw [ref_gt]
  exact Finset.sum_congr rfl fun k _ => Ideal.mul_congr (h2_row m c t i k) (b_wg m c t l k)
/-- The other factor. -/
theorem up_row (l : Fin 2816) : (ins m c t).hE (ins m c t).wu i l = r_up m c (ix2 (row t i) l) := by
  unfold r_up In.hE
  rw [ref_up]
  exact Finset.sum_congr rfl fun k _ => Ideal.mul_congr (h2_row m c t i k) (b_wu m c t l k)
/-- The unit's columns. -/
theorem act_row (l : Fin 2816) : (ins m c t).acE i l = r_act m c (ix2 (row t i) l) := by
  unfold r_act In.acE
  rw [ref_act, gt_row, up_row]
/-- The tokens after the unit. -/
theorem x2_row (j : Fin 1024) : (ins m c t).x2 (ix2 i j) = r_x2 m c (ix2 (row t i) j) := by
  unfold r_x2
  rw [In.x2_apply, ref_x2]
  exact congrArg₂ (α := EReal) (· + ·) (x1_row m c t i j) (Finset.sum_congr rfl fun l _ => Ideal.mul_congr (act_row m c t i l) (b_wd m c t l j))

/-! ## The results -/

/-- Result 0: the mixed value. -/
theorem arr15 : (dats m 0 c).arrAt 15 cfg0.N = (val_main_v93 (F := Ideal) (A0 m c) (A3 m c) (A4 m c) (A5 m c) : S8192x1024.Idx → EReal) := by
  refine (dats m 0 c).arrAt_eq_of_covers 15 _ (by decide +kernel) (fun t hf y => ?_)
  rw [after0_15, out_mixed]
  idx_vars y
  blk_simp
  exact Eq.trans (b := r_mix m c (ix2 (row t y0) y1)) ((In.mix_apply (ins m c t) y0 y1).trans (mix_row m c t y0 y1)) (by unfold val_main_v93; blk_ext [row, idx' t])
/-- Result 1: the gated value. -/
theorem arr16 : (dats m 0 c).arrAt 16 cfg0.N = (val_main_v94 (F := Ideal) (A0 m c) (A3 m c) (A4 m c) (A5 m c) : S8192x1024.Idx → EReal) := by
  refine (dats m 0 c).arrAt_eq_of_covers 16 _ (by decide +kernel) (fun t hf y => ?_)
  rw [after0_16, out_gated]
  idx_vars y
  blk_simp
  exact Eq.trans (b := r_gated m c (ix2 (row t y0) y1)) (gated_row m c t y0 y1) (by unfold val_main_v94; blk_ext [row, idx' t])
/-- Result 2: the branch's output. -/
theorem arr17 : (dats m 0 c).arrAt 17 cfg0.N = (val_main_v95 (F := Ideal) (A0 m c) (A3 m c) (A4 m c) (A5 m c) (A7 m c) : S8192x1024.Idx → EReal) := by
  refine (dats m 0 c).arrAt_eq_of_covers 17 _ (by decide +kernel) (fun t hf y => ?_)
  rw [after0_17, out_yb]
  idx_vars y
  blk_simp
  exact Eq.trans (b := r_yb m c (ix2 (row t y0) y1)) (yb_row m c t y0 y1) (by unfold val_main_v95; blk_ext [row, idx' t])
/-- Result 3: the merged branches. -/
theorem arr18 : (dats m 0 c).arrAt 18 cfg0.N = (val_main_v96 (F := Ideal) (A0 m c) (A1 m c) (A3 m c) (A4 m c) (A5 m c) (A6 m c) (A7 m c) : S8192x1024.Idx → EReal) := by
  refine (dats m 0 c).arrAt_eq_of_covers 18 _ (by decide +kernel) (fun t hf y => ?_)
  rw [after0_18, out_merged]
  idx_vars y
  blk_simp
  exact Eq.trans (b := r_merged m c (ix2 (row t y0) y1)) (merged_row m c t y0 y1) (by unfold val_main_v96; blk_ext [row, idx' t])
/-- Result 4: the tokens after the merge. -/
theorem arr19 : (dats m 0 c).arrAt 19 cfg0.N = (val_main_v73 (F := Ideal) (A0 m c) (A1 m c) (A2 m c) (A3 m c) (A4 m c) (A5 m c) (A6 m c) (A7 m c) : S8192x1024.Idx → EReal) := by
  refine (dats m 0 c).arrAt_eq_of_covers 19 _ (by decide +kernel) (fun t hf y => ?_)
  rw [after0_19, out_x1]
  idx_vars y
  blk_simp
  exact Eq.trans (b := r_x1 m c (ix2 (row t y0) y1)) (x1_row m c t y0 y1) (by blk_ext [row, idx' t])
/-- Result 5: their normalised rows. -/
theorem arr20 : (dats m 0 c).arrAt 20 cfg0.N = (val_main_v97 (F := Ideal) (A0 m c) (A1 m c) (A2 m c) (A3 m c) (A4 m c) (A5 m c) (A6 m c) (A7 m c) (A8 m c) : S8192x1024.Idx → EReal) := by
  refine (dats m 0 c).arrAt_eq_of_covers 20 _ (by decide +kernel) (fun t hf y => ?_)
  rw [after0_20, out_h2]
  idx_vars y
  blk_simp
  exact Eq.trans (b := r_h2 m c (ix2 (row t y0) y1)) (h2_row m c t y0 y1) (by unfold val_main_v97; blk_ext [row, idx' t])
/-- Result 6: the gate. -/
theorem arr21 : (dats m 0 c).arrAt 21 cfg0.N = (val_main_v98 (F := Ideal) (A0 m c) (A1 m c) (A2 m c) (A3 m c) (A4 m c) (A5 m c) (A6 m c) (A7 m c) (A8 m c) (A9 m c) : S8192x2816.Idx → EReal) := by
  refine (dats m 0 c).arrAt_eq_of_covers 21 _ (by decide +kernel) (fun t hf y => ?_)
  rw [after0_21, out_gt]
  idx_vars y
  blk_simp
  exact Eq.trans (b := r_gt m c (ix2 (row t y0) y1)) ((In.stH_apply _ _ y0 y1).trans (gt_row m c t y0 y1)) (by unfold val_main_v98; blk_ext [row, idx' t])
/-- Result 7: the other factor. -/
theorem arr22 : (dats m 0 c).arrAt 22 cfg0.N = (val_main_v99 (F := Ideal) (A0 m c) (A1 m c) (A2 m c) (A3 m c) (A4 m c) (A5 m c) (A6 m c) (A7 m c) (A8 m c) (A10 m c) : S8192x2816.Idx → EReal) := by
  refine (dats m 0 c).arrAt_eq_of_covers 22 _ (by decide +kernel) (fun t hf y => ?_)
  rw [after0_22, out_up]
  idx_vars y
  blk_simp
  exact Eq.trans (b := r_up m c (ix2 (row t y0) y1)) ((In.stH_apply _ _ y0 y1).trans (up_row m c t y0 y1)) (by unfold val_main_v99; blk_ext [row, idx' t])
/-- Result 8: the unit's columns. -/
theorem arr23 : (dats m 0 c).arrAt 23 cfg0.N = (val_main_v100 (F := Ideal) (A0 m c) (A1 m c) (A2 m c) (A3 m c) (A4 m c) (A5 m c) (A6 m c) (A7 m c) (A8 m c) (A9 m c) (A10 m c) : S8192x2816.Idx → EReal) := by
  refine (dats m 0 c).arrAt_eq_of_covers 23 _ (by decide +kernel) (fun t hf y => ?_)
  rw [after0_23, out_act]
  idx_vars y
  blk_simp
  exact Eq.trans (b := r_act m c (ix2 (row t y0) y1)) ((In.stA_apply _ y0 y1).trans (act_row m c t y0 y1)) (by unfold val_main_v100; blk_ext [row, idx' t])
/-- Result 9: the tokens after the unit. -/
theorem arr24 : (dats m 0 c).arrAt 24 cfg0.N = (val_main_v92 (F := Ideal) (A0 m c) (A1 m c) (A2 m c) (A3 m c) (A4 m c) (A5 m c) (A6 m c) (A7 m c) (A8 m c) (A9 m c) (A10 m c) (A11 m c) : S8192x1024.Idx → EReal) := by
  refine (dats m 0 c).arrAt_eq_of_covers 24 _ (by decide +kernel) (fun t hf y => ?_)
  rw [after0_24, out_x2]
  idx_vars y
  blk_simp
  exact Eq.trans (b := r_x2 m c (ix2 (row t y0) y1)) (x2_row m c t y0 y1) (by blk_ext [row, idx' t])

/-- The two programs' results are equal. -/
theorem equal : haveI := Cert.KernelFfnIdeal.Gen.facts; haveI := Cert.ReferenceFfnIdeal.Gen.facts
    Cert.algebraic_KernelFfnIdeal_ReferenceFfnIdeal := by
  intro m g m' g' hpre heq
  refine ⟨fun c => (val_main_v93 (F := Ideal) (A0 m c) (A3 m c) (A4 m c) (A5 m c) : S8192x1024.Idx → EReal),
    fun c => (val_main_v94 (F := Ideal) (A0 m c) (A3 m c) (A4 m c) (A5 m c) : S8192x1024.Idx → EReal),
    fun c => (val_main_v95 (F := Ideal) (A0 m c) (A3 m c) (A4 m c) (A5 m c) (A7 m c) : S8192x1024.Idx → EReal),
    fun c => (val_main_v96 (F := Ideal) (A0 m c) (A1 m c) (A3 m c) (A4 m c) (A5 m c) (A6 m c) (A7 m c) : S8192x1024.Idx → EReal),
    fun c => (val_main_v73 (F := Ideal) (A0 m c) (A1 m c) (A2 m c) (A3 m c) (A4 m c) (A5 m c) (A6 m c) (A7 m c) : S8192x1024.Idx → EReal),
    fun c => (val_main_v97 (F := Ideal) (A0 m c) (A1 m c) (A2 m c) (A3 m c) (A4 m c) (A5 m c) (A6 m c) (A7 m c) (A8 m c) : S8192x1024.Idx → EReal),
    fun c => (val_main_v98 (F := Ideal) (A0 m c) (A1 m c) (A2 m c) (A3 m c) (A4 m c) (A5 m c) (A6 m c) (A7 m c) (A8 m c) (A9 m c) : S8192x2816.Idx → EReal),
    fun c => (val_main_v99 (F := Ideal) (A0 m c) (A1 m c) (A2 m c) (A3 m c) (A4 m c) (A5 m c) (A6 m c) (A7 m c) (A8 m c) (A10 m c) : S8192x2816.Idx → EReal),
    fun c => (val_main_v100 (F := Ideal) (A0 m c) (A1 m c) (A2 m c) (A3 m c) (A4 m c) (A5 m c) (A6 m c) (A7 m c) (A8 m c) (A9 m c) (A10 m c) : S8192x2816.Idx → EReal),
    fun c => (val_main_v92 (F := Ideal) (A0 m c) (A1 m c) (A2 m c) (A3 m c) (A4 m c) (A5 m c) (A6 m c) (A7 m c) (A8 m c) (A9 m c) (A10 m c) (A11 m c) : S8192x1024.Idx → EReal), ?_, ?_⟩
  · refine (θ_run (defs (F := Ideal)) _ _).mono ?_ (Value.run_blocks (F := Ideal) m g)
    intro r h c
    obtain ⟨k0, k1, k2, k3, k4, k5, k6, k7, k8, k9, u⟩ := h c
    exact ⟨k0.trans (arr15 m c), k1.trans (arr16 m c), k2.trans (arr17 m c), k3.trans (arr18 m c), k4.trans (arr19 m c), k5.trans (arr20 m c), k6.trans (arr21 m c), k7.trans (arr22 m c), k8.trans (arr23 m c), k9.trans (arr24 m c), u⟩
  · refine (θ_run (Cert.ReferenceFfnIdeal.defs (F := Ideal)) _ _).mono ?_ (Cert.ReferenceFfnIdeal.Value.run (F := Ideal) m' g')
    intro r h c
    obtain ⟨e0, e1, e2, e3, e4, e5, e6, e7, e8, e9, e10, e11⟩ := heq c
    obtain ⟨k0, k1, k2, k3, k4, k5, k6, k7, k8, k9, u⟩ := h c
    exact ⟨(k0.trans (val_main_v93_eq (F := Ideal) _ _ _ _)).trans (by rw [e0, e3, e4, e5]),
      (k1.trans (val_main_v94_eq (F := Ideal) _ _)).trans (by rw [e0, e3, e4, e5]),
      (k2.trans (val_main_v95_eq (F := Ideal) _ _)).trans (by rw [e0, e3, e4, e5, e7]),
      (k3.trans (val_main_v96_eq (F := Ideal) _ _)).trans (by rw [e0, e1, e3, e4, e5, e6, e7]),
      (k4.trans (val_main_v73_eq (F := Ideal) _ _)).trans (by rw [e0, e1, e2, e3, e4, e5, e6, e7]),
      (k5.trans (val_main_v97_eq (F := Ideal) _ _)).trans (by rw [e0, e1, e2, e3, e4, e5, e6, e7, e8]),
      (k6.trans (val_main_v98_eq (F := Ideal) _ _)).trans (by rw [e0, e1, e2, e3, e4, e5, e6, e7, e8, e9]),
      (k7.trans (val_main_v99_eq (F := Ideal) _ _)).trans (by rw [e0, e1, e2, e3, e4, e5, e6, e7, e8, e10]),
      (k8.trans (val_main_v100_eq (F := Ideal) _ _)).trans (by rw [e0, e1, e2, e3, e4, e5, e6, e7, e8, e9, e10]),
      (k9.trans (val_main_v92_eq (F := Ideal) _ _)).trans (by rw [e0, e1, e2, e3, e4, e5, e6, e7, e8, e9, e10, e11]), u⟩

end Cert.KernelFfnIdeal.Hand

end
-- ==== Proof.lean ====
/-
  The claims of this certificate, put together: the frames of the kernel at both instances, the frame of the reference,
  the steps between the kernel and its idealization, and the equality of the kernel's results and the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.On_written
public import proofs.«01_k».proof.Proof.IdealRun
public import proofs.«01_k».proof.Proof.Same
public import proofs.«01_k».proof.Proof.Equal
public import Idealize.ShloMosaic.Lib.Quiescent
public import proofs.«01_k».proof.Proof.Gen.KernelGate
public import proofs.«01_k».proof.Proof.Gen.KernelGate.Frame
public import proofs.«01_k».proof.Proof.Gen.KernelGateIdeal
public import proofs.«01_k».proof.Proof.Gen.KernelGateIdeal.Frame
public import proofs.«01_k».proof.Proof.Gen.KernelGateIdeal.Value
public import proofs.«01_k».proof.Proof.Gen.ReferenceGateIdeal
public import proofs.«01_k».proof.Proof.Gen.ReferenceGateIdeal.Run
public import proofs.«01_k».proof.Proof.Gen.ReferenceGateIdeal.Read
public import proofs.«01_k».proof.Proof.Gen.KernelDown
public import proofs.«01_k».proof.Proof.Gen.KernelDown.Frame
public import proofs.«01_k».proof.Proof.Gen.KernelDownIdeal
public import proofs.«01_k».proof.Proof.Gen.KernelDownIdeal.Frame
public import proofs.«01_k».proof.Proof.Gen.KernelDownIdeal.Value
public import proofs.«01_k».proof.Proof.Gen.ReferenceDownIdeal
public import proofs.«01_k».proof.Proof.Gen.ReferenceDownIdeal.Run
public import proofs.«01_k».proof.Proof.Gen.ReferenceDownIdeal.Read
public import proofs.«01_k».proof.Proof.Gen.KernelOut
public import proofs.«01_k».proof.Proof.Gen.KernelOut.Frame
public import proofs.«01_k».proof.Proof.Gen.KernelOutIdeal
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.ReferenceOutIdeal.Read
public import proofs.«01_k».proof.Proof.Gen.KernelBranch
public import proofs.«01_k».proof.Proof.Gen.KernelBranch.Frame
public import proofs.«01_k».proof.Proof.Gen.KernelBranchIdeal
public import proofs.«01_k».proof.Proof.Gen.KernelBranchIdeal.Frame
public import proofs.«01_k».proof.Proof.Gen.KernelBranchIdeal.Value
public import proofs.«01_k».proof.Proof.Gen.ReferenceBranchIdeal
public import proofs.«01_k».proof.Proof.Gen.ReferenceBranchIdeal.Run
public import proofs.«01_k».proof.Proof.Gen.ReferenceBranchIdeal.Read
public import proofs.«01_k».proof.Proof.Gen.KernelIn
public import proofs.«01_k».proof.Proof.Gen.KernelIn.Frame
public import proofs.«01_k».proof.Proof.Gen.KernelInIdeal
public import proofs.«01_k».proof.Proof.Gen.KernelInIdeal.Frame
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.ReferenceInIdeal.Read
public import proofs.«01_k».proof.Proof.Gen.KernelMix
public import proofs.«01_k».proof.Proof.Gen.KernelMix.Frame
public import proofs.«01_k».proof.Proof.Gen.KernelMixIdeal
public import proofs.«01_k».proof.Proof.Gen.KernelMixIdeal.Frame
public import proofs.«01_k».proof.Proof.Gen.KernelMixIdeal.Value
public import proofs.«01_k».proof.Proof.Gen.ReferenceMixIdeal
public import proofs.«01_k».proof.Proof.Gen.ReferenceMixIdeal.Run
public import proofs.«01_k».proof.Proof.Gen.ReferenceMixIdeal.Read
public import proofs.«01_k».proof.Proof.Gate
public import proofs.«01_k».proof.Proof.Down
public import proofs.«01_k».proof.Proof.Out
public import proofs.«01_k».proof.Proof.Branch
public import proofs.«01_k».proof.Proof.In
public import proofs.«01_k».proof.Proof.Mix
public import proofs.«01_k».proof.Proof.Gen.KernelMixBwd
public import proofs.«01_k».proof.Proof.Gen.KernelMixBwd.Frame
public import proofs.«01_k».proof.Proof.Gen.KernelMixBwdIdeal
public import proofs.«01_k».proof.Proof.Gen.KernelMixBwdIdeal.Frame
public import proofs.«01_k».proof.Proof.Gen.KernelMixBwdIdeal.Value
public import proofs.«01_k».proof.Proof.Gen.ReferenceMixBwdIdeal
public import proofs.«01_k».proof.Proof.Gen.ReferenceMixBwdIdeal.Run
public import proofs.«01_k».proof.Proof.Gen.ReferenceMixBwdIdeal.Read
public import proofs.«01_k».proof.Proof.Gen.KernelFfnBwd
public import proofs.«01_k».proof.Proof.Gen.KernelFfnBwd.Frame
public import proofs.«01_k».proof.Proof.Gen.KernelFfnBwdIdeal
public import proofs.«01_k».proof.Proof.Gen.KernelFfnBwdIdeal.Frame
public import proofs.«01_k».proof.Proof.Gen.KernelFfnBwdIdeal.Value
public import proofs.«01_k».proof.Proof.Gen.ReferenceFfnBwdIdeal
public import proofs.«01_k».proof.Proof.Gen.ReferenceFfnBwdIdeal.Run
public import proofs.«01_k».proof.Proof.Gen.ReferenceFfnBwdIdeal.Read
public import proofs.«01_k».proof.Proof.Gen.Pre_finite_ffn
public import proofs.«01_k».proof.Proof.MixBwd
public import proofs.«01_k».proof.Proof.FfnBwd
public import proofs.«01_k».proof.Proof.Gen.KernelFfn
public import proofs.«01_k».proof.Proof.Gen.KernelFfn.Frame
public import proofs.«01_k».proof.Proof.Gen.KernelFfnIdeal
public import proofs.«01_k».proof.Proof.Gen.KernelFfnIdeal.Frame
public import proofs.«01_k».proof.Proof.Gen.KernelFfnIdeal.Value
public import proofs.«01_k».proof.Proof.Gen.ReferenceFfnIdeal
public import proofs.«01_k».proof.Proof.Gen.ReferenceFfnIdeal.Run
public import proofs.«01_k».proof.Proof.Gen.ReferenceFfnIdeal.Read
public import proofs.«01_k».proof.Proof.Ffn
public import Idealize.ShloMosaic.Adequacy
public import Idealize.ShloMosaic.Init

@[expose] public section

noncomputable section

namespace Cert.Proof

open Idealize.ShloMosaic Idealize.SL.Sem Cert.Kernel

/-- The reference runs to its end and leaves its arguments alone; it declares no semaphore. -/
theorem frame_reference : Cert.quiescent_ReferenceIdeal := by
  intro m ρ _
  exact (θ_run Cert.ReferenceIdeal.defs _ _).mono (fun r h => ⟨fun c => (h c).2.2.2.2.2.2.2.2.2.2.2.2,
      Idealize.ShloMosaic.sem_eq_zero_of_no_sems (by decide) r.2⟩)
    (Cert.ReferenceIdeal.Value.run (F := Ideal) m ρ)

/-- The reference of `KernelGate` runs to its end and leaves its arguments alone. -/
theorem frame_reference_Gate : Cert.quiescent_ReferenceGateIdeal := by
  intro m ρ _
  exact (θ_run Cert.ReferenceGateIdeal.defs _ _).mono (fun r h => ⟨fun c => (h c).2,
      Idealize.ShloMosaic.sem_eq_zero_of_no_sems (by decide) r.2⟩)
    (Cert.ReferenceGateIdeal.Value.run (F := Ideal) m ρ)

/-- The reference of `KernelDown` runs to its end and leaves its arguments alone. -/
theorem frame_reference_Down : Cert.quiescent_ReferenceDownIdeal := by
  intro m ρ _
  exact (θ_run Cert.ReferenceDownIdeal.defs _ _).mono (fun r h => ⟨fun c => (h c).2,
      Idealize.ShloMosaic.sem_eq_zero_of_no_sems (by decide) r.2⟩)
    (Cert.ReferenceDownIdeal.Value.run (F := Ideal) m ρ)

/-- The reference of `KernelOut` runs to its end and leaves its arguments alone. -/
theorem frame_reference_Out : Cert.quiescent_ReferenceOutIdeal := by
  intro m ρ _
  exact (θ_run Cert.ReferenceOutIdeal.defs _ _).mono (fun r h => ⟨fun c => (h c).2,
      Idealize.ShloMosaic.sem_eq_zero_of_no_sems (by decide) r.2⟩)
    (Cert.ReferenceOutIdeal.Value.run (F := Ideal) m ρ)

/-- The reference of `KernelBranch` runs to its end and leaves its arguments alone. -/
theorem frame_reference_Branch : Cert.quiescent_ReferenceBranchIdeal := by
  intro m ρ _
  exact (θ_run Cert.ReferenceBranchIdeal.defs _ _).mono (fun r h => ⟨fun c => (h c).2,
      Idealize.ShloMosaic.sem_eq_zero_of_no_sems (by decide) r.2⟩)
    (Cert.ReferenceBranchIdeal.Value.run (F := Ideal) m ρ)

/-- The reference of `KernelIn` runs to its end and leaves its arguments alone. -/
theorem frame_reference_In : Cert.quiescent_ReferenceInIdeal := by
  intro m ρ _
  exact (θ_run Cert.ReferenceInIdeal.defs _ _).mono (fun r h => ⟨fun c => (h c).2,
      Idealize.ShloMosaic.sem_eq_zero_of_no_sems (by decide) r.2⟩)
    (Cert.ReferenceInIdeal.Value.run (F := Ideal) m ρ)

/-- The reference of `KernelMix` runs to its end and leaves its arguments alone. -/
theorem frame_reference_Mix : Cert.quiescent_ReferenceMixIdeal := by
  intro m ρ _
  exact (θ_run Cert.ReferenceMixIdeal.defs _ _).mono (fun r h => ⟨fun c => (h c).2.2,
      Idealize.ShloMosaic.sem_eq_zero_of_no_sems (by decide) r.2⟩)
    (Cert.ReferenceMixIdeal.Value.run (F := Ideal) m ρ)

/-- The reference of `KernelMixBwd` runs to its end and leaves its arguments alone. -/
theorem frame_reference_MixBwd : Cert.quiescent_ReferenceMixBwdIdeal := by
  intro m ρ _
  exact (θ_run Cert.ReferenceMixBwdIdeal.defs _ _).mono (fun r h => ⟨fun c => (h c).2.2,
      Idealize.ShloMosaic.sem_eq_zero_of_no_sems (by decide) r.2⟩)
    (Cert.ReferenceMixBwdIdeal.Value.run (F := Ideal) m ρ)

/-- The reference of `KernelFfnBwd` runs to its end and leaves its arguments alone. -/
theorem frame_reference_FfnBwd : Cert.quiescent_ReferenceFfnBwdIdeal := by
  intro m ρ _
  exact (θ_run Cert.ReferenceFfnBwdIdeal.defs _ _).mono (fun r h => ⟨fun c => (h c).2.2.2.2,
      Idealize.ShloMosaic.sem_eq_zero_of_no_sems (by decide) r.2⟩)
    (Cert.ReferenceFfnBwdIdeal.Value.run (F := Ideal) m ρ)

/-- The reference of `KernelFfn` runs to its end and leaves its arguments alone. -/
theorem frame_reference_Ffn : Cert.quiescent_ReferenceFfnIdeal := by
  intro m ρ _
  exact (θ_run Cert.ReferenceFfnIdeal.defs _ _).mono (fun r h => ⟨fun c => (h c).2.2.2.2.2.2.2.2.2.2,
      Idealize.ShloMosaic.sem_eq_zero_of_no_sems (by decide) r.2⟩)
    (Cert.ReferenceFfnIdeal.Value.run (F := Ideal) m ρ)

/-- Everything this certificate claims. -/
theorem claim : Cert.Claim := ⟨Cert.KernelGate.Gen.facts, Cert.KernelGateIdeal.Gen.facts, Cert.ReferenceGateIdeal.Gen.facts,
  Cert.KernelDown.Gen.facts, Cert.KernelDownIdeal.Gen.facts, Cert.ReferenceDownIdeal.Gen.facts,
  Cert.KernelOut.Gen.facts, Cert.KernelOutIdeal.Gen.facts, Cert.ReferenceOutIdeal.Gen.facts,
  Cert.KernelBranch.Gen.facts, Cert.KernelBranchIdeal.Gen.facts, Cert.ReferenceBranchIdeal.Gen.facts,
  Cert.KernelIn.Gen.facts, Cert.KernelInIdeal.Gen.facts, Cert.ReferenceInIdeal.Gen.facts,
  Cert.KernelMix.Gen.facts, Cert.KernelMixIdeal.Gen.facts, Cert.ReferenceMixIdeal.Gen.facts,
  Cert.KernelMixBwd.Gen.facts, Cert.KernelMixBwdIdeal.Gen.facts, Cert.ReferenceMixBwdIdeal.Gen.facts,
  Cert.KernelFfnBwd.Gen.facts, Cert.KernelFfnBwdIdeal.Gen.facts, Cert.ReferenceFfnBwdIdeal.Gen.facts,
  Cert.KernelFfn.Gen.facts, Cert.KernelFfnIdeal.Gen.facts, Cert.ReferenceFfnIdeal.Gen.facts,
  Cert.Kernel.Gen.facts, Cert.KernelIdeal.Gen.facts, Cert.ReferenceIdeal.Gen.facts,
  Cert.Pre_finite_ffn.Gen.facts, Cert.Pre_finite.Gen.facts, Cert.On_written.Gen.facts,
  fun m ρ _ => Cert.KernelGate.Gen.frame m ρ, fun m ρ _ => Cert.KernelGateIdeal.Gen.frame m ρ, frame_reference_Gate,
  fun m ρ _ => Cert.KernelDown.Gen.frame m ρ, fun m ρ _ => Cert.KernelDownIdeal.Gen.frame m ρ, frame_reference_Down,
  fun m ρ _ => Cert.KernelOut.Gen.frame m ρ, fun m ρ _ => Cert.KernelOutIdeal.Gen.frame m ρ, frame_reference_Out,
  fun m ρ _ => Cert.KernelBranch.Gen.frame m ρ, fun m ρ _ => Cert.KernelBranchIdeal.Gen.frame m ρ, frame_reference_Branch,
  fun m ρ _ => Cert.KernelIn.Gen.frame m ρ, fun m ρ _ => Cert.KernelInIdeal.Gen.frame m ρ, frame_reference_In,
  fun m ρ _ => Cert.KernelMix.Gen.frame m ρ, fun m ρ _ => Cert.KernelMixIdeal.Gen.frame m ρ, frame_reference_Mix,
  fun m ρ _ => Cert.KernelMixBwd.Gen.frame m ρ, fun m ρ _ => Cert.KernelMixBwdIdeal.Gen.frame m ρ, frame_reference_MixBwd,
  fun m ρ _ => Cert.KernelFfnBwd.Gen.frame m ρ, fun m ρ _ => Cert.KernelFfnBwdIdeal.Gen.frame m ρ,
  fun m ρ _ => Cert.KernelFfnBwdIdeal.Gen.frame m ρ, frame_reference_FfnBwd, fun m ρ _ => frame_reference_FfnBwd m ρ trivial,
  fun m ρ _ => Cert.KernelFfn.Gen.frame m ρ, fun m ρ _ => Cert.KernelFfnIdeal.Gen.frame m ρ, frame_reference_Ffn,
  Cert.Kernel.Hand.frame, fun m ρ _ => Cert.KernelIdeal.Hand.frame m ρ,
  fun m ρ _ => Cert.KernelIdeal.Hand.frame m ρ, frame_reference, fun m ρ _ => frame_reference m ρ trivial,
  trivial, Cert.KernelGateIdeal.Hand.equal,
  trivial, Cert.KernelDownIdeal.Hand.equal,
  trivial, Cert.KernelOutIdeal.Hand.equal,
  trivial, Cert.KernelBranchIdeal.Hand.equal,
  trivial, Cert.KernelInIdeal.Hand.equal,
  trivial, Cert.KernelMixIdeal.Hand.equal,
  trivial, Cert.KernelMixBwdIdeal.Hand.equal,
  trivial, Cert.KernelFfnBwdIdeal.Hand.equal,
  trivial, Cert.KernelFfnIdeal.Hand.equal,
  trivial, Cert.KernelIdeal.Hand.equal⟩

end Cert.Proof

end
